-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v80) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x1024 : Shape := ⟨2, ![8192, 1024]⟩
abbrev S8192x256 : Shape := ⟨2, ![8192, 256]⟩
abbrev S8 : Shape := ⟨1, ![8]⟩
abbrev S8192x2048 : Shape := ⟨2, ![8192, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8 : S_.BroadcastsInDim S8 (![] : Fin 0 → Fin S8.rank)
  slices_S8192x2048_S8192x1024_0_0 : S8192x2048.Slices ![0, 0] S8192x1024

variable [Facts]

def fn {F : FTy → Type} [FloatOps F] (main_arg0 : FVec F S8192x1024 .bf16) (main_arg1 : FVec F S8192x256 .bf16) (main_arg2 : FVec F S8192x256 .bf16) (main_arg3 : FVec F S8 .f32) (main_arg4 : FVec F S8192x2048 .f32) : IVec S8192x1024 1 × IVec S8192x256 1 × IVec S8192x256 1 × IVec S8 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x256 .f32 := (extf .f32 · bitsLt_bf16_f32) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : FVec F S8192x256 .f32 := (extf .f32 · bitsLt_bf16_f32) main_arg2
  let main_v9 : FVec F S8192x256 .f32 := Host.absf main_v8
  let main_cst_1 : FVec F S_ .f32 := constant S_ .f32 0x7F800000#32
  let main_v10 : FVec F S8192x256 .f32 := broadcastInDim S8192x256 ![] bcast_S_S8192x256 main_cst_1
  let main_v11 : IVec S8192x256 1 := cmpf .olt main_v9 main_v10
  let main_v12 : FVec F S8 .f32 := Host.absf main_arg3
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  let main_v15 : FVec F S8192x1024 .f32 := (extractStridedSlice S8192x1024 ![0, 0] · slices_S8192x2048_S8192x1024_0_0) main_arg4
  let main_v16 : FVec F S8192x1024 .f32 := Host.absf main_v15
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  (main_v3, main_v7, main_v11, main_v14, main_v18)
-- ==== Pre_finite14.lean ====
abbrev S8192x1024 : Shape := ⟨2, ![8192, 1024]⟩
abbrev S8192x256 : Shape := ⟨2, ![8192, 256]⟩
abbrev S8 : Shape := ⟨1, ![8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8 : S_.BroadcastsInDim S8 (![] : Fin 0 → Fin S8.rank)

variable [Facts]

def fn {F : FTy → Type} [FloatOps F] (main_arg0 : FVec F S8192x1024 .bf16) (main_arg1 : FVec F S8192x256 .bf16) (main_arg2 : FVec F S8192x256 .bf16) (main_arg3 : FVec F S8 .f32) : IVec S8192x1024 1 × IVec S8192x256 1 × IVec S8 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x256 .f32 := (extf .f32 · bitsLt_bf16_f32) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : FVec F S8 .f32 := Host.absf main_arg3
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v3, main_v7, main_v10)
-- ==== Pre_finite2.lean ====
abbrev S8192x2048 : Shape := ⟨2, ![8192, 2048]⟩
abbrev S4x1408x2048 : Shape := ⟨3, ![4, 1408, 2048]⟩
abbrev S4x8192x2816 : Shape := ⟨3, ![4, 8192, 2816]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S4x1408x2048 : S_.BroadcastsInDim S4x1408x2048 (![] : Fin 0 → Fin S4x1408x2048.rank)
  bcast_S_S4x8192x2816 : S_.BroadcastsInDim S4x8192x2816 (![] : Fin 0 → Fin S4x8192x2816.rank)

variable [Facts]

def fn {F : FTy → Type} [FloatOps F] (main_arg0 : FVec F S8192x2048 .bf16) (main_arg1 : FVec F S4x1408x2048 .bf16) (main_arg2 : FVec F S4x8192x2816 .bf16) : IVec S8192x2048 1 × IVec S4x1408x2048 1 × IVec S4x8192x2816 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S4x8192x2816 .f32 := (extf .f32 · bitsLt_bf16_f32) main_arg2
  let main_v9 : FVec F S4x8192x2816 .f32 := Host.absf main_v8
  let main_cst_1 : FVec F S_ .f32 := constant S_ .f32 0x7F800000#32
  let main_v10 : FVec F S4x8192x2816 .f32 := broadcastInDim S4x8192x2816 ![] bcast_S_S4x8192x2816 main_cst_1
  let main_v11 : IVec S4x8192x2816 1 := cmpf .olt main_v9 main_v10
  (main_v3, main_v7, main_v11)
-- ==== Kernel.lean ====
abbrev S8192x1024 : Shape := ⟨2, ![8192, 1024]⟩
abbrev S8192x256 : Shape := ⟨2, ![8192, 256]⟩
abbrev S8 : Shape := ⟨1, ![8]⟩
abbrev S8192x2048 : Shape := ⟨2, ![8192, 2048]⟩
abbrev S2x1x4 : Shape := ⟨3, ![2, 1, 4]⟩
abbrev S8448x256 : Shape := ⟨2, ![8448, 256]⟩
abbrev S2x8x128 : Shape := ⟨3, ![2, 8, 128]⟩
abbrev S128x1024 : Shape := ⟨2, ![128, 1024]⟩
abbrev S128x256 : Shape := ⟨2, ![128, 256]⟩
abbrev S8x128 : Shape := ⟨2, ![8, 128]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1 : Shape := ⟨1, ![1]⟩
abbrev S1x8x128 : Shape := ⟨3, ![1, 8, 128]⟩
abbrev S2x4 : Shape := ⟨2, ![2, 4]⟩

abbrev nBuf : Space → Nat
  | .hbm => 15
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8, .f32⟩
  | .hbm, ⟨4, _⟩ => ⟨S8192x2048, .f32⟩
  | .hbm, ⟨5, _⟩ => ⟨S2x1x4, .f32⟩
  | .hbm, ⟨6, _⟩ => ⟨S8192x1024, .f32⟩
  | .hbm, ⟨7, _⟩ => ⟨S8448x256, .f32⟩
  | .hbm, ⟨8, _⟩ => ⟨S8448x256, .f32⟩
  | .hbm, ⟨9, _⟩ => ⟨S2x8x128, .f32⟩
  | .hbm, ⟨10, _⟩ => ⟨S8192x256, .f32⟩
  | .hbm, ⟨11, _⟩ => ⟨S8192x256, .f32⟩
  | .hbm, ⟨12, _⟩ => ⟨S2x1x4, .f32⟩
  | .hbm, ⟨13, _⟩ => ⟨S2x4, .f32⟩
  | .hbm, ⟨14, _⟩ => ⟨S8, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S2x1x4, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S8448x256, .f32⟩
  | .local _ .vmem, ⟨20, _⟩ => ⟨S8448x256, .f32⟩
  | .local _ .vmem, ⟨21, _⟩ => ⟨S2x8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v118 : Index := Scalar.indexCast v4
  let c0_62 : Index := 0#32
  ![v118.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v307 : Index := Scalar.indexCast v4
  let c128_156 : Index := 128#32
  ![v307.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8448x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8448x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8192x256 : Shape := ⟨2, ![8192, 256]⟩
abbrev S8 : Shape := ⟨1, ![8]⟩
abbrev S8192x2048 : Shape := ⟨2, ![8192, 2048]⟩
abbrev S1x8192x8x128 : Shape := ⟨4, ![1, 8192, 8, 128]⟩
abbrev S1x8192x2x128 : Shape := ⟨4, ![1, 8192, 2, 128]⟩
abbrev S1x64x128x2x4x128 : Shape := ⟨6, ![1, 64, 128, 2, 4, 128]⟩
abbrev S_ : Shape := ⟨0, ![]⟩
abbrev S1x128x2x128 : Shape := ⟨4, ![1, 128, 2, 128]⟩
abbrev S1x8448x2x128 : Shape := ⟨4, ![1, 8448, 2, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x128x4x128 : Shape := ⟨6, ![1, 64, 2, 128, 4, 128]⟩
abbrev S1x8192x1024 : Shape := ⟨3, ![1, 8192, 1024]⟩
abbrev S1x64x2x128x384 : Shape := ⟨5, ![1, 64, 2, 128, 384]⟩
abbrev S1x2x4x1 : Shape := ⟨4, ![1, 2, 4, 1]⟩
abbrev S64x2x4x128 : Shape := ⟨4, ![64, 2, 4, 128]⟩
abbrev S1x64x2x384x128 : Shape := ⟨5, ![1, 64, 2, 384, 128]⟩

abbrev nBuf : Space → Nat
  | .hbm => 237
  | .vmem => 0
  | .smem => 0
  | _ => 0

abbrev hbmTy0_0 (i : Nat) : BufTy := match i % 128 with
  | 0 => ⟨S8192x1024, .bf16⟩
  | 1 => ⟨S8192x256, .bf16⟩
  | 2 => ⟨S8192x256, .bf16⟩
  | 3 => ⟨S8, .f32⟩
  | 4 => ⟨S8192x2048, .f32⟩
  | 5 => ⟨S8192x1024, .f32⟩
  | 6 => ⟨S8192x256, .f32⟩
  | 7 => ⟨S8192x256, .f32⟩
  | 8 => ⟨S1x8192x8x128, .f32⟩
  | 9 => ⟨S1x8192x2x128, .f32⟩
  | 10 => ⟨S1x8192x2x128, .f32⟩
  | 11 => ⟨S1x64x128x2x4x128, .f32⟩
  | 12 => ⟨S_, .f32⟩
  | 13 => ⟨S1x128x2x128, .f32⟩
  | 14 => ⟨S1x8448x2x128, .f32⟩
  | 15 => ⟨S_, .f32⟩
  | 16 => ⟨S1x128x2x128, .f32⟩
  | 17 => ⟨S_, .f32⟩
  | 18 => ⟨S1x128x2x128, .f32⟩
  | 19 => ⟨S1x66x128x2x128, .f32⟩
  | 20 => ⟨S1x64x128x2x128, .f32⟩
  | 21 => ⟨S1x64x128x2x128, .f32⟩
  | 22 => ⟨S1x64x128x2x128, .f32⟩
  | 23 => ⟨S1x64x384x2x128, .f32⟩
  | 24 => ⟨S_, .f32⟩
  | 25 => ⟨S1x128x2x128, .f32⟩
  | 26 => ⟨S1x8448x2x128, .f32⟩
  | 27 => ⟨S_, .f32⟩
  | 28 => ⟨S1x128x2x128, .f32⟩
  | 29 => ⟨S_, .f32⟩
  | 30 => ⟨S1x128x2x128, .f32⟩
  | 31 => ⟨S1x66x128x2x128, .f32⟩
  | 32 => ⟨S1x64x128x2x128, .f32⟩
  | 33 => ⟨S1x64x128x2x128, .f32⟩
  | 34 => ⟨S1x64x128x2x128, .f32⟩
  | 35 => ⟨S1x64x384x2x128, .f32⟩
  | 36 => ⟨S1x64x2x384x128x4, .f32⟩
  | 37 => ⟨S1x64x2x4x128x384, .f32⟩
  | 38 => ⟨S_, .f32⟩
  | 39 => ⟨S1x64x2x4x128x384, .f32⟩
  | 40 => ⟨S1x64x2x4x128x384, .f32⟩
  | 41 => ⟨S128, .i32⟩
  | 42 => ⟨S128x1, .i32⟩
  | 43 => ⟨S384, .i32⟩
  | 44 => ⟨S1x384, .i32⟩
  | 45 => ⟨S64, .i32⟩
  | 46 => ⟨S64x1x1, .i32⟩
  | 47 => ⟨S_, .i32⟩
  | 48 => ⟨S64x1x1, .i32⟩
  | 49 => ⟨S64x1x1, .i32⟩
  | 50 => ⟨S_, .i32⟩
  | 51 => ⟨S64x1x1, .i32⟩
  | 52 => ⟨S64x1x1, .i32⟩
  | 53 => ⟨S1x1x384, .i32⟩
  | 54 => ⟨S64x1x384, .i32⟩
  | 55 => ⟨S64x1x384, .i32⟩
  | 56 => ⟨S64x1x384, .i32⟩
  | 57 => ⟨S_, .i32⟩
  | 58 => ⟨S1x384, .i32⟩
  | 59 => ⟨S1x384, .i32⟩
  | 60 => ⟨S128x384, .i32⟩
  | 61 => ⟨S128x384, .i32⟩
  | 62 => ⟨S128x384, .i32⟩
  | 63 => ⟨S128x384, .i32⟩
  | 64 => ⟨S_, .i32⟩
  | 65 => ⟨S128x384, .i32⟩
  | 66 => ⟨S128x384, .i1⟩
  | 67 => ⟨S1x128x384, .i1⟩
  | 68 => ⟨S_, .i32⟩
  | 69 => ⟨S64x1x384, .i32⟩
  | 70 => ⟨S64x1x384, .i1⟩
  | 71 => ⟨S64x128x384, .i1⟩
  | 72 => ⟨S64x128x384, .i1⟩
  | 73 => ⟨S64x128x384, .i1⟩
  | 74 => ⟨S_, .i32⟩
  | 75 => ⟨S64x1x384, .i32⟩
  | 76 => ⟨S64x1x384, .i1⟩
  | 77 => ⟨S64x128x384, .i1⟩
  | 78 => ⟨S64x128x384, .i1⟩
  | 79 => ⟨S1x64x1x1x128x384, .i1⟩
  | 80 => ⟨S_, .f32⟩
  | 81 => ⟨S_, .f32⟩
  | 82 => ⟨S1x64x2x4x128x384, .i1⟩
  | 83 => ⟨S1x64x2x4x128x384, .f32⟩
  | 84 => ⟨S1x64x2x4x128x384, .f32⟩
  | 85 => ⟨S_, .f32⟩
  | 86 => ⟨S1x64x2x4x128x384, .f32⟩
  | 87 => ⟨S2x4, .f32⟩
  | 88 => ⟨S1x1x2x4x1x1, .f32⟩
  | 89 => ⟨S_, .f32⟩
  | 90 => ⟨S1x64x2x4x128, .f32⟩
  | 91 => ⟨S1x64x2x4x128x1, .f32⟩
  | 92 => ⟨S1x64x2x4x128x384, .f32⟩
  | 93 => ⟨S1x64x2x4x128x384, .i1⟩
  | 94 => ⟨S1x64x2x4x128x384, .f32⟩
  | 95 => ⟨S_, .f32⟩
  | 96 => ⟨S1x64x2x4x128, .f32⟩
  | 97 => ⟨S1x64x2x4x128x1, .f32⟩
  | 98 => ⟨S1x64x2x4x128x1, .f32⟩
  | 99 => ⟨S1x64x2x4x128x1, .f32⟩
  | 100 => ⟨S1x64x2x4x128x1, .f32⟩
  | 101 => ⟨S1x64x2x4x128x1, .i1⟩
  | 102 => ⟨S1x64x2x4x128x1, .f32⟩
  | 103 => ⟨S1x64x2x4x128x1, .i1⟩
  | 104 => ⟨S_, .f32⟩
  | 105 => ⟨S1x64x2x4x128x1, .f32⟩
  | 106 => ⟨S_, .f32⟩
  | 107 => ⟨S1x64x2x4x128x1, .f32⟩
  | 108 => ⟨S_, .f32⟩
  | 109 => ⟨S1x64x2x4x128x1, .f32⟩
  | 110 => ⟨S1x64x2x4x128x1, .f32⟩
  | 111 => ⟨S1x64x2x4x128x1, .f32⟩
  | 112 => ⟨S1x64x2x4x128x1, .f32⟩
  | 113 => ⟨S1x64x2x4x128x1, .i1⟩
  | 114 => ⟨S1x64x2x4x128x1, .f32⟩
  | 115 => ⟨S1x64x2x4x128x1, .i1⟩
  | 116 => ⟨S_, .f32⟩
  | 117 => ⟨S1x64x2x4x128x1, .f32⟩
  | 118 => ⟨S_, .f32⟩
  | 119 => ⟨S1x64x2x4x128x1, .f32⟩
  | 120 => ⟨S_, .f32⟩
  | 121 => ⟨S1x64x2x4x128x1, .f32⟩
  | 122 => ⟨S1x64x2x4x128x1, .f32⟩
  | 123 => ⟨S1x64x2x4x128x1, .f32⟩
  | 124 => ⟨S1x64x2x4x128x384, .f32⟩
  | 125 => ⟨S1x64x2x4x128x384, .f32⟩
  | 126 => ⟨S1x64x2x4x128x384, .f32⟩
  | 127 => ⟨S_, .f32⟩
  | _ => ⟨S8192x1024, .bf16⟩

abbrev hbmTy0_1 (i : Nat) : BufTy := match i % 128 with
  | 0 => ⟨S1x64x2x4x128, .f32⟩
  | 1 => ⟨S1x64x2x4x128x1, .f32⟩
  | 2 => ⟨S1x64x2x4x128x1, .f32⟩
  | 3 => ⟨S1x64x2x4x128x1, .f32⟩
  | 4 => ⟨S1x64x2x4x128x1, .f32⟩
  | 5 => ⟨S1x64x2x4x128x1, .f32⟩
  | 6 => ⟨S1x64x2x4x128x384, .f32⟩
  | 7 => ⟨S1x64x2x4x128x384, .f32⟩
  | 8 => ⟨S1x64x2x4x128x1, .f32⟩
  | 9 => ⟨S_, .f32⟩
  | 10 => ⟨S1x64x2x4x128x1, .f32⟩
  | 11 => ⟨S1x64x2x4x128x1, .f32⟩
  | 12 => ⟨S1x64x2x128x4x128, .f32⟩
  | 13 => ⟨S1x64x128x2x4x128, .f32⟩
  | 14 => ⟨S1x8192x1024, .f32⟩
  | 15 => ⟨S8192x1024, .f32⟩
  | 16 => ⟨S8192x1024, .f32⟩
  | 17 => ⟨S1x8192x1024, .f32⟩
  | 18 => ⟨S1x64x128x2x4x128, .f32⟩
  | 19 => ⟨S1x64x2x128x4x128, .f32⟩
  | 20 => ⟨S1x64x2x4x128x384, .f32⟩
  | 21 => ⟨S1x64x2x128x384, .f32⟩
  | 22 => ⟨S1x64x384x2x128, .f32⟩
  | 23 => ⟨S1x64x2x4x128x384, .f32⟩
  | 24 => ⟨S1x64x2x4x128x384, .f32⟩
  | 25 => ⟨S1x64x2x4x128x384, .f32⟩
  | 26 => ⟨S_, .f32⟩
  | 27 => ⟨S1x64x2x4x128, .f32⟩
  | 28 => ⟨S1x64x2x4x128x1, .f32⟩
  | 29 => ⟨S1x64x2x4x128x1, .f32⟩
  | 30 => ⟨S1x64x2x4x128x384, .f32⟩
  | 31 => ⟨S1x64x2x4x128x384, .f32⟩
  | 32 => ⟨S1x64x2x4x128x1, .f32⟩
  | 33 => ⟨S_, .f32⟩
  | 34 => ⟨S1x2x4x1, .f32⟩
  | 35 => ⟨S1x1x2x4x1x1, .f32⟩
  | 36 => ⟨S1x64x2x4x128x1, .f32⟩
  | 37 => ⟨S_, .f32⟩
  | 38 => ⟨S64x2x4x128, .f32⟩
  | 39 => ⟨S1x64x2x4x128, .f32⟩
  | 40 => ⟨S1x64x2x4x128x384, .f32⟩
  | 41 => ⟨S1x64x2x4x128x384, .f32⟩
  | 42 => ⟨S1x64x2x4x128x384, .f32⟩
  | 43 => ⟨S1x64x2x4x128x384, .f32⟩
  | 44 => ⟨S_, .f32⟩
  | 45 => ⟨S1x64x2x4x128, .f32⟩
  | 46 => ⟨S1x64x2x4x128x1, .f32⟩
  | 47 => ⟨S1x64x2x4x128x1, .f32⟩
  | 48 => ⟨S1x64x2x4x128x1, .f32⟩
  | 49 => ⟨S_, .f32⟩
  | 50 => ⟨S1x2x4x1, .f32⟩
  | 51 => ⟨S1x1x2x4x1x1, .f32⟩
  | 52 => ⟨S1x1x2x4x1x1, .f32⟩
  | 53 => ⟨S1x64x2x4x128x1, .f32⟩
  | 54 => ⟨S_, .f32⟩
  | 55 => ⟨S64x2x4x128, .f32⟩
  | 56 => ⟨S1x64x2x4x128, .f32⟩
  | 57 => ⟨S1x64x2x4x128, .f32⟩
  | 58 => ⟨S1x64x2x4x128x384, .f32⟩
  | 59 => ⟨S1x64x2x4x128x384, .f32⟩
  | 60 => ⟨S1x64x2x4x128x384, .f32⟩
  | 61 => ⟨S_, .f32⟩
  | 62 => ⟨S2x4, .f32⟩
  | 63 => ⟨S8, .f32⟩
  | 64 => ⟨S_, .f32⟩
  | 65 => ⟨S1x64x2x4x128x384, .f32⟩
  | 66 => ⟨S1x64x2x4x128x384, .f32⟩
  | 67 => ⟨S_, .f32⟩
  | 68 => ⟨S1x64x2x4x128x384, .f32⟩
  | 69 => ⟨S1x64x2x4x128x384, .f32⟩
  | 70 => ⟨S1x64x2x384x128x4, .f32⟩
  | 71 => ⟨S1x64x2x128x4x128, .f32⟩
  | 72 => ⟨S1x64x128x2x4x128, .f32⟩
  | 73 => ⟨S1x64x2x384x128, .f32⟩
  | 74 => ⟨S1x64x384x2x128, .f32⟩
  | 75 => ⟨S1x64x128x2x128, .f32⟩
  | 76 => ⟨S1x64x128x2x128, .f32⟩
  | 77 => ⟨S1x64x128x2x128, .f32⟩
  | 78 => ⟨S_, .f32⟩
  | 79 => ⟨S1x66x128x2x128, .f32⟩
  | 80 => ⟨S_, .f32⟩
  | 81 => ⟨S1x66x128x2x128, .f32⟩
  | 82 => ⟨S1x66x128x2x128, .f32⟩
  | 83 => ⟨S_, .f32⟩
  | 84 => ⟨S1x66x128x2x128, .f32⟩
  | 85 => ⟨S1x66x128x2x128, .f32⟩
  | 86 => ⟨S1x8448x2x128, .f32⟩
  | 87 => ⟨S1x128x2x128, .f32⟩
  | 88 => ⟨S1x8192x2x128, .f32⟩
  | 89 => ⟨S1x128x2x128, .f32⟩
  | 90 => ⟨S1x64x128x2x128, .f32⟩
  | 91 => ⟨S1x64x128x2x128, .f32⟩
  | 92 => ⟨S1x64x128x2x128, .f32⟩
  | 93 => ⟨S_, .f32⟩
  | 94 => ⟨S1x66x128x2x128, .f32⟩
  | 95 => ⟨S_, .f32⟩
  | 96 => ⟨S1x66x128x2x128, .f32⟩
  | 97 => ⟨S1x66x128x2x128, .f32⟩
  | 98 => ⟨S_, .f32⟩
  | 99 => ⟨S1x66x128x2x128, .f32⟩
  | 100 => ⟨S1x66x128x2x128, .f32⟩
  | 101 => ⟨S1x8448x2x128, .f32⟩
  | 102 => ⟨S1x128x2x128, .f32⟩
  | 103 => ⟨S1x8192x2x128, .f32⟩
  | 104 => ⟨S1x128x2x128, .f32⟩
  | 105 => ⟨S1x8192x8x128, .f32⟩
  | 106 => ⟨S8192x256, .f32⟩
  | 107 => ⟨S8192x256, .f32⟩
  | 108 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_call0_v0 : Ref sig .tc := ⟨.hbm, 81, rfl⟩
abbrev main_v62_1 : Ref sig .tc := ⟨.hbm, 82, rfl⟩
abbrev main_call0_v2 : Ref sig .tc := ⟨.hbm, 83, rfl⟩
abbrev main_v62_0 : Ref sig .tc := ⟨.hbm, 84, rfl⟩
abbrev main_call0_cst : Ref sig .tc := ⟨.hbm, 85, rfl⟩
abbrev main_v62_2 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_25 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_26 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_28 : Ref sig .tc := ⟨.hbm, 189, rfl⟩
abbrev main_v149 : Ref sig .tc := ⟨.hbm, 190, rfl⟩
abbrev main_v150 : Ref sig .tc := ⟨.hbm, 191, rfl⟩
abbrev main_call1_cst : Ref sig .tc := ⟨.hbm, 192, rfl⟩
abbrev main_call1_v0 : Ref sig .tc := ⟨.hbm, 193, rfl⟩
abbrev main_v151 : Ref sig .tc := ⟨.hbm, 194, rfl⟩
abbrev main_cst_29 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_30 : Ref sig .tc := ⟨.hbm, 206, rfl⟩
abbrev main_v162 : Ref sig .tc := ⟨.hbm, 207, rfl⟩
abbrev main_cst_31 : Ref sig .tc := ⟨.hbm, 208, rfl⟩
abbrev main_v163 : Ref sig .tc := ⟨.hbm, 209, rfl⟩
abbrev main_v164 : Ref sig .tc := ⟨.hbm, 210, rfl⟩
abbrev main_cst_32 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_33 : Ref sig .tc := ⟨.hbm, 221, rfl⟩
abbrev main_v174 : Ref sig .tc := ⟨.hbm, 222, rfl⟩
abbrev main_cst_34 : Ref sig .tc := ⟨.hbm, 223, rfl⟩
abbrev main_v175 : Ref sig .tc := ⟨.hbm, 224, rfl⟩
abbrev main_v176 : Ref sig .tc := ⟨.hbm, 225, rfl⟩
abbrev main_cst_35 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩

abbrev nD : Nat := 1
abbrev τ : Topo := Topo.v7x

variable {F : FTy → Type} [FloatOps F]
-- ==== Kernel2.lean ====
abbrev S8192x2048 : Shape := ⟨2, ![8192, 2048]⟩
abbrev S4x1408x2048 : Shape := ⟨3, ![4, 1408, 2048]⟩
abbrev S4x8192x2816 : Shape := ⟨3, ![4, 8192, 2816]⟩
abbrev S512x2048 : Shape := ⟨2, ![512, 2048]⟩
abbrev S1x1408x2048 : Shape := ⟨3, ![1, 1408, 2048]⟩
abbrev S1x512x2816 : Shape := ⟨3, ![1, 512, 2816]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S4x8192x2816, .bf16⟩
  | .hbm, ⟨3, _⟩ => ⟨S4x8192x2816, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x512x2816, .bf16⟩
  | .local _ .vmem, ⟨5, _⟩ => ⟨S1x512x2816, .bf16⟩
  | .local _ .vmem, ⟨6, _⟩ => ⟨S1x512x2816, .bf16⟩
  | .local _ .vmem, ⟨7, _⟩ => ⟨S1x512x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S4x1408x2048 : Shape := ⟨3, ![4, 1408, 2048]⟩
abbrev S4x8192x2816 : Shape := ⟨3, ![4, 8192, 2816]⟩
abbrev S5632x2048 : Shape := ⟨2, ![5632, 2048]⟩
abbrev S4x8192x1408 : Shape := ⟨3, ![4, 8192, 1408]⟩
abbrev S8192x4x1408 : Shape := ⟨3, ![8192, 4, 1408]⟩
abbrev S8192x5632 : Shape := ⟨2, ![8192, 5632]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S4x8192x2816, .bf16⟩
  | .hbm, ⟨3, _⟩ => ⟨S4x1408x2048, .f32⟩
  | .hbm, ⟨4, _⟩ => ⟨S5632x2048, .f32⟩
  | .hbm, ⟨5, _⟩ => ⟨S4x8192x2816, .f32⟩
  | .hbm, ⟨6, _⟩ => ⟨S4x8192x1408, .f32⟩
  | .hbm, ⟨7, _⟩ => ⟨S8192x4x1408, .f32⟩
  | .hbm, ⟨8, _⟩ => ⟨S8192x5632, .f32⟩
  | .hbm, ⟨9, _⟩ => ⟨S4x8192x1408, .f32⟩
  | .hbm, ⟨10, _⟩ => ⟨S8192x4x1408, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S8192x2048, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x4x1408, .f32⟩
  | .hbm, ⟨36, _⟩ => ⟨S4x8192x1408, .f32⟩
  | .hbm, ⟨37, _⟩ => ⟨S8192x4x1408, .f32⟩
  | .hbm, ⟨38, _⟩ => ⟨S4x8192x1408, .f32⟩
  | .hbm, ⟨39, _⟩ => ⟨S4x8192x2816, .f32⟩
  | .hbm, ⟨40, _⟩ => ⟨S4x8192x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel3.lean ====
abbrev S8192x2048 : Shape := ⟨2, ![8192, 2048]⟩
abbrev S4x8192x2816 : Shape := ⟨3, ![4, 8192, 2816]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8192x2816, .bf16⟩
  | .hbm, ⟨2, _⟩ => ⟨S4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S8192x2048 : Shape := ⟨2, ![8192, 2048]⟩
abbrev S4x8192x2816 : Shape := ⟨3, ![4, 8192, 2816]⟩
abbrev S_ : Shape := ⟨0, ![]⟩
abbrev S2048x5632 : Shape := ⟨2, ![2048, 5632]⟩
abbrev S8192x5632 : Shape := ⟨2, ![8192, 5632]⟩
abbrev S4x8192x1408 : Shape := ⟨3, ![4, 8192, 1408]⟩
abbrev S8192x4x1408 : Shape := ⟨3, ![8192, 4, 1408]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4x2048x2816 : Shape := ⟨3, ![4, 2048, 2816]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2816, .bf16⟩
  | .hbm, ⟨2, _⟩ => ⟨S8192x2048, .f32⟩
  | .hbm, ⟨3, _⟩ => ⟨S4x8192x2816, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S4x8192x1408, .f32⟩
  | .hbm, ⟨9, _⟩ => ⟨S8192x4x1408, .f32⟩
  | .hbm, ⟨10, _⟩ => ⟨S8192x5632, .f32⟩
  | .hbm, ⟨11, _⟩ => ⟨S4x8192x1408, .f32⟩
  | .hbm, ⟨12, _⟩ => ⟨S8192x4x1408, .f32⟩
  | .hbm, ⟨13, _⟩ => ⟨S8192x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S2048x4x1408, .f32⟩
  | .hbm, ⟨19, _⟩ => ⟨S4x2048x1408, .f32⟩
  | .hbm, ⟨20, _⟩ => ⟨S2048x4x1408, .f32⟩
  | .hbm, ⟨21, _⟩ => ⟨S4x2048x1408, .f32⟩
  | .hbm, ⟨22, _⟩ => ⟨S4x2048x2816, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4x8192x2816 : Shape := ⟨3, ![4, 8192, 2816]⟩
abbrev S4x2048x2816 : Shape := ⟨3, ![4, 2048, 2816]⟩
abbrev S8192x2048 : Shape := ⟨2, ![8192, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x2816, .bf16⟩
  | .hbm, ⟨1, _⟩ => ⟨S4x2048x2816, .bf16⟩
  | .hbm, ⟨2, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg3 c1_i32_4
  let c0_i32_5 : BitVec 32 := 0#32
  let v11 : BitVec 1 := Scalar.cmpi .sgt arg3 c0_i32_5
  let v12 : BitVec 32 := Scalar.extui v11
  let c0_i32_6 : BitVec 32 := 0#32
  let v13 : BitVec 1 := Scalar.cmpi .slt arg3 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg3 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v26.toNat, arg1.toNat, v9.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg3 c1_i32_4
  let c0_i32_5 : BitVec 32 := 0#32
  let v11 : BitVec 1 := Scalar.cmpi .sgt arg3 c0_i32_5
  let v12 : BitVec 32 := Scalar.extui v11
  let c0_i32_6 : BitVec 32 := 0#32
  let v13 : BitVec 1 := Scalar.cmpi .slt arg3 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg3 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v26.toNat, arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S4x8192x2816 : Shape := ⟨3, ![4, 8192, 2816]⟩
abbrev S4x2048x2816 : Shape := ⟨3, ![4, 2048, 2816]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S8192x2048 : Shape := ⟨2, ![8192, 2048]⟩
abbrev S8192x5632 : Shape := ⟨2, ![8192, 5632]⟩
abbrev S4x8192x1408 : Shape := ⟨3, ![4, 8192, 1408]⟩
abbrev S8192x4x1408 : Shape := ⟨3, ![8192, 4, 1408]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x2816, .bf16⟩
  | .hbm, ⟨1, _⟩ => ⟨S4x2048x2816, .bf16⟩
  | .hbm, ⟨2, _⟩ => ⟨S4x8192x2816, .f32⟩
  | .hbm, ⟨3, _⟩ => ⟨S4x2048x2816, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4x2048x1408, .f32⟩
  | .hbm, ⟨8, _⟩ => ⟨S2048x4x1408, .f32⟩
  | .hbm, ⟨9, _⟩ => ⟨S2048x5632, .f32⟩
  | .hbm, ⟨10, _⟩ => ⟨S_, .f32⟩
  | .hbm, ⟨11, _⟩ => ⟨S8192x2048, .f32⟩
  | .hbm, ⟨12, _⟩ => ⟨S8192x5632, .f32⟩
  | .hbm, ⟨13, _⟩ => ⟨S8192x5632, .f32⟩
  | .hbm, ⟨14, _⟩ => ⟨S4x8192x1408, .f32⟩
  | .hbm, ⟨15, _⟩ => ⟨S8192x4x1408, .f32⟩
  | .hbm, ⟨16, _⟩ => ⟨S8192x5632, .f32⟩
  | .hbm, ⟨17, _⟩ => ⟨S4x8192x1408, .f32⟩
  | .hbm, ⟨18, _⟩ => ⟨S8192x4x1408, .f32⟩
  | .hbm, ⟨19, _⟩ => ⟨S8192x5632, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S4x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel5.lean ====
abbrev S4x8192x1408 : Shape := ⟨3, ![4, 8192, 1408]⟩
abbrev S8192x2048 : Shape := ⟨2, ![8192, 2048]⟩
abbrev S4x1408x2048 : Shape := ⟨3, ![4, 1408, 2048]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x1408, .bf16⟩
  | .hbm, ⟨1, _⟩ => ⟨S8192x2048, .bf16⟩
  | .hbm, ⟨2, _⟩ => ⟨S4x1408x2048, .f32⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S4x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S4x8192x1408 : Shape := ⟨3, ![4, 8192, 1408]⟩
abbrev S8192x2048 : Shape := ⟨2, ![8192, 2048]⟩
abbrev S8192x4x1408 : Shape := ⟨3, ![8192, 4, 1408]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x1408, .bf16⟩
  | .hbm, ⟨1, _⟩ => ⟨S8192x2048, .bf16⟩
  | .hbm, ⟨2, _⟩ => ⟨S4x8192x1408, .f32⟩
  | .hbm, ⟨3, _⟩ => ⟨S8192x4x1408, .f32⟩
  | .hbm, ⟨4, _⟩ => ⟨S8192x5632, .f32⟩
  | .hbm, ⟨5, _⟩ => ⟨S_, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S2048x5632, .f32⟩
  | .hbm, ⟨10, _⟩ => ⟨S5632x2048, .f32⟩
  | .hbm, ⟨11, _⟩ => ⟨S4x1408x2048, .f32⟩
  | _, _ => ⟨S4x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4x8192x1408 : Shape := ⟨3, ![4, 8192, 1408]⟩
abbrev S4x1408x2048 : Shape := ⟨3, ![4, 1408, 2048]⟩
abbrev S8192x2048 : Shape := ⟨2, ![8192, 2048]⟩
abbrev S1x1024x1408 : Shape := ⟨3, ![1, 1024, 1408]⟩
abbrev S1x1408x2048 : Shape := ⟨3, ![1, 1408, 2048]⟩
abbrev S1024x2048 : Shape := ⟨2, ![1024, 2048]⟩
abbrev S1024x1408 : Shape := ⟨2, ![1024, 1408]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x1408, .bf16⟩
  | .hbm, ⟨1, _⟩ => ⟨S4x1408x2048, .bf16⟩
  | .hbm, ⟨2, _⟩ => ⟨S8192x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg3 c1_i32_4
  let c0_i32_5 : BitVec 32 := 0#32
  let v11 : BitVec 1 := Scalar.cmpi .sgt arg3 c0_i32_5
  let v12 : BitVec 32 := Scalar.extui v11
  let c0_i32_6 : BitVec 32 := 0#32
  let v13 : BitVec 1 := Scalar.cmpi .slt arg3 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg3 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v26.toNat, arg1.toNat, v9.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg3 c1_i32_4
  let c0_i32_5 : BitVec 32 := 0#32
  let v11 : BitVec 1 := Scalar.cmpi .sgt arg3 c0_i32_5
  let v12 : BitVec 32 := Scalar.extui v11
  let c0_i32_6 : BitVec 32 := 0#32
  let v13 : BitVec 1 := Scalar.cmpi .slt arg3 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg3 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v26.toNat, v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S4x8192x1408 : Shape := ⟨3, ![4, 8192, 1408]⟩
abbrev S4x1408x2048 : Shape := ⟨3, ![4, 1408, 2048]⟩
abbrev S8192x4x1408 : Shape := ⟨3, ![8192, 4, 1408]⟩
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x1408, .bf16⟩
  | .hbm, ⟨1, _⟩ => ⟨S4x1408x2048, .bf16⟩
  | .hbm, ⟨2, _⟩ => ⟨S4x8192x1408, .f32⟩
  | .hbm, ⟨3, _⟩ => ⟨S8192x4x1408, .f32⟩
  | .hbm, ⟨4, _⟩ => ⟨S8192x5632, .f32⟩
  | .hbm, ⟨5, _⟩ => ⟨S4x1408x2048, .f32⟩
  | .hbm, ⟨6, _⟩ => ⟨S5632x2048, .f32⟩
  | .hbm, ⟨7, _⟩ => ⟨S8192x2048, .f32⟩
  | _, _ => ⟨S4x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S4x2048x2816 : Shape := ⟨3, ![4, 2048, 2816]⟩
abbrev S4x8192x2816 : Shape := ⟨3, ![4, 8192, 2816]⟩
abbrev S4x8192x1408 : Shape := ⟨3, ![4, 8192, 1408]⟩
abbrev S512x2048 : Shape := ⟨2, ![512, 2048]⟩
abbrev S1x2048x2816 : Shape := ⟨3, ![1, 2048, 2816]⟩
abbrev S1x512x2816 : Shape := ⟨3, ![1, 512, 2816]⟩
abbrev S1x512x1408 : Shape := ⟨3, ![1, 512, 1408]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S4x8192x2816, .bf16⟩
  | .hbm, ⟨3, _⟩ => ⟨S4x8192x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S1x512x1408, .bf16⟩
  | .local _ .vmem, ⟨7, _⟩ => ⟨S1x512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2048 : Shape := ⟨2, ![8192, 2048]⟩
abbrev S4x2048x2816 : Shape := ⟨3, ![4, 2048, 2816]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩
abbrev S8192x4x1408 : Shape := ⟨3, ![8192, 4, 1408]⟩
abbrev S4x8192x1408 : Shape := ⟨3, ![4, 8192, 1408]⟩
abbrev S4x8192x2816 : Shape := ⟨3, ![4, 8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S8192x2048, .f32⟩
  | .hbm, ⟨3, _⟩ => ⟨S4x2048x2816, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S8192x5632, .f32⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S8192x5632, .f32⟩
  | .hbm, ⟨12, _⟩ => ⟨S8192x4x1408, .f32⟩
  | .hbm, ⟨13, _⟩ => ⟨S4x8192x1408, .f32⟩
  | .hbm, ⟨14, _⟩ => ⟨S8192x4x1408, .f32⟩
  | .hbm, ⟨15, _⟩ => ⟨S4x8192x1408, .f32⟩
  | .hbm, ⟨16, _⟩ => ⟨S4x8192x2816, .f32⟩
  | .hbm, ⟨17, _⟩ => ⟨S4x8192x2816, .bf16⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x4x1408, .f32⟩
  | .hbm, ⟨29, _⟩ => ⟨S4x8192x1408, .f32⟩
  | .hbm, ⟨30, _⟩ => ⟨S4x8192x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference9Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S8192x5760 : Shape := ⟨2, ![8192, 5760]⟩
abbrev S2048x5760 : Shape := ⟨2, ![2048, 5760]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5760, .bf16⟩
  | .hbm, ⟨2, _⟩ => ⟨S2048x5760, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 5, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference10Ideal.lean ====
abbrev S8192x2048 : Shape := ⟨2, ![8192, 2048]⟩
abbrev S8192x5760 : Shape := ⟨2, ![8192, 5760]⟩
abbrev S_ : Shape := ⟨0, ![]⟩
abbrev S2048x5760 : Shape := ⟨2, ![2048, 5760]⟩
abbrev S5760x2048 : Shape := ⟨2, ![5760, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5760, .bf16⟩
  | .hbm, ⟨2, _⟩ => ⟨S_, .f32⟩
  | .hbm, ⟨3, _⟩ => ⟨S2048x5760, .f32⟩
  | .hbm, ⟨4, _⟩ => ⟨S8192x2048, .f32⟩
  | .hbm, ⟨5, _⟩ => ⟨S8192x5760, .f32⟩
  | .hbm, ⟨6, _⟩ => ⟨S8192x5760, .f32⟩
  | .hbm, ⟨7, _⟩ => ⟨S5760x2048, .f32⟩
  | .hbm, ⟨8, _⟩ => ⟨S2048x5760, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x5760 : Shape := ⟨2, ![8192, 5760]⟩
abbrev S2048x5760 : Shape := ⟨2, ![2048, 5760]⟩
abbrev S8192x2048 : Shape := ⟨2, ![8192, 2048]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5760, .bf16⟩
  | .hbm, ⟨1, _⟩ => ⟨S2048x5760, .bf16⟩
  | .hbm, ⟨2, _⟩ => ⟨S8192x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 3], ![false, false, false, false]⟩

def k0_cond3 (i : grid0.Coords) : BitVec 1 :=
  let arg3 : BitVec 32 := BitVec.ofNat 32 (i 3).val
  let c2_i32 : BitVec 32 := 2#32
  let v9 : BitVec 1 := Scalar.cmpi .eq arg3 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference11Ideal.lean ====
abbrev S8192x5760 : Shape := ⟨2, ![8192, 5760]⟩
abbrev S2048x5760 : Shape := ⟨2, ![2048, 5760]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S2048x5760, .bf16⟩
  | .hbm, ⟨2, _⟩ => ⟨S_, .f32⟩
  | .hbm, ⟨3, _⟩ => ⟨S8192x2048, .f32⟩
  | .hbm, ⟨4, _⟩ => ⟨S2048x5760, .f32⟩
  | .hbm, ⟨5, _⟩ => ⟨S8192x5760, .f32⟩
  | .hbm, ⟨6, _⟩ => ⟨S8192x5760, .f32⟩
  | .hbm, ⟨7, _⟩ => ⟨S8192x2048, .f32⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x2048 : Shape := ⟨2, ![8192, 2048]⟩
abbrev S2048x5760 : Shape := ⟨2, ![2048, 5760]⟩
abbrev S8192x5760 : Shape := ⟨2, ![8192, 5760]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5760, .bf16⟩
  | .hbm, ⟨2, _⟩ => ⟨S8192x5760, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 5, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference12Ideal.lean ====
abbrev S8192x2048 : Shape := ⟨2, ![8192, 2048]⟩
abbrev S2048x5760 : Shape := ⟨2, ![2048, 5760]⟩
abbrev S8192x5760 : Shape := ⟨2, ![8192, 5760]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5760, .bf16⟩
  | .hbm, ⟨2, _⟩ => ⟨S8192x2048, .f32⟩
  | .hbm, ⟨3, _⟩ => ⟨S2048x5760, .f32⟩
  | .hbm, ⟨4, _⟩ => ⟨S8192x5760, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference13Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S8192x256 : Shape := ⟨2, ![8192, 256]⟩
abbrev S8 : Shape := ⟨1, ![8]⟩
abbrev S2x1x4 : Shape := ⟨3, ![2, 1, 4]⟩
abbrev S128x1024 : Shape := ⟨2, ![128, 1024]⟩
abbrev S128x256 : Shape := ⟨2, ![128, 256]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 6
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8, .f32⟩
  | .hbm, ⟨4, _⟩ => ⟨S2x1x4, .f32⟩
  | .hbm, ⟨5, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S2x1x4, .f32⟩
  | .local _ .vmem, ⟨15, _⟩ => ⟨S128x1024, .bf16⟩
  | .local _ .vmem, ⟨16, _⟩ => ⟨S128x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8192x1024 : Shape := ⟨2, ![8192, 1024]⟩
abbrev S8192x256 : Shape := ⟨2, ![8192, 256]⟩
abbrev S8 : Shape := ⟨1, ![8]⟩
abbrev S1x8192x8x128 : Shape := ⟨4, ![1, 8192, 8, 128]⟩
abbrev S1x8192x2x128 : Shape := ⟨4, ![1, 8192, 2, 128]⟩
abbrev S1x64x128x2x4x128 : Shape := ⟨6, ![1, 64, 128, 2, 4, 128]⟩
abbrev S_ : Shape := ⟨0, ![]⟩
abbrev S1x128x2x128 : Shape := ⟨4, ![1, 128, 2, 128]⟩
abbrev S1x8448x2x128 : Shape := ⟨4, ![1, 8448, 2, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x128x4x128 : Shape := ⟨6, ![1, 64, 2, 128, 4, 128]⟩
abbrev S1x8192x1024 : Shape := ⟨3, ![1, 8192, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S1x8192x8x128, .f32⟩
  | .hbm, ⟨8, _⟩ => ⟨S1x8192x2x128, .f32⟩
  | .hbm, ⟨9, _⟩ => ⟨S1x8192x2x128, .f32⟩
  | .hbm, ⟨10, _⟩ => ⟨S1x64x128x2x4x128, .f32⟩
  | .hbm, ⟨11, _⟩ => ⟨S_, .f32⟩
  | .hbm, ⟨12, _⟩ => ⟨S1x128x2x128, .f32⟩
  | .hbm, ⟨13, _⟩ => ⟨S1x8448x2x128, .f32⟩
  | .hbm, ⟨14, _⟩ => ⟨S1x66x128x2x128, .f32⟩
  | .hbm, ⟨15, _⟩ => ⟨S1x64x128x2x128, .f32⟩
  | .hbm, ⟨16, _⟩ => ⟨S1x64x128x2x128, .f32⟩
  | .hbm, ⟨17, _⟩ => ⟨S1x64x128x2x128, .f32⟩
  | .hbm, ⟨18, _⟩ => ⟨S1x64x384x2x128, .f32⟩
  | .hbm, ⟨19, _⟩ => ⟨S_, .f32⟩
  | .hbm, ⟨20, _⟩ => ⟨S1x128x2x128, .f32⟩
  | .hbm, ⟨21, _⟩ => ⟨S1x8448x2x128, .f32⟩
  | .hbm, ⟨22, _⟩ => ⟨S1x66x128x2x128, .f32⟩
  | .hbm, ⟨23, _⟩ => ⟨S1x64x128x2x128, .f32⟩
  | .hbm, ⟨24, _⟩ => ⟨S1x64x128x2x128, .f32⟩
  | .hbm, ⟨25, _⟩ => ⟨S1x64x128x2x128, .f32⟩
  | .hbm, ⟨26, _⟩ => ⟨S1x64x384x2x128, .f32⟩
  | .hbm, ⟨27, _⟩ => ⟨S1x64x2x384x128x4, .f32⟩
  | .hbm, ⟨28, _⟩ => ⟨S1x64x2x4x128x384, .f32⟩
  | .hbm, ⟨29, _⟩ => ⟨S_, .f32⟩
  | .hbm, ⟨30, _⟩ => ⟨S1x64x2x4x128x384, .f32⟩
  | .hbm, ⟨31, _⟩ => ⟨S1x64x2x4x128x384, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S64, .i32⟩
  | .hbm, ⟨37, _⟩ => ⟨S64x1x1, .i32⟩
  | .hbm, ⟨38, _⟩ => ⟨S_, .i32⟩
  | .hbm, ⟨39, _⟩ => ⟨S64x1x1, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S1x1x384, .i32⟩
  | .hbm, ⟨45, _⟩ => ⟨S64x1x384, .i32⟩
  | .hbm, ⟨46, _⟩ => ⟨S64x1x384, .i32⟩
  | .hbm, ⟨47, _⟩ => ⟨S64x1x384, .i32⟩
  | .hbm, ⟨48, _⟩ => ⟨S_, .i32⟩
  | .hbm, ⟨49, _⟩ => ⟨S1x384, .i32⟩
  | .hbm, ⟨50, _⟩ => ⟨S1x384, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .i32⟩
  | .hbm, ⟨60, _⟩ => ⟨S64x1x384, .i32⟩
  | .hbm, ⟨61, _⟩ => ⟨S64x1x384, .i1⟩
  | .hbm, ⟨62, _⟩ => ⟨S64x128x384, .i1⟩
  | .hbm, ⟨63, _⟩ => ⟨S64x128x384, .i1⟩
  | .hbm, ⟨64, _⟩ => ⟨S64x128x384, .i1⟩
  | .hbm, ⟨65, _⟩ => ⟨S_, .i32⟩
  | .hbm, ⟨66, _⟩ => ⟨S64x1x384, .i32⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S1x64x1x1x128x384, .i1⟩
  | .hbm, ⟨71, _⟩ => ⟨S_, .f32⟩
  | .hbm, ⟨72, _⟩ => ⟨S_, .f32⟩
  | .hbm, ⟨73, _⟩ => ⟨S1x64x2x4x128x384, .i1⟩
  | .hbm, ⟨74, _⟩ => ⟨S1x64x2x4x128x384, .f32⟩
  | .hbm, ⟨75, _⟩ => ⟨S1x64x2x4x128x384, .f32⟩
  | .hbm, ⟨76, _⟩ => ⟨S2x4, .f32⟩
  | .hbm, ⟨77, _⟩ => ⟨S1x1x2x4x1x1, .f32⟩
  | .hbm, ⟨78, _⟩ => ⟨S_, .f32⟩
  | .hbm, ⟨79, _⟩ => ⟨S1x64x2x4x128, .f32⟩
  | .hbm, ⟨80, _⟩ => ⟨S1x64x2x4x128x1, .f32⟩
  | .hbm, ⟨81, _⟩ => ⟨S1x64x2x4x128x1, .f32⟩
  | .hbm, ⟨82, _⟩ => ⟨S1x64x2x4x128x1, .f32⟩
  | .hbm, ⟨83, _⟩ => ⟨S1x64x2x4x128x384, .f32⟩
  | .hbm, ⟨84, _⟩ => ⟨S1x64x2x4x128x384, .f32⟩
  | .hbm, ⟨85, _⟩ => ⟨S1x64x2x4x128x384, .f32⟩
  | .hbm, ⟨86, _⟩ => ⟨S_, .f32⟩
  | .hbm, ⟨87, _⟩ => ⟨S1x64x2x4x128, .f32⟩
  | .hbm, ⟨88, _⟩ => ⟨S1x64x2x4x128x1, .f32⟩
  | .hbm, ⟨89, _⟩ => ⟨S1x64x2x4x128x1, .f32⟩
  | .hbm, ⟨90, _⟩ => ⟨S1x64x2x4x128x1, .f32⟩
  | .hbm, ⟨91, _⟩ => ⟨S1x64x2x4x128x1, .f32⟩
  | .hbm, ⟨92, _⟩ => ⟨S1x64x2x4x128x1, .f32⟩
  | .hbm, ⟨93, _⟩ => ⟨S1x64x2x4x128x384, .f32⟩
  | .hbm, ⟨94, _⟩ => ⟨S1x64x2x4x128x384, .f32⟩
  | .hbm, ⟨95, _⟩ => ⟨S1x64x2x128x4x128, .f32⟩
  | .hbm, ⟨96, _⟩ => ⟨S1x64x128x2x4x128, .f32⟩
  | .hbm, ⟨97, _⟩ => ⟨S1x8192x1024, .f32⟩
  | .hbm, ⟨98, _⟩ => ⟨S8192x1024, .f32⟩
  | .hbm, ⟨99, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Proof.Head.lean ====
module

public import proofs.«01_k».proof.Proof.Gen.KernelIdeal.Skeleton
public import proofs.«01_k».proof.Proof.Gen.KernelIdeal.Frame
public import Idealize.ShloMosaic.PureOps.Ideal
public import Idealize.ShloMosaic.Lib.ValueIdx
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

/-! ## One key/value head of the kernel's body, over the values it loads

`a` are the four query blocks of the head's group, `b` and `v` the three neighbouring key and value blocks, `w` the
four sink logits, `o` the four blocks of the incoming gradient. -/

section
variable (n : BitVec 32) (a : Fin 4 → Vec F S128x128 .bf16) (b v : Fin 3 → Vec F S128x128 .bf16)
  (w : Fin 4 → Vec F S1x1x1 .f32) (o : Fin 4 → Vec F S128x128 .f32)

/-- The masked scores. -/
def hS : FVec F S512x384 .f32 :=
  k0_pay11 n (k0_pay7 (a 0) (a 1) (a 2) (a 3) (b 0) (b 1) (b 2)) k0_pay8 k0_pay9 k0_pay10
/-- The sink logit of each query row. -/
def hK : FVec F S512x1 .f32 := k0_pay12 (w 0) (w 1) (w 2) (w 3)
/-- The largest masked score of each row. -/
def hM : FVec F S512x1 .f32 :=
  k0_pay13 n (k0_pay7 (a 0) (a 1) (a 2) (a 3) (b 0) (b 1) (b 2)) k0_pay8 k0_pay9 k0_pay10
/-- The probabilities. -/
def hP : FVec F S512x384 .f32 := k0_pay18 (hS n a b) (hK w) (hM n a b)
/-- The sink's probability. -/
def hPs : FVec F S512x1 .f32 := k0_pay19 (hS n a b) (hK w) (hM n a b)
/-- The row sums of the gradient times the output. -/
def hDel : FVec F S512x1 .f32 :=
  k0_pay24 (hS n a b) (hK w) (hM n a b) (v 0) (v 1) (v 2) (o 0) (o 1) (o 2) (o 3)
/-- The scaled gradient of the scores. -/
def hDs : FVec F S512x384 .bf16 :=
  k0_pay25 (hS n a b) (hK w) (hM n a b) (v 0) (v 1) (v 2) (o 0) (o 1) (o 2) (o 3)
/-- The gradient of the queries. -/
def hDq : FVec F S512x128 .f32 :=
  k0_pay26 (k0_pay6 (b 0) (b 1) (b 2)) (hS n a b) (hK w) (hM n a b) (v 0) (v 1) (v 2) (o 0) (o 1) (o 2) (o 3)
/-- What the point adds to the keys' gradient, -/
def hDk : FVec F S384x128 .f32 :=
  matmul dot_S512x384_S512x128_S384x128_0_0_1_1_n_n none (hDs n a b v w o) (k0_pay5 (a 0) (a 1) (a 2) (a 3))
    (constant S384x128 .f32 0x00000000#32)
/-- to the values' gradient, -/
def hDv : FVec F S384x128 .f32 :=
  matmul dot_S512x384_S512x128_S384x128_0_0_1_1_n_n none (k0_pay22 (hS n a b) (hK w) (hM n a b))
    (k0_pay23 (o 0) (o 1) (o 2) (o 3)) (constant S384x128 .f32 0x00000000#32)
/-- and, over what it finds there, to the sinks' gradient. -/
def hSk (old : Vec F S1x8x128 .f32) : FVec F S1x8x128 .f32 :=
  k0_pay35 (k0_pay34 (iota .tc S8x128 32 [1] iota_S8x128_d1_w32) (hPs n a b w) (hDel n a b v w o)
    (k0_pay33 (iota .tc S8x128 32 [1] iota_S8x128_d1_w32) (hPs n a b w) (hDel n a b v w o)) old)

end

/-! ## The slices the body loads -/

/-- Column block `k` of a 1024-column block, -/
def qcol {e : EltTy} (x : Vec F S128x1024 e) (k : Fin 8) : Vec F S128x128 e :=
  View.ld (Val := Elt F) x (Rect.unit (s := S128x1024) ![0, 128 * k.val] S128x128.size
    (by intro a; fin_cases a <;> simp [Shape.size] <;> omega))
/-- column block `k` of a 256-column block, -/
def kcol {e : EltTy} (x : Vec F S128x256 e) (k : Fin 2) : Vec F S128x128 e :=
  View.ld (Val := Elt F) x (Rect.unit (s := S128x256) ![0, 128 * k.val] S128x128.size
    (by intro a; fin_cases a <;> simp [Shape.size] <;> omega))
/-- and one sink logit. -/
def word (x : Vec F S2x1x4 .f32) (h : Fin 2) (g : Fin 4) : Vec F S1x1x1 .f32 :=
  View.ld (Val := Elt F) x (Rect.unit (s := S2x1x4) ![h.val, 0, g.val] S1x1x1.size
    (by intro a; fin_cases a <;> simp [Shape.size] <;> omega))

/-- The blocks the body loads from at one point. -/
structure Blk (F : FTy → Type) where
  x0 : Vec F S128x1024 .bf16
  x1 : Vec F S128x256 .bf16
  x2 : Vec F S128x256 .bf16
  x3 : Vec F S128x256 .bf16
  x4 : Vec F S128x256 .bf16
  x5 : Vec F S128x256 .bf16
  x6 : Vec F S128x256 .bf16
  x7 : Vec F S2x1x4 .f32
  x8 : Vec F S128x1024 .f32

/-- Query head `g` of key/value head `h` among the eight. -/
abbrev qh (h : Fin 2) (g : Fin 4) : Fin 8 := ⟨4 * h.val + g.val, by omega⟩

def Blk.a (B : Blk F) (h : Fin 2) (g : Fin 4) : Vec F S128x128 .bf16 := qcol B.x0 (qh h g)
def Blk.b (B : Blk F) (h : Fin 2) : Fin 3 → Vec F S128x128 .bf16 := ![kcol B.x1 h, kcol B.x2 h, kcol B.x3 h]
def Blk.v (B : Blk F) (h : Fin 2) : Fin 3 → Vec F S128x128 .bf16 := ![kcol B.x4 h, kcol B.x5 h, kcol B.x6 h]
def Blk.w (B : Blk F) (h : Fin 2) (g : Fin 4) : Vec F S1x1x1 .f32 := word B.x7 h g
def Blk.o (B : Blk F) (h : Fin 2) (g : Fin 4) : Vec F S128x128 .f32 := qcol B.x8 (qh h g)

variable (n : BitVec 32) (B : Blk F)

def bDq (h : Fin 2) : FVec F S512x128 .f32 := hDq n (B.a h) (B.b h) (B.v h) (B.w h) (B.o h)
def bDk (h : Fin 2) : FVec F S384x128 .f32 := hDk n (B.a h) (B.b h) (B.v h) (B.w h) (B.o h)
def bDv (h : Fin 2) : FVec F S384x128 .f32 := hDv n (B.a h) (B.b h) (B.w h) (B.o h)
def bSk (h : Fin 2) (old : Vec F S1x8x128 .f32) : FVec F S1x8x128 .f32 := hSk n (B.a h) (B.b h) (B.v h) (B.w h) (B.o h) old

/-- The query gradient's block at the point: column block `4 h + g` is rows `128 g …` of head `h`'s. -/
def newDq : Vec F S128x1024 .f32 := fun j =>
  bDq n B ⟨(j 1).val / 512, by have : (j 1).val < 1024 := (j 1).isLt; omega⟩
    (ix2 ⟨128 * ((j 1).val / 128 % 4) + (j 0).val, by have : (j 0).val < 128 := (j 0).isLt; omega⟩
      ⟨(j 1).val % 128, by omega⟩)

/-- The eight column blocks of the queries' gradient. -/
def dqPiece (n : BitVec 32) (B : Blk F) (k : Fin 8) : FVec F S128x128 .f32 :=
  extractStridedSlice S128x128 ![128 * (k.val % 4), 0] (bDq n B ⟨k.val / 4, by omega⟩)
    (by refine ⟨rfl, fun a => ?_⟩; fin_cases a <;> simp [Shape.size] <;> omega)

/-- The zero the accumulators start from. -/
def zf : F .f32 := FloatOps.ofBits .f32 0x00000000#32

/-- An accumulator after the point: the head's block `c h` is added on the point's 384 rows, the rest stays. -/
def accPut (t : ℕ) (c : Fin 2 → S384x128.Idx → F .f32) (old : S8448x256.Idx → F .f32) (y : S8448x256.Idx) : F .f32 :=
  if h : 128 * t ≤ (y 0).val ∧ (y 0).val < 128 * t + 384 then
    FloatOps.addf (old y) (c ⟨(y 1).val / 128, by have : (y 1).val < 256 := (y 1).isLt; omega⟩
      (ix2 ⟨(y 0).val - 128 * t, by omega⟩ ⟨(y 1).val % 128, by omega⟩))
  else old y

/-- Row `h` of the sinks' accumulator. -/
def skRow (y : Vec F S2x8x128 .f32) (h : Fin 2) : Vec F S1x8x128 .f32 := fun j => y (ix3 h (j 1) (j 2))

/-- The sinks' accumulator after the point. -/
def newSk (y : Vec F S2x8x128 .f32) : Vec F S2x8x128 .f32 := fun j =>
  bSk n B (j 0) (skRow y (j 0)) (ix3 0 (j 1) (j 2))

end Cert.KernelIdeal.Attn
end
-- ==== Proof.Reads.lean ====
module

public import proofs.«01_k».proof.Proof.Gen.KernelIdeal.Skeleton
public import proofs.«01_k».proof.Proof.Gen.KernelIdeal.Frame
public import Idealize.ShloMosaic.PureOps.Ideal
public import Idealize.ShloMosaic.Lib.ValueIdx
public import proofs.«01_k».proof.Proof.Head
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

/-! ## What the body's stores leave, read back -/

section
variable {sp : Space} {κ : Kind}

/-! The loads, by their columns. -/

theorem ldq0 {e : EltTy} (x : Vec F S128x1024 e) (inb) : View.ld (Val := Elt F) x (Rect.unit (s := S128x1024) ![0, 0] S128x128.size inb) = qcol x 0 := rfl
theorem ldq1 {e : EltTy} (x : Vec F S128x1024 e) (inb) : View.ld (Val := Elt F) x (Rect.unit (s := S128x1024) ![0, 128] S128x128.size inb) = qcol x 1 := rfl
theorem ldq2 {e : EltTy} (x : Vec F S128x1024 e) (inb) : View.ld (Val := Elt F) x (Rect.unit (s := S128x1024) ![0, 256] S128x128.size inb) = qcol x 2 := rfl
theorem ldq3 {e : EltTy} (x : Vec F S128x1024 e) (inb) : View.ld (Val := Elt F) x (Rect.unit (s := S128x1024) ![0, 384] S128x128.size inb) = qcol x 3 := rfl
theorem ldq4 {e : EltTy} (x : Vec F S128x1024 e) (inb) : View.ld (Val := Elt F) x (Rect.unit (s := S128x1024) ![0, 512] S128x128.size inb) = qcol x 4 := rfl
theorem ldq5 {e : EltTy} (x : Vec F S128x1024 e) (inb) : View.ld (Val := Elt F) x (Rect.unit (s := S128x1024) ![0, 640] S128x128.size inb) = qcol x 5 := rfl
theorem ldq6 {e : EltTy} (x : Vec F S128x1024 e) (inb) : View.ld (Val := Elt F) x (Rect.unit (s := S128x1024) ![0, 768] S128x128.size inb) = qcol x 6 := rfl
theorem ldq7 {e : EltTy} (x : Vec F S128x1024 e) (inb) : View.ld (Val := Elt F) x (Rect.unit (s := S128x1024) ![0, 896] S128x128.size inb) = qcol x 7 := rfl
theorem ldk0 {e : EltTy} (x : Vec F S128x256 e) (inb) : View.ld (Val := Elt F) x (Rect.unit (s := S128x256) ![0, 0] S128x128.size inb) = kcol x 0 := rfl
theorem ldk1 {e : EltTy} (x : Vec F S128x256 e) (inb) : View.ld (Val := Elt F) x (Rect.unit (s := S128x256) ![0, 128] S128x128.size inb) = kcol x 1 := rfl
theorem ldw00 (x : Vec F S2x1x4 .f32) (inb) : View.ld (Val := Elt F) x (Rect.unit (s := S2x1x4) ![0, 0, 0] S1x1x1.size inb) = word x 0 0 := rfl
theorem ldw01 (x : Vec F S2x1x4 .f32) (inb) : View.ld (Val := Elt F) x (Rect.unit (s := S2x1x4) ![0, 0, 1] S1x1x1.size inb) = word x 0 1 := rfl
theorem ldw02 (x : Vec F S2x1x4 .f32) (inb) : View.ld (Val := Elt F) x (Rect.unit (s := S2x1x4) ![0, 0, 2] S1x1x1.size inb) = word x 0 2 := rfl
theorem ldw03 (x : Vec F S2x1x4 .f32) (inb) : View.ld (Val := Elt F) x (Rect.unit (s := S2x1x4) ![0, 0, 3] S1x1x1.size inb) = word x 0 3 := rfl
theorem ldw10 (x : Vec F S2x1x4 .f32) (inb) : View.ld (Val := Elt F) x (Rect.unit (s := S2x1x4) ![1, 0, 0] S1x1x1.size inb) = word x 1 0 := rfl
theorem ldw11 (x : Vec F S2x1x4 .f32) (inb) : View.ld (Val := Elt F) x (Rect.unit (s := S2x1x4) ![1, 0, 1] S1x1x1.size inb) = word x 1 1 := rfl
theorem ldw12 (x : Vec F S2x1x4 .f32) (inb) : View.ld (Val := Elt F) x (Rect.unit (s := S2x1x4) ![1, 0, 2] S1x1x1.size inb) = word x 1 2 := rfl
theorem ldw13 (x : Vec F S2x1x4 .f32) (inb) : View.ld (Val := Elt F) x (Rect.unit (s := S2x1x4) ![1, 0, 3] S1x1x1.size inb) = word x 1 3 := rfl

/-! The second head's text is the first's. -/

section
variable (n : BitVec 32) (a : Fin 4 → Vec F S128x128 .bf16) (b v : Fin 3 → Vec F S128x128 .bf16)
  (w : Fin 4 → Vec F S1x1x1 .f32) (o : Fin 4 → Vec F S128x128 .f32)

theorem h1_Pb : k0_pay50 (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) = k0_pay22 (hS n a b) (hK w) (hM n a b) := rfl
theorem h1_Ob : k0_pay51 (F := F) (o 0) (o 1) (o 2) (o 3) = k0_pay23 (o 0) (o 1) (o 2) (o 3) := rfl
theorem h1_Ps : k0_pay47 (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) = hPs n a b w := rfl
theorem h1_Del : k0_pay52 (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3) = hDel n a b v w o := rfl
theorem h1_Ds : k0_pay53 (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3) = hDs n a b v w o := rfl
theorem h1_Dq : k0_pay54 (k0_pay37 (b 0) (b 1) (b 2)) (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3) = hDq n a b v w o := rfl
theorem h1_Dq0 : k0_pay55 (k0_pay37 (b 0) (b 1) (b 2)) (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3) = extractStridedSlice S128x128 ![0, 0] (hDq n a b v w o) slices_S512x128_o0_0_S128x128 := rfl
theorem h1_Dq1 : k0_pay56 (k0_pay37 (b 0) (b 1) (b 2)) (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3) = extractStridedSlice S128x128 ![128, 0] (hDq n a b v w o) slices_S512x128_o128_0_S128x128 := rfl
theorem h1_Dq2 : k0_pay57 (k0_pay54 (k0_pay37 (b 0) (b 1) (b 2)) (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3)) = extractStridedSlice S128x128 ![256, 0] (hDq n a b v w o) slices_S512x128_o256_0_S128x128 := rfl
theorem h1_Dq3 : k0_pay58 (k0_pay54 (k0_pay37 (b 0) (b 1) (b 2)) (k0_pay41 (w 0) (w 1) (w 2) (w 3)) (k0_pay42 n (k0_pay38 (a 0) (a 1) (a 2) (a 3) (b 0) (b 1) (b 2)) k0_pay39 (iota .tc S512x384 32 [1] iota_S512x384_d1_w32) 1#32 (w 0) (w 1) (w 2) (w 3)) (k0_pay43 n (k0_pay38 (a 0) (a 1) (a 2) (a 3) (b 0) (b 1) (b 2)) k0_pay39 (iota .tc S512x384 32 [1] iota_S512x384_d1_w32) 1#32 (w 0) (w 1) (w 2) (w 3)) (v 0) (v 1) (v 2) (o 0) (o 1) (o 2) (o 3)) = extractStridedSlice S128x128 ![384, 0] (hDq n a b v w o) slices_S512x128_o384_0_S128x128 := rfl
theorem h1_Sk (ps de : FVec F S512x1 .f32) (it : IVec S8x128 32) (old : Vec F S1x8x128 .f32) :
    k0_pay1 (k0_pay63 it ps de (k0_pay61 it ps de) (k0_pay62 ps de) old) = k0_pay35 (k0_pay34 it ps de (k0_pay33 it ps de) old) := rfl
end

section
variable (n : BitVec 32) (a0 a1 a2 a3 b0 b1 b2 v0 v1 v2 : Vec F S128x128 .bf16)
  (w0 w1 w2 w3 : Vec F S1x1x1 .f32) (o0 o1 o2 o3 : Vec F S128x128 .f32)

theorem h1_Pb_at : k0_pay50 (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) = k0_pay22 (hS n ![a0, a1, a2, a3] ![b0, b1, b2]) (hK ![w0, w1, w2, w3]) (hM n ![a0, a1, a2, a3] ![b0, b1, b2]) := rfl
theorem h1_Ob_at : k0_pay51 (F := F) o0 o1 o2 o3 = k0_pay23 o0 o1 o2 o3 := rfl
theorem h1_Ps_at : k0_pay47 (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) = hPs n ![a0, a1, a2, a3] ![b0, b1, b2] ![w0, w1, w2, w3] := rfl
theorem h1_Del_at : k0_pay52 (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3 = hDel n ![a0, a1, a2, a3] ![b0, b1, b2] ![v0, v1, v2] ![w0, w1, w2, w3] ![o0, o1, o2, o3] := rfl
theorem h1_Ds_at : k0_pay53 (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3 = hDs n ![a0, a1, a2, a3] ![b0, b1, b2] ![v0, v1, v2] ![w0, w1, w2, w3] ![o0, o1, o2, o3] := rfl
theorem h1_Dq_at : k0_pay54 (k0_pay37 b0 b1 b2) (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3 = hDq n ![a0, a1, a2, a3] ![b0, b1, b2] ![v0, v1, v2] ![w0, w1, w2, w3] ![o0, o1, o2, o3] := rfl
theorem h1_Dq0_at : k0_pay55 (k0_pay37 b0 b1 b2) (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3 = extractStridedSlice S128x128 ![0, 0] (hDq n ![a0, a1, a2, a3] ![b0, b1, b2] ![v0, v1, v2] ![w0, w1, w2, w3] ![o0, o1, o2, o3]) slices_S512x128_o0_0_S128x128 := rfl
theorem h1_Dq1_at : k0_pay56 (k0_pay37 b0 b1 b2) (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3 = extractStridedSlice S128x128 ![128, 0] (hDq n ![a0, a1, a2, a3] ![b0, b1, b2] ![v0, v1, v2] ![w0, w1, w2, w3] ![o0, o1, o2, o3]) slices_S512x128_o128_0_S128x128 := rfl
theorem h1_Dq2_at : k0_pay57 (k0_pay54 (k0_pay37 b0 b1 b2) (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3) = extractStridedSlice S128x128 ![256, 0] (hDq n ![a0, a1, a2, a3] ![b0, b1, b2] ![v0, v1, v2] ![w0, w1, w2, w3] ![o0, o1, o2, o3]) slices_S512x128_o256_0_S128x128 := rfl
theorem h1_Dq3_at : k0_pay58 (k0_pay54 (k0_pay37 b0 b1 b2) (k0_pay41 w0 w1 w2 w3) (k0_pay42 n (k0_pay38 a0 a1 a2 a3 b0 b1 b2) k0_pay39 (iota .tc S512x384 32 [1] iota_S512x384_d1_w32) 1#32 w0 w1 w2 w3) (k0_pay43 n (k0_pay38 a0 a1 a2 a3 b0 b1 b2) k0_pay39 (iota .tc S512x384 32 [1] iota_S512x384_d1_w32) 1#32 w0 w1 w2 w3) v0 v1 v2 o0 o1 o2 o3) = extractStridedSlice S128x128 ![384, 0] (hDq n ![a0, a1, a2, a3] ![b0, b1, b2] ![v0, v1, v2] ![w0, w1, w2, w3] ![o0, o1, o2, o3]) slices_S512x128_o384_0_S128x128 := rfl
end

section
variable (x0 : Vec F S128x1024 .bf16) (x1 x2 x3 x4 x5 x6 : Vec F S128x256 .bf16) (x7 : Vec F S2x1x4 .f32) (x8 : Vec F S128x1024 .f32)

theorem blk_a0 : Blk.a ⟨x0, x1, x2, x3, x4, x5, x6, x7, x8⟩ 0 = ![View.ld (Val := Elt F) x0 (Rect.unit (s := S128x1024) ![0, 0] S128x128.size inb_S128x1024_S128x128_0_0), View.ld (Val := Elt F) x0 (Rect.unit (s := S128x1024) ![0, 128] S128x128.size inb_S128x1024_S128x128_0_128), View.ld (Val := Elt F) x0 (Rect.unit (s := S128x1024) ![0, 256] S128x128.size inb_S128x1024_S128x128_0_256), View.ld (Val := Elt F) x0 (Rect.unit (s := S128x1024) ![0, 384] S128x128.size inb_S128x1024_S128x128_0_384)] := by
  funext g; fin_cases g <;> rfl
theorem blk_b0 : Blk.b ⟨x0, x1, x2, x3, x4, x5, x6, x7, x8⟩ 0 = ![View.ld (Val := Elt F) x1 (Rect.unit (s := S128x256) ![0, 0] S128x128.size inb_S128x256_S128x128_0_0), View.ld (Val := Elt F) x2 (Rect.unit (s := S128x256) ![0, 0] S128x128.size inb_S128x256_S128x128_0_0), View.ld (Val := Elt F) x3 (Rect.unit (s := S128x256) ![0, 0] S128x128.size inb_S128x256_S128x128_0_0)] := by
  funext g; fin_cases g <;> rfl
theorem blk_v0 : Blk.v ⟨x0, x1, x2, x3, x4, x5, x6, x7, x8⟩ 0 = ![View.ld (Val := Elt F) x4 (Rect.unit (s := S128x256) ![0, 0] S128x128.size inb_S128x256_S128x128_0_0), View.ld (Val := Elt F) x5 (Rect.unit (s := S128x256) ![0, 0] S128x128.size inb_S128x256_S128x128_0_0), View.ld (Val := Elt F) x6 (Rect.unit (s := S128x256) ![0, 0] S128x128.size inb_S128x256_S128x128_0_0)] := by
  funext g; fin_cases g <;> rfl
theorem blk_w0 : Blk.w ⟨x0, x1, x2, x3, x4, x5, x6, x7, x8⟩ 0 = ![View.ld (Val := Elt F) x7 (Rect.unit (s := S2x1x4) ![0, 0, 0] S1x1x1.size inb_S2x1x4_S1x1x1_0_0_0), View.ld (Val := Elt F) x7 (Rect.unit (s := S2x1x4) ![0, 0, 1] S1x1x1.size inb_S2x1x4_S1x1x1_0_0_1), View.ld (Val := Elt F) x7 (Rect.unit (s := S2x1x4) ![0, 0, 2] S1x1x1.size inb_S2x1x4_S1x1x1_0_0_2), View.ld (Val := Elt F) x7 (Rect.unit (s := S2x1x4) ![0, 0, 3] S1x1x1.size inb_S2x1x4_S1x1x1_0_0_3)] := by
  funext g; fin_cases g <;> rfl
theorem blk_o0 : Blk.o ⟨x0, x1, x2, x3, x4, x5, x6, x7, x8⟩ 0 = ![View.ld (Val := Elt F) x8 (Rect.unit (s := S128x1024) ![0, 0] S128x128.size inb_S128x1024_S128x128_0_0), View.ld (Val := Elt F) x8 (Rect.unit (s := S128x1024) ![0, 128] S128x128.size inb_S128x1024_S128x128_0_128), View.ld (Val := Elt F) x8 (Rect.unit (s := S128x1024) ![0, 256] S128x128.size inb_S128x1024_S128x128_0_256), View.ld (Val := Elt F) x8 (Rect.unit (s := S128x1024) ![0, 384] S128x128.size inb_S128x1024_S128x128_0_384)] := by
  funext g; fin_cases g <;> rfl
theorem blk_a1 : Blk.a ⟨x0, x1, x2, x3, x4, x5, x6, x7, x8⟩ 1 = ![View.ld (Val := Elt F) x0 (Rect.unit (s := S128x1024) ![0, 512] S128x128.size inb_S128x1024_S128x128_0_512), View.ld (Val := Elt F) x0 (Rect.unit (s := S128x1024) ![0, 640] S128x128.size inb_S128x1024_S128x128_0_640), View.ld (Val := Elt F) x0 (Rect.unit (s := S128x1024) ![0, 768] S128x128.size inb_S128x1024_S128x128_0_768), View.ld (Val := Elt F) x0 (Rect.unit (s := S128x1024) ![0, 896] S128x128.size inb_S128x1024_S128x128_0_896)] := by
  funext g; fin_cases g <;> rfl
theorem blk_b1 : Blk.b ⟨x0, x1, x2, x3, x4, x5, x6, x7, x8⟩ 1 = ![View.ld (Val := Elt F) x1 (Rect.unit (s := S128x256) ![0, 128] S128x128.size inb_S128x256_S128x128_0_128), View.ld (Val := Elt F) x2 (Rect.unit (s := S128x256) ![0, 128] S128x128.size inb_S128x256_S128x128_0_128), View.ld (Val := Elt F) x3 (Rect.unit (s := S128x256) ![0, 128] S128x128.size inb_S128x256_S128x128_0_128)] := by
  funext g; fin_cases g <;> rfl
theorem blk_v1 : Blk.v ⟨x0, x1, x2, x3, x4, x5, x6, x7, x8⟩ 1 = ![View.ld (Val := Elt F) x4 (Rect.unit (s := S128x256) ![0, 128] S128x128.size inb_S128x256_S128x128_0_128), View.ld (Val := Elt F) x5 (Rect.unit (s := S128x256) ![0, 128] S128x128.size inb_S128x256_S128x128_0_128), View.ld (Val := Elt F) x6 (Rect.unit (s := S128x256) ![0, 128] S128x128.size inb_S128x256_S128x128_0_128)] := by
  funext g; fin_cases g <;> rfl
theorem blk_w1 : Blk.w ⟨x0, x1, x2, x3, x4, x5, x6, x7, x8⟩ 1 = ![View.ld (Val := Elt F) x7 (Rect.unit (s := S2x1x4) ![1, 0, 0] S1x1x1.size inb_S2x1x4_S1x1x1_1_0_0), View.ld (Val := Elt F) x7 (Rect.unit (s := S2x1x4) ![1, 0, 1] S1x1x1.size inb_S2x1x4_S1x1x1_1_0_1), View.ld (Val := Elt F) x7 (Rect.unit (s := S2x1x4) ![1, 0, 2] S1x1x1.size inb_S2x1x4_S1x1x1_1_0_2), View.ld (Val := Elt F) x7 (Rect.unit (s := S2x1x4) ![1, 0, 3] S1x1x1.size inb_S2x1x4_S1x1x1_1_0_3)] := by
  funext g; fin_cases g <;> rfl
theorem blk_o1 : Blk.o ⟨x0, x1, x2, x3, x4, x5, x6, x7, x8⟩ 1 = ![View.ld (Val := Elt F) x8 (Rect.unit (s := S128x1024) ![0, 512] S128x128.size inb_S128x1024_S128x128_0_512), View.ld (Val := Elt F) x8 (Rect.unit (s := S128x1024) ![0, 640] S128x128.size inb_S128x1024_S128x128_0_640), View.ld (Val := Elt F) x8 (Rect.unit (s := S128x1024) ![0, 768] S128x128.size inb_S128x1024_S128x128_0_768), View.ld (Val := Elt F) x8 (Rect.unit (s := S128x1024) ![0, 896] S128x128.size inb_S128x1024_S128x128_0_896)] := by
  funext g; fin_cases g <;> rfl
end

/-- Eight column blocks stored into a 1024-column block. -/
theorem read_cols (v : View sig κ sp S128x1024 .f32) (f : v.ty.Contents (Elt F)) (w : Fin 8 → S128x128.Idx → F .f32) :
    v.read (Elt F) (v.writes (Elt F) f
      [⟨Rect.unit ![0, 896] S128x128.size inb_S128x1024_S128x128_0_896, w 7⟩,
       ⟨Rect.unit ![0, 768] S128x128.size inb_S128x1024_S128x128_0_768, w 6⟩,
       ⟨Rect.unit ![0, 640] S128x128.size inb_S128x1024_S128x128_0_640, w 5⟩,
       ⟨Rect.unit ![0, 512] S128x128.size inb_S128x1024_S128x128_0_512, w 4⟩,
       ⟨Rect.unit ![0, 384] S128x128.size inb_S128x1024_S128x128_0_384, w 3⟩,
       ⟨Rect.unit ![0, 256] S128x128.size inb_S128x1024_S128x128_0_256, w 2⟩,
       ⟨Rect.unit ![0, 128] S128x128.size inb_S128x1024_S128x128_0_128, w 1⟩,
       ⟨Rect.unit ![0, 0] S128x128.size inb_S128x1024_S128x128_0_0, w 0⟩])
      = fun j : S128x1024.Idx => w ⟨(j 1).val / 128, by have : (j 1).val < 1024 := (j 1).isLt; omega⟩
          (ix2 (j 0) ⟨(j 1).val % 128, by omega⟩) := by
  funext j
  have hj : (j 1).val < 1024 := (j 1).isLt
  have hw : ∀ k : Fin 8, (j 1).val / 128 = k.val → w ⟨(j 1).val / 128, by omega⟩ = w k := fun k hk => by
    congr 1; exact Fin.ext hk
  have hit : ∀ (off : ℕ) (inb) (k : Fin 8) (L : List (View.Piece (Elt F) S128x1024 .f32)), off = 128 * k.val →
      (j 1).val / 128 = k.val →
      v.read (Elt F) (v.writes (Elt F) f (⟨Rect.unit (s := S128x1024) ![0, off] S128x128.size inb, w k⟩ :: L)) j
        = w ⟨(j 1).val / 128, by omega⟩ (ix2 (j 0) ⟨(j 1).val % 128, by omega⟩) := fun off inb k L ho hk => by
    rw [hw k hk]
    refine View.read_writes_cons_hit_of_coords v f _ _ L _ j ?_
    intro q; fin_cases q
    · show (j 0).val = 0 + 1 * (j 0).val; omega
    · show (j 1).val = off + 1 * ((j 1).val % 128); omega
  have miss : ∀ (off : ℕ) (inb) (u : S128x128.Idx → F .f32) (L : List (View.Piece (Elt F) S128x1024 .f32)),
      ((j 1).val < off ∨ off + 128 ≤ (j 1).val) →
      v.read (Elt F) (v.writes (Elt F) f (⟨Rect.unit (s := S128x1024) ![0, off] S128x128.size inb, u⟩ :: L)) j
        = v.read (Elt F) (v.writes (Elt F) f L) j := fun off inb u L ho =>
    View.read_writes_cons_miss_of_axis v f _ L j 1 off 128 rfl rfl rfl ho
  by_cases h7 : (j 1).val / 128 = 7
  · exact hit 896 _ 7 _ rfl h7
  rw [miss 896 _ _ _ (by omega)]
  by_cases h6 : (j 1).val / 128 = 6
  · exact hit 768 _ 6 _ rfl h6
  rw [miss 768 _ _ _ (by omega)]
  by_cases h5 : (j 1).val / 128 = 5
  · exact hit 640 _ 5 _ rfl h5
  rw [miss 640 _ _ _ (by omega)]
  by_cases h4 : (j 1).val / 128 = 4
  · exact hit 512 _ 4 _ rfl h4
  rw [miss 512 _ _ _ (by omega)]
  by_cases h3 : (j 1).val / 128 = 3
  · exact hit 384 _ 3 _ rfl h3
  rw [miss 384 _ _ _ (by omega)]
  by_cases h2 : (j 1).val / 128 = 2
  · exact hit 256 _ 2 _ rfl h2
  rw [miss 256 _ _ _ (by omega)]
  by_cases h1 : (j 1).val / 128 = 1
  · exact hit 128 _ 1 _ rfl h1
  rw [miss 128 _ _ _ (by omega)]
  exact hit 0 _ 0 _ rfl (by show _ = 0; omega)

/-- The same where they are the queries' gradient's. -/
theorem read_dq (v : View sig κ sp S128x1024 .f32) (f : v.ty.Contents (Elt F)) (n : BitVec 32) (B : Blk F)
    (p0 p1 p2 p3 p4 p5 p6 p7 : S128x128.Idx → F .f32) (h0 : p0 = dqPiece n B 0) (h1 : p1 = dqPiece n B 1) (h2 : p2 = dqPiece n B 2)
    (h3 : p3 = dqPiece n B 3) (h4 : p4 = dqPiece n B 4) (h5 : p5 = dqPiece n B 5) (h6 : p6 = dqPiece n B 6) (h7 : p7 = dqPiece n B 7) :
    v.read (Elt F) (v.writes (Elt F) f
      [⟨Rect.unit ![0, 896] S128x128.size inb_S128x1024_S128x128_0_896, p7⟩,
       ⟨Rect.unit ![0, 768] S128x128.size inb_S128x1024_S128x128_0_768, p6⟩,
       ⟨Rect.unit ![0, 640] S128x128.size inb_S128x1024_S128x128_0_640, p5⟩,
       ⟨Rect.unit ![0, 512] S128x128.size inb_S128x1024_S128x128_0_512, p4⟩,
       ⟨Rect.unit ![0, 384] S128x128.size inb_S128x1024_S128x128_0_384, p3⟩,
       ⟨Rect.unit ![0, 256] S128x128.size inb_S128x1024_S128x128_0_256, p2⟩,
       ⟨Rect.unit ![0, 128] S128x128.size inb_S128x1024_S128x128_0_128, p1⟩,
       ⟨Rect.unit ![0, 0] S128x128.size inb_S128x1024_S128x128_0_0, p0⟩]) = newDq n B := by
  subst h0 h1 h2 h3 h4 h5 h6 h7
  refine (read_cols v f (dqPiece n B)).trans ?_
  funext j
  have hj : (j 1).val < 1024 := (j 1).isLt
  have hj0 : (j 0).val < 128 := (j 0).isLt
  unfold newDq dqPiece
  have e : (⟨(j 1).val / 128 / 4, by omega⟩ : Fin 2) = ⟨(j 1).val / 512, by omega⟩ := Fin.ext (by show (j 1).val / 128 / 4 = (j 1).val / 512; omega)
  show bDq n B ⟨(j 1).val / 128 / 4, by omega⟩ _ = _
  rw [e]
  congr 1
  funext q; apply Fin.ext
  fin_cases q
  · rfl
  · show 0 + (j 1).val % 128 = (j 1).val % 128; omega

theorem dqPiece_0 (n : BitVec 32) (B : Blk F) : dqPiece n B 0 = extractStridedSlice S128x128 ![0, 0] (hDq n (B.a 0) (B.b 0) (B.v 0) (B.w 0) (B.o 0)) slices_S512x128_o0_0_S128x128 := rfl
theorem dqPiece_1 (n : BitVec 32) (B : Blk F) : dqPiece n B 1 = extractStridedSlice S128x128 ![128, 0] (hDq n (B.a 0) (B.b 0) (B.v 0) (B.w 0) (B.o 0)) slices_S512x128_o128_0_S128x128 := rfl
theorem dqPiece_2 (n : BitVec 32) (B : Blk F) : dqPiece n B 2 = extractStridedSlice S128x128 ![256, 0] (hDq n (B.a 0) (B.b 0) (B.v 0) (B.w 0) (B.o 0)) slices_S512x128_o256_0_S128x128 := rfl
theorem dqPiece_3 (n : BitVec 32) (B : Blk F) : dqPiece n B 3 = extractStridedSlice S128x128 ![384, 0] (hDq n (B.a 0) (B.b 0) (B.v 0) (B.w 0) (B.o 0)) slices_S512x128_o384_0_S128x128 := rfl
theorem dqPiece_4 (n : BitVec 32) (B : Blk F) : dqPiece n B 4 = extractStridedSlice S128x128 ![0, 0] (hDq n (B.a 1) (B.b 1) (B.v 1) (B.w 1) (B.o 1)) slices_S512x128_o0_0_S128x128 := rfl
theorem dqPiece_5 (n : BitVec 32) (B : Blk F) : dqPiece n B 5 = extractStridedSlice S128x128 ![128, 0] (hDq n (B.a 1) (B.b 1) (B.v 1) (B.w 1) (B.o 1)) slices_S512x128_o128_0_S128x128 := rfl
theorem dqPiece_6 (n : BitVec 32) (B : Blk F) : dqPiece n B 6 = extractStridedSlice S128x128 ![256, 0] (hDq n (B.a 1) (B.b 1) (B.v 1) (B.w 1) (B.o 1)) slices_S512x128_o256_0_S128x128 := rfl
theorem dqPiece_7 (n : BitVec 32) (B : Blk F) : dqPiece n B 7 = extractStridedSlice S128x128 ![384, 0] (hDq n (B.a 1) (B.b 1) (B.v 1) (B.w 1) (B.o 1)) slices_S512x128_o384_0_S128x128 := rfl

/-- The second head's columns are read past the first's. -/
theorem off2_skip (v : View sig κ sp S8448x256 .f32) (f : v.ty.Contents (Elt F)) (i : grid0.Coords) (w1 : S384x128.Idx → F .f32) :
    v.readAt (Elt F) (Rect.unit (s := S8448x256) (k0_off2 i) S384x128.size (k0_off2_inb i)).toLoadRect
      (v.writes (Elt F) f [⟨Rect.unit (s := S8448x256) (k0_off1 i) S384x128.size (k0_off1_inb i), w1⟩])
      = v.readAt (Elt F) (Rect.unit (s := S8448x256) (k0_off2 i) S384x128.size (k0_off2_inb i)).toLoadRect f := by
  have o1 : ∀ a, k0_off1 i a = (![128 * (i 0).val, 0] : Fin 2 → ℕ) a := fun a => congrFun (k0_off1_eq i) a
  have o2 : ∀ a, k0_off2 i a = (![128 * (i 0).val, 128] : Fin 2 → ℕ) a := fun a => congrFun (k0_off2_eq i) a
  refine View.readAt_writes_of_forall_not_mem v f _ _ ?_
  intro j p hp
  simp only [List.mem_singleton] at hp
  subst hp
  refine Rect.not_mem_set_of_axis _ _ 1 0 128 (o1 1) rfl rfl (Or.inr ?_)
  show 0 + 128 ≤ k0_off2 i 1 + 1 * (j 1).val
  rw [o2 1]; show 0 + 128 ≤ 128 + 1 * (j 1).val; omega

/-- The two heads' updates of an accumulator's rows. -/
theorem read_acc (v : View sig κ sp S8448x256 .f32) (f : v.ty.Contents (Elt F)) (i : grid0.Coords)
    (c : Fin 2 → S384x128.Idx → F .f32) (w1 w2 : S384x128.Idx → F .f32)
    (h1 : w1 = fun j => FloatOps.addf (v.readAt (Elt F) (Rect.unit (s := S8448x256) (k0_off1 i) S384x128.size (k0_off1_inb i)).toLoadRect f j) (c 0 j))
    (h2 : w2 = fun j => FloatOps.addf (v.readAt (Elt F) (Rect.unit (s := S8448x256) (k0_off2 i) S384x128.size (k0_off2_inb i)).toLoadRect f j) (c 1 j)) :
    v.read (Elt F) (v.writes (Elt F) f
      [⟨Rect.unit (s := S8448x256) (k0_off2 i) S384x128.size (k0_off2_inb i), w2⟩,
       ⟨Rect.unit (s := S8448x256) (k0_off1 i) S384x128.size (k0_off1_inb i), w1⟩])
      = fun y => accPut (i 0).val c (v.read (Elt F) f) y := by
  have o1 : ∀ a, k0_off1 i a = (![128 * (i 0).val, 0] : Fin 2 → ℕ) a := fun a => congrFun (k0_off1_eq i) a
  have o2 : ∀ a, k0_off2 i a = (![128 * (i 0).val, 128] : Fin 2 → ℕ) a := fun a => congrFun (k0_off2_eq i) a
  funext y
  have hy1 : (y 1).val < 256 := (y 1).isLt
  unfold accPut
  have m1 : ∀ L, ((y 0).val < 128 * (i 0).val ∨ 128 * (i 0).val + 384 ≤ (y 0).val) →
      v.read (Elt F) (v.writes (Elt F) f (⟨Rect.unit (s := S8448x256) (k0_off1 i) S384x128.size (k0_off1_inb i), w1⟩ :: L)) y
        = v.read (Elt F) (v.writes (Elt F) f L) y := fun L ho =>
    View.read_writes_cons_miss_of_axis v f _ L y 0 _ 384 (o1 0) rfl rfl ho
  have m2 : ∀ L, ((y 0).val < 128 * (i 0).val ∨ 128 * (i 0).val + 384 ≤ (y 0).val) →
      v.read (Elt F) (v.writes (Elt F) f (⟨Rect.unit (s := S8448x256) (k0_off2 i) S384x128.size (k0_off2_inb i), w2⟩ :: L)) y
        = v.read (Elt F) (v.writes (Elt F) f L) y := fun L ho =>
    View.read_writes_cons_miss_of_axis v f _ L y 0 _ 384 (o2 0) rfl rfl ho
  by_cases hr : 128 * (i 0).val ≤ (y 0).val ∧ (y 0).val < 128 * (i 0).val + 384
  · rw [dif_pos hr]
    by_cases hc : (y 1).val < 128
    · rw [View.read_writes_cons_miss_of_axis v f _ _ y 1 128 128 (o2 1) rfl rfl (Or.inl hc)]
      rw [View.read_writes_cons_hit_of_coords v f _ _ [] (ix2 ⟨(y 0).val - 128 * (i 0).val, by omega⟩ ⟨(y 1).val % 128, by omega⟩) y
        (by intro q; fin_cases q
            · show (y 0).val = k0_off1 i 0 + 1 * ((y 0).val - 128 * (i 0).val)
              rw [o1 0]; show (y 0).val = 128 * (i 0).val + 1 * ((y 0).val - 128 * (i 0).val); omega
            · show (y 1).val = k0_off1 i 1 + 1 * ((y 1).val % 128)
              rw [o1 1]; show (y 1).val = 0 + 1 * ((y 1).val % 128); omega)]
      have e1 : (⟨(y 1).val / 128, by omega⟩ : Fin 2) = 0 := Fin.ext (by show (y 1).val / 128 = 0; omega)
      rw [h1, e1]
      refine congrArg₂ FloatOps.addf (congrArg (v.read (Elt F) f) ?_) rfl
      funext q; apply Fin.ext
      fin_cases q
      · show k0_off1 i 0 + 1 * ((y 0).val - 128 * (i 0).val) = (y 0).val
        rw [o1 0]; show 128 * (i 0).val + 1 * ((y 0).val - 128 * (i 0).val) = (y 0).val; omega
      · show k0_off1 i 1 + 1 * ((y 1).val % 128) = (y 1).val
        rw [o1 1]; show 0 + 1 * ((y 1).val % 128) = (y 1).val; omega
    · rw [View.read_writes_cons_hit_of_coords v f _ _ _ (ix2 ⟨(y 0).val - 128 * (i 0).val, by omega⟩ ⟨(y 1).val % 128, by omega⟩) y
        (by intro q; fin_cases q
            · show (y 0).val = k0_off2 i 0 + 1 * ((y 0).val - 128 * (i 0).val)
              rw [o2 0]; show (y 0).val = 128 * (i 0).val + 1 * ((y 0).val - 128 * (i 0).val); omega
            · show (y 1).val = k0_off2 i 1 + 1 * ((y 1).val % 128)
              rw [o2 1]; show (y 1).val = 128 + 1 * ((y 1).val % 128); omega)]
      have e1 : (⟨(y 1).val / 128, by omega⟩ : Fin 2) = 1 := Fin.ext (by show (y 1).val / 128 = 1; omega)
      rw [h2, e1]
      refine congrArg₂ FloatOps.addf (congrArg (v.read (Elt F) f) ?_) rfl
      funext q; apply Fin.ext
      fin_cases q
      · show k0_off2 i 0 + 1 * ((y 0).val - 128 * (i 0).val) = (y 0).val
        rw [o2 0]; show 128 * (i 0).val + 1 * ((y 0).val - 128 * (i 0).val) = (y 0).val; omega
      · show k0_off2 i 1 + 1 * ((y 1).val % 128) = (y 1).val
        rw [o2 1]; show 128 + 1 * ((y 1).val % 128) = (y 1).val; omega
  · rw [dif_neg hr, m2 _ (by omega), m1 _ (by omega)]
    rfl

/-- The two heads' updates of the sinks' accumulator. -/
theorem read_sk (v : View sig κ sp S2x8x128 .f32) (f : v.ty.Contents (Elt F))
    (G : Fin 2 → (S1x8x128.Idx → F .f32) → S1x8x128.Idx → F .f32) (w1 w2 : S1x8x128.Idx → F .f32)
    (h1 : w1 = G 0 (v.readAt (Elt F) (Rect.unit (s := S2x8x128) ![0, 0, 0] S1x8x128.size inb_S2x8x128_S1x8x128_0_0_0).toLoadRect f))
    (h2 : w2 = G 1 (v.readAt (Elt F) (Rect.unit (s := S2x8x128) ![1, 0, 0] S1x8x128.size inb_S2x8x128_S1x8x128_1_0_0).toLoadRect f)) :
    v.read (Elt F) (v.writes (Elt F) f
      [⟨Rect.unit (s := S2x8x128) ![1, 0, 0] S1x8x128.size inb_S2x8x128_S1x8x128_1_0_0, w2⟩,
       ⟨Rect.unit (s := S2x8x128) ![0, 0, 0] S1x8x128.size inb_S2x8x128_S1x8x128_0_0_0, w1⟩])
      = fun y => G (y 0) (skRow (v.read (Elt F) f) (y 0)) (ix3 0 (y 1) (y 2)) := by
  have hrow : ∀ (h : Fin 2) (inb), v.readAt (Elt F) (Rect.unit (s := S2x8x128) ![h.val, 0, 0] S1x8x128.size inb).toLoadRect f
      = skRow (v.read (Elt F) f) h := by
    intro h inb
    funext j
    rw [View.readAt_apply]
    unfold skRow
    congr 1
    funext q; apply Fin.ext
    have h0 : (j 0).val < 1 := (j 0).isLt
    fin_cases q
    · show h.val + 1 * (j 0).val = h.val; omega
    · show 0 + 1 * (j 1).val = (j 1).val; omega
    · show 0 + 1 * (j 2).val = (j 2).val; omega
  replace h1 := h1.trans (congrArg (G 0) (hrow 0 inb_S2x8x128_S1x8x128_0_0_0))
  replace h2 := h2.trans (congrArg (G 1) (hrow 1 inb_S2x8x128_S1x8x128_1_0_0))
  funext y
  have hy0 : (y 0).val < 2 := (y 0).isLt
  by_cases hh : (y 0).val = 0
  · rw [View.read_writes_cons_miss_of_axis v f _ _ y 0 1 1 rfl rfl rfl (Or.inl (by omega)),
      View.read_writes_cons_hit_of_coords v f _ _ [] (ix3 0 (y 1) (y 2)) y (by
        intro q; fin_cases q
        · show (y 0).val = 0 + 1 * 0; omega
        · show (y 1).val = 0 + 1 * (y 1).val; omega
        · show (y 2).val = 0 + 1 * (y 2).val; omega), h1,
      show y 0 = (0 : Fin 2) from Fin.ext hh]
    rfl
  · rw [View.read_writes_cons_hit_of_coords v f _ _ _ (ix3 0 (y 1) (y 2)) y (by
        intro q; fin_cases q
        · show (y 0).val = 1 + 1 * 0; omega
        · show (y 1).val = 0 + 1 * (y 1).val; omega
        · show (y 2).val = 0 + 1 * (y 2).val; omega), h2,
      show y 0 = (1 : Fin 2) from Fin.ext (by show (y 0).val = 1; omega)]
    rfl

/-- A whole store of zeros, read anywhere. -/
theorem read_zero8448 (v : View sig κ sp S8448x256 .f32) (f : v.ty.Contents (Elt F)) (z : S8448x256.Idx → F .f32) (hz : z = fun _ => zf) :
    v.read (Elt F) (v.writes (Elt F) f [⟨Rect.unit ![0, 0] S8448x256.size inb_S8448x256_S8448x256_0_0, z⟩]) = fun _ => zf := by
  funext y
  rw [View.read_writes_cons_hit_of_coords v f _ _ [] y y (by
    intro q; fin_cases q
    · show (y 0).val = 0 + 1 * (y 0).val; omega
    · show (y 1).val = 0 + 1 * (y 1).val; omega), hz]

/-- The accumulator's update at the first point, over the zeros just stored. -/
theorem read_acc_first (v : View sig κ sp S8448x256 .f32) (f : v.ty.Contents (Elt F)) (i : grid0.Coords)
    (c : Fin 2 → S384x128.Idx → F .f32) (z : S8448x256.Idx → F .f32) (hz : z = fun _ => zf) (w1 w2 : S384x128.Idx → F .f32)
    (h1 : w1 = fun j => FloatOps.addf (v.readAt (Elt F) (Rect.unit (s := S8448x256) (k0_off1 i) S384x128.size (k0_off1_inb i)).toLoadRect
      (v.writes (Elt F) f [⟨Rect.unit ![0, 0] S8448x256.size inb_S8448x256_S8448x256_0_0, z⟩]) j) (c 0 j))
    (h2 : w2 = fun j => FloatOps.addf (v.readAt (Elt F) (Rect.unit (s := S8448x256) (k0_off2 i) S384x128.size (k0_off2_inb i)).toLoadRect
      (v.writes (Elt F) f [⟨Rect.unit (s := S8448x256) (k0_off1 i) S384x128.size (k0_off1_inb i), w1⟩,
        ⟨Rect.unit ![0, 0] S8448x256.size inb_S8448x256_S8448x256_0_0, z⟩]) j) (c 1 j)) :
    v.read (Elt F) (v.writes (Elt F) f
      [⟨Rect.unit (s := S8448x256) (k0_off2 i) S384x128.size (k0_off2_inb i), w2⟩,
       ⟨Rect.unit (s := S8448x256) (k0_off1 i) S384x128.size (k0_off1_inb i), w1⟩,
       ⟨Rect.unit ![0, 0] S8448x256.size inb_S8448x256_S8448x256_0_0, z⟩])
      = accPut (i 0).val c (fun _ => zf) := by
  have e := fun p : List (View.Piece (Elt F) S8448x256 .f32) => v.writes_append f p [⟨Rect.unit ![0, 0] S8448x256.size inb_S8448x256_S8448x256_0_0, z⟩]
  have e1 := e [⟨Rect.unit (s := S8448x256) (k0_off1 i) S384x128.size (k0_off1_inb i), w1⟩]
  have e2 := e [⟨Rect.unit (s := S8448x256) (k0_off2 i) S384x128.size (k0_off2_inb i), w2⟩,
       ⟨Rect.unit (s := S8448x256) (k0_off1 i) S384x128.size (k0_off1_inb i), w1⟩]
  simp only [List.cons_append, List.nil_append] at e1 e2
  rw [e1, off2_skip] at h2
  rw [e2, read_acc v _ i c w1 w2 h1 h2]
  rw [read_zero8448 v f z hz]

/-- The sinks' update at the first point, over the zeros just stored. -/
theorem read_sk_first (v : View sig κ sp S2x8x128 .f32) (f : v.ty.Contents (Elt F))
    (G : Fin 2 → (S1x8x128.Idx → F .f32) → S1x8x128.Idx → F .f32) (z : S2x8x128.Idx → F .f32) (hz : z = fun _ => zf) (w1 w2 : S1x8x128.Idx → F .f32)
    (h1 : w1 = G 0 (v.readCov (Val := Elt F) [⟨Rect.unit ![0, 0, 0] S2x8x128.size inb_S2x8x128_S2x8x128_0_0_0, z⟩]
      (Rect.unit (s := S2x8x128) ![0, 0, 0] S1x8x128.size inb_S2x8x128_S1x8x128_0_0_0).toLoadRect))
    (h2 : w2 = G 1 (v.readCov (Val := Elt F) [⟨Rect.unit (s := S2x8x128) ![0, 0, 0] S1x8x128.size inb_S2x8x128_S1x8x128_0_0_0, w1⟩,
        ⟨Rect.unit ![0, 0, 0] S2x8x128.size inb_S2x8x128_S2x8x128_0_0_0, z⟩]
      (Rect.unit (s := S2x8x128) ![1, 0, 0] S1x8x128.size inb_S2x8x128_S1x8x128_1_0_0).toLoadRect)) :
    v.read (Elt F) (v.writes (Elt F) f
      [⟨Rect.unit ![1, 0, 0] S1x8x128.size inb_S2x8x128_S1x8x128_1_0_0, w2⟩,
       ⟨Rect.unit ![0, 0, 0] S1x8x128.size inb_S2x8x128_S1x8x128_0_0_0, w1⟩,
       ⟨Rect.unit ![0, 0, 0] S2x8x128.size inb_S2x8x128_S2x8x128_0_0_0, z⟩])
      = fun y => G (y 0) (skRow (fun _ => zf) (y 0)) (ix3 0 (y 1) (y 2)) := by
  have hc : ∀ r : Rect S2x8x128, v.readCov (Val := Elt F) [⟨Rect.unit ![0, 0, 0] S2x8x128.size inb_S2x8x128_S2x8x128_0_0_0, z⟩] r.toLoadRect
      = v.readAt (Elt F) r.toLoadRect (v.writes (Elt F) f [⟨Rect.unit ![0, 0, 0] S2x8x128.size inb_S2x8x128_S2x8x128_0_0_0, z⟩]) := fun r => by
    have hr : ∀ g : v.ty.Contents (Elt F), v.read (Elt F) (v.writes (Elt F) g [⟨Rect.unit ![0, 0, 0] S2x8x128.size inb_S2x8x128_S2x8x128_0_0_0, z⟩]) = z := fun g => by
      funext y
      rw [View.read_writes_cons_hit_of_coords v g _ _ [] y y (by
        intro q; fin_cases q
        · show (y 0).val = 0 + 1 * (y 0).val; omega
        · show (y 1).val = 0 + 1 * (y 1).val; omega
        · show (y 2).val = 0 + 1 * (y 2).val; omega)]
    show v.readAt (Elt F) r.toLoadRect (v.writes (Elt F) v.junk _) = _
    rw [View.readAt_eq_ld, View.readAt_eq_ld, hr, hr]
  have hd : v.readCov (Val := Elt F) [⟨Rect.unit (s := S2x8x128) ![0, 0, 0] S1x8x128.size inb_S2x8x128_S1x8x128_0_0_0, w1⟩,
        ⟨Rect.unit ![0, 0, 0] S2x8x128.size inb_S2x8x128_S2x8x128_0_0_0, z⟩]
      (Rect.unit (s := S2x8x128) ![1, 0, 0] S1x8x128.size inb_S2x8x128_S1x8x128_1_0_0).toLoadRect
      = v.readCov (Val := Elt F) [⟨Rect.unit ![0, 0, 0] S2x8x128.size inb_S2x8x128_S2x8x128_0_0_0, z⟩]
        (Rect.unit (s := S2x8x128) ![1, 0, 0] S1x8x128.size inb_S2x8x128_S1x8x128_1_0_0).toLoadRect :=
    View.readCov_skip v _ _ _ _ (by decide +kernel)
  rw [hd, hc] at h2
  rw [hc] at h1
  refine (read_sk v _ G w1 w2 h1 h2).trans ?_
  have hz' : v.read (Elt F) (v.writes (Elt F) f [⟨Rect.unit ![0, 0, 0] S2x8x128.size inb_S2x8x128_S2x8x128_0_0_0, z⟩]) = fun _ => zf := by
    funext y
    rw [View.read_writes_cons_hit_of_coords v f _ _ [] y y (by
      intro q; fin_cases q
      · show (y 0).val = 0 + 1 * (y 0).val; omega
      · show (y 1).val = 0 + 1 * (y 1).val; omega
      · show (y 2).val = 0 + 1 * (y 2).val; omega), hz]
  rw [hz']

theorem pay2_zero : (k0_pay2 (F := F)) = fun _ => zf := rfl
theorem pay3_zero : (k0_pay3 (F := F)) = fun _ => zf := rfl
theorem pay4_zero : (k0_pay4 (F := F)) = fun _ => zf := rfl

/-- The additions to the keys' and values' accumulators, as sums. -/
theorem pay31_eq (q : FVec F S512x128 .bf16) (d : FVec F S512x384 .bf16) (old : Vec F S384x128 .f32) :
    k0_pay31 q d old = fun j => FloatOps.addf (old j) (matmul dot_S512x384_S512x128_S384x128_0_0_1_1_n_n none d q (constant S384x128 .f32 0x00000000#32) j) := by
  unfold k0_pay31; rw [Idealize.ShloMosaic.shapeCast_self]; rfl

theorem pay59_eq (q : FVec F S512x128 .bf16) (d : FVec F S512x384 .bf16) (old : Vec F S384x128 .f32) :
    k0_pay59 q d old = fun j => FloatOps.addf (old j) (matmul dot_S512x384_S512x128_S384x128_0_0_1_1_n_n none d q (constant S384x128 .f32 0x00000000#32) j) := by
  unfold k0_pay59; rw [Idealize.ShloMosaic.shapeCast_self]; rfl

theorem pay32_eq (p : FVec F S512x384 .bf16) (g : FVec F S512x128 .bf16) (old : Vec F S384x128 .f32) :
    k0_pay32 p g old = fun j => FloatOps.addf (old j) (matmul dot_S512x384_S512x128_S384x128_0_0_1_1_n_n none p g (constant S384x128 .f32 0x00000000#32) j) := by
  unfold k0_pay32; rw [Idealize.ShloMosaic.shapeCast_self]; rfl

theorem pay60_eq (p : FVec F S512x384 .bf16) (g : FVec F S512x128 .bf16) (old : Vec F S384x128 .f32) :
    k0_pay60 p g old = fun j => FloatOps.addf (old j) (matmul dot_S512x384_S512x128_S384x128_0_0_1_1_n_n none p g (constant S384x128 .f32 0x00000000#32) j) := by
  unfold k0_pay60; rw [Idealize.ShloMosaic.shapeCast_self]; rfl

end

end Cert.KernelIdeal.Attn
end
-- ==== Proof.BodyB.lean ====
module

public import proofs.«01_k».proof.Proof.Gen.KernelIdeal.Skeleton
public import proofs.«01_k».proof.Proof.Gen.KernelIdeal.Frame
public import Idealize.ShloMosaic.PureOps.Ideal
public import Idealize.ShloMosaic.Lib.ValueIdx
public import proofs.«01_k».proof.Proof.Reads
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's one branch is taken at the first point. -/
abbrev cond0_0 (i : grid0.Coords) : Prop := (Scalar.cmpi .ne (Scalar.extui (Scalar.cmpi .eq (BitVec.ofNat 32 (i 0).val) 0#32)) 0#32) = 1#1

/-- The keys' accumulator after the point with number `t`, -/
def newDk (n : BitVec 32) (B : Blk F) (t : ℕ) (y : Vec F S8448x256 .f32) : Vec F S8448x256 .f32 :=
  accPut t (bDk n B) y
/-- and the values'. -/
def newDv (n : BitVec 32) (B : Blk F) (t : ℕ) (y : Vec F S8448x256 .f32) : Vec F S8448x256 .f32 :=
  accPut t (bDv n B) y

set_option maxHeartbeats 2000000 in
/-- The body past the first point: what it finds in the accumulators is kept and added to. -/
theorem runB (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S2x1x4 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S8448x256 .f32) (harg11 : arg11.IsWhole) (arg12 : Memref sig .tc .vmem S8448x256 .f32) (harg12 : arg12.IsWhole) (arg13 : Memref sig .tc .vmem S2x8x128 .f32) (harg13 : arg13.IsWhole) (hc0 : ¬cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S2x1x4 .f32) (x8 : Vec F S128x1024 .f32) (y11 y12 : Vec F S8448x256 .f32) (y13 : Vec F S2x8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y11 ∗ owns (c : Thread nD τ) arg12 fullShare y12 ∗ owns (c : Thread nD τ) arg13 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (newDq (BitVec.ofNat 32 (i 0).val) ⟨x0, x1, x2, x3, x4, x5, x6, x7, x8⟩) ∗ owns (c : Thread nD τ) arg11 fullShare (newDk (BitVec.ofNat 32 (i 0).val) ⟨x0, x1, x2, x3, x4, x5, x6, x7, x8⟩ (i 0).val y11) ∗ owns (c : Thread nD τ) arg12 fullShare (newDv (BitVec.ofNat 32 (i 0).val) ⟨x0, x1, x2, x3, x4, x5, x6, x7, x8⟩ (i 0).val y12) ∗ owns (c : Thread nD τ) arg13 fullShare (newSk (BitVec.ofNat 32 (i 0).val) ⟨x0, x1, x2, x3, x4, x5, x6, x7, x8⟩ y13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    have r1 : ∀ R : Rect S128x1024, arg1.view.readAt (Elt F) R.toLoadRect (harg1.unread x0) = View.ld (Val := Elt F) x0 R := fun R => by
      rw [View.readAt_eq_ld, harg1.read_unread]
    have r2 : ∀ R : Rect S128x256, arg2.view.readAt (Elt F) R.toLoadRect (harg2.unread x1) = View.ld (Val := Elt F) x1 R := fun R => by
      rw [View.readAt_eq_ld, harg2.read_unread]
    have r3 : ∀ R : Rect S128x256, arg3.view.readAt (Elt F) R.toLoadRect (harg3.unread x2) = View.ld (Val := Elt F) x2 R := fun R => by
      rw [View.readAt_eq_ld, harg3.read_unread]
    have r4 : ∀ R : Rect S128x256, arg4.view.readAt (Elt F) R.toLoadRect (harg4.unread x3) = View.ld (Val := Elt F) x3 R := fun R => by
      rw [View.readAt_eq_ld, harg4.read_unread]
    have r5 : ∀ R : Rect S128x256, arg5.view.readAt (Elt F) R.toLoadRect (harg5.unread x4) = View.ld (Val := Elt F) x4 R := fun R => by
      rw [View.readAt_eq_ld, harg5.read_unread]
    have r6 : ∀ R : Rect S128x256, arg6.view.readAt (Elt F) R.toLoadRect (harg6.unread x5) = View.ld (Val := Elt F) x5 R := fun R => by
      rw [View.readAt_eq_ld, harg6.read_unread]
    have r7 : ∀ R : Rect S128x256, arg7.view.readAt (Elt F) R.toLoadRect (harg7.unread x6) = View.ld (Val := Elt F) x6 R := fun R => by
      rw [View.readAt_eq_ld, harg7.read_unread]
    have r8 : ∀ R : Rect S2x1x4, arg8.view.readAt (Elt F) R.toLoadRect (harg8.unread x7) = View.ld (Val := Elt F) x7 R := fun R => by
      rw [View.readAt_eq_ld, harg8.read_unread]
    have r9 : ∀ R : Rect S128x1024, arg9.view.readAt (Elt F) R.toLoadRect (harg9.unread x8) = View.ld (Val := Elt F) x8 R := fun R => by
      rw [View.readAt_eq_ld, harg9.read_unread]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      sl_unfold_words
      simp only [r1, r2, r3, r4, r5, r6, r7, r8, r9]
      refine read_dq arg10.view f9 (BitVec.ofNat 32 (i 0).val) ⟨x0, x1, x2, x3, x4, x5, x6, x7, x8⟩ _ _ _ _ _ _ _ _ ?_ ?_ ?_ ?_ ?_ ?_ ?_ ?_
      · rw [dqPiece_0]; rfl
      · rw [dqPiece_1]; rfl
      · rw [dqPiece_2]; rfl
      · rw [dqPiece_3]; rfl
      · rw [dqPiece_4, h1_Dq0_at, blk_a1, blk_b1, blk_v1, blk_w1, blk_o1]
      · rw [dqPiece_5, h1_Dq1_at, blk_a1, blk_b1, blk_v1, blk_w1, blk_o1]
      · rw [dqPiece_6, h1_Dq2_at, blk_a1, blk_b1, blk_v1, blk_w1, blk_o1]
      · rw [dqPiece_7, h1_Dq3_at, blk_a1, blk_b1, blk_v1, blk_w1, blk_o1]
    isplitl [H10]
    · iexists _; isplitr; swap; · iexact H10
      ipureintro
      subst hf10
      refine (read_acc arg11.view _ i (bDk (BitVec.ofNat 32 (i 0).val) ⟨x0, x1, x2, x3, x4, x5, x6, x7, x8⟩) _ _ ?_ ?_).trans ?_
      · rw [pay31_eq]; sl_unfold_words; simp only [r1, r2, r3, r4, r5, r6, r7, r8, r9]; rfl
      · rw [pay59_eq]; sl_unfold_words; simp only [r1, r2, r3, r4, r5, r6, r7, r8, r9]
        rw [h1_Ds_at, show bDk (BitVec.ofNat 32 (i 0).val) ⟨x0, x1, x2, x3, x4, x5, x6, x7, x8⟩ 1 = hDk _ _ _ _ _ _ from rfl, blk_a1, blk_b1, blk_v1, blk_w1, blk_o1]
        rfl
      · rfl
    isplitl [H11]
    · iexists _; isplitr; swap; · iexact H11
      ipureintro
      subst hf11
      refine (read_acc arg12.view _ i (bDv (BitVec.ofNat 32 (i 0).val) ⟨x0, x1, x2, x3, x4, x5, x6, x7, x8⟩) _ _ ?_ ?_).trans ?_
      · rw [pay32_eq]; sl_unfold_words; simp only [r1, r2, r3, r4, r5, r6, r7, r8, r9]; rfl
      · rw [pay60_eq]; sl_unfold_words; simp only [r1, r2, r3, r4, r5, r6, r7, r8, r9]
        rw [h1_Pb_at, show bDv (BitVec.ofNat 32 (i 0).val) ⟨x0, x1, x2, x3, x4, x5, x6, x7, x8⟩ 1 = hDv _ _ _ _ _ from rfl, blk_a1, blk_b1, blk_w1, blk_o1]
        rfl
      · rfl
    iexists _; isplitr; swap; · iexact H12
    ipureintro
    subst hf12
    refine (read_sk arg13.view _ (bSk (BitVec.ofNat 32 (i 0).val) ⟨x0, x1, x2, x3, x4, x5, x6, x7, x8⟩) _ _ ?_ ?_).trans ?_
    · sl_unfold_words; simp only [r1, r2, r3, r4, r5, r6, r7, r8, r9]; rfl
    · sl_unfold_words; simp only [r1, r2, r3, r4, r5, r6, r7, r8, r9]
      rw [h1_Sk, h1_Ps_at, h1_Del_at, show ∀ old, bSk (BitVec.ofNat 32 (i 0).val) ⟨x0, x1, x2, x3, x4, x5, x6, x7, x8⟩ 1 old = hSk _ _ _ _ _ _ old from fun _ => rfl, blk_a1, blk_b1, blk_v1, blk_w1, blk_o1]
      rfl
    · rfl

end Cert.KernelIdeal.Attn
end
-- ==== Proof.BodyA.lean ====
module

public import proofs.«01_k».proof.Proof.Gen.KernelIdeal.Skeleton
public import proofs.«01_k».proof.Proof.Gen.KernelIdeal.Frame
public import Idealize.ShloMosaic.PureOps.Ideal
public import Idealize.ShloMosaic.Lib.ValueIdx
public import proofs.«01_k».proof.Proof.BodyB
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at the first point: the accumulators start from zero. -/
theorem runA (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S2x1x4 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S8448x256 .f32) (harg11 : arg11.IsWhole) (arg12 : Memref sig .tc .vmem S8448x256 .f32) (harg12 : arg12.IsWhole) (arg13 : Memref sig .tc .vmem S2x8x128 .f32) (harg13 : arg13.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S2x1x4 .f32) (x8 : Vec F S128x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (newDq (BitVec.ofNat 32 (i 0).val) ⟨x0, x1, x2, x3, x4, x5, x6, x7, x8⟩) ∗ owns (c : Thread nD τ) arg11 fullShare (newDk (BitVec.ofNat 32 (i 0).val) ⟨x0, x1, x2, x3, x4, x5, x6, x7, x8⟩ (i 0).val (fun _ => zf)) ∗ owns (c : Thread nD τ) arg12 fullShare (newDv (BitVec.ofNat 32 (i 0).val) ⟨x0, x1, x2, x3, x4, x5, x6, x7, x8⟩ (i 0).val (fun _ => zf)) ∗ owns (c : Thread nD τ) arg13 fullShare (newSk (BitVec.ofNat 32 (i 0).val) ⟨x0, x1, x2, x3, x4, x5, x6, x7, x8⟩ (fun _ => zf))) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    have r1 : ∀ R : Rect S128x1024, arg1.view.readAt (Elt F) R.toLoadRect (harg1.unread x0) = View.ld (Val := Elt F) x0 R := fun R => by
      rw [View.readAt_eq_ld, harg1.read_unread]
    have r2 : ∀ R : Rect S128x256, arg2.view.readAt (Elt F) R.toLoadRect (harg2.unread x1) = View.ld (Val := Elt F) x1 R := fun R => by
      rw [View.readAt_eq_ld, harg2.read_unread]
    have r3 : ∀ R : Rect S128x256, arg3.view.readAt (Elt F) R.toLoadRect (harg3.unread x2) = View.ld (Val := Elt F) x2 R := fun R => by
      rw [View.readAt_eq_ld, harg3.read_unread]
    have r4 : ∀ R : Rect S128x256, arg4.view.readAt (Elt F) R.toLoadRect (harg4.unread x3) = View.ld (Val := Elt F) x3 R := fun R => by
      rw [View.readAt_eq_ld, harg4.read_unread]
    have r5 : ∀ R : Rect S128x256, arg5.view.readAt (Elt F) R.toLoadRect (harg5.unread x4) = View.ld (Val := Elt F) x4 R := fun R => by
      rw [View.readAt_eq_ld, harg5.read_unread]
    have r6 : ∀ R : Rect S128x256, arg6.view.readAt (Elt F) R.toLoadRect (harg6.unread x5) = View.ld (Val := Elt F) x5 R := fun R => by
      rw [View.readAt_eq_ld, harg6.read_unread]
    have r7 : ∀ R : Rect S128x256, arg7.view.readAt (Elt F) R.toLoadRect (harg7.unread x6) = View.ld (Val := Elt F) x6 R := fun R => by
      rw [View.readAt_eq_ld, harg7.read_unread]
    have r8 : ∀ R : Rect S2x1x4, arg8.view.readAt (Elt F) R.toLoadRect (harg8.unread x7) = View.ld (Val := Elt F) x7 R := fun R => by
      rw [View.readAt_eq_ld, harg8.read_unread]
    have r9 : ∀ R : Rect S128x1024, arg9.view.readAt (Elt F) R.toLoadRect (harg9.unread x8) = View.ld (Val := Elt F) x8 R := fun R => by
      rw [View.readAt_eq_ld, harg9.read_unread]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      sl_unfold_words
      simp only [r1, r2, r3, r4, r5, r6, r7, r8, r9]
      refine read_dq arg10.view f9 (BitVec.ofNat 32 (i 0).val) ⟨x0, x1, x2, x3, x4, x5, x6, x7, x8⟩ _ _ _ _ _ _ _ _ ?_ ?_ ?_ ?_ ?_ ?_ ?_ ?_
      · rw [dqPiece_0]; rfl
      · rw [dqPiece_1]; rfl
      · rw [dqPiece_2]; rfl
      · rw [dqPiece_3]; rfl
      · rw [dqPiece_4, h1_Dq0_at, blk_a1, blk_b1, blk_v1, blk_w1, blk_o1]
      · rw [dqPiece_5, h1_Dq1_at, blk_a1, blk_b1, blk_v1, blk_w1, blk_o1]
      · rw [dqPiece_6, h1_Dq2_at, blk_a1, blk_b1, blk_v1, blk_w1, blk_o1]
      · rw [dqPiece_7, h1_Dq3_at, blk_a1, blk_b1, blk_v1, blk_w1, blk_o1]
    isplitl [H10]
    · iexists _; isplitr; swap; · iexact H10
      ipureintro
      sl_unfold_words
      refine (read_acc_first arg11.view _ i (bDk (BitVec.ofNat 32 (i 0).val) ⟨x0, x1, x2, x3, x4, x5, x6, x7, x8⟩) _ pay2_zero _ _ ?_ ?_).trans ?_
      · rw [pay31_eq]; sl_unfold_words; simp only [r1, r2, r3, r4, r5, r6, r7, r8, r9]; rfl
      · rw [pay59_eq]; sl_unfold_words; simp only [r1, r2, r3, r4, r5, r6, r7, r8, r9]
        rw [h1_Ds_at, show bDk (BitVec.ofNat 32 (i 0).val) ⟨x0, x1, x2, x3, x4, x5, x6, x7, x8⟩ 1 = hDk _ _ _ _ _ _ from rfl, blk_a1, blk_b1, blk_v1, blk_w1, blk_o1]
        rfl
      · rfl
    isplitl [H11]
    · iexists _; isplitr; swap; · iexact H11
      ipureintro
      sl_unfold_words
      refine (read_acc_first arg12.view _ i (bDv (BitVec.ofNat 32 (i 0).val) ⟨x0, x1, x2, x3, x4, x5, x6, x7, x8⟩) _ pay3_zero _ _ ?_ ?_).trans ?_
      · rw [pay32_eq]; sl_unfold_words; simp only [r1, r2, r3, r4, r5, r6, r7, r8, r9]; rfl
      · rw [pay60_eq]; sl_unfold_words; simp only [r1, r2, r3, r4, r5, r6, r7, r8, r9]
        rw [h1_Pb_at, show bDv (BitVec.ofNat 32 (i 0).val) ⟨x0, x1, x2, x3, x4, x5, x6, x7, x8⟩ 1 = hDv _ _ _ _ _ from rfl, blk_a1, blk_b1, blk_w1, blk_o1]
        rfl
      · rfl
    iexists _; isplitr; swap; · iexact H12
    ipureintro
    sl_unfold_words
    refine (read_sk_first arg13.view _ (bSk (BitVec.ofNat 32 (i 0).val) ⟨x0, x1, x2, x3, x4, x5, x6, x7, x8⟩) _ pay4_zero _ _ ?_ ?_).trans ?_
    · sl_unfold_words; simp only [r1, r2, r3, r4, r5, r6, r7, r8, r9]; rfl
    · sl_unfold_words; simp only [r1, r2, r3, r4, r5, r6, r7, r8, r9]
      rw [h1_Sk, h1_Ps_at, h1_Del_at, show ∀ old, bSk (BitVec.ofNat 32 (i 0).val) ⟨x0, x1, x2, x3, x4, x5, x6, x7, x8⟩ 1 old = hSk _ _ _ _ _ _ old from fun _ => rfl, blk_a1, blk_b1, blk_v1, blk_w1, blk_o1]
      rfl
    · rfl

end Cert.KernelIdeal.Attn
end
-- ==== Proof.Run.lean ====
module

public import proofs.«01_k».proof.Proof.BodyA
public import Idealize.ShloMosaic.Lib.Pipeline.FrameSuffix

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The nine blocks point `t` works on. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t⟩

/-- The same, the point given by its number. -/
def blkN (c : Dev nD) (n : ℕ) : Blk F :=
  blkAt m c ⟨n % 64, lt_of_lt_of_eq (Nat.mod_lt n (by decide)) (show (64 : ℕ) = cfg0.N from N_0.symm)⟩

theorem blkN_val (c : Dev nD) (t : Fin cfg0.N) : blkN m c t.val = blkAt m c t := by
  have hN : t.val < 64 := lt_of_lt_of_eq t.isLt (show cfg0.N = 64 from N_0)
  unfold blkN; congr 1; exact Fin.ext (Nat.mod_eq_of_lt hN)

/-- The keys' accumulator after `n` points, -/
def dkAt (c : Dev nD) : ℕ → Vec F S8448x256 .f32
  | 0 => fun _ => zf
  | n + 1 => newDk (BitVec.ofNat 32 n) (blkN m c n) n (dkAt c n)
/-- the values', -/
def dvAt (c : Dev nD) : ℕ → Vec F S8448x256 .f32
  | 0 => fun _ => zf
  | n + 1 => newDv (BitVec.ofNat 32 n) (blkN m c n) n (dvAt c n)
/-- and the sinks'. -/
def skAt (c : Dev nD) : ℕ → Vec F S2x8x128 .f32
  | 0 => fun _ => zf
  | n + 1 => newSk (BitVec.ofNat 32 n) (blkN m c n) (skAt c n)

/-! ## The pipeline's proof data -/

/-- Each input's buffer holds its block after every point; the outputs hold what is named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => newDq (BitVec.ofNat 32 t.val) (blkAt m c t)
    | ⟨10, _⟩ => dkAt m c (t.val + 1)
    | ⟨11, _⟩ => dvAt m c (t.val + 1)
    | ⟨12, _⟩ => skAt m c (t.val + 1)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = newDq (BitVec.ofNat 32 t.val) (blkAt m c t) := by dsimp only [dats]
theorem after_10 (c : Dev nD) (t : Fin cfg0.N) : (dats m 0 c).after 10 t = dkAt m c (t.val + 1) := by dsimp only [dats]
theorem after_11 (c : Dev nD) (t : Fin cfg0.N) : (dats m 0 c).after 11 t = dvAt m c (t.val + 1) := by dsimp only [dats]
theorem after_12 (c : Dev nD) (t : Fin cfg0.N) : (dats m 0 c).after 12 t = skAt m c (t.val + 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
/-- Past the first point, accumulator 0 of three holds what the point before left. -/
theorem before_10 (c : Dev nD) (t : Fin cfg0.N) (ht : t.val ≠ 0) (d) : (dats m 0 c).before 10 t d = dkAt m c t.val := by
  have hN : t.val < 64 := lt_of_lt_of_eq t.isLt (show cfg0.N = 64 from N_0)
  rw [(dats m 0 c).before_out_kept 10 rfl t ht (Bool.eq_false_iff.mpr fun h => by
    have h' := (flush0_10 _).mp h
    dsimp only at h'; omega) (fun _ => rfl) (fun _ _ => rfl) d, after_10]
  dsimp only
  rw [Nat.sub_add_cancel (Nat.one_le_iff_ne_zero.mpr ht)]
/-- Past the first point, accumulator 1 of three holds what the point before left. -/
theorem before_11 (c : Dev nD) (t : Fin cfg0.N) (ht : t.val ≠ 0) (d) : (dats m 0 c).before 11 t d = dvAt m c t.val := by
  have hN : t.val < 64 := lt_of_lt_of_eq t.isLt (show cfg0.N = 64 from N_0)
  rw [(dats m 0 c).before_out_kept 11 rfl t ht (Bool.eq_false_iff.mpr fun h => by
    have h' := (flush0_11 _).mp h
    dsimp only at h'; omega) (fun _ => rfl) (fun _ _ => rfl) d, after_11]
  dsimp only
  rw [Nat.sub_add_cancel (Nat.one_le_iff_ne_zero.mpr ht)]
/-- Past the first point, accumulator 2 of three holds what the point before left. -/
theorem before_12 (c : Dev nD) (t : Fin cfg0.N) (ht : t.val ≠ 0) (d) : (dats m 0 c).before 12 t d = skAt m c t.val := by
  have hN : t.val < 64 := lt_of_lt_of_eq t.isLt (show cfg0.N = 64 from N_0)
  rw [(dats m 0 c).before_out_kept 12 rfl t ht (Bool.eq_false_iff.mpr fun h => by
    have h' := (flush0_12 _).mp h
    dsimp only at h'; omega) (fun _ => rfl) (fun _ _ => rfl) d, after_12]
  dsimp only
  rw [Nat.sub_add_cancel (Nat.one_le_iff_ne_zero.mpr ht)]

/-! ## The body at a point -/

theorem coords_val (t : Fin cfg0.N) : (grid0.coords t 0).val = t.val := by
  have hN : t.val < 64 := lt_of_lt_of_eq t.isLt (show cfg0.N = 64 from N_0)
  have e0 : (grid0.coords t 0).val = t.val / 1 % 64 := Pipeline.Grid.coords_val t 0 (by decide) rfl
  rw [e0, Nat.div_one, Nat.mod_eq_of_lt hN]

/-- The branch is taken at the first point and at no other. -/
theorem hcond0_0 (t : Fin cfg0.N) : cond0_0 (grid0.coords t) ↔ t.val = 0 := by
  have hN : t.val < 64 := lt_of_lt_of_eq t.isLt (show cfg0.N = 64 from N_0)
  simp only [cond0_0, coords_val]; word_cmp

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)
abbrev ms_5 (t : Fin cfg0.N) := win0_5.stage (cfg0.slots t 5)
abbrev ms_6 (t : Fin cfg0.N) := win0_6.stage (cfg0.slots t 6)
abbrev ms_7 (t : Fin cfg0.N) := win0_7.stage (cfg0.slots t 7)
abbrev ms_8 (t : Fin cfg0.N) := win0_8.stage (cfg0.slots t 8)
abbrev ms_9 (t : Fin cfg0.N) := win0_9.stage (cfg0.slots t 9)
abbrev ms_10 (t : Fin cfg0.N) := win0_10.stage (cfg0.slots t 10)
abbrev ms_11 (t : Fin cfg0.N) := win0_11.stage (cfg0.slots t 11)
abbrev ms_12 (t : Fin cfg0.N) := win0_12.stage (cfg0.slots t 12)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))
/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  have e1 : newDq (BitVec.ofNat 32 t.val) (blkAt m c t) = newDq (BitVec.ofNat 32 (grid0.coords t 0).val) (blkAt m c t) := by
    rw [coords_val]
  have e2 : dkAt m c (t.val + 1) = newDk (BitVec.ofNat 32 (grid0.coords t 0).val) (blkAt m c t) (grid0.coords t 0).val (dkAt m c t.val) := by
    rw [coords_val, dkAt, blkN_val]
  have e3 : dvAt m c (t.val + 1) = newDv (BitVec.ofNat 32 (grid0.coords t 0).val) (blkAt m c t) (grid0.coords t 0).val (dvAt m c t.val) := by
    rw [coords_val, dvAt, blkN_val]
  have e4 : skAt m c (t.val + 1) = newSk (BitVec.ofNat 32 (grid0.coords t 0).val) (blkAt m c t) (skAt m c t.val) := by
    rw [coords_val, skAt, blkN_val]
  rw [e1, e2, e3, e4]
  by_cases h0 : t.val = 0
  · rw [h0, dkAt, dvAt, skAt]
    unfold blkAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before_10 m c t h0, before_11 m c t h0, before_12 m c t h0]
    unfold blkAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (dkAt m c t.val) (dvAt m c t.val) (skAt m c t.val))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The program runs, ends with the arrays the proof data name and what the host lines make of them, and with every
    counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_shared cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- What the results hold at the end, with the arguments unchanged and every counter at zero. -/
theorem run_values : θ_run defs (onTc (τ := τ) (main (F := F))) ⟨m, fun _ => 0, ρ⟩ (fun r => (∀ c : Dev nD,
      (r.2.mem ((c.tc : Thread nD τ).loc main_v1_0) = (dats m 0 c).arrAt 9 cfg0.N
      ∧ r.2.mem ((c.tc : Thread nD τ).loc main_v2) = Pipeline.afterTail₀ cfgs (dats m) 0 (V0 m) [hostOps1] c main_v2
      ∧ r.2.mem ((c.tc : Thread nD τ).loc main_v3) = Pipeline.afterTail₀ cfgs (dats m) 0 (V0 m) [hostOps1] c main_v3
      ∧ r.2.mem ((c.tc : Thread nD τ).loc main_v6) = Pipeline.afterTail₀ cfgs (dats m) 0 (V0 m) [hostOps1] c main_v6)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
      ∧ r.2.sem = fun _ => 0) :=
  (θ_run defs _ _).mono (fun _ h => ⟨fun c => ⟨⟨(h.1 c).1 9,
      (h.1 c).2 main_v2 (Pipeline.mem_restRefs_of main_v2 (by decide) (by decide)),
      (h.1 c).2 main_v3 (Pipeline.mem_restRefs_of main_v3 (by decide) (by decide)),
      (h.1 c).2 main_v6 (Pipeline.mem_restRefs_of main_v6 (by decide) (by decide))⟩,
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c))),
      ((h.1 c).1 6).trans (((dats m 0 c).arrAt_in 6 rfl _).trans ((A_eq m c 6).trans (V_main_arg2 m c))),
      ((h.1 c).2 main_arg3 (Pipeline.mem_restRefs_of main_arg3 (by decide) (by decide))).trans (W_main_arg3 m (dats m) c),
      ((h.1 c).1 8).trans (((dats m 0 c).arrAt_in 8 rfl _).trans ((A_eq m c 8).trans (V_main_arg4 m c)))⟩, h.2⟩) (run_main m ρ)

end Cert.KernelIdeal.Attn

end
-- ==== Proof.Spec.lean ====
module

public import Idealize.ShloMosaic.PureOps.Ideal
public import Idealize.ShloMosaic.PureOps.Ideal.Laws
public import Idealize.ShloMosaic.Lib.IdealHost
public import Idealize.ShloMosaic.Lib.WordCmp

@[expose] public section

noncomputable section

namespace Cert.Attn

open Idealize.ShloMosaic

/-! # The gradient of windowed attention with a sink logit, over the reals

Both programs come down to the functions of this file: the kernel one block of 128 queries at a time, the reference
all blocks at once. -/

/-! ## Finite sums of reals among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are reals is the sum of those reals. -/
theorem sum_coe_of {ι : Type} [Fintype ι] (f : ι → EReal) (g : ι → ℝ) (h : ∀ i, f i = (g i : EReal)) :
    ∑ i, f i = ((∑ i, g i : ℝ) : EReal) := by rw [← coe_sum]; exact Finset.sum_congr rfl fun i _ => h i

/-- The scale `128 ^ (-1/2)` as the programs print it. -/
def cS : ℝ := (Ideal.ofBits .f32 0x3DB504F3#32).toReal

theorem ofBits_cS : Ideal.ofBits .f32 0x3DB504F3#32 = (cS : EReal) := by
  have h : Ideal.ofBits .f32 0x3DB504F3#32 = ((11863283 * ((2 : ℝ) ^ 27)⁻¹ : ℝ) : EReal) := by
    simp [Ideal.ofBits, Ideal.ieee, -EReal.coe_mul]
  rw [cS, h, EReal.toReal_coe]

theorem ofBits_ninf : Ideal.ofBits .f32 0xFF800000#32 = ⊥ := by simp [Ideal.ofBits, Ideal.ieee]

/-! ## The window -/

/-- Key row `j` of the three blocks around block `n` is one query row `r` of the block may look at. -/
def win (n r j : ℕ) : Prop := r ≤ j ∧ j ≤ r + 256 ∧ 128 ≤ 128 * n + j ∧ 128 * n + j < 8320

instance (n r j : ℕ) : Decidable (win n r j) := inferInstanceAs (Decidable (_ ∧ _ ∧ _ ∧ _))

theorem ofNat_eq_ofInt (n : ℕ) : BitVec.ofNat 32 n = BitVec.ofInt 32 (n : ℤ) := by simp

theorem ofInt_sub (a b : ℤ) : BitVec.ofInt 32 a - BitVec.ofInt 32 b = BitVec.ofInt 32 (a - b) := by
  rw [Int.sub_eq_add_neg, BitVec.ofInt_add, BitVec.ofInt_neg, BitVec.sub_eq_add_neg]

/-- The distance from the middle of the window, as the programs compute it. -/
theorem band_word (r j : ℕ) (hr : r < 128) (hj : j < 384) :
    (IntOp.absi (IntOp.subi (IntOp.subi (BitVec.ofNat 32 j) 128#32) (BitVec.ofNat 32 r))).toInt
      = ((j : ℤ) - 128 - r).natAbs := by
  have e : IntOp.subi (IntOp.subi (BitVec.ofNat 32 j) 128#32) (BitVec.ofNat 32 r) = BitVec.ofInt 32 ((j : ℤ) - 128 - r) := by
    rw [ofNat_eq_ofInt j, ofNat_eq_ofInt r, show (128#32 : BitVec 32) = BitVec.ofInt 32 128 from rfl]
    show BitVec.ofInt 32 j - BitVec.ofInt 32 128 - BitVec.ofInt 32 r = _
    rw [ofInt_sub, ofInt_sub]
  have t : (BitVec.ofInt 32 ((j : ℤ) - 128 - r)).toInt = (j : ℤ) - 128 - r :=
    BitVec.toInt_ofInt_eq_self (by decide) (by omega) (by omega)
  rw [e]
  show (BitVec.abs _).toInt = _
  rw [BitVec.toInt_abs_eq_natAbs_of_ne_intMin, t]
  intro h; rw [h] at t; have : (BitVec.intMin 32).toInt = -2147483648 := by decide
  omega

/-- A key row's position in the sequence, as the programs compute it. -/
theorem pos_word (n j : ℕ) (hn : n < 64) (hj : j < 384) :
    (IntOp.addi (IntOp.muli (IntOp.subi (BitVec.ofNat 32 n) 1#32) 128#32) (BitVec.ofNat 32 j)).toInt = (128 * n + j : ℤ) - 128 := by
  have e : IntOp.addi (IntOp.muli (IntOp.subi (BitVec.ofNat 32 n) 1#32) 128#32) (BitVec.ofNat 32 j)
      = BitVec.ofInt 32 (((n : ℤ) - 1) * 128 + j) := by
    rw [ofNat_eq_ofInt n, ofNat_eq_ofInt j, show (128#32 : BitVec 32) = BitVec.ofInt 32 128 from rfl,
      show (1#32 : BitVec 32) = BitVec.ofInt 32 1 from rfl]
    show (BitVec.ofInt 32 n - BitVec.ofInt 32 1) * BitVec.ofInt 32 128 + BitVec.ofInt 32 j = _
    rw [ofInt_sub, ← BitVec.ofInt_mul, ← BitVec.ofInt_add]
  rw [e, BitVec.toInt_ofInt_eq_self (by decide) (by omega) (by omega)]; omega

/-- The mask, as the programs compute it, is the window. -/
theorem win_word (n r j : ℕ) (hn : n < 64) (hr : r < 128) (hj : j < 384) :
    IntOp.andi (IntOp.andi
      (IntOp.cmpi .sle (IntOp.absi (IntOp.subi (IntOp.subi (BitVec.ofNat 32 j) 128#32) (BitVec.ofNat 32 r))) 128#32)
      (IntOp.cmpi .sge (IntOp.addi (IntOp.muli (IntOp.subi (BitVec.ofNat 32 n) 1#32) 128#32) (BitVec.ofNat 32 j)) 0#32))
      (IntOp.cmpi .slt (IntOp.addi (IntOp.muli (IntOp.subi (BitVec.ofNat 32 n) 1#32) 128#32) (BitVec.ofNat 32 j)) 8192#32)
    = BitVec.ofBool (decide (win n r j)) := by
  rw [WordCmp.cmpi_sle_eq, WordCmp.cmpi_sge_eq, WordCmp.cmpi_slt_eq, band_word r j hr hj, pos_word n j hn hj,
    show ((128#32 : BitVec 32)).toInt = 128 from rfl, show ((0#32 : BitVec 32)).toInt = 0 from rfl,
    show ((8192#32 : BitVec 32)).toInt = 8192 from rfl]
  show BitVec.ofBool _ &&& BitVec.ofBool _ &&& BitVec.ofBool _ = _
  rw [BitVec.ofBool_and_ofBool, BitVec.ofBool_and_ofBool, ← Bool.decide_and, ← Bool.decide_and]
  congr 1
  refine decide_eq_decide.2 ?_
  unfold win; omega

theorem select_win {α : Type} (n r j : ℕ) (x y : α) :
    Scalar.select (BitVec.ofBool (decide (win n r j))) x y = if win n r j then x else y := by
  by_cases h : win n r j
  · rw [if_pos h, decide_eq_true h]; rfl
  · rw [if_neg h, decide_eq_false h]; rfl

/-! ## One row of probabilities -/

/-- A row of scores, the positions it keeps, and its sink logit. -/
structure Row where
  μ : Fin 384 → Bool
  s : Fin 384 → ℝ
  σ : ℝ

namespace Row

variable (R : Row)

def score (j : Fin 384) : EReal := if R.μ j then (R.s j : EReal) else ⊥
def mx : EReal := Finset.univ.fold max ⊥ R.score
def top : EReal := max R.mx (R.σ : EReal)
def sh : ℝ := R.top.toReal
def E (j : Fin 384) : ℝ := if R.μ j then Real.exp (R.s j - R.sh) else 0
def Es : ℝ := Real.exp (R.σ - R.sh)
def Z : ℝ := ∑ j, R.E j + R.Es
def P (j : Fin 384) : ℝ := R.E j / R.Z
def Ps : ℝ := R.Es / R.Z

theorem top_eq : R.top = (R.sh : EReal) := by
  refine (EReal.coe_toReal ?_ ?_).symm
  · refine ne_of_lt (max_lt ?_ (EReal.coe_lt_top _))
    refine (Finset.fold_max_lt _).2 ⟨bot_lt_top, fun j _ => ?_⟩
    unfold score; split
    · exact EReal.coe_lt_top _
    · exact bot_lt_top
  · exact ne_of_gt (lt_of_lt_of_le (EReal.bot_lt_coe _) (le_max_right _ _))

theorem exp_score (j : Fin 384) : Ideal.exp (R.score j - R.top) = ((R.E j : ℝ) : EReal) := by
  rw [top_eq]; unfold score E
  split
  · rw [← EReal.coe_sub]; rfl
  · simp

theorem exp_sink : Ideal.exp ((R.σ : EReal) - R.top) = ((R.Es : ℝ) : EReal) := by
  rw [top_eq, ← EReal.coe_sub]; rfl

theorem E_nonneg (j : Fin 384) : 0 ≤ R.E j := by unfold E; split <;> positivity

theorem Z_pos : 0 < R.Z :=
  add_pos_of_nonneg_of_pos (Finset.sum_nonneg fun j _ => R.E_nonneg j) (Real.exp_pos _)

theorem Z_ne : R.Z ≠ 0 := R.Z_pos.ne'

theorem P_zero {j : Fin 384} (h : ¬ R.μ j = true) : R.P j = 0 := by simp [P, E, h]

/-! ### The gradient through the row, as it is differentiated line by line -/

variable (D : Fin 384 → ℝ)

def δ : ℝ := ∑ j, R.P j * D j

/-- The gradient reaching the denominator. -/
def gZ : ℝ := -∑ j, D j * (1 / (R.Z * R.Z)) * R.E j

theorem gZ_eq : R.gZ D = -(R.δ D) / R.Z := by
  have hz := R.Z_ne
  unfold gZ δ P
  rw [neg_div, Finset.sum_div]
  congr 1
  refine Finset.sum_congr rfl fun j _ => ?_
  field_simp

theorem gE_eq (j : Fin 384) : (D j * (1 / R.Z) + R.gZ D) * R.E j = R.P j * (D j - R.δ D) := by
  have hz := R.Z_ne
  rw [gZ_eq]; unfold P; field_simp; ring

theorem gEs_eq : R.gZ D * R.Es = -(R.Ps * R.δ D) := by
  have hz := R.Z_ne
  rw [gZ_eq]; unfold Ps; field_simp

theorem sum_P : ∑ j, R.P j + R.Ps = 1 := by
  unfold P Ps
  rw [← Finset.sum_div, ← add_div]; exact div_self R.Z_ne

/-- No gradient is left for the subtracted maximum. -/
theorem gTop_eq : -(R.gZ D * R.Es) + ∑ j, -((D j * (1 / R.Z) + R.gZ D) * R.E j) = 0 := by
  simp only [gE_eq, gEs_eq, mul_sub, Finset.sum_neg_distrib, Finset.sum_sub_distrib]
  rw [← Finset.sum_mul]
  have h := R.sum_P
  have : ∑ j, R.P j * D j = R.δ D := rfl
  rw [this, show ∑ j, R.P j = 1 - R.Ps by linarith]; ring

end Row

theorem Row.ext_score {R R' : Row} (hμ : R.μ = R'.μ) (hσ : R.σ = R'.σ) (hs : ∀ j, R.μ j = true → R.s j = R'.s j) :
    R.P = R'.P ∧ R.Ps = R'.Ps := by
  have h1 : R.score = R'.score := by
    funext j; unfold Row.score; rw [← hμ]; split
    · next h => rw [hs j h]
    · rfl
  have h2 : R.top = R'.top := by unfold Row.top Row.mx; rw [h1, hσ]
  have h3 : R.sh = R'.sh := by unfold Row.sh; rw [h2]
  have h4 : R.E = R'.E := by
    funext j; unfold Row.E; rw [← hμ, ← h3]; split
    · next h => rw [hs j h]
    · rfl
  have h5 : R.Es = R'.Es := by unfold Row.Es; rw [hσ, h3]
  have h6 : R.Z = R'.Z := by unfold Row.Z; rw [h4, h5]
  exact ⟨by funext j; unfold Row.P; rw [h4, h6], by unfold Row.Ps; rw [h5, h6]⟩

/-! ## One block of queries of one key/value head

Row `128 g + r` of the 512 is row `r` of query head `g` of the group. -/

structure Head where
  n : ℕ
  q : Fin 512 → Fin 128 → ℝ
  o : Fin 512 → Fin 128 → ℝ
  k : Fin 384 → Fin 128 → ℝ
  v : Fin 384 → Fin 128 → ℝ
  s : Fin 4 → ℝ

namespace Head

variable (H : Head)

/-- The row's scores, mask and sink. -/
def row (R : Fin 512) : Row where
  μ j := decide (win H.n (R.val % 128) j.val)
  s j := (∑ d, H.q R d * H.k j d) * cS
  σ := H.s ⟨R.val / 128, by omega⟩

def D (R : Fin 512) (j : Fin 384) : ℝ := ∑ d, H.o R d * H.v j d
def δ (R : Fin 512) : ℝ := (H.row R).δ (H.D R)
def ds (R : Fin 512) (j : Fin 384) : ℝ := (H.row R).P j * (H.D R j - H.δ R) * cS
def dq (R : Fin 512) (d : Fin 128) : ℝ := ∑ j, H.ds R j * H.k j d
def dk (j : Fin 384) (d : Fin 128) : ℝ := ∑ R, H.ds R j * H.q R d
def dv (j : Fin 384) (d : Fin 128) : ℝ := ∑ R, (H.row R).P j * H.o R d
/-- Row `r` of query head `g`. -/
abbrev at' (g : Fin 4) (r : Fin 128) : Fin 512 := ⟨128 * g.val + r.val, by omega⟩
def dsk (g : Fin 4) : ℝ := -∑ r : Fin 128, (H.row (at' g r)).Ps * H.δ (at' g r)

/-- Key rows outside the sequence do not matter. -/
theorem agree {H H' : Head} (hn : H.n = H'.n) (hq : H.q = H'.q) (ho : H.o = H'.o) (hs : H.s = H'.s)
    (hk : ∀ j : Fin 384, 128 ≤ 128 * H.n + j.val → 128 * H.n + j.val < 8320 → H.k j = H'.k j)
    (hv : ∀ j : Fin 384, 128 ≤ 128 * H.n + j.val → 128 * H.n + j.val < 8320 → H.v j = H'.v j) :
    H.dq = H'.dq ∧ H.dk = H'.dk ∧ H.dv = H'.dv ∧ H.dsk = H'.dsk := by
  have hR : ∀ R, (H.row R).P = (H'.row R).P ∧ (H.row R).Ps = (H'.row R).Ps := fun R => by
    refine Row.ext_score ?_ ?_ ?_
    · funext j; simp only [row, hn]
    · simp only [row, hs]
    · intro j hj
      simp only [row, decide_eq_true_eq] at hj ⊢
      rw [hq, hk j hj.2.2.1 hj.2.2.2]
  have hz : ∀ R j, ¬ (128 ≤ 128 * H.n + j.val ∧ 128 * H.n + j.val < 8320) → (H.row R).P j = 0 := fun R j h => by
    refine Row.P_zero _ ?_
    simp only [row, decide_eq_true_eq]
    exact fun h' => h ⟨h'.2.2.1, h'.2.2.2⟩
  have hD : ∀ R j, (H.row R).P j * H.D R j = (H'.row R).P j * H'.D R j := fun R j => by
    by_cases h : 128 ≤ 128 * H.n + j.val ∧ 128 * H.n + j.val < 8320
    · rw [(hR R).1]; unfold D; rw [ho, hv j h.1 h.2]
    · rw [← (hR R).1, hz R j h, zero_mul, zero_mul]
  have hδ : ∀ R, H.δ R = H'.δ R := fun R => by
    unfold δ Row.δ; exact Finset.sum_congr rfl fun j _ => hD R j
  have hds : ∀ R j, H.ds R j = H'.ds R j := fun R j => by
    unfold ds; rw [mul_sub, mul_sub, hD, hδ, (hR R).1]
  refine ⟨?_, ?_, ?_, ?_⟩
  · funext R d
    refine Finset.sum_congr rfl fun j _ => ?_
    by_cases h : 128 ≤ 128 * H.n + j.val ∧ 128 * H.n + j.val < 8320
    · rw [hds, hk j h.1 h.2]
    · rw [← hds]; unfold ds; rw [hz R j h]; simp
  · funext j d; exact Finset.sum_congr rfl fun R _ => by rw [hds, hq]
  · funext j d; exact Finset.sum_congr rfl fun R _ => by rw [(hR R).1, ho]
  · funext g; unfold dsk; simp only [hδ, (hR _).2]

end Head

/-! ## Overlapping blocks -/

/-- Blocks of 384 rows laid 128 apart and added up: three of them meet at a row. -/
theorem sum_overlap (f : ℕ → ℕ → ℝ) (a r : ℕ) (hr : r < 128) :
    (∑ n ∈ Finset.range 64, if 128 * n ≤ 128 * a + r ∧ 128 * a + r < 128 * n + 384 then f n (128 * a + r - 128 * n) else 0)
      = (if 2 ≤ a ∧ a < 66 then f (a - 2) (256 + r) else 0) + (if 1 ≤ a ∧ a < 65 then f (a - 1) (128 + r) else 0)
        + (if a < 64 then f a r else 0) := by
  have h : ∀ n, (if 128 * n ≤ 128 * a + r ∧ 128 * a + r < 128 * n + 384 then f n (128 * a + r - 128 * n) else 0)
      = (if n = a - 2 ∧ 2 ≤ a then f n (256 + r) else 0) + (if n = a - 1 ∧ 1 ≤ a then f n (128 + r) else 0)
        + (if n = a then f n r else 0) := fun n => by
    by_cases h0 : n = a
    · subst h0
      rw [if_pos (by omega), if_neg (by omega), if_neg (by omega), if_pos rfl, show 128 * n + r - 128 * n = r by omega]
      simp
    by_cases h1 : n + 1 = a
    · subst h1
      rw [if_pos (by omega), if_neg (by omega), if_pos (by omega), if_neg (by omega),
        show 128 * (n + 1) + r - 128 * n = 128 + r by omega]
      simp
    by_cases h2 : n + 2 = a
    · subst h2
      rw [if_pos (by omega), if_pos (by omega), if_neg (by omega), if_neg (by omega),
        show 128 * (n + 2) + r - 128 * n = 256 + r by omega]
      simp
    rw [if_neg (by omega), if_neg (by omega), if_neg (by omega), if_neg (by omega)]
    simp
  rw [Finset.sum_congr rfl fun n _ => h n, Finset.sum_add_distrib, Finset.sum_add_distrib]
  congr 1
  · congr 1
    · by_cases ha : 2 ≤ a
      · simp only [ha, and_true, true_and, Finset.sum_ite_eq', Finset.mem_range]
        exact if_congr (by omega) rfl rfl
      · simp [ha]
    · by_cases ha : 1 ≤ a
      · simp only [ha, and_true, true_and, Finset.sum_ite_eq', Finset.mem_range]
        exact if_congr (by omega) rfl rfl
      · simp [ha]
  · simp only [Finset.sum_ite_eq', Finset.mem_range]

end Cert.Attn
end
-- ==== Proof.KHead.lean ====
module

public import proofs.«01_k».proof.Proof.Head
public import proofs.«01_k».proof.Proof.Spec
public import Idealize.ShloMosaic.Lib.WordCmp

@[expose] public section

set_option maxRecDepth 16384

noncomputable section

namespace Cert.KernelIdeal.Attn

open Idealize.ShloMosaic Idealize.ShloMosaic.TcCoe Idealize.ShloMosaic.ValueIdx
open Cert.KernelIdeal.Gen

theorem mm_nt (x : FVec Ideal S512x128 .bf16) (y : FVec Ideal S384x128 .bf16) (R : Fin 512) (j : Fin 384) :
    matmul dot_S512x128_S384x128_S512x384_1_1_0_0_n_n none x y (constant S512x384 .f32 0x00000000#32) (ix2 R j)
      = ∑ d : Fin 128, x (ix2 R d) * y (ix2 j d) := by
  simp only [matmul]
  rw [Ideal.matmul_constant_zero_apply,
    ← Equiv.sum_comp (contrEquiv1 dot_S512x128_S384x128_S512x384_1_1_0_0_n_n 128 rfl rfl).symm]
  refine Finset.sum_congr rfl fun d _ => ?_
  congr 2 <;> · funext a; fin_cases a <;> rfl

theorem mm_nn (x : FVec Ideal S512x384 .bf16) (y : FVec Ideal S384x128 .bf16) (R : Fin 512) (d : Fin 128) :
    matmul dot_S512x384_S384x128_S512x128_1_0_0_1_n_n none x y (constant S512x128 .f32 0x00000000#32) (ix2 R d)
      = ∑ j : Fin 384, x (ix2 R j) * y (ix2 j d) := by
  simp only [matmul]
  rw [Ideal.matmul_constant_zero_apply,
    ← Equiv.sum_comp (contrEquiv1 dot_S512x384_S384x128_S512x128_1_0_0_1_n_n 384 rfl rfl).symm]
  refine Finset.sum_congr rfl fun d _ => ?_
  congr 2 <;> · funext a; fin_cases a <;> rfl

theorem mm_tn (x : FVec Ideal S512x384 .bf16) (y : FVec Ideal S512x128 .bf16) (j : Fin 384) (d : Fin 128) :
    matmul dot_S512x384_S512x128_S384x128_0_0_1_1_n_n none x y (constant S384x128 .f32 0x00000000#32) (ix2 j d)
      = ∑ R : Fin 512, x (ix2 R j) * y (ix2 R d) := by
  simp only [matmul]
  rw [Ideal.matmul_constant_zero_apply,
    ← Equiv.sum_comp (contrEquiv1 dot_S512x384_S512x128_S384x128_0_0_1_1_n_n 512 rfl rfl).symm]
  refine Finset.sum_congr rfl fun d _ => ?_
  congr 2 <;> · funext a; fin_cases a <;> rfl

theorem cat4 {α : Type} (a : Fin 4 → S128x128.Idx → α)
    (h) (g : Fin 4) (r d : Fin 128) :
    concatenate S512x128 0 [⟨S128x128, a 0⟩, ⟨S128x128, a 1⟩, ⟨S128x128, a 2⟩, ⟨S128x128, a 3⟩] h
      (ix2 (Cert.Attn.Head.at' g r) d) = a g (ix2 r d) := by
  have key := concatenate_apply_piece (0 : Fin S512x128.rank)
    [⟨S128x128, a 0⟩, ⟨S128x128, a 1⟩, ⟨S128x128, a 2⟩, ⟨S128x128, a 3⟩] h (ix2 (Cert.Attn.Head.at' g r) d)
    g.val g.isLt S128x128 (a g) (by fin_cases g <;> rfl) rfl (128 * g.val) (by fin_cases g <;> rfl) (ix2 r d)
    (by intro b hb; fin_cases b
        · exact absurd rfl hb
        · rfl) rfl
  exact key

theorem cat4c {α : Type} (a : Fin 4 → S128x1.Idx → α)
    (h) (g : Fin 4) (r : Fin 128) (z : Fin 1) :
    concatenate S512x1 0 [⟨S128x1, a 0⟩, ⟨S128x1, a 1⟩, ⟨S128x1, a 2⟩, ⟨S128x1, a 3⟩] h
      (ix2 (Cert.Attn.Head.at' g r) z) = a g (ix2 r z) := by
  have key := concatenate_apply_piece (0 : Fin S512x1.rank)
    [⟨S128x1, a 0⟩, ⟨S128x1, a 1⟩, ⟨S128x1, a 2⟩, ⟨S128x1, a 3⟩] h (ix2 (Cert.Attn.Head.at' g r) z)
    g.val g.isLt S128x1 (a g) (by fin_cases g <;> rfl) rfl (128 * g.val) (by fin_cases g <;> rfl) (ix2 r z)
    (by intro b hb; fin_cases b
        · exact absurd rfl hb
        · rfl) rfl
  exact key

theorem cat3 {α : Type} (a : Fin 3 → S128x128.Idx → α)
    (h) (t : Fin 3) (r d : Fin 128) :
    concatenate S384x128 0 [⟨S128x128, a 0⟩, ⟨S128x128, a 1⟩, ⟨S128x128, a 2⟩] h
      (ix2 ⟨128 * t.val + r.val, by omega⟩ d) = a t (ix2 r d) := by
  have key := concatenate_apply_piece (0 : Fin S384x128.rank)
    [⟨S128x128, a 0⟩, ⟨S128x128, a 1⟩, ⟨S128x128, a 2⟩] h (ix2 ⟨128 * t.val + r.val, by omega⟩ d)
    t.val t.isLt S128x128 (a t) (by fin_cases t <;> rfl) rfl (128 * t.val) (by fin_cases t <;> rfl) (ix2 r d)
    (by intro b hb; fin_cases b
        · exact absurd rfl hb
        · rfl) rfl
  exact key

theorem col1 (x : FVec Ideal S512 .f32) (R : Fin 512) (z : Fin 1) :
    shapeCast S512x1 x shapeCasts_S512_S512x1 (ix2 R z) = x (ix1 R) :=
  shapeCast_apply x shapeCasts_S512_S512x1 (ix2 R z) (ix1 R)
    (by rw [Shape.rowMajor_val_one, Shape.rowMajor_val_two]; have := z.isLt; show R.val = R.val * 1 + z.val; omega)

theorem bcol (x : FVec Ideal S512x1 .f32) (R : Fin 512) (j : Fin 384) :
    broadcastTo S512x384 x broadcasts_S512x1_S512x384 (ix2 R j) = x (ix2 R 0) :=
  broadcastTo_apply x _ _ _ (by intro a; fin_cases a <;> rfl)

theorem rsum384 (x : FVec Ideal S512x384 .f32) (R : Fin 512) :
    multiReduction .add [1] S512 x 0x00000000#32 reduces_S512x384_S512 (.inl rfl) rfl (ix1 R)
      = ∑ j : Fin 384, x (ix2 R j) := by
  refine (Ideal.multiReduction_add_single _ _ _ _ _ _).trans ?_
  refine Finset.sum_congr rfl fun k _ => congrArg x ?_
  funext a; fin_cases a <;> rfl

theorem rsum128 (x : FVec Ideal S512x128 .f32) (R : Fin 512) :
    multiReduction .add [1] S512 x 0x00000000#32 reduces_S512x128_S512 (.inl rfl) rfl (ix1 R)
      = ∑ d : Fin 128, x (ix2 R d) := by
  refine (Ideal.multiReduction_add_single _ _ _ _ _ _).trans ?_
  refine Finset.sum_congr rfl fun k _ => congrArg x ?_
  funext a; fin_cases a <;> rfl

theorem rmax (x : FVec Ideal S512x384 .f32) (R : Fin 512) :
    multiReduction .maximumf [1] S512 x 0xFF800000#32 reduces_S512x384_S512 (.inl rfl) rfl (ix1 R)
      = Finset.univ.fold max ⊥ (fun j : Fin 384 => x (ix2 R j)) := by
  refine (Ideal.multiReduction_maximumf_single _ _ _ _ _ _).trans ?_
  rw [Ideal.ofBits_def, Cert.Attn.ofBits_ninf]
  refine congrArg (Finset.fold max ⊥ · Finset.univ) ?_
  funext k; refine congrArg x ?_
  funext a; fin_cases a <;> rfl

theorem csum128 (x : FVec Ideal S128x1 .f32) (z : Fin 1) :
    multiReduction .add [0] S1 x 0x00000000#32 reduces_S128x1_S1 (.inl rfl) rfl (ix1 z)
      = ∑ r : Fin 128, x (ix2 r z) := by
  refine (Ideal.multiReduction_add_single _ _ _ _ _ _).trans ?_
  refine Finset.sum_congr rfl fun k _ => congrArg x ?_
  funext a; fin_cases a <;> rfl

/-! ## The mask -/

/-- The row number within its query head, as the program computes it. -/
theorem row_word (R : Fin 512) (j : Fin 384) :
    select k0_pay9 (addi k0_pay8 k0_pay10) k0_pay8 (ix2 R j) = BitVec.ofNat 32 (R.val % 128) := by
  have h : ∀ R : Fin 512,
      Scalar.select (IntOp.andi (IntOp.xori (IntOp.cmpi .slt (IntOp.remsi .vector (BitVec.ofNat 32 R.val) 128#32) 0#32)
          (IntOp.cmpi .slt 128#32 0#32)) (IntOp.cmpi .ne (IntOp.remsi .vector (BitVec.ofNat 32 R.val) 128#32) 0#32))
        (IntOp.addi (IntOp.remsi .vector (BitVec.ofNat 32 R.val) 128#32) 128#32)
        (IntOp.remsi .vector (BitVec.ofNat 32 R.val) 128#32)
      = BitVec.ofNat 32 (R.val % 128) := by decide +kernel
  have e8 : k0_pay8 (ix2 R j) = IntOp.remsi .vector (BitVec.ofNat 32 R.val) 128#32 := by
    unfold k0_pay8
    show IntOp.remsi .vector (iota .tc S512x384 32 [0] iota_S512x384_d0_w32 (ix2 R j)) _ = _
    rw [iota_single_apply]; rfl
  have e9 : k0_pay9 (ix2 R j) = IntOp.andi (IntOp.xori (IntOp.cmpi .slt (k0_pay8 (ix2 R j)) 0#32)
      (IntOp.cmpi .slt 128#32 0#32)) (IntOp.cmpi .ne (k0_pay8 (ix2 R j)) 0#32) := rfl
  show Scalar.select (k0_pay9 (ix2 R j)) (IntOp.addi (k0_pay8 (ix2 R j)) 128#32) (k0_pay8 (ix2 R j)) = _
  rw [e9, e8]; exact h R

theorem mask_at (n : ℕ) (hn : n < 64) (x : FVec Ideal S512x384 .f32) (R : Fin 512) (j : Fin 384) :
    k0_pay11 (BitVec.ofNat 32 n) x k0_pay8 k0_pay9 k0_pay10 (ix2 R j)
      = if Cert.Attn.win n (R.val % 128) j.val then x (ix2 R j) else ⊥ := by
  have hi : iota .tc S512x384 32 [1] iota_S512x384_d1_w32 (ix2 R j) = BitVec.ofNat 32 j.val := by
    rw [iota_single_apply]
  refine Eq.trans (b := Scalar.select (IntOp.andi (IntOp.andi
      (IntOp.cmpi .sle (IntOp.absi (IntOp.subi (IntOp.subi (iota .tc S512x384 32 [1] iota_S512x384_d1_w32 (ix2 R j)) 128#32)
        (select k0_pay9 (addi k0_pay8 k0_pay10) k0_pay8 (ix2 R j)))) 128#32)
      (IntOp.cmpi .sge (IntOp.addi (IntOp.muli (IntOp.subi (BitVec.ofNat 32 n) 1#32) 128#32)
        (iota .tc S512x384 32 [1] iota_S512x384_d1_w32 (ix2 R j))) 0#32))
      (IntOp.cmpi .slt (IntOp.addi (IntOp.muli (IntOp.subi (BitVec.ofNat 32 n) 1#32) 128#32)
        (iota .tc S512x384 32 [1] iota_S512x384_d1_w32 (ix2 R j))) 8192#32)) (x (ix2 R j)) (Ideal.ofBits .f32 0xFF800000#32))
    rfl ?_
  rw [hi, row_word, Cert.Attn.win_word n _ _ hn (by omega) j.isLt, Cert.Attn.select_win, Cert.Attn.ofBits_ninf]

/-! ## The rows of probabilities -/

open Cert.Attn (Row Head)

section Rows
variable {ρ : Fin 512 → Row} {S : FVec Ideal S512x384 .f32} {K M : FVec Ideal S512x1 .f32}
  (hS : ∀ R j, S (ix2 R j) = (ρ R).score j) (hK : ∀ R z, K (ix2 R z) = (((ρ R).σ : ℝ) : EReal))
  (hM : ∀ R z, M (ix2 R z) = (ρ R).mx)
include hK hM

theorem pay14_at (R : Fin 512) (z : Fin 1) : k0_pay14 K M (ix2 R z) = (ρ R).top := by
  show max (M (ix2 R z)) (K (ix2 R z)) = _
  rw [hM, hK]; rfl

theorem pay16_at (R : Fin 512) (z : Fin 1) : k0_pay16 K M (ix2 R z) = (((ρ R).Es : ℝ) : EReal) := by
  show Ideal.exp (K (ix2 R z) - k0_pay14 K M (ix2 R z)) = _
  rw [pay14_at hK hM, hK, Row.exp_sink]

include hS

theorem pay15_at (R : Fin 512) (j : Fin 384) : k0_pay15 S K M (ix2 R j) = (((ρ R).E j : ℝ) : EReal) := by
  show Ideal.exp (S (ix2 R j) - broadcastTo S512x384 (k0_pay14 K M) broadcasts_S512x1_S512x384 (ix2 R j)) = _
  rw [bcol, pay14_at hK hM, hS, Row.exp_score]

theorem pay17_at (R : Fin 512) (z : Fin 1) : k0_pay17 S K M (ix2 R z) = ((1 / (ρ R).Z : ℝ) : EReal) := by
  show Ideal.div (Ideal.ofBits .f32 0x3F800000#32)
    (shapeCast S512x1 (multiReduction .add [1] S512 (k0_pay15 S K M) 0x00000000#32 reduces_S512x384_S512 (.inl rfl) rfl)
      shapeCasts_S512_S512x1 (ix2 R z) + k0_pay16 K M (ix2 R z)) = _
  rw [col1, rsum384, pay16_at hK hM, Cert.Attn.sum_coe_of _ _ (fun j => pay15_at hS hK hM R j), ← EReal.coe_add,
    Ideal.ofBits_one_f32]
  show Ideal.div 1 (((ρ R).Z : ℝ) : EReal) = _
  rw [Ideal.div_coe (ρ R).Z_ne, one_mul]

theorem pay18_at (R : Fin 512) (j : Fin 384) : k0_pay18 S K M (ix2 R j) = (((ρ R).P j : ℝ) : EReal) := by
  show k0_pay15 S K M (ix2 R j) * broadcastTo S512x384 (k0_pay17 S K M) broadcasts_S512x1_S512x384 (ix2 R j) = _
  rw [bcol, pay17_at hS hK hM, pay15_at hS hK hM, ← EReal.coe_mul, mul_one_div]; rfl

theorem pay19_at (R : Fin 512) (z : Fin 1) : k0_pay19 S K M (ix2 R z) = (((ρ R).Ps : ℝ) : EReal) := by
  show k0_pay16 K M (ix2 R z) * k0_pay17 S K M (ix2 R z) = _
  rw [pay17_at hS hK hM, pay16_at hK hM, ← EReal.coe_mul, mul_one_div]; rfl

end Rows

/-! ## One head, from what it loads -/

/-- The loaded blocks are the head's. -/
structure Loads (H : Head) (a : Fin 4 → Vec Ideal S128x128 .bf16) (b v : Fin 3 → Vec Ideal S128x128 .bf16)
    (w : Fin 4 → Vec Ideal S1x1x1 .f32) (o : Fin 4 → Vec Ideal S128x128 .f32) : Prop where
  n : H.n < 64
  a g r d : a g (ix2 r d) = ((H.q (Head.at' g r) d : ℝ) : EReal)
  b t r d : b t (ix2 r d) = ((H.k ⟨128 * t.val + r.val, by have := t.isLt; have := r.isLt; omega⟩ d : ℝ) : EReal)
  v t r d : v t (ix2 r d) = ((H.v ⟨128 * t.val + r.val, by have := t.isLt; have := r.isLt; omega⟩ d : ℝ) : EReal)
  w g : w g (ix3 0 0 0) = ((H.s g : ℝ) : EReal)
  o g r d : o g (ix2 r d) = ((H.o (Head.at' g r) d : ℝ) : EReal)

theorem row_split (R : Fin 512) : ∃ g r, R = Head.at' g r :=
  ⟨⟨R.val / 128, by omega⟩, ⟨R.val % 128, by omega⟩, Fin.ext (by show R.val = 128 * (R.val / 128) + R.val % 128; omega)⟩

theorem key_split (j : Fin 384) : ∃ (t : Fin 3) (r : Fin 128), j = ⟨128 * t.val + r.val, by omega⟩ :=
  ⟨⟨j.val / 128, by omega⟩, ⟨j.val % 128, by omega⟩, Fin.ext (by show j.val = 128 * (j.val / 128) + j.val % 128; omega)⟩

section Vals
variable {H : Head} {a : Fin 4 → Vec Ideal S128x128 .bf16} {b v : Fin 3 → Vec Ideal S128x128 .bf16}
  {w : Fin 4 → Vec Ideal S1x1x1 .f32} {o : Fin 4 → Vec Ideal S128x128 .f32} (L : Loads H a b v w o)
include L

theorem q_at (R : Fin 512) (d : Fin 128) : k0_pay5 (a 0) (a 1) (a 2) (a 3) (ix2 R d) = ((H.q R d : ℝ) : EReal) := by
  obtain ⟨g, r, rfl⟩ := row_split R
  exact (cat4 a concatenates_S128x128_S128x128_S128x128_S128x128_S512x128_d0 g r d).trans (L.a g r d)

theorem o_at (R : Fin 512) (d : Fin 128) : k0_pay21 (o 0) (o 1) (o 2) (o 3) (ix2 R d) = ((H.o R d : ℝ) : EReal) := by
  obtain ⟨g, r, rfl⟩ := row_split R
  exact (cat4 o concatenates_S128x128_S128x128_S128x128_S128x128_S512x128_d0 g r d).trans (L.o g r d)

theorem k_at (j : Fin 384) (d : Fin 128) : k0_pay6 (b 0) (b 1) (b 2) (ix2 j d) = ((H.k j d : ℝ) : EReal) := by
  obtain ⟨t, r, rfl⟩ := key_split j
  exact (cat3 b concatenates_S128x128_S128x128_S128x128_S384x128_d0 t r d).trans (L.b t r d)

theorem v_at (j : Fin 384) (d : Fin 128) : k0_pay20 (v 0) (v 1) (v 2) (ix2 j d) = ((H.v j d : ℝ) : EReal) := by
  obtain ⟨t, r, rfl⟩ := key_split j
  exact (cat3 v concatenates_S128x128_S128x128_S128x128_S384x128_d0 t r d).trans (L.v t r d)

theorem s_at (R : Fin 512) (j : Fin 384) :
    k0_pay7 (a 0) (a 1) (a 2) (a 3) (b 0) (b 1) (b 2) (ix2 R j) = (((H.row R).s j : ℝ) : EReal) := by
  show matmul dot_S512x128_S384x128_S512x384_1_1_0_0_n_n none (k0_pay5 (a 0) (a 1) (a 2) (a 3)) (k0_pay6 (b 0) (b 1) (b 2))
    (constant S512x384 .f32 0x00000000#32) (ix2 R j) * Ideal.ofBits .f32 0x3DB504F3#32 = _
  rw [mm_nt, Cert.Attn.ofBits_cS, Cert.Attn.sum_coe_of _ (fun d => H.q R d * H.k j d) (fun d => by
    rw [q_at L, k_at L, EReal.coe_mul]), ← EReal.coe_mul]
  rfl

theorem hS_at (R : Fin 512) (j : Fin 384) : hS (BitVec.ofNat 32 H.n) a b (ix2 R j) = (H.row R).score j := by
  unfold hS
  rw [mask_at _ L.n, s_at L]
  unfold Row.score
  simp only [Head.row, decide_eq_true_eq]

theorem hM_at (R : Fin 512) (z : Fin 1) : hM (BitVec.ofNat 32 H.n) a b (ix2 R z) = (H.row R).mx := by
  refine (col1 (multiReduction .maximumf [1] S512 (hS (BitVec.ofNat 32 H.n) a b) 0xFF800000#32 reduces_S512x384_S512 (.inl rfl) rfl)
    R z).trans ?_
  rw [rmax]
  exact congrArg (Finset.fold max ⊥ · Finset.univ) (funext fun j => hS_at L R j)

theorem hK_at (R : Fin 512) (z : Fin 1) : hK w (ix2 R z) = (((H.row R).σ : ℝ) : EReal) := by
  obtain ⟨g, r, rfl⟩ := row_split R
  refine (cat4c (fun g => broadcastTo S128x1 (shapeCast S1x1 (shapeCast S1x1 (w g) shapeCasts_S1x1x1_S1x1) shapeCasts_S1x1_S1x1)
    broadcasts_S1x1_S128x1) concatenates_S128x1_S128x1_S128x1_S128x1_S512x1_d0 g r z).trans ?_
  have e : (H.row (Head.at' g r)).σ = H.s g := by
    show H.s _ = _
    congr 1; refine Fin.ext ?_; show (128 * g.val + r.val) / 128 = g.val; omega
  rw [broadcastTo_apply _ _ _ (ix2 0 0) (by intro a; fin_cases a <;> rfl), shapeCast_self,
    shapeCast_apply (w g) shapeCasts_S1x1x1_S1x1 (ix2 0 0) (ix3 0 0 0) (by decide), L.w, e]

theorem hP_at (R : Fin 512) (j : Fin 384) : hP (BitVec.ofNat 32 H.n) a b w (ix2 R j) = (((H.row R).P j : ℝ) : EReal) :=
  pay18_at (hS_at L) (hK_at L) (hM_at L) R j

theorem hPs_at (R : Fin 512) (z : Fin 1) : hPs (BitVec.ofNat 32 H.n) a b w (ix2 R z) = (((H.row R).Ps : ℝ) : EReal) :=
  pay19_at (hS_at L) (hK_at L) (hM_at L) R z

theorem hDel_at (R : Fin 512) (z : Fin 1) : hDel (BitVec.ofNat 32 H.n) a b v w o (ix2 R z) = ((H.δ R : ℝ) : EReal) := by
  refine (col1 (multiReduction .add [1] S512 (mulf (k0_pay21 (o 0) (o 1) (o 2) (o 3))
    (matmul dot_S512x384_S384x128_S512x128_1_0_0_1_n_n none (truncf .bf16 (hP (BitVec.ofNat 32 H.n) a b w) bitsLt_bf16_f32)
      (k0_pay20 (v 0) (v 1) (v 2)) (constant S512x128 .f32 0x00000000#32))) 0x00000000#32 reduces_S512x128_S512 (.inl rfl) rfl)
    R z).trans ?_
  rw [rsum128, Cert.Attn.sum_coe_of _ (fun d => H.o R d * ∑ j, (H.row R).P j * H.v j d) (fun d => by
    rw [mulf_apply, o_at L, mm_nn, Cert.Attn.sum_coe_of _ (fun j => (H.row R).P j * H.v j d) (fun j => by
      rw [v_at L]; show hP _ a b w (ix2 R j) * _ = _; rw [hP_at L, EReal.coe_mul]), EReal.coe_mul])]
  congr 1
  unfold Head.δ Row.δ Head.D
  simp only [Finset.mul_sum]
  rw [Finset.sum_comm]
  exact Finset.sum_congr rfl fun j _ => Finset.sum_congr rfl fun d _ => by ring

theorem hDs_at (R : Fin 512) (j : Fin 384) : hDs (BitVec.ofNat 32 H.n) a b v w o (ix2 R j) = ((H.ds R j : ℝ) : EReal) := by
  show hP (BitVec.ofNat 32 H.n) a b w (ix2 R j)
    * (matmul dot_S512x128_S384x128_S512x384_1_1_0_0_n_n none (truncf .bf16 (k0_pay21 (o 0) (o 1) (o 2) (o 3)) bitsLt_bf16_f32)
        (k0_pay20 (v 0) (v 1) (v 2)) (constant S512x384 .f32 0x00000000#32) (ix2 R j)
      - broadcastTo S512x384 (hDel (BitVec.ofNat 32 H.n) a b v w o) broadcasts_S512x1_S512x384 (ix2 R j))
    * Ideal.ofBits .f32 0x3DB504F3#32 = _
  rw [mm_nt, bcol, hDel_at L, hP_at L, Cert.Attn.ofBits_cS, Cert.Attn.sum_coe_of _ (fun d => H.o R d * H.v j d) (fun d => by
    rw [v_at L, EReal.coe_mul]; show k0_pay21 (o 0) (o 1) (o 2) (o 3) (ix2 R d) * _ = _; rw [o_at L]),
    ← EReal.coe_sub, ← EReal.coe_mul, ← EReal.coe_mul]
  rfl

theorem hDq_at (R : Fin 512) (d : Fin 128) : hDq (BitVec.ofNat 32 H.n) a b v w o (ix2 R d) = ((H.dq R d : ℝ) : EReal) := by
  refine (mm_nn (hDs (BitVec.ofNat 32 H.n) a b v w o) (k0_pay6 (b 0) (b 1) (b 2)) R d).trans ?_
  exact Cert.Attn.sum_coe_of _ _ fun j => by rw [hDs_at L, k_at L, EReal.coe_mul]

theorem hDk_at (j : Fin 384) (d : Fin 128) : hDk (BitVec.ofNat 32 H.n) a b v w o (ix2 j d) = ((H.dk j d : ℝ) : EReal) := by
  refine (mm_tn (hDs (BitVec.ofNat 32 H.n) a b v w o) (k0_pay5 (a 0) (a 1) (a 2) (a 3)) j d).trans ?_
  exact Cert.Attn.sum_coe_of _ _ fun R => by rw [hDs_at L, q_at L, EReal.coe_mul]

theorem hDv_at (j : Fin 384) (d : Fin 128) : hDv (BitVec.ofNat 32 H.n) a b w o (ix2 j d) = ((H.dv j d : ℝ) : EReal) := by
  refine (mm_tn (truncf .bf16 (hP (BitVec.ofNat 32 H.n) a b w) bitsLt_bf16_f32)
    (truncf .bf16 (k0_pay21 (o 0) (o 1) (o 2) (o 3)) bitsLt_bf16_f32) j d).trans ?_
  refine Cert.Attn.sum_coe_of _ _ fun R => ?_
  show hP _ a b w (ix2 R j) * k0_pay21 (o 0) (o 1) (o 2) (o 3) (ix2 R d) = _
  rw [hP_at L, o_at L, EReal.coe_mul]

omit L in
theorem sk_term (c : ℕ) (g : Fin 4) (hc : c = 128 * g.val) (h : S512x1.Slices ![c, 0] S128x1) (x y : FVec Ideal S512x1 .f32)
    (p e : Fin 512 → ℝ) (hx : ∀ R z, x (ix2 R z) = ((p R : ℝ) : EReal)) (hy : ∀ R z, y (ix2 R z) = ((e R : ℝ) : EReal))
    (i : Fin 8) (l : Fin 128) :
    select (cmpi .eq (iota .tc S8x128 32 [1] iota_S8x128_d1_w32) (broadcast S8x128 (BitVec.ofNat 32 g.val)))
      (broadcastTo S8x128 (shapeCast S1x1 (subf (broadcast S1x1 (Scalar.ofBits (F := Ideal) .f32 0x00000000#32)) (shapeCast S1x1
        (multiReduction .add [0] S1 (mulf (extractStridedSlice S128x1 ![c, 0] x h) (extractStridedSlice S128x1 ![c, 0] y h))
          0x00000000#32 reduces_S128x1_S1 (.inl rfl) rfl) shapeCasts_S1_S1x1)) shapeCasts_S1x1_S1x1) broadcasts_S1x1_S8x128)
      (broadcast S8x128 (Scalar.ofBits (F := Ideal) .f32 0x00000000#32)) (ix2 i l)
    = (((if l.val = g.val then -∑ r : Fin 128, p (Head.at' g r) * e (Head.at' g r) else 0) : ℝ) : EReal) := by
  have hcmp : cmpi .eq (iota .tc S8x128 32 [1] iota_S8x128_d1_w32) (broadcast S8x128 (BitVec.ofNat 32 g.val)) (ix2 i l)
      = BitVec.ofBool (decide (l.val = g.val)) := by
    show IntOp.cmpi .eq (iota .tc S8x128 32 [1] iota_S8x128_d1_w32 (ix2 i l)) (BitVec.ofNat 32 g.val) = _
    rw [iota_single_apply, WordCmp.cmpi_eq_eq]
    refine congrArg BitVec.ofBool (decide_eq_decide.2 ?_)
    show BitVec.ofNat 32 l.val = BitVec.ofNat 32 g.val ↔ _
    have h1 := l.isLt; have h2 := g.isLt
    constructor
    · intro h; have := congrArg BitVec.toNat h; simp only [BitVec.toNat_ofNat] at this; omega
    · intro h; rw [h]
  have hval : shapeCast S1x1 (multiReduction .add [0] S1 (mulf (extractStridedSlice S128x1 ![c, 0] x h)
      (extractStridedSlice S128x1 ![c, 0] y h)) 0x00000000#32 reduces_S128x1_S1 (.inl rfl) rfl) shapeCasts_S1_S1x1 (ix2 0 0)
      = ((∑ r : Fin 128, p (Head.at' g r) * e (Head.at' g r) : ℝ) : EReal) := by
    rw [shapeCast_apply _ shapeCasts_S1_S1x1 (ix2 0 0) (ix1 0) (by decide), csum128]
    refine Cert.Attn.sum_coe_of _ _ fun r => ?_
    rw [mulf_apply, extractStridedSlice_apply _ x h (ix2 r 0) (ix2 (Head.at' g r) 0) (by
        intro a; fin_cases a
        · show 128 * g.val + r.val = c + r.val; omega
        · rfl),
      extractStridedSlice_apply _ y h (ix2 r 0) (ix2 (Head.at' g r) 0) (by
        intro a; fin_cases a
        · show 128 * g.val + r.val = c + r.val; omega
        · rfl), hx, hy, EReal.coe_mul]
  show Scalar.select (cmpi .eq (iota .tc S8x128 32 [1] iota_S8x128_d1_w32) (broadcast S8x128 (BitVec.ofNat 32 g.val)) (ix2 i l))
    (broadcastTo S8x128 _ broadcasts_S1x1_S8x128 (ix2 i l)) (Ideal.ofBits .f32 0x00000000#32) = _
  rw [hcmp, broadcastTo_apply _ _ _ (ix2 0 0) (by intro a; fin_cases a <;> rfl), shapeCast_self, subf_apply, hval,
    Ideal.ofBits_zero_f32]
  by_cases hl : l.val = g.val
  · rw [if_pos hl, decide_eq_true hl]
    show Ideal.ofBits .f32 0x00000000#32 - _ = _
    rw [Ideal.ofBits_zero_f32, zero_sub, EReal.coe_neg]
  · rw [if_neg hl, decide_eq_false hl]; rfl

/-- What the point adds to lane `l` of the sinks' gradient. -/
theorem hSk_at (old : Vec Ideal S1x8x128 .f32) (i : Fin 8) (l : Fin 128) :
    hSk (BitVec.ofNat 32 H.n) a b v w o old (ix3 0 i l)
      = old (ix3 0 i l) + (((if h : l.val < 4 then H.dsk ⟨l.val, h⟩ else 0) : ℝ) : EReal) := by
  unfold hSk k0_pay35
  refine (shapeCast_apply _ shapeCasts_S8x128_S1x8x128 (ix3 0 i l) (ix2 i l) (by
    rw [Shape.rowMajor_val_two, Shape.rowMajor_val_three]; show i.val * 128 + l.val = (0 * 8 + i.val) * 128 + l.val; omega)).trans ?_
  have t := fun (c : ℕ) (g : Fin 4) hc h => sk_term c g hc h (hPs (BitVec.ofNat 32 H.n) a b w) (hDel (BitVec.ofNat 32 H.n) a b v w o)
    (fun R => (H.row R).Ps) H.δ (hPs_at L) (hDel_at L) i l
  have t0 := t 0 0 rfl slices_S512x1_o0_0_S128x1
  have t1 := t 128 1 rfl slices_S512x1_o128_0_S128x1
  have t2 := t 256 2 rfl slices_S512x1_o256_0_S128x1
  have t3 := t 384 3 rfl slices_S512x1_o384_0_S128x1
  refine (congrArg₂ (· + ·) (shapeCast_apply old shapeCasts_S1x8x128_S8x128 (ix2 i l) (ix3 0 i l) (by
    rw [Shape.rowMajor_val_two, Shape.rowMajor_val_three]; show (0 * 8 + i.val) * 128 + l.val = i.val * 128 + l.val; omega))
    (congrArg₂ (· + ·) (congrArg₂ (· + ·) (congrArg₂ (· + ·) (congrArg (Ideal.ofBits .f32 0x00000000#32 + ·) t0) t1) t2) t3)).trans ?_
  refine congrArg (old (ix3 0 i l) + ·) ?_
  show Ideal.ofBits .f32 0x00000000#32 + _ + _ + _ + _ = _
  rw [Ideal.ofBits_zero_f32, zero_add, ← EReal.coe_add, ← EReal.coe_add, ← EReal.coe_add]
  congr 1
  have d : ∀ g : Fin 4, (-∑ r : Fin 128, (H.row (Head.at' g r)).Ps * H.δ (Head.at' g r)) = H.dsk g := fun g => rfl
  rw [d, d, d, d]
  obtain ⟨l, hl⟩ := l
  by_cases h4 : l < 4
  · rw [dif_pos h4]
    obtain rfl | rfl | rfl | rfl : l = 0 ∨ l = 1 ∨ l = 2 ∨ l = 3 := by omega
    all_goals simp
  · rw [dif_neg h4]
    have e0 : ¬ l = (0 : Fin 4).val := fun h => by simp at h; omega
    have e1 : ¬ l = (1 : Fin 4).val := fun h => by simp at h; omega
    have e2 : ¬ l = (2 : Fin 4).val := fun h => by simp at h; omega
    have e3 : ¬ l = (3 : Fin 4).val := fun h => by simp at h; omega
    simp only [e0, e1, e2, e3, if_false, add_zero]

end Vals

end Cert.KernelIdeal.Attn
end
-- ==== Proof.Args.lean ====
module

public import proofs.«01_k».proof.Proof.Spec

@[expose] public section

noncomputable section

/-! The attention's gradient over the whole sequence, on the reals. -/

namespace Cert.Attn

/-- The argument arrays' entries, by row and column. -/
structure Args where
  q : ℕ → ℕ → ℝ
  k : ℕ → ℕ → ℝ
  v : ℕ → ℕ → ℝ
  y : ℕ → ℕ → ℝ
  s : ℕ → ℝ

namespace Args

variable (A : Args)

/-- Query block `n` of key/value head `h`, with the three key blocks around it; zero rows beyond the sequence's ends. -/
def head (h n : ℕ) : Head where
  n := n
  q R d := A.q (128 * n + R.val % 128) (128 * (4 * h + R.val / 128) + d.val)
  o R d := A.y (128 * n + R.val % 128) (128 * (4 * h + R.val / 128) + d.val)
  k j d := if 128 ≤ 128 * n + j.val ∧ 128 * n + j.val < 8320 then A.k (128 * n + j.val - 128) (128 * h + d.val) else 0
  v j d := if 128 ≤ 128 * n + j.val ∧ 128 * n + j.val < 8320 then A.v (128 * n + j.val - 128) (128 * h + d.val) else 0
  s g := A.s (4 * h + g.val)

/-- The block of the sequence in place `t` of the three around block `n`, the first and the last one repeated. -/
def nb (n t : ℕ) : ℕ := if t = 0 then n - 1 else if t = 1 then n else min (n + 1) 63

/-- The same block, the neighbours that do not exist replaced by the sequence's own end blocks. -/
def headC (h n : ℕ) : Head where
  n := n
  q R d := A.q (128 * n + R.val % 128) (128 * (4 * h + R.val / 128) + d.val)
  o R d := A.y (128 * n + R.val % 128) (128 * (4 * h + R.val / 128) + d.val)
  k j d := A.k (128 * nb n (j.val / 128) + j.val % 128) (128 * h + d.val)
  v j d := A.v (128 * nb n (j.val / 128) + j.val % 128) (128 * h + d.val)
  s g := A.s (4 * h + g.val)

theorem nb_row (n j : ℕ) (hn : n < 64) (hj : j < 384) (h1 : 128 ≤ 128 * n + j) (h2 : 128 * n + j < 8320) :
    128 * nb n (j / 128) + j % 128 = 128 * n + j - 128 := by
  unfold nb; split_ifs <;> omega

/-- What stands beyond the ends does not matter. -/
theorem headC_eq (h n : ℕ) (hn : n < 64) : (A.headC h n).dq = (A.head h n).dq ∧ (A.headC h n).dk = (A.head h n).dk
    ∧ (A.headC h n).dv = (A.head h n).dv ∧ (A.headC h n).dsk = (A.head h n).dsk := by
  refine Head.agree rfl rfl rfl rfl (fun j h1 h2 => ?_) (fun j h1 h2 => ?_)
  · funext d
    show A.k (128 * nb n (j.val / 128) + j.val % 128) _ = if _ then _ else _
    rw [nb_row n j.val hn j.isLt h1 h2, if_pos ⟨h1, h2⟩]
  · funext d
    show A.v (128 * nb n (j.val / 128) + j.val % 128) _ = if _ then _ else _
    rw [nb_row n j.val hn j.isLt h1 h2, if_pos ⟨h1, h2⟩]

/-- Gradient of the queries at row `i`, column `c`, -/
def DQ (i c : ℕ) : ℝ :=
  (A.head (c / 512) (i / 128)).dq ⟨128 * (c / 128 % 4) + i % 128, by omega⟩ ⟨c % 128, by omega⟩
/-- row `p` of the padded keys' gradient from the blocks below `N`, -/
def dkSum (N p c : ℕ) : ℝ :=
  ∑ n ∈ Finset.range N, if h : 128 * n ≤ p ∧ p < 128 * n + 384 then
    (A.head (c / 128) n).dk ⟨p - 128 * n, by omega⟩ ⟨c % 128, by omega⟩ else 0
/-- the values', -/
def dvSum (N p c : ℕ) : ℝ :=
  ∑ n ∈ Finset.range N, if h : 128 * n ≤ p ∧ p < 128 * n + 384 then
    (A.head (c / 128) n).dv ⟨p - 128 * n, by omega⟩ ⟨c % 128, by omega⟩ else 0
/-- and the sink logit of head `h` in group `g`, from the blocks below `N`. -/
def skSum (N h : ℕ) (g : Fin 4) : ℝ := ∑ n ∈ Finset.range N, (A.head h n).dsk g

/-- The keys' gradient at row `i`, column `c`, -/
def DK (i c : ℕ) : ℝ := A.dkSum 64 (128 + i) c
/-- the values', -/
def DV (i c : ℕ) : ℝ := A.dvSum 64 (128 + i) c
/-- and the sinks'. -/
def DS (c : ℕ) : ℝ := A.skSum 64 (c / 4) ⟨c % 4, by omega⟩

end Args

end Cert.Attn

end
-- ==== Proof.KLoad.lean ====
module

public import proofs.«01_k».proof.Proof.Run
public import proofs.«01_k».proof.Proof.KHead
public import proofs.«01_k».proof.Proof.Args
public import Idealize.ShloMosaic.Lib.Pipeline.ValueKit

@[expose] public section

set_option maxRecDepth 16384

noncomputable section

/-! The blocks the kernel loads, read off the arguments. -/

namespace Cert.KernelIdeal.Attn

open Idealize.ShloMosaic hiding ix1 ix2 ix3
open Idealize.ShloMosaic.TcCoe Idealize.ShloMosaic.ValueIdx
open Idealize.SL Idealize.SL.RA
open Idealize.ShloMosaic.Pipeline (Dat Cfg Window)
open Cert.KernelIdeal.Gen
open Cert.Attn

variable (m : (ℓ : Loc nD τ sig) → Buf (Elt Ideal) ℓ)

/-- The arguments' entries are the real numbers `A`; of the incoming gradient, in its first 1024 columns. -/
structure Holds (c : Dev nD) (A : Args) : Prop where
  q (j : S8192x1024.Idx) : (m ((c.tc : Thread nD τ).loc main_arg0) : Vec Ideal S8192x1024 .bf16) j = ((A.q (j 0).val (j 1).val : ℝ) : EReal)
  k (j : S8192x256.Idx) : (m ((c.tc : Thread nD τ).loc main_arg1) : Vec Ideal S8192x256 .bf16) j = ((A.k (j 0).val (j 1).val : ℝ) : EReal)
  v (j : S8192x256.Idx) : (m ((c.tc : Thread nD τ).loc main_arg2) : Vec Ideal S8192x256 .bf16) j = ((A.v (j 0).val (j 1).val : ℝ) : EReal)
  s (j : S8.Idx) : (m ((c.tc : Thread nD τ).loc main_arg3) : Vec Ideal S8 .f32) j = ((A.s (j 0).val : ℝ) : EReal)
  y (j : S8192x2048.Idx) (h : (j 1).val < 1024) :
    (m ((c.tc : Thread nD τ).loc main_arg4) : Vec Ideal S8192x2048 .f32) j = ((A.y (j 0).val (j 1).val : ℝ) : EReal)

theorem i0 : ∀ t : Fin cfg0.N, win0_0.index t = ![t.val, 0] := (by decide +kernel : ∀ t : Fin grid0.N, _)
theorem i1 : ∀ t : Fin cfg0.N, win0_1.index t = ![t.val - 1, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![min (t.val + 1) 63, 0] := (by decide +kernel : ∀ t : Fin grid0.N, _)
theorem i4 : ∀ t : Fin cfg0.N, win0_4.index t = ![t.val - 1, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![min (t.val + 1) 63, 0] := (by decide +kernel : ∀ t : Fin grid0.N, _)
theorem i7 : ∀ t : Fin cfg0.N, win0_7.index t = ![0, 0, 0] := (by decide +kernel : ∀ t : Fin grid0.N, _)
theorem i8 : ∀ t : Fin cfg0.N, win0_8.index t = ![t.val, 0] := (by decide +kernel : ∀ t : Fin grid0.N, _)
theorem i9 : ∀ t : Fin cfg0.N, win0_9.index t = ![t.val, 0] := (by decide +kernel : ∀ t : Fin grid0.N, _)

variable {m} {c : Dev nD} {A : Args} (H : Holds m c A)
include H

theorem blk0 (t : Fin cfg0.N) (x : S128x1024.Idx) :
    (iblk m c 0 t : Vec Ideal S128x1024 .bf16) x = ((A.q (128 * t.val + (x 0).val) (x 1).val : ℝ) : EReal) := by
  blk_simp [iblk]
  rw [V_main_arg0]
  refine (H.q _).trans ?_
  blk_simp [i0]
  rw [Nat.mul_comm]

theorem blk1 (t : Fin cfg0.N) (x : S128x256.Idx) :
    (iblk m c 1 t : Vec Ideal S128x256 .bf16) x = ((A.k (128 * (t.val - 1) + (x 0).val) (x 1).val : ℝ) : EReal) := by
  blk_simp [iblk]
  rw [V_main_arg1]
  refine (H.k _).trans ?_
  blk_simp [i1]
  rw [Nat.mul_comm]

theorem blk2 (t : Fin cfg0.N) (x : S128x256.Idx) :
    (iblk m c 2 t : Vec Ideal S128x256 .bf16) x = ((A.k (128 * t.val + (x 0).val) (x 1).val : ℝ) : EReal) := by
  blk_simp [iblk]
  rw [V_main_arg1]
  refine (H.k _).trans ?_
  blk_simp [i2]
  rw [Nat.mul_comm]

theorem blk3 (t : Fin cfg0.N) (x : S128x256.Idx) :
    (iblk m c 3 t : Vec Ideal S128x256 .bf16) x = ((A.k (128 * min (t.val + 1) 63 + (x 0).val) (x 1).val : ℝ) : EReal) := by
  blk_simp [iblk]
  rw [V_main_arg1]
  refine (H.k _).trans ?_
  blk_simp [i3]
  rw [Nat.mul_comm]

theorem blk4 (t : Fin cfg0.N) (x : S128x256.Idx) :
    (iblk m c 4 t : Vec Ideal S128x256 .bf16) x = ((A.v (128 * (t.val - 1) + (x 0).val) (x 1).val : ℝ) : EReal) := by
  blk_simp [iblk]
  rw [V_main_arg2]
  refine (H.v _).trans ?_
  blk_simp [i4]
  rw [Nat.mul_comm]

theorem blk5 (t : Fin cfg0.N) (x : S128x256.Idx) :
    (iblk m c 5 t : Vec Ideal S128x256 .bf16) x = ((A.v (128 * t.val + (x 0).val) (x 1).val : ℝ) : EReal) := by
  blk_simp [iblk]
  rw [V_main_arg2]
  refine (H.v _).trans ?_
  blk_simp [i5]
  rw [Nat.mul_comm]

theorem blk6 (t : Fin cfg0.N) (x : S128x256.Idx) :
    (iblk m c 6 t : Vec Ideal S128x256 .bf16) x = ((A.v (128 * min (t.val + 1) 63 + (x 0).val) (x 1).val : ℝ) : EReal) := by
  blk_simp [iblk]
  rw [V_main_arg2]
  refine (H.v _).trans ?_
  blk_simp [i6]
  rw [Nat.mul_comm]

theorem blk8 (t : Fin cfg0.N) (x : S128x1024.Idx) :
    (iblk m c 8 t : Vec Ideal S128x1024 .f32) x = ((A.y (128 * t.val + (x 0).val) (x 1).val : ℝ) : EReal) := by
  blk_simp [iblk]
  rw [V_main_arg4]
  have hx : (x 1).val < 1024 := (x 1).isLt
  refine (H.y _ ?_).trans ?_
  · blk_simp [i8]; exact hx
  blk_simp [i8]
  rw [Nat.mul_comm]

theorem blk7 (t : Fin cfg0.N) (x : S2x1x4.Idx) :
    (iblk m c 7 t : Vec Ideal S2x1x4 .f32) x = ((A.s (4 * (x 0).val + (x 2).val) : ℝ) : EReal) := by
  blk_simp [iblk]
  have e : V m c main_v0 = shapeCast S2x1x4 (m ((c.tc : Thread nD τ).loc main_arg3) : Vec Ideal S8 .f32) shapeCasts_S8_S2x1x4 := by
    show V0 m c (Proc.devRef .tc main_v0) = _
    rw [show (V0 m c) = StableHlo.after hostOps0 (fun b => m (c, b)) from rfl]
    after_results_simp
    rfl
  rw [e]
  have h1 : (x 1).val < 1 := (x 1).isLt
  have h0 : (x 0).val < 2 := (x 0).isLt
  have h2 : (x 2).val < 4 := (x 2).isLt
  refine (shapeCast_apply _ shapeCasts_S8_S2x1x4 _ (ix1 (⟨4 * (x 0).val + (x 2).val, by omega⟩ : Fin 8)) ?_).trans (H.s _)
  rw [Shape.rowMajor_val_one, Shape.rowMajor_val_three]
  blk_simp [i7]
  show 4 * (x 0).val + (x 2).val = (x 0).val * 4 + (x 2).val
  omega

omit H in
theorem qcol_at {e : EltTy} (x : Vec Ideal S128x1024 e) (k : Fin 8) (r d : Fin 128) :
    qcol x k (ix2 r d) = x (ix2 r (⟨128 * k.val + d.val, by omega⟩ : Fin 1024)) := by
  refine congrArg x ?_
  funext a; fin_cases a
  · exact Fin.ext (by show 0 + 1 * r.val = r.val; omega)
  · exact Fin.ext (by show 128 * k.val + 1 * d.val = 128 * k.val + d.val; omega)
omit H in
theorem kcol_at {e : EltTy} (x : Vec Ideal S128x256 e) (k : Fin 2) (r d : Fin 128) :
    kcol x k (ix2 r d) = x (ix2 r (⟨128 * k.val + d.val, by omega⟩ : Fin 256)) := by
  refine congrArg x ?_
  funext a; fin_cases a
  · exact Fin.ext (by show 0 + 1 * r.val = r.val; omega)
  · exact Fin.ext (by show 128 * k.val + 1 * d.val = 128 * k.val + d.val; omega)
omit H in
theorem word_at (x : Vec Ideal S2x1x4 .f32) (h : Fin 2) (g : Fin 4) : word x h g (ix3 0 0 0) = x (ix3 h (0 : Fin 1) g) := by
  refine congrArg x ?_
  funext a; fin_cases a
  · exact Fin.ext (by show h.val + 1 * 0 = h.val; omega)
  · rfl
  · exact Fin.ext (by show g.val + 1 * 0 = g.val; omega)

/-- What the body works on at a point. -/
theorem loads (t : Fin cfg0.N) (h : Fin 2) :
    Loads (A.headC h.val t.val) ((blkAt m c t).a h) ((blkAt m c t).b h) ((blkAt m c t).v h) ((blkAt m c t).w h)
      ((blkAt m c t).o h) where
  n := lt_of_lt_of_eq t.isLt (show cfg0.N = 64 from N_0)
  a g r d := by
    refine (qcol_at _ _ r d).trans ((blk0 H t _).trans ?_)
    show ((A.q (128 * t.val + r.val) (128 * (4 * h.val + g.val) + d.val) : ℝ) : EReal)
      = ((A.q (128 * t.val + (128 * g.val + r.val) % 128) (128 * (4 * h.val + (128 * g.val + r.val) / 128) + d.val) : ℝ) : EReal)
    rw [show (128 * g.val + r.val) % 128 = r.val by omega, show (128 * g.val + r.val) / 128 = g.val by omega]
  o g r d := by
    refine (qcol_at _ _ r d).trans ((blk8 H t _).trans ?_)
    show ((A.y (128 * t.val + r.val) (128 * (4 * h.val + g.val) + d.val) : ℝ) : EReal)
      = ((A.y (128 * t.val + (128 * g.val + r.val) % 128) (128 * (4 * h.val + (128 * g.val + r.val) / 128) + d.val) : ℝ) : EReal)
    rw [show (128 * g.val + r.val) % 128 = r.val by omega, show (128 * g.val + r.val) / 128 = g.val by omega]
  w g := (word_at _ h g).trans (blk7 H t _)
  b s r d := by
    have e : ∀ u : ℕ, u = 128 * Args.nb t.val s.val + r.val →
        ((A.k u (128 * h.val + d.val) : ℝ) : EReal) = (((A.headC h.val t.val).k ⟨128 * s.val + r.val, by omega⟩ d : ℝ) : EReal) := by
      rintro _ rfl
      show _ = ((A.k (128 * Args.nb t.val ((128 * s.val + r.val) / 128) + (128 * s.val + r.val) % 128) (128 * h.val + d.val) : ℝ) : EReal)
      rw [show (128 * s.val + r.val) % 128 = r.val by omega, show (128 * s.val + r.val) / 128 = s.val by omega]
    fin_cases s
    · exact (kcol_at _ h r d).trans ((blk1 H t _).trans (e _ rfl))
    · exact (kcol_at _ h r d).trans ((blk2 H t _).trans (e _ rfl))
    · exact (kcol_at _ h r d).trans ((blk3 H t _).trans (e _ rfl))
  v s r d := by
    have e : ∀ u : ℕ, u = 128 * Args.nb t.val s.val + r.val →
        ((A.v u (128 * h.val + d.val) : ℝ) : EReal) = (((A.headC h.val t.val).v ⟨128 * s.val + r.val, by omega⟩ d : ℝ) : EReal) := by
      rintro _ rfl
      show _ = ((A.v (128 * Args.nb t.val ((128 * s.val + r.val) / 128) + (128 * s.val + r.val) % 128) (128 * h.val + d.val) : ℝ) : EReal)
      rw [show (128 * s.val + r.val) % 128 = r.val by omega, show (128 * s.val + r.val) / 128 = s.val by omega]
    fin_cases s
    · exact (kcol_at _ h r d).trans ((blk4 H t _).trans (e _ rfl))
    · exact (kcol_at _ h r d).trans ((blk5 H t _).trans (e _ rfl))
    · exact (kcol_at _ h r d).trans ((blk6 H t _).trans (e _ rfl))

/-- What the body computes at a point. -/
theorem bDq_at (t : Fin cfg0.N) (h : Fin 2) (R : Fin 512) (d : Fin 128) :
    bDq (BitVec.ofNat 32 t.val) (blkAt m c t) h (ix2 R d) = (((A.head h.val t.val).dq R d : ℝ) : EReal) := by
  have hN : t.val < 64 := lt_of_lt_of_eq t.isLt (show cfg0.N = 64 from N_0)
  rw [← (A.headC_eq h.val t.val hN).1]
  exact hDq_at (loads H t h) R d
theorem bDk_at (t : Fin cfg0.N) (h : Fin 2) (j : Fin 384) (d : Fin 128) :
    bDk (BitVec.ofNat 32 t.val) (blkAt m c t) h (ix2 j d) = (((A.head h.val t.val).dk j d : ℝ) : EReal) := by
  have hN : t.val < 64 := lt_of_lt_of_eq t.isLt (show cfg0.N = 64 from N_0)
  rw [← (A.headC_eq h.val t.val hN).2.1]
  exact hDk_at (loads H t h) j d
theorem bDv_at (t : Fin cfg0.N) (h : Fin 2) (j : Fin 384) (d : Fin 128) :
    bDv (BitVec.ofNat 32 t.val) (blkAt m c t) h (ix2 j d) = (((A.head h.val t.val).dv j d : ℝ) : EReal) := by
  have hN : t.val < 64 := lt_of_lt_of_eq t.isLt (show cfg0.N = 64 from N_0)
  rw [← (A.headC_eq h.val t.val hN).2.2.1]
  exact hDv_at (loads H t h) j d
theorem bSk_at (t : Fin cfg0.N) (h : Fin 2) (old : Vec Ideal S1x8x128 .f32) (i : Fin 8) (l : Fin 128) :
    bSk (BitVec.ofNat 32 t.val) (blkAt m c t) h old (ix3 0 i l)
      = old (ix3 0 i l) + (((if e : l.val < 4 then (A.head h.val t.val).dsk ⟨l.val, e⟩ else 0) : ℝ) : EReal) := by
  have hN : t.val < 64 := lt_of_lt_of_eq t.isLt (show cfg0.N = 64 from N_0)
  rw [← (A.headC_eq h.val t.val hN).2.2.2]
  exact hSk_at (loads H t h) old i l

/-! ## The accumulators -/

omit H in
/-- The zero the accumulators start from is the number zero. -/
theorem zf_eq : (zf : Ideal .f32) = (0 : EReal) := Ideal.ofBits_zero_f32

theorem accPut_at (n : ℕ) (B : Fin 2 → S384x128.Idx → EReal) (f : ℕ → Fin 384 → Fin 128 → ℝ)
    (hB : ∀ h j d, B h (ix2 j d) = ((f h.val j d : ℝ) : EReal)) (old : S8448x256.Idx → EReal) (y : S8448x256.Idx) :
    accPut (F := Ideal) n B old y = old y + (((if h : 128 * n ≤ (y 0).val ∧ (y 0).val < 128 * n + 384 then
      f ((y 1).val / 128) ⟨(y 0).val - 128 * n, by omega⟩ ⟨(y 1).val % 128, by omega⟩ else 0) : ℝ) : EReal) := by
  unfold accPut
  by_cases h : 128 * n ≤ (y 0).val ∧ (y 0).val < 128 * n + 384
  · rw [dif_pos h, dif_pos h, hB]; rfl
  · rw [dif_neg h, dif_neg h, EReal.coe_zero, add_zero]

theorem blkN_lt (n : ℕ) (hn : n < 64) : blkN m c n = blkAt m c ⟨n, lt_of_lt_of_eq hn (show (64 : ℕ) = cfg0.N from N_0.symm)⟩ := by
  rw [← blkN_val]

theorem dkAt_at (N : ℕ) (hN : N ≤ 64) (y : S8448x256.Idx) :
    dkAt m c N y = ((A.dkSum N (y 0).val (y 1).val : ℝ) : EReal) := by
  induction N with
  | zero => simp [dkAt, Args.dkSum]; exact zf_eq
  | succ n ih =>
    have hn : n < 64 := hN
    show accPut (F := Ideal) n (bDk (BitVec.ofNat 32 n) (blkN m c n)) (dkAt m c n) y = _
    rw [blkN_lt H n hn, accPut_at H n _ (fun h => (A.head h n).dk)
      (fun h j d => bDk_at H ⟨n, lt_of_lt_of_eq hn (show (64 : ℕ) = cfg0.N from N_0.symm)⟩ h j d), ih (by omega), ← EReal.coe_add]
    unfold Args.dkSum
    rw [Finset.sum_range_succ]
theorem dvAt_at (N : ℕ) (hN : N ≤ 64) (y : S8448x256.Idx) :
    dvAt m c N y = ((A.dvSum N (y 0).val (y 1).val : ℝ) : EReal) := by
  induction N with
  | zero => simp [dvAt, Args.dvSum]; exact zf_eq
  | succ n ih =>
    have hn : n < 64 := hN
    show accPut (F := Ideal) n (bDv (BitVec.ofNat 32 n) (blkN m c n)) (dvAt m c n) y = _
    rw [blkN_lt H n hn, accPut_at H n _ (fun h => (A.head h n).dv)
      (fun h j d => bDv_at H ⟨n, lt_of_lt_of_eq hn (show (64 : ℕ) = cfg0.N from N_0.symm)⟩ h j d), ih (by omega), ← EReal.coe_add]
    unfold Args.dvSum
    rw [Finset.sum_range_succ]
theorem skAt_at (N : ℕ) (hN : N ≤ 64) (y : S2x8x128.Idx) (g : Fin 4) (hg : (y 2).val = g.val) :
    skAt m c N y = ((A.skSum N (y 0).val g : ℝ) : EReal) := by
  induction N with
  | zero => simp [skAt, Args.skSum]; exact zf_eq
  | succ n ih =>
    have hn : n < 64 := hN
    show bSk (BitVec.ofNat 32 n) (blkN m c n) (y 0) (skRow (skAt m c n) (y 0)) (ix3 0 (y 1) (y 2)) = _
    rw [blkN_lt H n hn]
    refine (bSk_at H ⟨n, lt_of_lt_of_eq hn (show (64 : ℕ) = cfg0.N from N_0.symm)⟩ (y 0) _ (y 1) (y 2)).trans ?_
    have e : skRow (skAt m c n) (y 0) (ix3 0 (y 1) (y 2)) = skAt m c n y :=
      congrArg (skAt m c n) (by funext a; fin_cases a <;> rfl)
    rw [e, ih (by omega), ← EReal.coe_add]
    unfold Args.skSum
    rw [Finset.sum_range_succ, dif_pos (show (y 2).val < 4 by rw [hg]; exact g.isLt)]
    congr 3
    exact Fin.ext hg

end Cert.KernelIdeal.Attn

end
-- ==== Proof.KFinal.lean ====
module

public import proofs.«01_k».proof.Proof.KLoad

@[expose] public section

set_option maxRecDepth 16384

noncomputable section

/-! What the kernel's results hold at the end. -/

namespace Cert.KernelIdeal.Attn

open Idealize.ShloMosaic hiding ix1 ix2 ix3
open Idealize.ShloMosaic.TcCoe Idealize.ShloMosaic.ValueIdx
open Idealize.SL Idealize.SL.RA Idealize.SL.Sem
open Idealize.ShloMosaic.Pipeline (Dat Cfg Window)
open Cert.KernelIdeal.Gen
open Cert.Attn

variable {m : (ℓ : Loc nD τ sig) → Buf (Elt Ideal) ℓ} {c : Dev nD} {A : Args}

theorem tl : (63 : ℕ) < cfg0.N := lt_of_lt_of_eq (by decide) (show (64 : ℕ) = cfg0.N from N_0.symm)
/-- The last point. -/
def tLast : Fin cfg0.N := ⟨63, tl⟩
theorem tLast_val : tLast.val + 1 = 64 := rfl

theorem arr10 : ((dats m 0 c).arrAt 10 cfg0.N : Vec Ideal S8448x256 .f32) = dkAt m c 64 := by
  funext i
  refine ((dats m 0 c).arrAt_emb_eq_after_last 10 tLast (by decide +kernel) i).trans ?_
  rw [after_10, tLast_val]
  generalize dkAt m c 64 = X
  rfl

theorem arr11 : ((dats m 0 c).arrAt 11 cfg0.N : Vec Ideal S8448x256 .f32) = dvAt m c 64 := by
  funext i
  refine ((dats m 0 c).arrAt_emb_eq_after_last 11 tLast (by decide +kernel) i).trans ?_
  rw [after_11, tLast_val]
  generalize dvAt m c 64 = X
  rfl

theorem arr12 : ((dats m 0 c).arrAt 12 cfg0.N : Vec Ideal S2x8x128 .f32) = skAt m c 64 := by
  funext i
  refine ((dats m 0 c).arrAt_emb_eq_after_last 12 tLast (by decide +kernel) i).trans ?_
  rw [after_12, tLast_val]
  generalize skAt m c 64 = X
  rfl

theorem newDq_at (H : Holds m c A) (t : Fin cfg0.N) (y : S128x1024.Idx) :
    newDq (BitVec.ofNat 32 t.val) (blkAt m c t) y = ((A.DQ (128 * t.val + (y 0).val) (y 1).val : ℝ) : EReal) := by
  have h0 : (y 0).val < 128 := (y 0).isLt
  have h1 : (y 1).val < 1024 := (y 1).isLt
  unfold newDq
  refine (bDq_at H t _ _ _).trans ?_
  unfold Args.DQ
  have e : ∀ (a b : ℕ) (R R' : Fin 512) (d : Fin 128), a = b → R = R' →
      (((A.head ((y 1).val / 512) a).dq R d : ℝ) : EReal) = (((A.head ((y 1).val / 512) b).dq R' d : ℝ) : EReal) := by
    rintro a _ R _ d rfl rfl; rfl
  exact e _ _ _ _ _ (by omega) (Fin.ext (by show _ + (y 0).val = _ + (128 * t.val + (y 0).val) % 128; omega))

theorem emb9 (t : Fin cfg0.N) (y : S128x1024.Idx) :
    (((win0_9.blk t).view.emb y : S8192x1024.Idx) 0).val = 128 * t.val + (y 0).val
      ∧ (((win0_9.blk t).view.emb y : S8192x1024.Idx) 1).val = (y 1).val := by
  constructor
  · blk_simp [i9]; rw [Nat.mul_comm]
  · blk_simp [i9]

theorem fin9 (H : Holds m c A) (t : Fin cfg0.N) (y : S128x1024.Idx) (G : Vec Ideal S8192x1024 .f32)
   (hG : G = fun i => ((A.DQ (i 0).val (i 1).val : ℝ) : EReal)) :
    newDq (BitVec.ofNat 32 t.val) (blkAt m c t) y = G ((win0_9.blk t).view.emb y) := by
  subst hG
  rw [newDq_at H t y]
  show _ = ((A.DQ _ _ : ℝ) : EReal)
  rw [(emb9 t y).1, (emb9 t y).2]

theorem cast9 (t : Fin cfg0.N) (y : ((cfg0.win 9).xblock (cfg0.grid.coords t)).Idx)
   (Z : (cfg0.win 9).block.Idx → Elt Ideal (cfg0.win 9).elt) (h) :
   _root_.cast h (Z ((cfg0.win 9).xinj (cfg0.grid.coords t) y)) = Z y := (cast_eq _ _).trans rfl

/-- The queries' gradient. -/
theorem final_dq (H : Holds m c A) (G : Vec Ideal S8192x1024 .f32)
   (hG : G = fun i => ((A.DQ (i 0).val (i 1).val : ℝ) : EReal)) : ((dats m 0 c).arrAt 9 cfg0.N : Vec Ideal S8192x1024 .f32)
    = G := by
  refine (dats m 0 c).arrAt_eq_of_covers 9 G (by decide +kernel) fun t hf y => ?_
  refine Eq.trans ?_ (fin9 H t y G hG)
  rw [← after_9]
  exact cast9 t y _ _

/-- The region leaves the accumulators in their arrays. -/
theorem tail_arr (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt launch₀0.sharedIn (V0 m c) (A_eq m c) w

/-- The keys' gradient. -/
theorem final_dk (H : Holds m c A) : (Pipeline.afterTail₀ cfgs (dats m) 0 (V0 m) [hostOps1] c main_v2 : Vec Ideal S8192x256 .f32)
    = fun i => ((A.DK (i 0).val (i 1).val : ℝ) : EReal) := by
  have e : (Pipeline.afterTail₀ cfgs (dats m) 0 (V0 m) [hostOps1] c main_v2 : Vec Ideal S8192x256 .f32)
      = extractStridedSlice S8192x256 ![128, 0] ((dats m 0 c).arrAt 10 cfg0.N : Vec Ideal S8448x256 .f32) slices_S8448x256_S8192x256_128_0 := by
    unfold Pipeline.afterTail₀
    rw [← tail_arr 10]
    show StableHlo.after hostOps1 _ (Proc.devRef .tc main_v2) = _
    after_results_simp
  rw [e, arr10]
  funext i
  have h0 : (i 0).val < 8192 := (i 0).isLt
  have h1 : (i 1).val < 256 := (i 1).isLt
  refine (extractStridedSlice_apply ![128, 0] _ _ i (ix2 (⟨128 + (i 0).val, by omega⟩ : Fin 8448) (⟨(i 1).val, by omega⟩ : Fin 256)) ?_).trans ?_
  · intro a; fin_cases a
    · rfl
    · show (i 1).val = 0 + (i 1).val; omega
  · exact dkAt_at H 64 (le_refl _) _

/-- The values' gradient. -/
theorem final_dv (H : Holds m c A) : (Pipeline.afterTail₀ cfgs (dats m) 0 (V0 m) [hostOps1] c main_v3 : Vec Ideal S8192x256 .f32)
    = fun i => ((A.DV (i 0).val (i 1).val : ℝ) : EReal) := by
  have e : (Pipeline.afterTail₀ cfgs (dats m) 0 (V0 m) [hostOps1] c main_v3 : Vec Ideal S8192x256 .f32)
      = extractStridedSlice S8192x256 ![128, 0] ((dats m 0 c).arrAt 11 cfg0.N : Vec Ideal S8448x256 .f32) slices_S8448x256_S8192x256_128_0 := by
    unfold Pipeline.afterTail₀
    rw [← tail_arr 11]
    show StableHlo.after hostOps1 _ (Proc.devRef .tc main_v3) = _
    after_results_simp
  rw [e, arr11]
  funext i
  have h0 : (i 0).val < 8192 := (i 0).isLt
  have h1 : (i 1).val < 256 := (i 1).isLt
  refine (extractStridedSlice_apply ![128, 0] _ _ i (ix2 (⟨128 + (i 0).val, by omega⟩ : Fin 8448) (⟨(i 1).val, by omega⟩ : Fin 256)) ?_).trans ?_
  · intro a; fin_cases a
    · rfl
    · show (i 1).val = 0 + (i 1).val; omega
  · exact dvAt_at H 64 (le_refl _) _

/-- The sinks' gradient. -/
theorem final_ds (H : Holds m c A) : (Pipeline.afterTail₀ cfgs (dats m) 0 (V0 m) [hostOps1] c main_v6 : Vec Ideal S8 .f32)
    = fun i => ((A.DS (i 0).val : ℝ) : EReal) := by
  have e : (Pipeline.afterTail₀ cfgs (dats m) 0 (V0 m) [hostOps1] c main_v6 : Vec Ideal S8 .f32)
      = shapeCast S8 (shapeCast S2x4 (extractStridedSlice S2x1x4 ![0, 0, 0] ((dats m 0 c).arrAt 12 cfg0.N : Vec Ideal S2x8x128 .f32)
          slices_S2x8x128_S2x1x4_0_0_0) shapeCasts_S2x1x4_S2x4) shapeCasts_S2x4_S8 := by
    unfold Pipeline.afterTail₀
    rw [← tail_arr 12]
    show StableHlo.after hostOps1 _ (Proc.devRef .tc main_v6) = _
    after_results_simp
    rfl
  rw [e, arr12]
  funext i
  have h0 : (i 0).val < 8 := (i 0).isLt
  refine (shapeCast_apply _ shapeCasts_S2x4_S8 i (ix2 (⟨(i 0).val / 4, by omega⟩ : Fin 2) (⟨(i 0).val % 4, by omega⟩ : Fin 4)) ?_).trans ?_
  · rw [Shape.rowMajor_val_one, Shape.rowMajor_val_two]
    show (i 0).val / 4 * 4 + (i 0).val % 4 = (i 0).val; omega
  refine (shapeCast_apply _ shapeCasts_S2x1x4_S2x4 _ (ix3 (⟨(i 0).val / 4, by omega⟩ : Fin 2) (0 : Fin 1) (⟨(i 0).val % 4, by omega⟩ : Fin 4)) ?_).trans ?_
  · rw [Shape.rowMajor_val_two, Shape.rowMajor_val_three]
    show ((i 0).val / 4 * 1 + 0) * 4 + (i 0).val % 4 = (i 0).val / 4 * 4 + (i 0).val % 4; omega
  refine (extractStridedSlice_apply ![0, 0, 0] _ _ _ (ix3 (⟨(i 0).val / 4, by omega⟩ : Fin 2) (0 : Fin 8) (⟨(i 0).val % 4, by omega⟩ : Fin 128)) ?_).trans ?_
  · intro a; fin_cases a
    · show (i 0).val / 4 = 0 + (i 0).val / 4; omega
    · rfl
    · show (i 0).val % 4 = 0 + (i 0).val % 4; omega
  · exact skAt_at H 64 (le_refl _) _ ⟨(i 0).val % 4, by omega⟩ rfl

end Cert.KernelIdeal.Attn

end
-- ==== Proof.RArgs.lean ====
module

public import proofs.«01_k».proof.Proof.Gen.ReferenceIdeal.Read
public import proofs.«01_k».proof.Proof.Args
public import Idealize.ShloMosaic.Lib.ValueIdxRank6

@[expose] public section

set_option maxRecDepth 16384

noncomputable section

/-! The reference's operands of its products, read off the arguments. -/

namespace Cert.ReferenceIdeal.Attn

open Idealize.ShloMosaic Idealize.ShloMosaic.ValueIdx
open Cert.ReferenceIdeal Cert.ReferenceIdeal.Gen Cert.ReferenceIdeal.Read
open Cert.Attn

/-- The arguments' entries are the real numbers `A`; of the incoming gradient, in its first 1024 columns. -/
structure Has (x0 : Vec Ideal S8192x1024 .bf16) (x1 x2 : Vec Ideal S8192x256 .bf16) (x3 : Vec Ideal S8 .f32)
    (x4 : Vec Ideal S8192x2048 .f32) (A : Args) : Prop where
  q (j : S8192x1024.Idx) : x0 j = ((A.q (j 0).val (j 1).val : ℝ) : EReal)
  k (j : S8192x256.Idx) : x1 j = ((A.k (j 0).val (j 1).val : ℝ) : EReal)
  v (j : S8192x256.Idx) : x2 j = ((A.v (j 0).val (j 1).val : ℝ) : EReal)
  s (j : S8.Idx) : x3 j = ((A.s (j 0).val : ℝ) : EReal)
  y (j : S8192x2048.Idx) (h : (j 1).val < 1024) : x4 j = ((A.y (j 0).val (j 1).val : ℝ) : EReal)

/-- The sequence with a block of zero rows before it and one after it. -/
theorem padded (z : S1x128x2x128.Idx → EReal) (w : S1x8192x2x128.Idx → EReal) (h) (hz : ∀ i, z i = 0) (f : ℕ → ℕ → ℕ → ℝ)
    (hw : ∀ i, w i = ((f (i 1).val (i 2).val (i 3).val : ℝ) : EReal)) (j : S1x8448x2x128.Idx) :
    concatenate S1x8448x2x128 1 [⟨S1x128x2x128, z⟩, ⟨S1x8192x2x128, w⟩, ⟨S1x128x2x128, z⟩] h j
      = (((if 128 ≤ (j 1).val ∧ (j 1).val < 8320 then f ((j 1).val - 128) (j 2).val (j 3).val else 0 : ℝ)) : EReal) := by
  have hj : (j 1).val < 8448 := (j 1).isLt
  by_cases h1 : (j 1).val < 128
  · rw [if_neg (by omega)]
    refine (concatenate_apply_piece (1 : Fin S1x8448x2x128.rank) _ h j 0 (show 0 < 3 by decide) S1x128x2x128 z rfl rfl 0 rfl
      (ix4 (j 0) ⟨(j 1).val, h1⟩ (j 2) (j 3)) ?_ ?_).trans (hz _)
    · intro b hb; fin_cases b
      · rfl
      · exact absurd rfl hb
      · rfl
      · rfl
    · exact Nat.zero_add _
  · by_cases h2 : (j 1).val < 8320
    · rw [if_pos ⟨by omega, h2⟩]
      refine (concatenate_apply_piece (1 : Fin S1x8448x2x128.rank) _ h j 1 (show 1 < 3 by decide) S1x8192x2x128 w rfl rfl 128 rfl
        (ix4 (j 0) ⟨(j 1).val - 128, by omega⟩ (j 2) (j 3)) ?_ ?_).trans (hw _)
      · intro b hb; fin_cases b
        · rfl
        · exact absurd rfl hb
        · rfl
        · rfl
      · show 128 + ((j 1).val - 128) = (j 1).val
        omega
    · rw [if_neg (by omega)]
      refine (concatenate_apply_piece (1 : Fin S1x8448x2x128.rank) _ h j 2 (show 2 < 3 by decide) S1x128x2x128 z rfl rfl 8320 rfl
        (ix4 (j 0) ⟨(j 1).val - 8320, by omega⟩ (j 2) (j 3)) ?_ ?_).trans (hz _)
      · intro b hb; fin_cases b
        · rfl
        · exact absurd rfl hb
        · rfl
        · rfl
      · show 8320 + ((j 1).val - 8320) = (j 1).val
        omega

/-- Three blocks of 128 rows, one after the other. -/
theorem threeBlocks (a : Fin 3 → S1x64x128x2x128.Idx → EReal) (h) (f : ℕ → ℕ → ℕ → ℕ → ℝ)
    (ha : ∀ t i, a t i = ((f (128 * ((i 1).val + t.val) + (i 2).val) (i 1).val (i 3).val (i 4).val : ℝ) : EReal))
    (j : S1x64x384x2x128.Idx) :
    concatenate S1x64x384x2x128 2 [⟨S1x64x128x2x128, a 0⟩, ⟨S1x64x128x2x128, a 1⟩, ⟨S1x64x128x2x128, a 2⟩] h j
      = ((f (128 * (j 1).val + (j 2).val) (j 1).val (j 3).val (j 4).val : ℝ) : EReal) := by
  have hj : (j 2).val < 384 := (j 2).isLt
  obtain ⟨t, ht⟩ : ∃ t : Fin 3, t.val = (j 2).val / 128 := ⟨⟨(j 2).val / 128, by omega⟩, rfl⟩
  refine (concatenate_apply_piece (2 : Fin S1x64x384x2x128.rank)
    [⟨S1x64x128x2x128, a 0⟩, ⟨S1x64x128x2x128, a 1⟩, ⟨S1x64x128x2x128, a 2⟩] h j t.val t.isLt S1x64x128x2x128 (a t)
    (by fin_cases t <;> rfl) rfl (128 * t.val) (by fin_cases t <;> rfl)
    (ix5 (j 0) (j 1) ⟨(j 2).val % 128, Nat.mod_lt _ (by decide)⟩ (j 3) (j 4)) ?_ ?_).trans ((ha t _).trans ?_)
  · intro b hb; fin_cases b
    · rfl
    · rfl
    · exact absurd rfl hb
    · rfl
    · rfl
  · show 128 * t.val + (j 2).val % 128 = (j 2).val
    omega
  · refine congrArg (fun p => ((f p (j 1).val (j 3).val (j 4).val : ℝ) : EReal)) ?_
    show 128 * ((j 1).val + t.val) + (j 2).val % 128 = 128 * (j 1).val + (j 2).val
    omega

/-- Likewise, the blocks named one by one. -/
theorem threeBlocks' (a b c : S1x64x128x2x128.Idx → EReal) (h) (f : ℕ → ℕ → ℕ → ℝ)
    (ha : ∀ i, a i = ((f (128 * (i 1).val + (i 2).val) (i 3).val (i 4).val : ℝ) : EReal))
    (hb : ∀ i, b i = ((f (128 * (1 + (i 1).val) + (i 2).val) (i 3).val (i 4).val : ℝ) : EReal))
    (hc : ∀ i, c i = ((f (128 * (2 + (i 1).val) + (i 2).val) (i 3).val (i 4).val : ℝ) : EReal))
    (j : S1x64x384x2x128.Idx) :
    concatenate S1x64x384x2x128 2 [⟨S1x64x128x2x128, a⟩, ⟨S1x64x128x2x128, b⟩, ⟨S1x64x128x2x128, c⟩] h j
      = ((f (128 * (j 1).val + (j 2).val) (j 3).val (j 4).val : ℝ) : EReal) := by
  refine threeBlocks ![a, b, c] h (fun p _ h d => f p h d) (fun t i => ?_) j
  fin_cases t
  · exact ha i
  · refine (hb i).trans ?_
    rw [Nat.add_comm 1]
  · refine (hc i).trans ?_
    rw [Nat.add_comm 2]

variable {x0 : Vec Ideal S8192x1024 .bf16} {x1 x2 : Vec Ideal S8192x256 .bf16} {x3 : Vec Ideal S8 .f32}
  {x4 : Vec Ideal S8192x2048 .f32} {A : Args} (H : Has x0 x1 x2 x3 x4 A)

theorem v7_at (i : S1x128x2x128.Idx) : (val_main_v7 (F := Ideal) : Vec Ideal S1x128x2x128 .f32) i = 0 :=
  (val_main_v7_apply i).trans Ideal.ofBits_zero_f32

theorem v16_at (i : S1x128x2x128.Idx) : (val_main_v16 (F := Ideal) : Vec Ideal S1x128x2x128 .f32) i = 0 :=
  (val_main_v16_apply i).trans Ideal.ofBits_zero_f32

include H

theorem v4_at (i : S1x8192x2x128.Idx) : (val_main_v4 (F := Ideal) x1 : Vec Ideal S1x8192x2x128 .f32) i
    = ((A.k (i 1).val (128 * (i 2).val + (i 3).val) : ℝ) : EReal) := by
  rw [val_main_v4_apply]
  refine (H.k (idx_main_v4 i)).trans ?_
  have h0 : (i 0).val < 1 := (i 0).isLt
  have h2 : (i 2).val < 2 := (i 2).isLt
  have h3 : (i 3).val < 128 := (i 3).isLt
  show ((A.k (((((i 0).val * 8192 + (i 1).val) * 2 + (i 2).val) * 128 + (i 3).val) / 256)
    (((((i 0).val * 8192 + (i 1).val) * 2 + (i 2).val) * 128 + (i 3).val) % 256) : ℝ) : EReal) = _
  congr 2 <;> omega

theorem v5_at (i : S1x8192x2x128.Idx) : (val_main_v5 (F := Ideal) x2 : Vec Ideal S1x8192x2x128 .f32) i
    = ((A.v (i 1).val (128 * (i 2).val + (i 3).val) : ℝ) : EReal) := by
  rw [val_main_v5_apply]
  refine (H.v (idx_main_v5 i)).trans ?_
  have h0 : (i 0).val < 1 := (i 0).isLt
  have h2 : (i 2).val < 2 := (i 2).isLt
  have h3 : (i 3).val < 128 := (i 3).isLt
  show ((A.v (((((i 0).val * 8192 + (i 1).val) * 2 + (i 2).val) * 128 + (i 3).val) / 256)
    (((((i 0).val * 8192 + (i 1).val) * 2 + (i 2).val) * 128 + (i 3).val) % 256) : ℝ) : EReal) = _
  congr 2 <;> omega

/-- Row `p` of the padded keys (values), of key/value head `h`, at column `d`. -/
def pk (B : ℕ → ℕ → ℝ) (p h d : ℕ) : ℝ := if 128 ≤ p ∧ p < 8320 then B (p - 128) (128 * h + d) else 0

theorem v11_at (i : S1x66x128x2x128.Idx) : (val_main_v11 (F := Ideal) x1 : Vec Ideal S1x66x128x2x128 .f32) i
    = ((pk A.k (128 * (i 1).val + (i 2).val) (i 3).val (i 4).val : ℝ) : EReal) := by
  rw [val_main_v11_apply]
  refine (padded _ _ _ v7_at (fun p h d => A.k p (128 * h + d)) (v4_at H) (idx_main_v11 i)).trans ?_
  have h0 : (i 0).val < 1 := (i 0).isLt
  have h1 : (i 1).val < 66 := (i 1).isLt
  have h2 : (i 2).val < 128 := (i 2).isLt
  have h3 : (i 3).val < 2 := (i 3).isLt
  have h4 : (i 4).val < 128 := (i 4).isLt
  show ((pk A.k ((((((i 0).val * 66 + (i 1).val) * 128 + (i 2).val) * 2 + (i 3).val) * 128 + (i 4).val) / 256 % 8448)
    ((((((i 0).val * 66 + (i 1).val) * 128 + (i 2).val) * 2 + (i 3).val) * 128 + (i 4).val) / 128 % 2)
    ((((((i 0).val * 66 + (i 1).val) * 128 + (i 2).val) * 2 + (i 3).val) * 128 + (i 4).val) % 128) : ℝ) : EReal) = _
  congr 2 <;> omega

theorem v20_at (i : S1x66x128x2x128.Idx) : (val_main_v20 (F := Ideal) x2 : Vec Ideal S1x66x128x2x128 .f32) i
    = ((pk A.v (128 * (i 1).val + (i 2).val) (i 3).val (i 4).val : ℝ) : EReal) := by
  rw [val_main_v20_apply]
  refine (padded _ _ _ v16_at (fun p h d => A.v p (128 * h + d)) (v5_at H) (idx_main_v20 i)).trans ?_
  have h0 : (i 0).val < 1 := (i 0).isLt
  have h1 : (i 1).val < 66 := (i 1).isLt
  have h2 : (i 2).val < 128 := (i 2).isLt
  have h3 : (i 3).val < 2 := (i 3).isLt
  have h4 : (i 4).val < 128 := (i 4).isLt
  show ((pk A.v ((((((i 0).val * 66 + (i 1).val) * 128 + (i 2).val) * 2 + (i 3).val) * 128 + (i 4).val) / 256 % 8448)
    ((((((i 0).val * 66 + (i 1).val) * 128 + (i 2).val) * 2 + (i 3).val) * 128 + (i 4).val) / 128 % 2)
    ((((((i 0).val * 66 + (i 1).val) * 128 + (i 2).val) * 2 + (i 3).val) * 128 + (i 4).val) % 128) : ℝ) : EReal) = _
  congr 2 <;> omega

/-- The keys around each block, -/
theorem v15_at (j : S1x64x384x2x128.Idx) : (val_main_v15 (F := Ideal) x1 : Vec Ideal S1x64x384x2x128 .f32) j
    = (((A.head (j 3).val (j 1).val).k (j 2) (j 4) : ℝ) : EReal) := by
  have h1 := fun i => (val_main_v12_apply (F := Ideal) x1 i).trans (v11_at H _)
  have h2 := fun i => (val_main_v13_apply (F := Ideal) x1 i).trans (v11_at H _)
  have h3 := fun i => (val_main_v14_apply (F := Ideal) x1 i).trans (v11_at H _)
  unfold val_main_v15
  generalize val_main_v12 (F := Ideal) x1 = a at h1 ⊢
  generalize val_main_v13 (F := Ideal) x1 = b at h2 ⊢
  generalize val_main_v14 (F := Ideal) x1 = c at h3 ⊢
  exact threeBlocks' a b c _ (pk A.k) h1 h2 h3 j

/-- the values, -/
theorem v24_at (j : S1x64x384x2x128.Idx) : (val_main_v24 (F := Ideal) x2 : Vec Ideal S1x64x384x2x128 .f32) j
    = (((A.head (j 3).val (j 1).val).v (j 2) (j 4) : ℝ) : EReal) := by
  have h1 := fun i => (val_main_v21_apply (F := Ideal) x2 i).trans (v20_at H _)
  have h2 := fun i => (val_main_v22_apply (F := Ideal) x2 i).trans (v20_at H _)
  have h3 := fun i => (val_main_v23_apply (F := Ideal) x2 i).trans (v20_at H _)
  unfold val_main_v24
  generalize val_main_v21 (F := Ideal) x2 = a at h1 ⊢
  generalize val_main_v22 (F := Ideal) x2 = b at h2 ⊢
  generalize val_main_v23 (F := Ideal) x2 = c at h3 ⊢
  exact threeBlocks' a b c _ (pk A.v) h1 h2 h3 j

/-- the queries, -/
theorem v6_at (j : S1x64x128x2x4x128.Idx) : (val_main_v6 (F := Ideal) x0 : Vec Ideal S1x64x128x2x4x128 .f32) j
    = ((A.q (128 * (j 1).val + (j 2).val) (128 * (4 * (j 3).val + (j 4).val) + (j 5).val) : ℝ) : EReal) := by
  have h0 : (j 0).val < 1 := (j 0).isLt
  have h1 : (j 1).val < 64 := (j 1).isLt
  have h2 : (j 2).val < 128 := (j 2).isLt
  have h3 : (j 3).val < 2 := (j 3).isLt
  have h4 : (j 4).val < 4 := (j 4).isLt
  have h5 : (j 5).val < 128 := (j 5).isLt
  unfold val_main_v6
  generalize hy : val_main_v3 (F := Ideal) x0 = y
  refine (shapeCast_apply y shapeCasts_S1x8192x8x128_S1x64x128x2x4x128 j
    (ix4 (0 : Fin 1) (⟨128 * (j 1).val + (j 2).val, by omega⟩ : Fin 8192) (⟨4 * (j 3).val + (j 4).val, by omega⟩ : Fin 8) (j 5)) ?_).trans ?_
  · rw [Shape.rowMajor_val_four, Shape.rowMajor_val_six]
    show ((0 * 8192 + (128 * (j 1).val + (j 2).val)) * 8 + (4 * (j 3).val + (j 4).val)) * 128 + (j 5).val
      = (((((j 0).val * 64 + (j 1).val) * 128 + (j 2).val) * 2 + (j 3).val) * 4 + (j 4).val) * 128 + (j 5).val
    omega
  · rw [← hy, val_main_v3_apply]
    refine (H.q _).trans ?_
    show ((A.q ((((0 * 8192 + (128 * (j 1).val + (j 2).val)) * 8 + (4 * (j 3).val + (j 4).val)) * 128 + (j 5).val) / 1024)
      ((((0 * 8192 + (128 * (j 1).val + (j 2).val)) * 8 + (4 * (j 3).val + (j 4).val)) * 128 + (j 5).val) % 1024) : ℝ) : EReal) = _
    congr 2 <;> omega

/-- and the incoming gradient. -/
theorem v113_at (j : S1x64x2x128x4x128.Idx) : (val_main_v113 (F := Ideal) x4 : Vec Ideal S1x64x2x128x4x128 .f32) j
    = ((A.y (128 * (j 1).val + (j 5).val) (128 * (4 * (j 2).val + (j 4).val) + (j 3).val) : ℝ) : EReal) := by
  have h0 : (j 0).val < 1 := (j 0).isLt
  have h1 : (j 1).val < 64 := (j 1).isLt
  have h2 : (j 2).val < 2 := (j 2).isLt
  have h3 : (j 3).val < 128 := (j 3).isLt
  have h4 : (j 4).val < 4 := (j 4).isLt
  have h5 : (j 5).val < 128 := (j 5).isLt
  rw [val_main_v113_apply]
  unfold val_main_v112
  generalize hy : val_main_v111 (F := Ideal) x4 = y
  refine (shapeCast_apply y shapeCasts_S1x8192x1024_S1x64x128x2x4x128 (idx_main_v113 j)
    (ix3 (0 : Fin 1) (⟨128 * (j 1).val + (j 5).val, by omega⟩ : Fin 8192) (⟨128 * (4 * (j 2).val + (j 4).val) + (j 3).val, by omega⟩ : Fin 1024)) ?_).trans ?_
  · rw [Shape.rowMajor_val_three, Shape.rowMajor_val_six]
    show (0 * 8192 + (128 * (j 1).val + (j 5).val)) * 1024 + (128 * (4 * (j 2).val + (j 4).val) + (j 3).val)
      = (((((j 0).val * 64 + (j 1).val) * 128 + (j 5).val) * 2 + (j 2).val) * 4 + (j 4).val) * 128 + (j 3).val
    omega
  · rw [← hy, val_main_v111_apply, val_main_v110_apply]
    refine (H.y _ ?_).trans rfl
    show 128 * (4 * (j 2).val + (j 4).val) + (j 3).val < 1024
    omega

end Cert.ReferenceIdeal.Attn
end
-- ==== Proof.RRow.lean ====
module

public import proofs.«01_k».proof.Proof.RArgs

@[expose] public section

set_option maxRecDepth 16384

noncomputable section

/-! The reference, one row of scores at a time: its softmax and the gradient through it. -/

namespace Cert.Attn

/-- Row `r` of query head `g` of block `n`, for key/value head `h`: its scores, mask and sink, -/
def rowN (A : Args) (h n g r : ℕ) : Row where
  μ j := decide (win n r j.val)
  s j := (∑ d : Fin 128, A.q (128 * n + r) (128 * (4 * h + g) + d.val) * (A.head h n).k j d) * cS
  σ := A.s (4 * h + g)

/-- and the gradient that reaches its weights. -/
def gradN (A : Args) (h n g r : ℕ) (j : Fin 384) : ℝ :=
  ∑ d : Fin 128, A.y (128 * n + r) (128 * (4 * h + g) + d.val) * (A.head h n).v j d

theorem rowN_eq (A : Args) (h n : ℕ) (g : Fin 4) (r : Fin 128) : (A.head h n).row (Head.at' g r) = rowN A h n g.val r.val := by
  have e1 : (128 * g.val + r.val) % 128 = r.val := by omega
  have e2 : (128 * g.val + r.val) / 128 = g.val := by omega
  unfold Head.row rowN Args.head
  simp only [e1, e2]

theorem gradN_eq (A : Args) (h n : ℕ) (g : Fin 4) (r : Fin 128) : (A.head h n).D (Head.at' g r) = gradN A h n g.val r.val := by
  have e1 : (128 * g.val + r.val) % 128 = r.val := by omega
  have e2 : (128 * g.val + r.val) / 128 = g.val := by omega
  funext j
  unfold Head.D gradN Args.head
  simp only [e1, e2]

end Cert.Attn

namespace Cert.ReferenceIdeal.Attn

open Idealize.ShloMosaic Idealize.ShloMosaic.ValueIdx
open Cert.ReferenceIdeal Cert.ReferenceIdeal.Gen Cert.ReferenceIdeal.Read
open Cert.Attn

/-! The row an index of each of the three shapes belongs to. -/

abbrev R6 (A : Args) (i : S1x64x2x4x128x384.Idx) : Row := rowN A (i 2).val (i 1).val (i 3).val (i 4).val
abbrev R1 (A : Args) (i : S1x64x2x4x128x1.Idx) : Row := rowN A (i 2).val (i 1).val (i 3).val (i 4).val
abbrev R5 (A : Args) (i : S1x64x2x4x128.Idx) : Row := rowN A (i 2).val (i 1).val (i 3).val (i 4).val
abbrev D6 (A : Args) (i : S1x64x2x4x128x384.Idx) : Fin 384 → ℝ := gradN A (i 2).val (i 1).val (i 3).val (i 4).val
abbrev D1 (A : Args) (i : S1x64x2x4x128x1.Idx) : Fin 384 → ℝ := gradN A (i 2).val (i 1).val (i 3).val (i 4).val
abbrev D5 (A : Args) (i : S1x64x2x4x128.Idx) : Fin 384 → ℝ := gradN A (i 2).val (i 1).val (i 3).val (i 4).val

/-- A last axis of extent one, put there by a reshape. -/
theorem unit_last (y : S1x64x2x4x128.Idx → EReal) (i : S1x64x2x4x128x1.Idx) :
    shapeCast S1x64x2x4x128x1 y shapeCasts_S1x64x2x4x128_S1x64x2x4x128x1 i = y (ix5 (i 0) (i 1) (i 2) (i 3) (i 4)) := by
  refine shapeCast_apply y _ i _ ?_
  rw [Shape.rowMajor_val_five, Shape.rowMajor_val_six]
  have h5 : (i 5).val < 1 := (i 5).isLt
  show ((((i 0).val * 64 + (i 1).val) * 2 + (i 2).val) * 4 + (i 3).val) * 128 + (i 4).val
    = (((((i 0).val * 64 + (i 1).val) * 2 + (i 2).val) * 4 + (i 3).val) * 128 + (i 4).val) * 1 + (i 5).val
  omega

theorem cases6 (i : S1x64x2x4x128x384.Idx) : ∃ z n h g r j, i = ix6 z n h g r j := ⟨_, _, _, _, _, _, eq_ix6 i⟩
theorem cases1 (i : S1x64x2x4x128x1.Idx) : ∃ z n h g r u, i = ix6 z n h g r u := ⟨_, _, _, _, _, _, eq_ix6 i⟩
theorem cases5 (i : S1x64x2x4x128.Idx) : ∃ z n h g r, i = ix5 z n h g r := ⟨_, _, _, _, _, eq_ix5 i⟩

variable {x0 : Vec Ideal S8192x1024 .bf16} {x1 x2 : Vec Ideal S8192x256 .bf16} {x3 : Vec Ideal S8 .f32}
  {x4 : Vec Ideal S8192x2048 .f32} {A : Args} (H : Has x0 x1 x2 x3 x4 A)

/-- The mask. -/
theorem mask_at (i : S1x64x2x4x128x384.Idx) :
    val_main_v62_1 (F := Ideal) i = BitVec.ofBool (decide (win (i 1).val (i 4).val (i 5).val)) := by
  simp only [val_main_v62_1_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_c_apply, val_main_c_6_apply, val_main_c_7_apply, val_main_c_8_apply, val_main_c_9_apply, val_main_c_10_apply]
  exact win_word (i 1).val (i 4).val (i 5).val (i 1).isLt (i 4).isLt (i 5).isLt

include H

/-- The scaled scores, -/
theorem v28_at (i : S1x64x2x4x128x384.Idx) : (val_main_v28 (F := Ideal) x0 x1 : Vec Ideal S1x64x2x4x128x384 .f32) i
    = (((R6 A i).s (i 5) : ℝ) : EReal) := by
  obtain ⟨z, n, h, g, r, j, rfl⟩ := cases6 i
  rw [val_main_v28_apply, val_main_v26_apply, val_main_v25_apply,
    sum_coe_of _ (fun d : Fin 128 => A.q (128 * n.val + r.val) (128 * (4 * h.val + g.val) + d.val) * (A.head h.val n.val).k j d)
      (fun d => by rw [v15_at H, v6_at H, ← EReal.coe_mul, mul_comm]; rfl),
    val_main_v27_apply, val_main_cst_5_apply]
  show _ * Ideal.ofBits .f32 0x3DB504F3#32 = _
  rw [ofBits_cS, ← EReal.coe_mul]
  rfl

/-- masked, -/
theorem v62_at (i : S1x64x2x4x128x384.Idx) : (val_main_v62_0 (F := Ideal) x0 x1 : Vec Ideal S1x64x2x4x128x384 .f32) i
    = (R6 A i).score (i 5) := by
  obtain ⟨z, n, h, g, r, j, rfl⟩ := cases6 i
  rw [val_main_v62_0_apply, mask_at, select_win, v28_at H, val_main_call0_v2_apply, val_main_call0_v0_apply, val_main_cst_11_apply]
  show (if _ then _ else Ideal.ofBits .f32 0xFF800000#32) = _
  rw [ofBits_ninf]
  unfold Row.score
  exact if_congr (decide_eq_true_iff (p := win n.val r.val j.val)).symm rfl rfl

/-- the largest of a row, -/
theorem v65_at (i : S1x64x2x4x128.Idx) : (val_main_v65 (F := Ideal) x0 x1 : Vec Ideal S1x64x2x4x128 .f32) i = (R5 A i).mx := by
  obtain ⟨z, n, k, g, r, rfl⟩ := cases5 i
  have h := v62_at H
  unfold val_main_v65
  generalize val_main_v62_0 (F := Ideal) x0 x1 = y at h ⊢
  refine (Host.reduce_eq_fold_single _ y _ reducesTo_S1x64x2x4x128x384_S1x64x2x4x128_d5 (by decide) _ (ix5 z n k g r)).trans ?_
  rw [val_main_cst_12_apply]
  show Finset.fold max (Ideal.ofBits .f32 0xFF800000#32) _ _ = _
  rw [ofBits_ninf]
  exact congrArg (Finset.fold max ⊥ · Finset.univ) (funext fun k => (h _).trans rfl)

theorem v71_at (i : S1x64x2x4x128x1.Idx) : (val_main_v71 (F := Ideal) x0 x1 : Vec Ideal S1x64x2x4x128x1 .f32) i = (R1 A i).mx :=
  (val_main_v71_apply (F := Ideal) x0 x1 i).trans ((v65_at H _).trans rfl)

theorem v64_at (i : S1x1x2x4x1x1.Idx) : (val_main_v64 (F := Ideal) x3 : Vec Ideal S1x1x2x4x1x1 .f32) i
    = ((A.s (4 * (i 2).val + (i 3).val) : ℝ) : EReal) := by
  rw [val_main_v64_apply, val_main_v63_apply]
  refine (H.s _).trans ?_
  show ((A.s ((i 2).val * 4 + (i 3).val) : ℝ) : EReal) = _
  rw [Nat.mul_comm]

theorem v72_at (i : S1x64x2x4x128x1.Idx) : (val_main_v72 (F := Ideal) x3 : Vec Ideal S1x64x2x4x128x1 .f32) i = (((R1 A i).σ : ℝ) : EReal) :=
  (val_main_v72_apply (F := Ideal) x3 i).trans ((v64_at H _).trans rfl)

theorem v97_at (i : S1x64x2x4x128x1.Idx) : (val_main_v97 (F := Ideal) x3 : Vec Ideal S1x64x2x4x128x1 .f32) i = (((R1 A i).σ : ℝ) : EReal) :=
  (val_main_v97_apply (F := Ideal) x3 i).trans ((v64_at H _).trans rfl)

theorem v73_at (i : S1x64x2x4x128x1.Idx) : (val_main_v73 (F := Ideal) x0 x1 x3 : Vec Ideal S1x64x2x4x128x1 .f32) i = (R1 A i).top := by
  rw [val_main_v73_apply, v71_at H, v72_at H]; rfl

/-- its exponentials, -/
theorem v94_at (i : S1x64x2x4x128x384.Idx) : (val_main_v94 (F := Ideal) x0 x1 x3 : Vec Ideal S1x64x2x4x128x384 .f32) i
    = (((R6 A i).E (i 5) : ℝ) : EReal) := by
  obtain ⟨z, n, h, g, r, j, rfl⟩ := cases6 i
  rw [val_main_v94_apply, val_main_v93_apply, v62_at H, val_main_v92_apply, v73_at H]
  exact Row.exp_score (R6 A (ix6 z n h g r j)) j

/-- the sink's, -/
theorem v99_at (i : S1x64x2x4x128x1.Idx) : (val_main_v99 (F := Ideal) x0 x1 x3 : Vec Ideal S1x64x2x4x128x1 .f32) i
    = (((R1 A i).Es : ℝ) : EReal) := by
  rw [val_main_v99_apply, val_main_v98_apply, v97_at H, v73_at H]
  exact Row.exp_sink (R1 A i)

/-- their sum, -/
theorem v95_at (i : S1x64x2x4x128.Idx) : (val_main_v95 (F := Ideal) x0 x1 x3 : Vec Ideal S1x64x2x4x128 .f32) i
    = ((∑ j, (R5 A i).E j : ℝ) : EReal) := by
  obtain ⟨z, n, h, g, r, rfl⟩ := cases5 i
  rw [val_main_v95_apply, val_main_cst_20_apply,
    sum_coe_of _ (fun j : Fin 384 => (R5 A (ix5 z n h g r)).E j) (fun j => (v94_at H _).trans rfl)]
  show Ideal.ofBits .f32 0x00000000#32 + _ = _
  rw [Ideal.ofBits_zero_f32, zero_add]

theorem v100_at (i : S1x64x2x4x128x1.Idx) : (val_main_v100 (F := Ideal) x0 x1 x3 : Vec Ideal S1x64x2x4x128x1 .f32) i
    = (((R1 A i).Z : ℝ) : EReal) := by
  rw [val_main_v100_apply, val_main_v96_apply, v95_at H, v99_at H]
  exact (EReal.coe_add _ _).symm

theorem v101_at (i : S1x64x2x4x128x384.Idx) : (val_main_v101 (F := Ideal) x0 x1 x3 : Vec Ideal S1x64x2x4x128x384 .f32) i
    = (((R6 A i).Z : ℝ) : EReal) := by
  obtain ⟨z, n, h, g, r, j, rfl⟩ := cases6 i
  exact (val_main_v101_apply (F := Ideal) x0 x1 x3 _).trans ((v100_at H _).trans rfl)

theorem v123_at (i : S1x64x2x4x128x384.Idx) : (val_main_v123 (F := Ideal) x0 x1 x3 : Vec Ideal S1x64x2x4x128x384 .f32) i
    = (((R6 A i).Z : ℝ) : EReal) := by
  obtain ⟨z, n, h, g, r, j, rfl⟩ := cases6 i
  exact (val_main_v123_apply (F := Ideal) x0 x1 x3 _).trans ((v100_at H _).trans rfl)

/-- and the weights. -/
theorem v102_at (i : S1x64x2x4x128x384.Idx) : (val_main_v102 (F := Ideal) x0 x1 x3 : Vec Ideal S1x64x2x4x128x384 .f32) i
    = (((R6 A i).P (i 5) : ℝ) : EReal) := by
  obtain ⟨z, n, h, g, r, j, rfl⟩ := cases6 i
  rw [val_main_v102_apply, v94_at H, v101_at H]
  show Ideal.div _ _ = _
  rw [Ideal.div_coe (Row.Z_ne _), ← EReal.coe_mul, mul_one_div]
  rfl

theorem v105_at (i : S1x64x2x4x128x1.Idx) : (val_main_v105 (F := Ideal) x0 x1 x3 : Vec Ideal S1x64x2x4x128x1 .f32) i
    = ((1 / ((R1 A i).Z * (R1 A i).Z) : ℝ) : EReal) := by
  rw [val_main_v105_apply, val_main_v103_apply, v100_at H, val_main_v104_apply, val_main_cst_21_apply]
  show Ideal.div (Ideal.ofBits .f32 0x3F800000#32) (_ * _) = _
  rw [← EReal.coe_mul, Ideal.div_coe (mul_ne_zero (Row.Z_ne _) (Row.Z_ne _)), Ideal.ofBits_one_f32, one_mul]

/-- The gradient reaching the weights, -/
theorem v114_at (i : S1x64x2x4x128x384.Idx) : (val_main_v114 (F := Ideal) x2 x4 : Vec Ideal S1x64x2x4x128x384 .f32) i
    = ((D6 A i (i 5) : ℝ) : EReal) := by
  obtain ⟨z, n, h, g, r, j, rfl⟩ := cases6 i
  rw [val_main_v114_apply]
  exact sum_coe_of _ (fun d : Fin 128 => A.y (128 * n.val + r.val) (128 * (4 * h.val + g.val) + d.val) * (A.head h.val n.val).v j d)
    (fun d => by rw [v113_at H, v24_at H, ← EReal.coe_mul]; rfl)

theorem v119_at (i : S1x64x2x4x128x384.Idx) : (val_main_v119 (F := Ideal) x0 x1 x2 x3 x4 : Vec Ideal S1x64x2x4x128x384 .f32) i
    = ((D6 A i (i 5) * (1 / ((R6 A i).Z * (R6 A i).Z)) * (R6 A i).E (i 5) : ℝ) : EReal) := by
  obtain ⟨z, n, h, g, r, j, rfl⟩ := cases6 i
  rw [val_main_v119_apply, val_main_v118_apply, v114_at H, val_main_v117_apply, v105_at H, v94_at H]
  show (_ * _) * _ = _
  rw [← EReal.coe_mul, ← EReal.coe_mul]

theorem v120_at (i : S1x64x2x4x128.Idx) : (val_main_v120 (F := Ideal) x0 x1 x2 x3 x4 : Vec Ideal S1x64x2x4x128 .f32) i
    = ((∑ j, D5 A i j * (1 / ((R5 A i).Z * (R5 A i).Z)) * (R5 A i).E j : ℝ) : EReal) := by
  obtain ⟨z, n, h, g, r, rfl⟩ := cases5 i
  have e : ∀ j, idx_main_v120 (ix5 z n h g r) j = ix6 z n h g r j := fun j => by funext a; fin_cases a <;> rfl
  have h9 : ∀ j, (val_main_v119 (F := Ideal) x0 x1 x2 x3 x4 : Vec Ideal S1x64x2x4x128x384 .f32) (ix6 z n h g r j) = _ := fun j => v119_at H (ix6 z n h g r j)
  rw [val_main_v120_apply, val_main_cst_22_apply]
  generalize val_main_v119 (F := Ideal) x0 x1 x2 x3 x4 = y at h9 ⊢
  simp only [e]
  rw [sum_coe_of _ _ h9]
  show Ideal.ofBits .f32 0x00000000#32 + _ = _
  rw [Ideal.ofBits_zero_f32, zero_add]

/-- the denominator, -/
theorem v122_at (i : S1x64x2x4x128x1.Idx) : (val_main_v122 (F := Ideal) x0 x1 x2 x3 x4 : Vec Ideal S1x64x2x4x128x1 .f32) i
    = (((R1 A i).gZ (D1 A i) : ℝ) : EReal) := by
  have h := v120_at H
  rw [val_main_v122_apply]
  unfold val_main_v121
  generalize val_main_v120 (F := Ideal) x0 x1 x2 x3 x4 = y at h ⊢
  rw [unit_last, h]
  exact (EReal.coe_neg _).symm

theorem v125_at (i : S1x64x2x4x128x1.Idx) : (val_main_v125 (F := Ideal) x0 x1 x2 x3 x4 : Vec Ideal S1x64x2x4x128x1 .f32) i
    = (((R1 A i).gZ (D1 A i) * (R1 A i).Es : ℝ) : EReal) := by
  rw [val_main_v125_apply, v122_at H, v99_at H]
  exact (EReal.coe_mul _ _).symm

theorem drop_unit (y : S1x64x2x4x128x1.Idx → EReal) (j : S64x2x4x128.Idx) :
    Ideal.hostReduceAdd reducesTo_S1x64x2x4x128x1_S64x2x4x128_d0_5 y 0 j = y (ix6 (0 : Fin 1) (j 0) (j 1) (j 2) (j 3) (0 : Fin 1)) := by
  unfold Ideal.hostReduceAdd
  rw [zero_add]
  refine Finset.sum_eq_single_of_mem _ (Finset.mem_filter.2 ⟨Finset.mem_univ _, ?_⟩) fun i hi hne => absurd ?_ hne
  · funext b; fin_cases b <;> rfl
  · have e := (Finset.mem_filter.1 hi).2
    subst e
    refine (eq_ix6 i).trans ?_
    have h0 : (i 0).val < 1 := (i 0).isLt
    have h5 : (i 5).val < 1 := (i 5).isLt
    funext b; fin_cases b
    · exact Fin.ext (show (i 0).val = 0 by omega)
    · rfl
    · rfl
    · rfl
    · rfl
    · exact Fin.ext (show (i 5).val = 0 by omega)

theorem v131_at (i : S1x64x2x4x128x384.Idx) : (val_main_v131 (F := Ideal) x0 x1 x2 x3 x4 : Vec Ideal S1x64x2x4x128x384 .f32) i
    = (((R6 A i).gZ (D6 A i) : ℝ) : EReal) := by
  obtain ⟨z, n, k, g, r, j, rfl⟩ := cases6 i
  have h := v122_at H
  rw [val_main_v131_apply, val_main_v130_apply]
  unfold val_main_v129
  generalize val_main_v122 (F := Ideal) x0 x1 x2 x3 x4 = y at h ⊢
  show Ideal.hostReduceAdd _ y (Ideal.ofBits .f32 0x00000000#32) _ = _
  rw [Ideal.ofBits_zero_f32, drop_unit H, h]

/-- and the exponentials. -/
theorem v133_at (i : S1x64x2x4x128x384.Idx) : (val_main_v133 (F := Ideal) x0 x1 x2 x3 x4 : Vec Ideal S1x64x2x4x128x384 .f32) i
    = (((D6 A i (i 5) * (1 / (R6 A i).Z) + (R6 A i).gZ (D6 A i)) * (R6 A i).E (i 5) : ℝ) : EReal) := by
  obtain ⟨z, n, h, g, r, j, rfl⟩ := cases6 i
  rw [val_main_v133_apply, val_main_v132_apply, val_main_v124_apply, v114_at H, v123_at H, v131_at H, v94_at H]
  show (Ideal.div _ _ + _) * _ = _
  rw [Ideal.div_coe (Row.Z_ne _), ← EReal.coe_mul, ← EReal.coe_add, ← EReal.coe_mul]

theorem v135_at (i : S1x64x2x4x128.Idx) : (val_main_v135 (F := Ideal) x0 x1 x2 x3 x4 : Vec Ideal S1x64x2x4x128 .f32) i
    = ((∑ j, -((D5 A i j * (1 / (R5 A i).Z) + (R5 A i).gZ (D5 A i)) * (R5 A i).E j) : ℝ) : EReal) := by
  obtain ⟨z, n, h, g, r, rfl⟩ := cases5 i
  rw [val_main_v135_apply, val_main_cst_25_apply,
    sum_coe_of _ (fun j : Fin 384 => -((D5 A (ix5 z n h g r) j * (1 / (R5 A (ix5 z n h g r)).Z) + (R5 A (ix5 z n h g r)).gZ (D5 A (ix5 z n h g r))) * (R5 A (ix5 z n h g r)).E j))
      (fun j => by rw [val_main_v134_apply, v133_at H]; exact (EReal.coe_neg _).symm)]
  show Ideal.ofBits .f32 0x00000000#32 + _ = _
  rw [Ideal.ofBits_zero_f32, zero_add]

/-- Nothing reaches the subtracted maximum. -/
theorem v137_at (i : S1x64x2x4x128x1.Idx) : (val_main_v137 (F := Ideal) x0 x1 x2 x3 x4 : Vec Ideal S1x64x2x4x128x1 .f32) i = 0 := by
  have h := v135_at H
  rw [val_main_v137_apply, val_main_v128_apply, v125_at H]
  unfold val_main_v136
  generalize val_main_v135 (F := Ideal) x0 x1 x2 x3 x4 = y at h ⊢
  rw [unit_last, h]
  refine ((congrArg (· + _) (EReal.coe_neg _).symm).trans (EReal.coe_add _ _).symm).trans ?_
  exact (congrArg (fun x : ℝ => (x : EReal)) (Row.gTop_eq (R1 A i) (D1 A i))).trans EReal.coe_zero

theorem v138_at (i : S1x64x2x4x128x1.Idx) : (val_main_v138 (F := Ideal) x0 x1 x2 x3 x4 : Vec Ideal S1x64x2x4x128x1 .f32) i = 0 := by
  rw [val_main_v138_apply, v137_at H]
  exact zero_mul _

theorem v144_at (i : S1x64x2x4x128.Idx) : (val_main_v144 (F := Ideal) x0 x1 x2 x3 x4 : Vec Ideal S1x64x2x4x128 .f32) i = 0 := by
  have h : ∀ j, (val_main_v142 (F := Ideal) x0 x1 x2 x3 x4 : Vec Ideal S1x64x2x4x128x1 .f32) j = 0 := fun j => by
    rw [val_main_v142_apply, v137_at H]
    exact zero_mul _
  rw [val_main_v144_apply]
  unfold val_main_v143
  generalize val_main_v142 (F := Ideal) x0 x1 x2 x3 x4 = y at h ⊢
  show Ideal.hostReduceAdd _ y (Ideal.ofBits .f32 0x00000000#32) _ = _
  rw [Ideal.ofBits_zero_f32, drop_unit H, h]

omit H in
/-- Zero divided by how often the maximum is attained, given back to where it is attained. -/
theorem share (u : Fin 384 → BitVec 1) (k : Fin 384) :
    Ideal.div 0 (Ideal.ofBits .f32 0x00000000#32 + ∑ j, (((u j).toNat : ℝ) : EReal)) * (((u k).toNat : ℝ) : EReal) = 0 := by
  rw [Ideal.ofBits_zero_f32, zero_add, sum_coe_of _ (fun j => ((u j).toNat : ℝ)) fun _ => rfl]
  have hk : (u k).toNat < 2 := (u k).isLt
  by_cases h : (u k).toNat = 0
  · rw [h]; simp
  · have h1 : ((u k).toNat : ℝ) ≤ ∑ j, ((u j).toNat : ℝ) :=
      Finset.single_le_sum (f := fun j => ((u j).toNat : ℝ)) (fun j _ => Nat.cast_nonneg _) (Finset.mem_univ k)
    have h2 : (0 : ℝ) < ((u k).toNat : ℝ) := by exact_mod_cast Nat.pos_of_ne_zero h
    rw [Ideal.div_coe (by linarith), zero_mul, zero_mul]

theorem v147_at (i : S1x64x2x4x128x384.Idx) : (val_main_v147 (F := Ideal) x0 x1 x2 x3 x4 : Vec Ideal S1x64x2x4x128x384 .f32) i = 0 := by
  rw [val_main_v147_apply, val_main_v146_apply, val_main_v145_apply, v144_at H, val_main_v70_apply, val_main_cst_13_apply]
  refine (share (fun j => (val_main_v68 (F := Ideal) x0 x1) (idx_main_v70 (idx_main_v146 i) j)) (i 5)).symm.trans ?_ |>.symm
  have e : i = idx_main_v70 (idx_main_v146 i) (i 5) := by
    have h0 : (i 0).val < 1 := (i 0).isLt
    funext b; fin_cases b
    · exact Fin.ext (show (i 0).val = 0 by omega)
    · rfl
    · rfl
    · rfl
    · rfl
    · rfl
  have e2 := congrArg (fun l => ((((val_main_v68 (F := Ideal) x0 x1) l).toNat : ℝ) : EReal)) e
  exact congrArg (_ * ·) e2.symm

/-- The gradient reaching the scores, -/
theorem v153_at (i : S1x64x2x4x128x384.Idx) : (val_main_v153 (F := Ideal) x0 x1 x2 x3 x4 : Vec Ideal S1x64x2x4x128x384 .f32) i
    = (((R6 A i).P (i 5) * (D6 A i (i 5) - (R6 A i).δ (D6 A i)) * cS : ℝ) : EReal) := by
  rw [val_main_v153_apply, val_main_v151_apply, mask_at, select_win, val_main_v148_apply, v133_at H, v147_at H,
    val_main_call1_v0_apply, val_main_call1_cst_apply, val_main_v152_apply, val_main_cst_29_apply]
  show (if _ then _ + 0 else Ideal.ofBits .f32 0x00000000#32) * Ideal.ofBits .f32 0x3DB504F3#32 = _
  rw [Ideal.ofBits_zero_f32, ofBits_cS, add_zero, EReal.coe_mul _ cS]
  have e := Row.gE_eq (R6 A i) (D6 A i) (i 5)
  congr 1
  by_cases h : win (i 1).val (i 4).val (i 5).val
  · rw [if_pos h]; exact congrArg (fun x : ℝ => (x : EReal)) e
  · rw [if_neg h, Row.P_zero _ (show ¬ (R6 A i).μ (i 5) = true from fun h' => h (of_decide_eq_true h')), zero_mul, EReal.coe_zero]

end Cert.ReferenceIdeal.Attn
end
-- ==== Proof.RVals.lean ====
module

public import proofs.«01_k».proof.Proof.RRow
public import Idealize.ShloMosaic.Lib.TwoAxisContraction
public import Idealize.ShloMosaic.Lib.KernelVsHost

@[expose] public section

set_option maxRecDepth 16384

noncomputable section

/-! The reference's four results. -/

namespace Cert.Attn

/-- The 512 rows of a block are its four query heads' rows. -/
theorem sum_rows (f : Fin 512 → ℝ) : ∑ R, f R = ∑ g : Fin 4, ∑ r : Fin 128, f (Head.at' g r) := by
  refine (Equiv.sum_comp (finProdFinEquiv (m := 4) (n := 128)) f).symm.trans ((Fintype.sum_prod_type _).trans ?_)
  exact Finset.sum_congr rfl fun g _ => Finset.sum_congr rfl fun r _ => congrArg f (Fin.ext (Nat.add_comm _ _))

theorem ds_eq (A : Args) (h n : ℕ) (g : Fin 4) (r : Fin 128) (j : Fin 384) : (A.head h n).ds (Head.at' g r) j
    = (rowN A h n g.val r.val).P j * (gradN A h n g.val r.val j - (rowN A h n g.val r.val).δ (gradN A h n g.val r.val)) * cS := by
  unfold Head.ds Head.δ
  rw [rowN_eq, gradN_eq]

theorem q_eq (A : Args) (h n : ℕ) (g : Fin 4) (r d : Fin 128) :
    (A.head h n).q (Head.at' g r) d = A.q (128 * n + r.val) (128 * (4 * h + g.val) + d.val) := by
  have e1 : (128 * g.val + r.val) % 128 = r.val := by omega
  have e2 : (128 * g.val + r.val) / 128 = g.val := by omega
  show A.q (128 * n + (128 * g.val + r.val) % 128) (128 * (4 * h + (128 * g.val + r.val) / 128) + d.val) = _
  rw [e1, e2]

theorem o_eq (A : Args) (h n : ℕ) (g : Fin 4) (r d : Fin 128) :
    (A.head h n).o (Head.at' g r) d = A.y (128 * n + r.val) (128 * (4 * h + g.val) + d.val) := by
  have e1 : (128 * g.val + r.val) % 128 = r.val := by omega
  have e2 : (128 * g.val + r.val) / 128 = g.val := by omega
  show A.y (128 * n + (128 * g.val + r.val) % 128) (128 * (4 * h + (128 * g.val + r.val) / 128) + d.val) = _
  rw [e1, e2]

/-- The sum of the three blocks that meet at row `r` of block `a`. -/
def meet (f : ℕ → ℕ → ℝ) (a r : ℕ) : ℝ :=
  (if 2 ≤ a ∧ a < 66 then f (a - 2) (256 + r) else 0) + (if 1 ≤ a ∧ a < 65 then f (a - 1) (128 + r) else 0)
    + (if 0 ≤ a ∧ a < 64 then f a r else 0)

/-- One column of a block's gradient of the keys, -/
def dkF (A : Args) (h d n j : ℕ) : ℝ := if e : j < 384 ∧ d < 128 then (A.head h n).dk ⟨j, e.1⟩ ⟨d, e.2⟩ else 0
/-- and of the values. -/
def dvF (A : Args) (h d n j : ℕ) : ℝ := if e : j < 384 ∧ d < 128 then (A.head h n).dv ⟨j, e.1⟩ ⟨d, e.2⟩ else 0

theorem dkF_val (A : Args) (h n : ℕ) (j : Fin 384) (d : Fin 128) : dkF A h d.val n j.val = (A.head h n).dk j d := dif_pos ⟨j.isLt, d.isLt⟩
theorem dvF_val (A : Args) (h n : ℕ) (j : Fin 384) (d : Fin 128) : dvF A h d.val n j.val = (A.head h n).dv j d := dif_pos ⟨j.isLt, d.isLt⟩

theorem meet_eq (f : ℕ → ℕ → ℝ) (a r : ℕ) (hr : r < 128) : meet f a r
    = ∑ n ∈ Finset.range 64, if 128 * n ≤ 128 * a + r ∧ 128 * a + r < 128 * n + 384 then f n (128 * a + r - 128 * n) else 0 := by
  rw [sum_overlap f a r hr, meet]
  simp only [Nat.zero_le, true_and]

theorem meet_dk (A : Args) (p c : ℕ) : meet (dkF A (c / 128) (c % 128)) (p / 128) (p % 128) = A.dkSum 64 p c := by
  rw [meet_eq _ _ _ (by omega), show 128 * (p / 128) + p % 128 = p by omega]
  refine Finset.sum_congr rfl fun n _ => ?_
  by_cases h : 128 * n ≤ p ∧ p < 128 * n + 384
  · rw [if_pos h, dif_pos h, dkF, dif_pos ⟨by omega, by omega⟩]
  · rw [if_neg h, dif_neg h]

theorem meet_dv (A : Args) (p c : ℕ) : meet (dvF A (c / 128) (c % 128)) (p / 128) (p % 128) = A.dvSum 64 p c := by
  rw [meet_eq _ _ _ (by omega), show 128 * (p / 128) + p % 128 = p by omega]
  refine Finset.sum_congr rfl fun n _ => ?_
  by_cases h : 128 * n ≤ p ∧ p < 128 * n + 384
  · rw [if_pos h, dif_pos h, dvF, dif_pos ⟨by omega, by omega⟩]
  · rw [if_neg h, dif_neg h]

end Cert.Attn

namespace Cert.ReferenceIdeal.Attn

open Idealize.ShloMosaic Idealize.ShloMosaic.ValueIdx
open Cert.ReferenceIdeal Cert.ReferenceIdeal.Gen Cert.ReferenceIdeal.Read
open Cert.Attn

abbrev dimsV := dot_S1x64x2x128x4x128_S1x64x2x4x128x384_S1x64x2x128x384_45_34_3_5_012_012
abbrev dimsK := dot_S1x64x2x384x128x4_S1x64x128x2x4x128_S1x64x2x384x128_45_24_3_5_012_013

/-- The product that gives the values' gradient, at an entry. -/
theorem dotV (y : S1x64x2x128x4x128.Idx → EReal) (w : S1x64x2x4x128x384.Idx → EReal) (z : Fin 1) (n : Fin 64) (h : Fin 2)
    (d : Fin 128) (j : Fin 384) :
    (Host.dotGeneral (F := Ideal) (φ₁ := .f32) (φ₂ := .f32) dimsV none y w : S1x64x2x128x384.Idx → EReal) (ix5 z n h d j)
      = ∑ g : Fin 4, ∑ r : Fin 128, y (ix6 z n h d g r) * w (ix6 z n h g r j) := by
  simp only [Host.dotGeneral]
  rw [Ideal.dotGeneral_apply, sum_contr2 dimsV 4 128 rfl rfl rfl]
  refine Finset.sum_congr rfl fun g _ => Finset.sum_congr rfl fun r _ => ?_
  have h0 := contrEquiv2_symm_val0 dimsV 4 128 rfl rfl rfl (g, r)
  have h1 := contrEquiv2_symm_val1 dimsV 4 128 rfl rfl rfl (g, r)
  have el : dimsV.lhsIdx (ix5 z n h d j) ((contrEquiv2 dimsV 4 128 rfl rfl rfl).symm (g, r)) = ix6 z n h d g r := by
    funext a; apply Fin.ext
    match a with
    | ⟨0, _⟩ => rfl
    | ⟨1, _⟩ => rfl
    | ⟨2, _⟩ => rfl
    | ⟨3, _⟩ => rfl
    | ⟨4, _⟩ => exact h0
    | ⟨5, _⟩ => exact h1
  have er : dimsV.rhsIdx (ix5 z n h d j) ((contrEquiv2 dimsV 4 128 rfl rfl rfl).symm (g, r)) = ix6 z n h g r j := by
    funext a; apply Fin.ext
    match a with
    | ⟨0, _⟩ => rfl
    | ⟨1, _⟩ => rfl
    | ⟨2, _⟩ => rfl
    | ⟨3, _⟩ => exact h0
    | ⟨4, _⟩ => exact h1
    | ⟨5, _⟩ => rfl
  rw [el, er]

/-- The product that gives the keys' gradient, at an entry. -/
theorem dotK (y : S1x64x2x384x128x4.Idx → EReal) (w : S1x64x128x2x4x128.Idx → EReal) (z : Fin 1) (n : Fin 64) (h : Fin 2)
    (j : Fin 384) (d : Fin 128) :
    (Host.dotGeneral (F := Ideal) (φ₁ := .f32) (φ₂ := .f32) dimsK none y w : S1x64x2x384x128.Idx → EReal) (ix5 z n h j d)
      = ∑ r : Fin 128, ∑ g : Fin 4, y (ix6 z n h j r g) * w (ix6 z n r h g d) := by
  simp only [Host.dotGeneral]
  rw [Ideal.dotGeneral_apply, sum_contr2 dimsK 128 4 rfl rfl rfl]
  refine Finset.sum_congr rfl fun r _ => Finset.sum_congr rfl fun g _ => ?_
  have h0 := contrEquiv2_symm_val0 dimsK 128 4 rfl rfl rfl (r, g)
  have h1 := contrEquiv2_symm_val1 dimsK 128 4 rfl rfl rfl (r, g)
  have el : dimsK.lhsIdx (ix5 z n h j d) ((contrEquiv2 dimsK 128 4 rfl rfl rfl).symm (r, g)) = ix6 z n h j r g := by
    funext a; apply Fin.ext
    match a with
    | ⟨0, _⟩ => rfl
    | ⟨1, _⟩ => rfl
    | ⟨2, _⟩ => rfl
    | ⟨3, _⟩ => rfl
    | ⟨4, _⟩ => exact h0
    | ⟨5, _⟩ => exact h1
  have er : dimsK.rhsIdx (ix5 z n h j d) ((contrEquiv2 dimsK 128 4 rfl rfl rfl).symm (r, g)) = ix6 z n r h g d := by
    funext a; apply Fin.ext
    match a with
    | ⟨0, _⟩ => rfl
    | ⟨1, _⟩ => rfl
    | ⟨2, _⟩ => exact h0
    | ⟨3, _⟩ => rfl
    | ⟨4, _⟩ => exact h1
    | ⟨5, _⟩ => rfl
  rw [el, er]

/-- A third of every block's rows, moved down by `k` blocks among zeros. -/
theorem moved (k m : ℕ) (x : S1x64x128x2x128.Idx → EReal) (v : S_.Idx → EReal) (hv : ∀ i, v i = 0)
    (h : S1x64x128x2x128.Pads ![0, k, 0, 0, 0] ![0, m, 0, 0, 0] ![0, 0, 0, 0, 0] S1x66x128x2x128) (hu)
    (f : ℕ → ℕ → ℕ → ℕ → ℝ) (hx : ∀ i, x i = ((f (i 3).val (i 4).val (i 1).val (i 2).val : ℝ) : EReal)) (j : S1x66x128x2x128.Idx) :
    pad S1x66x128x2x128 ![0, k, 0, 0, 0] ![0, m, 0, 0, 0] ![0, 0, 0, 0, 0] x v h hu j
      = ((if k ≤ (j 1).val ∧ (j 1).val < 64 + k then f (j 3).val (j 4).val ((j 1).val - k) (j 2).val else 0 : ℝ) : EReal) := by
  by_cases hk : k ≤ (j 1).val ∧ (j 1).val < 64 + k
  · rw [if_pos hk]
    refine (pad_apply_of_inside _ _ _ x v h hu j (ix5 (j 0) ⟨(j 1).val - k, by omega⟩ (j 2) (j 3) (j 4)) ?_).trans (hx _)
    intro a
    match a with
    | ⟨0, _⟩ => show (j 0).val = 0 + (j 0).val * 1; omega
    | ⟨1, _⟩ => show (j 1).val = k + ((j 1).val - k) * 1; omega
    | ⟨2, _⟩ => show (j 2).val = 0 + (j 2).val * 1; omega
    | ⟨3, _⟩ => show (j 3).val = 0 + (j 3).val * 1; omega
    | ⟨4, _⟩ => show (j 4).val = 0 + (j 4).val * 1; omega
  · rw [if_neg hk]
    refine (pad_apply_of_not_inside _ _ _ x v h hu j (1 : Fin S1x64x128x2x128.rank) ?_).trans (hv _)
    show ¬ (k ≤ (j 1).val ∧ ((j 1).val - k) % 1 = 0 ∧ ((j 1).val - k) / 1 < 64)
    rw [Nat.div_one]
    omega

/-- The sum over blocks and rows. -/
theorem drop_rows (y : S1x64x2x4x128x1.Idx → EReal) (j : S1x2x4x1.Idx) :
    Ideal.hostReduceAdd reducesTo_S1x64x2x4x128x1_S1x2x4x1_d1_4 y 0 j
      = ∑ n : Fin 64, ∑ r : Fin 128, y (ix6 (0 : Fin 1) n (j 1) (j 2) r (0 : Fin 1)) := by
  unfold Ideal.hostReduceAdd
  rw [zero_add, ← Fintype.sum_prod_type (f := fun p : Fin 64 × Fin 128 => y (ix6 (0 : Fin 1) p.1 (j 1) (j 2) p.2 (0 : Fin 1)))]
  have hj0 : (j 0).val < 1 := (j 0).isLt
  have hj3 : (j 3).val < 1 := (j 3).isLt
  have key : ∀ i ∈ Finset.univ.filter (fun i => reducesTo_S1x64x2x4x128x1_S1x2x4x1_d1_4.drop i = j),
      ix6 (0 : Fin 1) (i 1) (j 1) (j 2) (i 4) (0 : Fin 1) = i := fun i hi => by
    have e := (Finset.mem_filter.1 hi).2
    subst e
    have h0 : (i 0).val < 1 := (i 0).isLt
    have h5 : (i 5).val < 1 := (i 5).isLt
    refine Eq.trans ?_ (eq_ix6 i).symm
    funext b; fin_cases b
    · exact Fin.ext (show 0 = (i 0).val by omega)
    · rfl
    · rfl
    · rfl
    · rfl
    · exact Fin.ext (show 0 = (i 5).val by omega)
  refine Finset.sum_nbij' (fun i => ((i 1, i 4) : Fin 64 × Fin 128)) (fun p => ix6 (0 : Fin 1) p.1 (j 1) (j 2) p.2 (0 : Fin 1)) ?_ ?_ ?_ ?_ ?_
  · exact fun _ _ => Finset.mem_univ _
  · refine fun p _ => Finset.mem_filter.2 ⟨Finset.mem_univ _, ?_⟩
    funext b; fin_cases b
    · exact Fin.ext (show 0 = (j 0).val by omega)
    · rfl
    · rfl
    · exact Fin.ext (show 0 = (j 3).val by omega)
  · exact key
  · exact fun p _ => rfl
  · exact fun i hi => congrArg y (key i hi).symm

/-- Axes of extent one dropped. -/
theorem drop_ones (y : S1x1x2x4x1x1.Idx → EReal) (j : S2x4.Idx) :
    Ideal.hostReduceAdd reducesTo_S1x1x2x4x1x1_S2x4_d0_1_4_5 y 0 j
      = y (ix6 (0 : Fin 1) (0 : Fin 1) (j 0) (j 1) (0 : Fin 1) (0 : Fin 1)) := by
  unfold Ideal.hostReduceAdd
  rw [zero_add]
  refine Finset.sum_eq_single_of_mem _ (Finset.mem_filter.2 ⟨Finset.mem_univ _, ?_⟩) fun i hi hne => absurd ?_ hne
  · funext b; fin_cases b <;> rfl
  · have e := (Finset.mem_filter.1 hi).2
    subst e
    refine (eq_ix6 i).trans ?_
    have h0 : (i 0).val < 1 := (i 0).isLt
    have h1 : (i 1).val < 1 := (i 1).isLt
    have h4 : (i 4).val < 1 := (i 4).isLt
    have h5 : (i 5).val < 1 := (i 5).isLt
    funext b; fin_cases b
    · exact Fin.ext (show (i 0).val = 0 by omega)
    · exact Fin.ext (show (i 1).val = 0 by omega)
    · rfl
    · rfl
    · exact Fin.ext (show (i 4).val = 0 by omega)
    · exact Fin.ext (show (i 5).val = 0 by omega)

variable {x0 : Vec Ideal S8192x1024 .bf16} {x1 x2 : Vec Ideal S8192x256 .bf16} {x3 : Vec Ideal S8 .f32}
  {x4 : Vec Ideal S8192x2048 .f32} {A : Args} (H : Has x0 x1 x2 x3 x4 A)

include H

theorem ds_at (z : Fin 1) (n : Fin 64) (h : Fin 2) (g : Fin 4) (r : Fin 128) (j : Fin 384) :
    (val_main_v153 (F := Ideal) x0 x1 x2 x3 x4 : Vec Ideal S1x64x2x4x128x384 .f32) (ix6 z n h g r j)
      = (((A.head h.val n.val).ds (Head.at' g r) j : ℝ) : EReal) := by
  rw [ds_eq]; exact v153_at H (ix6 z n h g r j)

theorem p_at (z : Fin 1) (n : Fin 64) (h : Fin 2) (g : Fin 4) (r : Fin 128) (j : Fin 384) :
    (val_main_v102 (F := Ideal) x0 x1 x3 : Vec Ideal S1x64x2x4x128x384 .f32) (ix6 z n h g r j)
      = ((((A.head h.val n.val).row (Head.at' g r)).P j : ℝ) : EReal) := by
  rw [rowN_eq]; exact v102_at H (ix6 z n h g r j)

theorem dsT_at (z : Fin 1) (n : Fin 64) (h : Fin 2) (j : Fin 384) (r : Fin 128) (g : Fin 4) :
    (val_main_v154 (F := Ideal) x0 x1 x2 x3 x4 : Vec Ideal S1x64x2x384x128x4 .f32) (ix6 z n h j r g)
      = (((A.head h.val n.val).ds (Head.at' g r) j : ℝ) : EReal) := by
  rw [val_main_v154_apply]
  have e : idx_main_v154 (ix6 z n h j r g) = ix6 z n h g r j := by funext a; fin_cases a <;> rfl
  rw [e, ds_at H]

/-- The queries' gradient by block, -/
theorem v155_at (z : Fin 1) (n : Fin 64) (h : Fin 2) (r : Fin 128) (g : Fin 4) (d : Fin 128) :
    (val_main_v155 (F := Ideal) x0 x1 x2 x3 x4 : Vec Ideal S1x64x2x128x4x128 .f32) (ix6 z n h r g d)
      = (((A.head h.val n.val).dq (Head.at' g r) d : ℝ) : EReal) := by
  have el : ∀ j, lidx_main_v155 (ix6 z n h r g d) j = ix6 z n h j r g := fun j => by funext a; fin_cases a <;> rfl
  have er : ∀ j, ridx_main_v155 (ix6 z n h r g d) j = ix5 z n j h d := fun j => by funext a; fin_cases a <;> rfl
  have hk : ∀ j, (val_main_v15 (F := Ideal) x1 : Vec Ideal S1x64x384x2x128 .f32) (ix5 z n j h d) = _ := fun j => v15_at H (ix5 z n j h d)
  rw [val_main_v155_apply, sum_coe_of _ (fun j : Fin 384 => (A.head h.val n.val).ds (Head.at' g r) j * (A.head h.val n.val).k j d)]
  · rfl
  · intro j
    rw [el, er, dsT_at H, hk]
    exact (EReal.coe_mul _ _).symm

/-- the keys', -/
theorem v157_at (z : Fin 1) (n : Fin 64) (h : Fin 2) (j : Fin 384) (d : Fin 128) :
    (val_main_v157 (F := Ideal) x0 x1 x2 x3 x4 : Vec Ideal S1x64x2x384x128 .f32) (ix5 z n h j d)
      = (((A.head h.val n.val).dk j d : ℝ) : EReal) := by
  have hs := dsT_at H z n h j
  have hq : ∀ r g, (val_main_v6 (F := Ideal) x0 : Vec Ideal S1x64x128x2x4x128 .f32) (ix6 z n r h g d) = _ := fun r g => v6_at H (ix6 z n r h g d)
  unfold val_main_v157
  generalize val_main_v154 (F := Ideal) x0 x1 x2 x3 x4 = y at hs ⊢
  generalize val_main_v6 (F := Ideal) x0 = w at hq ⊢
  refine (dotK y w z n h j d).trans ?_
  have e : ∀ (r : Fin 128) (g : Fin 4), y (ix6 z n h j r g) * w (ix6 z n r h g d)
      = (((A.head h.val n.val).ds (Head.at' g r) j * (A.head h.val n.val).q (Head.at' g r) d : ℝ) : EReal) := fun r g => by
    rw [hs, hq, q_eq]
    exact (EReal.coe_mul _ _).symm
  simp only [e]
  rw [sum_coe_of _ _ fun r => coe_sum Finset.univ _, Finset.sum_comm, Head.dk, sum_rows]

/-- the values'. -/
theorem v115_at (z : Fin 1) (n : Fin 64) (h : Fin 2) (d : Fin 128) (j : Fin 384) :
    (val_main_v115 (F := Ideal) x0 x1 x3 x4 : Vec Ideal S1x64x2x128x384 .f32) (ix5 z n h d j)
      = (((A.head h.val n.val).dv j d : ℝ) : EReal) := by
  have hp := fun g r => p_at H z n h g r j
  have ho : ∀ g r, (val_main_v113 (F := Ideal) x4 : Vec Ideal S1x64x2x128x4x128 .f32) (ix6 z n h d g r) = _ := fun g r => v113_at H (ix6 z n h d g r)
  unfold val_main_v115
  generalize val_main_v113 (F := Ideal) x4 = y at ho ⊢
  generalize val_main_v102 (F := Ideal) x0 x1 x3 = w at hp ⊢
  refine (dotV y w z n h d j).trans ?_
  have e : ∀ (g : Fin 4) (r : Fin 128), y (ix6 z n h d g r) * w (ix6 z n h g r j)
      = ((((A.head h.val n.val).row (Head.at' g r)).P j * (A.head h.val n.val).o (Head.at' g r) d : ℝ) : EReal) := fun g r => by
    rw [hp, ho, o_eq, mul_comm]
    exact (EReal.coe_mul _ _).symm
  simp only [e]
  rw [sum_coe_of _ _ fun g => coe_sum Finset.univ _, Head.dv, sum_rows]

theorem v158_at (j : S1x64x384x2x128.Idx) : (val_main_v158 (F := Ideal) x0 x1 x2 x3 x4 : Vec Ideal S1x64x384x2x128 .f32) j
    = ((dkF A (j 3).val (j 4).val (j 1).val (j 2).val : ℝ) : EReal) := by
  obtain ⟨z, n, j', h, d, rfl⟩ : ∃ z n j' h d, j = ix5 z n j' h d := ⟨_, _, _, _, _, eq_ix5 j⟩
  have e : idx_main_v158 (ix5 z n j' h d) = ix5 z n h j' d := by funext a; fin_cases a <;> rfl
  rw [val_main_v158_apply, e, v157_at H]
  exact congrArg (fun x : ℝ => (x : EReal)) (dkF_val A h.val n.val j' d).symm

theorem v116_at (j : S1x64x384x2x128.Idx) : (val_main_v116 (F := Ideal) x0 x1 x3 x4 : Vec Ideal S1x64x384x2x128 .f32) j
    = ((dvF A (j 3).val (j 4).val (j 1).val (j 2).val : ℝ) : EReal) := by
  obtain ⟨z, n, j', h, d, rfl⟩ : ∃ z n j' h d, j = ix5 z n j' h d := ⟨_, _, _, _, _, eq_ix5 j⟩
  have e : idx_main_v116 (ix5 z n j' h d) = ix5 z n h d j' := by funext a; fin_cases a <;> rfl
  rw [val_main_v116_apply, e, v115_at H]
  exact congrArg (fun x : ℝ => (x : EReal)) (dvF_val A h.val n.val j' d).symm

/-- The three thirds meet, for the keys, -/
theorem v178_at (j : S1x66x128x2x128.Idx) : (val_main_v178 (F := Ideal) x0 x1 x2 x3 x4 : Vec Ideal S1x66x128x2x128 .f32) j
    = ((meet (dkF A (j 3).val (j 4).val) (j 1).val (j 2).val : ℝ) : EReal) := by
  have h1 := fun i => (val_main_v171_apply (F := Ideal) x0 x1 x2 x3 x4 i).trans (v158_at H _)
  have h2 := fun i => (val_main_v172_apply (F := Ideal) x0 x1 x2 x3 x4 i).trans (v158_at H _)
  have h3 := fun i => (val_main_v173_apply (F := Ideal) x0 x1 x2 x3 x4 i).trans (v158_at H _)
  rw [val_main_v178_apply, val_main_v176_apply]
  unfold val_main_v174 val_main_v175 val_main_v177
  generalize val_main_v171 (F := Ideal) x0 x1 x2 x3 x4 = y1 at h1 ⊢
  generalize val_main_v172 (F := Ideal) x0 x1 x2 x3 x4 = y2 at h2 ⊢
  generalize val_main_v173 (F := Ideal) x0 x1 x2 x3 x4 = y3 at h3 ⊢
  refine (congrArg₂ (· + ·) (congrArg₂ (· + ·)
    (moved 2 0 y3 _ (fun _ => Ideal.ofBits_zero_f32) _ _ (fun h d n r => dkF A h d n (256 + r)) h3 j)
    (moved 1 1 y2 _ (fun _ => Ideal.ofBits_zero_f32) _ _ (fun h d n r => dkF A h d n (128 + r)) h2 j))
    (moved 0 2 y1 _ (fun _ => Ideal.ofBits_zero_f32) _ _ (fun h d n r => dkF A h d n r) h1 j)).trans ?_
  rw [← EReal.coe_add, ← EReal.coe_add]
  rfl

/-- and for the values. -/
theorem v166_at (j : S1x66x128x2x128.Idx) : (val_main_v166 (F := Ideal) x0 x1 x3 x4 : Vec Ideal S1x66x128x2x128 .f32) j
    = ((meet (dvF A (j 3).val (j 4).val) (j 1).val (j 2).val : ℝ) : EReal) := by
  have h1 := fun i => (val_main_v159_apply (F := Ideal) x0 x1 x3 x4 i).trans (v116_at H _)
  have h2 := fun i => (val_main_v160_apply (F := Ideal) x0 x1 x3 x4 i).trans (v116_at H _)
  have h3 := fun i => (val_main_v161_apply (F := Ideal) x0 x1 x3 x4 i).trans (v116_at H _)
  rw [val_main_v166_apply, val_main_v164_apply]
  unfold val_main_v162 val_main_v163 val_main_v165
  generalize val_main_v159 (F := Ideal) x0 x1 x3 x4 = y1 at h1 ⊢
  generalize val_main_v160 (F := Ideal) x0 x1 x3 x4 = y2 at h2 ⊢
  generalize val_main_v161 (F := Ideal) x0 x1 x3 x4 = y3 at h3 ⊢
  refine (congrArg₂ (· + ·) (congrArg₂ (· + ·)
    (moved 2 0 y3 _ (fun _ => Ideal.ofBits_zero_f32) _ _ (fun h d n r => dvF A h d n (256 + r)) h3 j)
    (moved 1 1 y2 _ (fun _ => Ideal.ofBits_zero_f32) _ _ (fun h d n r => dvF A h d n (128 + r)) h2 j))
    (moved 0 2 y1 _ (fun _ => Ideal.ofBits_zero_f32) _ _ (fun h d n r => dvF A h d n r) h1 j)).trans ?_
  rw [← EReal.coe_add, ← EReal.coe_add]
  rfl

/-- The keys' gradient, -/
theorem val_dk : (val_main_v185 (F := Ideal) x0 x1 x2 x3 x4 : Vec Ideal S8192x256 .f32)
    = fun i => ((A.DK (i 0).val (i 1).val : ℝ) : EReal) := by
  funext i
  have h0 : (i 0).val < 8192 := (i 0).isLt
  have h1 : (i 1).val < 256 := (i 1).isLt
  rw [val_main_v185_apply, val_main_v181_apply, val_main_v179_apply, v178_at H, Args.DK, ← meet_dk]
  show ((meet (dkF A ((((0 * 8448 + (128 + ((i 0).val * 256 + (i 1).val) / 256 % 8192)) * 2 + ((i 0).val * 256 + (i 1).val) / 128 % 2) * 128 + ((i 0).val * 256 + (i 1).val) % 128) / 128 % 2)
      ((((0 * 8448 + (128 + ((i 0).val * 256 + (i 1).val) / 256 % 8192)) * 2 + ((i 0).val * 256 + (i 1).val) / 128 % 2) * 128 + ((i 0).val * 256 + (i 1).val) % 128) % 128))
    ((((0 * 8448 + (128 + ((i 0).val * 256 + (i 1).val) / 256 % 8192)) * 2 + ((i 0).val * 256 + (i 1).val) / 128 % 2) * 128 + ((i 0).val * 256 + (i 1).val) % 128) / 32768 % 66)
    ((((0 * 8448 + (128 + ((i 0).val * 256 + (i 1).val) / 256 % 8192)) * 2 + ((i 0).val * 256 + (i 1).val) / 128 % 2) * 128 + ((i 0).val * 256 + (i 1).val) % 128) / 256 % 128) : ℝ) : EReal) = _
  generalize (i 0).val = p at h0 ⊢
  generalize (i 1).val = c at h1 ⊢
  have a1 : (p * 256 + c) / 256 % 8192 = p := by omega
  have a2 : (p * 256 + c) / 128 % 2 = c / 128 := by omega
  have a3 : (p * 256 + c) % 128 = c % 128 := by omega
  rw [a1, a2, a3]
  have b : ((0 * 8448 + (128 + p)) * 2 + c / 128) * 128 + c % 128 = (128 + p) * 256 + c := by omega
  rw [b, show ((128 + p) * 256 + c) / 128 % 2 = c / 128 by omega, show ((128 + p) * 256 + c) % 128 = c % 128 by omega,
    show ((128 + p) * 256 + c) / 32768 % 66 = (128 + p) / 128 by omega, show ((128 + p) * 256 + c) / 256 % 128 = (128 + p) % 128 by omega]

/-- the values', -/
theorem val_dv : (val_main_v184 (F := Ideal) x0 x1 x3 x4 : Vec Ideal S8192x256 .f32)
    = fun i => ((A.DV (i 0).val (i 1).val : ℝ) : EReal) := by
  funext i
  have h0 : (i 0).val < 8192 := (i 0).isLt
  have h1 : (i 1).val < 256 := (i 1).isLt
  rw [val_main_v184_apply, val_main_v169_apply, val_main_v167_apply, v166_at H, Args.DV, ← meet_dv]
  show ((meet (dvF A ((((0 * 8448 + (128 + ((i 0).val * 256 + (i 1).val) / 256 % 8192)) * 2 + ((i 0).val * 256 + (i 1).val) / 128 % 2) * 128 + ((i 0).val * 256 + (i 1).val) % 128) / 128 % 2)
      ((((0 * 8448 + (128 + ((i 0).val * 256 + (i 1).val) / 256 % 8192)) * 2 + ((i 0).val * 256 + (i 1).val) / 128 % 2) * 128 + ((i 0).val * 256 + (i 1).val) % 128) % 128))
    ((((0 * 8448 + (128 + ((i 0).val * 256 + (i 1).val) / 256 % 8192)) * 2 + ((i 0).val * 256 + (i 1).val) / 128 % 2) * 128 + ((i 0).val * 256 + (i 1).val) % 128) / 32768 % 66)
    ((((0 * 8448 + (128 + ((i 0).val * 256 + (i 1).val) / 256 % 8192)) * 2 + ((i 0).val * 256 + (i 1).val) / 128 % 2) * 128 + ((i 0).val * 256 + (i 1).val) % 128) / 256 % 128) : ℝ) : EReal) = _
  generalize (i 0).val = p at h0 ⊢
  generalize (i 1).val = c at h1 ⊢
  have a1 : (p * 256 + c) / 256 % 8192 = p := by omega
  have a2 : (p * 256 + c) / 128 % 2 = c / 128 := by omega
  have a3 : (p * 256 + c) % 128 = c % 128 := by omega
  rw [a1, a2, a3]
  have b : ((0 * 8448 + (128 + p)) * 2 + c / 128) * 128 + c % 128 = (128 + p) * 256 + c := by omega
  rw [b, show ((128 + p) * 256 + c) / 128 % 2 = c / 128 by omega, show ((128 + p) * 256 + c) % 128 = c % 128 by omega,
    show ((128 + p) * 256 + c) / 32768 % 66 = (128 + p) / 128 by omega, show ((128 + p) * 256 + c) / 256 % 128 = (128 + p) % 128 by omega]

/-- the queries', -/
theorem val_dq : (val_main_v186 (F := Ideal) x0 x1 x2 x3 x4 : Vec Ideal S8192x1024 .f32)
    = fun i => ((A.DQ (i 0).val (i 1).val : ℝ) : EReal) := by
  funext i
  have h0 : (i 0).val < 8192 := (i 0).isLt
  have h1 : (i 1).val < 1024 := (i 1).isLt
  rw [val_main_v186_apply]
  have h : ∀ (n : Fin 64) (r : Fin 128) (h : Fin 2) (g : Fin 4) (d : Fin 128),
      (val_main_v156 (F := Ideal) x0 x1 x2 x3 x4 : Vec Ideal S1x64x128x2x4x128 .f32) (ix6 (0 : Fin 1) n r h g d)
        = (((A.head h.val n.val).dq (Head.at' g r) d : ℝ) : EReal) := fun n r h g d => by
    have e : idx_main_v156 (ix6 (0 : Fin 1) n r h g d) = ix6 (0 : Fin 1) n h r g d := by funext a; fin_cases a <;> rfl
    rw [val_main_v156_apply, e, v155_at H]
  unfold val_main_v183
  generalize val_main_v156 (F := Ideal) x0 x1 x2 x3 x4 = y at h ⊢
  refine (shapeCast_apply y _ _ (ix6 (0 : Fin 1) ⟨(i 0).val / 128, by omega⟩ ⟨(i 0).val % 128, by omega⟩ ⟨(i 1).val / 512, by omega⟩
    ⟨(i 1).val / 128 % 4, by omega⟩ ⟨(i 1).val % 128, by omega⟩) ?_).trans ((h _ _ _ _ _).trans ?_)
  · rw [Shape.rowMajor_val_six, Shape.rowMajor_val_four]
    show ((((0 * 64 + (i 0).val / 128) * 128 + (i 0).val % 128) * 2 + (i 1).val / 512) * 4 + (i 1).val / 128 % 4) * 128 + (i 1).val % 128
      = ((0 * 8192 + ((i 0).val * 1024 + (i 1).val) / 1024 % 8192) * 8 + ((i 0).val * 1024 + (i 1).val) / 128 % 8) * 128
        + ((i 0).val * 1024 + (i 1).val) % 128
    omega
  · rfl

/-- The sinks' gradient by head, -/
theorem v126_at (h : Fin 2) (g : Fin 4) :
    (val_main_v126 (F := Ideal) x0 x1 x2 x3 x4 : Vec Ideal S1x2x4x1 .f32) (ix4 (0 : Fin 1) h g (0 : Fin 1))
      = ((A.skSum 64 h.val g : ℝ) : EReal) := by
  have h5 : ∀ (n : Fin 64) (r : Fin 128), (val_main_v125 (F := Ideal) x0 x1 x2 x3 x4 : Vec Ideal S1x64x2x4x128x1 .f32)
      (ix6 (0 : Fin 1) n h g r (0 : Fin 1))
      = ((-(((A.head h.val n.val).row (Head.at' g r)).Ps * (A.head h.val n.val).δ (Head.at' g r)) : ℝ) : EReal) := fun n r => by
    have e : -(((A.head h.val n.val).row (Head.at' g r)).Ps * (A.head h.val n.val).δ (Head.at' g r))
        = (rowN A h.val n.val g.val r.val).gZ (gradN A h.val n.val g.val r.val) * (rowN A h.val n.val g.val r.val).Es := by
      unfold Head.δ
      rw [rowN_eq, gradN_eq]
      exact (Row.gEs_eq _ _).symm
    rw [e]
    exact v125_at H (ix6 (0 : Fin 1) n h g r (0 : Fin 1))
  unfold val_main_v126
  generalize val_main_v125 (F := Ideal) x0 x1 x2 x3 x4 = y at h5 ⊢
  show Ideal.hostReduceAdd _ y (Ideal.ofBits .f32 0x00000000#32) _ = _
  rw [Ideal.ofBits_zero_f32]
  refine (drop_rows y _).trans ((Finset.sum_congr rfl fun n _ => (Finset.sum_congr rfl fun r _ => h5 n r).trans (coe_sum _ _)).trans
    ((coe_sum _ _).trans (congrArg (fun x : ℝ => (x : EReal)) ?_)))
  refine Eq.trans ?_ (Finset.sum_range (fun n => (A.head h.val n).dsk g)).symm
  refine Finset.sum_congr rfl fun n _ => ?_
  rw [Head.dsk, Finset.sum_neg_distrib]

/-- nothing comes by the maximum, -/
theorem v139_at (j : S1x2x4x1.Idx) : (val_main_v139 (F := Ideal) x0 x1 x2 x3 x4 : Vec Ideal S1x2x4x1 .f32) j = 0 := by
  have h := v138_at H
  unfold val_main_v139
  generalize val_main_v138 (F := Ideal) x0 x1 x2 x3 x4 = y at h ⊢
  show Ideal.hostReduceAdd _ y (Ideal.ofBits .f32 0x00000000#32) _ = _
  rw [Ideal.ofBits_zero_f32, drop_rows]
  simp only [h, Finset.sum_const_zero]

omit H in
theorem cast_ones (y : S1x2x4x1.Idx → EReal) (h : Fin 2) (g : Fin 4) :
    shapeCast S1x1x2x4x1x1 y shapeCasts_S1x2x4x1_S1x1x2x4x1x1 (ix6 (0 : Fin 1) (0 : Fin 1) h g (0 : Fin 1) (0 : Fin 1))
      = y (ix4 (0 : Fin 1) h g (0 : Fin 1)) := by
  refine shapeCast_apply y _ _ _ ?_
  rw [Shape.rowMajor_val_four, Shape.rowMajor_val_six]
  show ((0 * 2 + h.val) * 4 + g.val) * 1 + 0 = ((((0 * 1 + 0) * 2 + h.val) * 4 + g.val) * 1 + 0) * 1 + 0
  omega

theorem v141_at (h : Fin 2) (g : Fin 4) : (val_main_v141 (F := Ideal) x0 x1 x2 x3 x4 : Vec Ideal S1x1x2x4x1x1 .f32)
    (ix6 (0 : Fin 1) (0 : Fin 1) h g (0 : Fin 1) (0 : Fin 1)) = ((A.skSum 64 h.val g : ℝ) : EReal) := by
  have ha := v126_at H h g
  have hb := v139_at H (ix4 (0 : Fin 1) h g (0 : Fin 1))
  rw [val_main_v141_apply]
  unfold val_main_v127 val_main_v140
  generalize val_main_v126 (F := Ideal) x0 x1 x2 x3 x4 = y at ha ⊢
  generalize val_main_v139 (F := Ideal) x0 x1 x2 x3 x4 = w at hb ⊢
  refine (congrArg₂ (· + ·) ((cast_ones y h g).trans ha) ((cast_ones w h g).trans hb)).trans ?_
  exact add_zero _

theorem v149_at (h : Fin 2) (g : Fin 4) : (val_main_v149 (F := Ideal) x0 x1 x2 x3 x4 : Vec Ideal S2x4 .f32) (ix2 h g)
    = ((A.skSum 64 h.val g : ℝ) : EReal) := by
  have hs := v141_at H h g
  unfold val_main_v149
  generalize val_main_v141 (F := Ideal) x0 x1 x2 x3 x4 = y at hs ⊢
  show Ideal.hostReduceAdd _ y (Ideal.ofBits .f32 0x00000000#32) _ = _
  rw [Ideal.ofBits_zero_f32]
  exact (drop_ones y _).trans hs

/-- and the sinks'. -/
theorem val_ds : (val_main_v150 (F := Ideal) x0 x1 x2 x3 x4 : Vec Ideal S8 .f32)
    = fun i => ((A.DS (i 0).val : ℝ) : EReal) := by
  funext i
  have h0 : (i 0).val < 8 := (i 0).isLt
  have e : idx_main_v150 i = ix2 (⟨(i 0).val / 4, by omega⟩ : Fin 2) (⟨(i 0).val % 4, by omega⟩ : Fin 4) := by
    funext a
    match a with
    | ⟨0, _⟩ => rfl
    | ⟨1, _⟩ => rfl
  rw [val_main_v150_apply, e, v149_at H]
  rfl

end Cert.ReferenceIdeal.Attn
end
-- ==== Proof.Sums.lean ====
module

public import Mathlib.Data.EReal.Basic
public import Mathlib.Logic.Equiv.Fin.Basic
public import Mathlib.Algebra.BigOperators.Fin

@[expose] public section

noncomputable section

/-! Sums cut into four equal parts. -/

namespace Cert.Ffn

/-- A sum over `4 * n` places, part by part. -/
theorem sum_parts {M : Type*} [AddCommMonoid M] (n N : ℕ) (hN : N = 4 * n) (f : Fin N → M) :
    ∑ i, f i = ∑ j : Fin 4, ∑ k : Fin n, f ⟨n * j.val + k.val, by have := j.isLt; have := k.isLt; subst hN; nlinarith⟩ := by
  subst hN
  refine (Equiv.sum_comp (finProdFinEquiv (m := 4) (n := n)) f).symm.trans ((Fintype.sum_prod_type _).trans ?_)
  exact Finset.sum_congr rfl fun j _ => Finset.sum_congr rfl fun k _ => congrArg f (Fin.ext (Nat.add_comm _ _))

/-- A sum over `2 * n` places, half by half. -/
theorem sum_halves {M : Type*} [AddCommMonoid M] (n N : ℕ) (hN : N = n + n) (f : Fin N → M) :
    ∑ i, f i = (∑ k : Fin n, f ⟨k.val, by omega⟩) + ∑ k : Fin n, f ⟨n + k.val, by omega⟩ := by
  subst hN
  exact Fin.sum_univ_add f

/-- Four parts, added one after another. -/
theorem four {M : Type*} [AddCommMonoid M] (f : Fin 4 → M) : ((f 0 + f 1) + f 2) + f 3 = ∑ j, f j := (Fin.sum_univ_four f).symm

end Cert.Ffn

end
-- ==== Proof.Lay.lean ====
module

public import proofs.«01_k».proof.Proof.Sums
public import Idealize.ShloMosaic.Lib.Pipeline.Value
public import Idealize.ShloMosaic.Lib.KernelVsHost

@[expose] public section

set_option maxRecDepth 16384

noncomputable section

/-! The four chips' shards, and the matrices they make up side by side, entry by entry. -/

namespace Cert.Ffn

open Idealize.ShloMosaic
open Idealize.ShloMosaic.ValueIdx

/-- Column `f` of chip `j`, among all four chips' columns. -/
def col (j : Fin 4) (f : Fin 1408) : Fin 5632 := ⟨1408 * j.val + f.val, by omega⟩
/-- Column `f` of the first half of a chip's columns, -/
def lo (f : Fin 1408) : Fin 2816 := ⟨f.val, by omega⟩
/-- and of the second half. -/
def hi (f : Fin 1408) : Fin 2816 := ⟨1408 + f.val, by omega⟩

/-- A sum over all columns, chip by chip. -/
theorem sum_cols {M : Type*} [AddCommMonoid M] (f : Fin 5632 → M) : ∑ p, f p = ∑ j : Fin 4, ∑ k : Fin 1408, f (col j k) :=
  sum_parts 1408 5632 rfl f

/-- A sum over a chip's columns, half by half. -/
theorem sum_lohi {M : Type*} [AddCommMonoid M] (f : Fin 2816 → M) : ∑ p, f p = (∑ k, f (lo k)) + ∑ k, f (hi k) :=
  sum_halves 1408 2816 rfl f

variable {α : Type} {M : ℕ}

/-- The shards side by side. -/
theorem side (x : (⟨3, ![4, M, 1408]⟩ : Shape).Idx → α) (h : (⟨3, ![4, M, 1408]⟩ : Shape).Transposes [1, 0, 2] ⟨3, ![M, 4, 1408]⟩)
    (h' : (⟨3, ![M, 4, 1408]⟩ : Shape).ShapeCasts ⟨2, ![M, 5632]⟩) (s : Fin M) (j : Fin 4) (f : Fin 1408) :
    shapeCast ⟨2, ![M, 5632]⟩ (transpose ⟨3, ![M, 4, 1408]⟩ [1, 0, 2] x h) h' (ix2 s (col j f)) = x (ix3 j s f) := by
  refine (shapeCast_apply _ h' _ (ix3 s j f) ?_).trans (transpose_apply _ x h _ (ix3 j s f) fun b => ?_)
  · rw [Shape.rowMajor_val_two, Shape.rowMajor_val_three]
    show (s.val * 4 + j.val) * 1408 + f.val = s.val * 5632 + (1408 * j.val + f.val)
    omega
  · match b with
    | ⟨0, _⟩ => rfl
    | ⟨1, _⟩ => rfl
    | ⟨2, _⟩ => rfl

/-- The matrix cut into shards of its columns. -/
theorem cut (y : (⟨2, ![M, 5632]⟩ : Shape).Idx → α) (h : (⟨3, ![M, 4, 1408]⟩ : Shape).Transposes [1, 0, 2] ⟨3, ![4, M, 1408]⟩)
    (h' : (⟨2, ![M, 5632]⟩ : Shape).ShapeCasts ⟨3, ![M, 4, 1408]⟩) (j : Fin 4) (s : Fin M) (f : Fin 1408) :
    transpose ⟨3, ![4, M, 1408]⟩ [1, 0, 2] (shapeCast ⟨3, ![M, 4, 1408]⟩ y h') h (ix3 j s f) = y (ix2 s (col j f)) := by
  refine (transpose_apply _ _ h _ (ix3 s j f) fun b => ?_).trans (shapeCast_apply y h' _ _ ?_)
  · match b with
    | ⟨0, _⟩ => rfl
    | ⟨1, _⟩ => rfl
    | ⟨2, _⟩ => rfl
  · rw [Shape.rowMajor_val_two, Shape.rowMajor_val_three]
    show s.val * 5632 + (1408 * j.val + f.val) = (s.val * 4 + j.val) * 1408 + f.val
    omega

/-- The shards one above another. -/
theorem stack (x : (⟨3, ![4, 1408, M]⟩ : Shape).Idx → α) (h : (⟨3, ![4, 1408, M]⟩ : Shape).ShapeCasts ⟨2, ![5632, M]⟩)
    (j : Fin 4) (f : Fin 1408) (d : Fin M) : shapeCast ⟨2, ![5632, M]⟩ x h (ix2 (col j f) d) = x (ix3 j f d) := by
  refine shapeCast_apply x h _ _ ?_
  rw [Shape.rowMajor_val_two, Shape.rowMajor_val_three]
  show (j.val * 1408 + f.val) * M + d.val = (1408 * j.val + f.val) * M + d.val
  rw [Nat.mul_comm j.val]

/-- The matrix cut into shards of its rows. -/
theorem rows (y : (⟨2, ![5632, M]⟩ : Shape).Idx → α) (h : (⟨2, ![5632, M]⟩ : Shape).ShapeCasts ⟨3, ![4, 1408, M]⟩)
    (j : Fin 4) (f : Fin 1408) (d : Fin M) : shapeCast ⟨3, ![4, 1408, M]⟩ y h (ix3 j f d) = y (ix2 (col j f) d) := by
  refine shapeCast_apply y h _ _ ?_
  rw [Shape.rowMajor_val_two, Shape.rowMajor_val_three]
  show (1408 * j.val + f.val) * M + d.val = (j.val * 1408 + f.val) * M + d.val
  rw [Nat.mul_comm j.val]

/-- A matrix and its transpose. -/
theorem turn {N : ℕ} (y : (⟨2, ![M, N]⟩ : Shape).Idx → α) (h : (⟨2, ![M, N]⟩ : Shape).Transposes [1, 0] ⟨2, ![N, M]⟩)
    (a : Fin N) (b : Fin M) : transpose ⟨2, ![N, M]⟩ [1, 0] y h (ix2 a b) = y (ix2 b a) :=
  transpose_apply _ y h _ (ix2 b a) fun b => match b with
    | ⟨0, _⟩ => rfl
    | ⟨1, _⟩ => rfl

theorem low (x : (⟨3, ![4, M, 2816]⟩ : Shape).Idx → α) (h : (⟨3, ![4, M, 2816]⟩ : Shape).Slices ![0, 0, 0] ⟨3, ![4, M, 1408]⟩)
    (j : Fin 4) (s : Fin M) (f : Fin 1408) : extractStridedSlice ⟨3, ![4, M, 1408]⟩ ![0, 0, 0] x h (ix3 j s f) = x (ix3 j s (lo f)) :=
  extractStridedSlice_apply _ x h _ _ fun a => match a with
    | ⟨0, _⟩ => (Nat.zero_add _).symm
    | ⟨1, _⟩ => (Nat.zero_add _).symm
    | ⟨2, _⟩ => (Nat.zero_add _).symm

theorem high (x : (⟨3, ![4, M, 2816]⟩ : Shape).Idx → α) (h : (⟨3, ![4, M, 2816]⟩ : Shape).Slices ![0, 0, 1408] ⟨3, ![4, M, 1408]⟩)
    (j : Fin 4) (s : Fin M) (f : Fin 1408) : extractStridedSlice ⟨3, ![4, M, 1408]⟩ ![0, 0, 1408] x h (ix3 j s f) = x (ix3 j s (hi f)) :=
  extractStridedSlice_apply _ x h _ _ fun a => match a with
    | ⟨0, _⟩ => (Nat.zero_add _).symm
    | ⟨1, _⟩ => (Nat.zero_add _).symm
    | ⟨2, _⟩ => rfl

theorem both_lo (a b : (⟨3, ![4, M, 1408]⟩ : Shape).Idx → α) (h) (j : Fin 4) (s : Fin M) (f : Fin 1408) :
    concatenate ⟨3, ![4, M, 2816]⟩ 2 [⟨⟨3, ![4, M, 1408]⟩, a⟩, ⟨⟨3, ![4, M, 1408]⟩, b⟩] h (ix3 j s (lo f)) = a (ix3 j s f) := by
  refine concatenate_apply_piece _ _ h _ 0 (show 0 < 2 by decide) ⟨3, ![4, M, 1408]⟩ a rfl rfl 0 rfl (ix3 j s f) ?_ ?_
  · intro c hc
    match c with
    | ⟨0, _⟩ => rfl
    | ⟨1, _⟩ => rfl
    | ⟨2, _⟩ => exact absurd rfl hc
  · exact Nat.zero_add _

theorem both_hi (a b : (⟨3, ![4, M, 1408]⟩ : Shape).Idx → α) (h) (j : Fin 4) (s : Fin M) (f : Fin 1408) :
    concatenate ⟨3, ![4, M, 2816]⟩ 2 [⟨⟨3, ![4, M, 1408]⟩, a⟩, ⟨⟨3, ![4, M, 1408]⟩, b⟩] h (ix3 j s (hi f)) = b (ix3 j s f) := by
  refine concatenate_apply_piece _ _ h _ 1 (show 1 < 2 by decide) ⟨3, ![4, M, 1408]⟩ b rfl rfl 1408 rfl (ix3 j s f) ?_ ?_
  · intro c hc
    match c with
    | ⟨0, _⟩ => rfl
    | ⟨1, _⟩ => rfl
    | ⟨2, _⟩ => exact absurd rfl hc
  · rfl

/-- A column is in one half or in the other. -/
theorem half (p : Fin 2816) : (∃ f, p = lo f) ∨ ∃ f, p = hi f := by
  by_cases h : p.val < 1408
  · exact .inl ⟨⟨p.val, h⟩, rfl⟩
  · exact .inr ⟨⟨p.val - 1408, by omega⟩, Fin.ext (show p.val = 1408 + (p.val - 1408) by omega)⟩

/-- The product of two matrices, over the first one's columns and the second one's rows, -/
theorem dot_nn {K N : ℕ} (D : DotDims ⟨2, ![M, K]⟩ ⟨2, ![K, N]⟩ ⟨2, ![M, N]⟩) (hr : D.contr.rank = 1) (hs : D.contr.size ⟨0, by omega⟩ = K)
    (el : ∀ a b k, D.lhsIdx (ix2 a b) ((contrEquiv1 D K hr hs).symm k) = ix2 a k)
    (er : ∀ a b k, D.rhsIdx (ix2 a b) ((contrEquiv1 D K hr hs).symm k) = ix2 k b)
    (x : (⟨2, ![M, K]⟩ : Shape).Idx → EReal) (y : (⟨2, ![K, N]⟩ : Shape).Idx → EReal) (a : Fin M) (b : Fin N) :
    (Host.dotGeneral (F := Ideal) (φ₁ := .f32) (φ₂ := .f32) D none x y : (⟨2, ![M, N]⟩ : Shape).Idx → EReal) (ix2 a b) = ∑ k : Fin K, x (ix2 a k) * y (ix2 k b) := by
  simp only [Host.dotGeneral]
  rw [Ideal.dotGeneral_apply, ← Equiv.sum_comp (contrEquiv1 D K hr hs).symm]
  exact Finset.sum_congr rfl fun k _ => by rw [el, er]

/-- over both one's rows, -/
theorem dot_tn {K N : ℕ} (D : DotDims ⟨2, ![K, M]⟩ ⟨2, ![K, N]⟩ ⟨2, ![M, N]⟩) (hr : D.contr.rank = 1) (hs : D.contr.size ⟨0, by omega⟩ = K)
    (el : ∀ a b k, D.lhsIdx (ix2 a b) ((contrEquiv1 D K hr hs).symm k) = ix2 k a)
    (er : ∀ a b k, D.rhsIdx (ix2 a b) ((contrEquiv1 D K hr hs).symm k) = ix2 k b)
    (x : (⟨2, ![K, M]⟩ : Shape).Idx → EReal) (y : (⟨2, ![K, N]⟩ : Shape).Idx → EReal) (a : Fin M) (b : Fin N) :
    (Host.dotGeneral (F := Ideal) (φ₁ := .f32) (φ₂ := .f32) D none x y : (⟨2, ![M, N]⟩ : Shape).Idx → EReal) (ix2 a b) = ∑ k : Fin K, x (ix2 k a) * y (ix2 k b) := by
  simp only [Host.dotGeneral]
  rw [Ideal.dotGeneral_apply, ← Equiv.sum_comp (contrEquiv1 D K hr hs).symm]
  exact Finset.sum_congr rfl fun k _ => by rw [el, er]

/-- and over both one's columns. -/
theorem dot_nt {K N : ℕ} (D : DotDims ⟨2, ![M, K]⟩ ⟨2, ![N, K]⟩ ⟨2, ![M, N]⟩) (hr : D.contr.rank = 1) (hs : D.contr.size ⟨0, by omega⟩ = K)
    (el : ∀ a b k, D.lhsIdx (ix2 a b) ((contrEquiv1 D K hr hs).symm k) = ix2 a k)
    (er : ∀ a b k, D.rhsIdx (ix2 a b) ((contrEquiv1 D K hr hs).symm k) = ix2 b k)
    (x : (⟨2, ![M, K]⟩ : Shape).Idx → EReal) (y : (⟨2, ![N, K]⟩ : Shape).Idx → EReal) (a : Fin M) (b : Fin N) :
    (Host.dotGeneral (F := Ideal) (φ₁ := .f32) (φ₂ := .f32) D none x y : (⟨2, ![M, N]⟩ : Shape).Idx → EReal) (ix2 a b) = ∑ k : Fin K, x (ix2 a k) * y (ix2 b k) := by
  simp only [Host.dotGeneral]
  rw [Ideal.dotGeneral_apply, ← Equiv.sum_comp (contrEquiv1 D K hr hs).symm]
  exact Finset.sum_congr rfl fun k _ => by rw [el, er]

end Cert.Ffn

end
-- ==== Proof.Act.lean ====
module

public import proofs.«01_k».proof.Proof.Lay
public import Idealize.ShloMosaic.Lib.IdealHost
public import Mathlib.Analysis.SpecialFunctions.Trigonometric.DerivHyp

@[expose] public section

noncomputable section

/-! The logistic function: the kernel's way of writing it and the reference's. -/

namespace Cert.Ffn

open Idealize.ShloMosaic

/-- The logistic function, as the reference writes it. -/
def sg (x : EReal) : EReal := Ideal.div 1 (1 + Ideal.exp (-x))

theorem half_val : Ideal.ofBits .f32 0x3F000000#32 = (((1 / 2 : ℝ) : ℝ) : EReal) := by
  simp [Ideal.ofBits, Ideal.ieee, -EReal.coe_mul]
  norm_num

/-- On a real number it is a real number, -/
theorem sg_real (x : ℝ) : sg x = ((1 / (1 + Real.exp (-x)) : ℝ) : EReal) := by
  have h : (1 + Real.exp (-x) : ℝ) ≠ 0 := (by positivity : (0 : ℝ) < 1 + Real.exp (-x)).ne'
  unfold sg
  rw [show (-(x : EReal)) = ((-x : ℝ) : EReal) from (EReal.coe_neg x).symm,
    show Ideal.exp ((-x : ℝ) : EReal) = ((Real.exp (-x) : ℝ) : EReal) from rfl, ← EReal.coe_one, ← EReal.coe_add]
  unfold Ideal.div
  rw [if_neg (by exact_mod_cast h), ← EReal.coe_inv, ← EReal.coe_mul, one_div, one_mul]

/-- and it is the kernel's combination of a hyperbolic tangent, at the infinities too. -/
theorem gate (x : EReal) : Ideal.ofBits .f32 0x3F000000#32 * Ideal.tanh (Ideal.ofBits .f32 0x3F000000#32 * x) + Ideal.ofBits .f32 0x3F000000#32 = sg x := by
  rw [half_val]
  induction x using EReal.rec with
  | bot =>
    rw [EReal.coe_mul_bot_of_pos (by norm_num), show Ideal.tanh ⊥ = ((-1 : ℝ) : EReal) from (show Ideal.tanh ⊥ = -1 from rfl).trans (by simp), ← EReal.coe_mul, ← EReal.coe_add]
    unfold sg
    rw [EReal.neg_bot, show Ideal.exp ⊤ = ⊤ from rfl, show (1 : EReal) + ⊤ = ⊤ from EReal.add_top_of_ne_bot (by decide)]
    simp [Ideal.div]
  | top =>
    rw [EReal.coe_mul_top_of_pos (by norm_num), show Ideal.tanh ⊤ = ((1 : ℝ) : EReal) from rfl, ← EReal.coe_mul, ← EReal.coe_add]
    unfold sg
    rw [EReal.neg_top, show Ideal.exp ⊥ = 0 from rfl, add_zero]
    unfold Ideal.div
    rw [if_neg one_ne_zero]
    norm_num
  | coe r =>
    rw [← EReal.coe_mul, show Ideal.tanh ((1 / 2 * r : ℝ) : EReal) = ((Real.tanh (1 / 2 * r) : ℝ) : EReal) from rfl, ← EReal.coe_mul,
      ← EReal.coe_add, sg_real, Real.tanh_eq_sinh_div_cosh, Real.sinh_eq, Real.cosh_eq,
      show Real.exp (-r) = Real.exp (-(1 / 2 * r)) * Real.exp (-(1 / 2 * r)) from by rw [← Real.exp_add]; congr 1; ring, Real.exp_neg]
    have h := Real.exp_pos (1 / 2 * r)
    congr 1
    have h1 : Real.exp (1 / 2 * r) + (Real.exp (1 / 2 * r))⁻¹ ≠ 0 := by positivity
    have h2 : 1 + (Real.exp (1 / 2 * r))⁻¹ * (Real.exp (1 / 2 * r))⁻¹ ≠ 0 := by positivity
    generalize Real.exp (1 / 2 * r) = e at *
    field_simp
    ring

/-- An extended real whose absolute value is below infinity is a real number. -/
theorem real_of (x : EReal) (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  rw [hi] at h
  have h' : max x (-x) < ⊤ := by
    by_contra hc
    simp [Ideal.cmp, hc] at h
  rw [max_lt_iff] at h'
  refine (EReal.coe_toReal h'.1.ne ?_).symm
  rintro rfl
  simp at h'

end Cert.Ffn

end
-- ==== Proof.Hidden2.lean ====
module

public import proofs.«01_k».proof.Proof.Act
public import proofs.«01_k».proof.Proof.Gen.Kernel2Ideal.Value
public import Idealize.ShloMosaic.Lib.Pipeline.ValueKit

@[expose] public section

set_option maxRecDepth 16384

noncomputable section

/-! The gradient of the feed-forward layer's first products: what the kernel's result array ends holding. -/

namespace Cert.Kernel2Ideal.Prod

open Idealize.ShloMosaic hiding ix1 ix2 ix3
open Idealize.ShloMosaic.TcCoe Idealize.ShloMosaic.ValueIdx
open Cert.Kernel2Ideal.Gen Cert.Kernel2Ideal.Value Cert.Ffn

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val % 16, 0] := (by decide +kernel : ∀ t : Fin grid0.N, _)
theorem i1 : ∀ t : Fin cfg0.N, win0_1.index t = ![t.val / 16, 0, 0] := (by decide +kernel : ∀ t : Fin grid0.N, _)
theorem i2 : ∀ t : Fin cfg0.N, win0_2.index t = ![t.val / 16, t.val % 16, 0] := (by decide +kernel : ∀ t : Fin grid0.N, _)
theorem i3 : ∀ t : Fin cfg0.N, win0_3.index t = ![t.val / 16, t.val % 16, 0] := (by decide +kernel : ∀ t : Fin grid0.N, _)

/-- The block of the first operand at a point, -/
theorem blk0 (c : Dev nD) (t : Fin cfg0.N) (x : S512x2048.Idx) (i : S8192x2048.Idx)
    (h0 : (i 0).val = 512 * (t.val % 16) + (x 0).val) (h1 : (i 1).val = 0 + (x 1).val) :
    (iblk m c 0 t : Vec Ideal S512x2048 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rfl

/-- of the second, -/
theorem blk1 (c : Dev nD) (t : Fin cfg0.N) (x : S1x1408x2048.Idx) (i : S4x1408x2048.Idx)
    (h0 : (i 0).val = t.val / 16) (h1 : (i 1).val = 0 + (x 1).val) (h2 : (i 2).val = 0 + (x 2).val) :
    (iblk m c 1 t : Vec Ideal S1x1408x2048 .bf16) x = m ((c.tc : Thread nD τ).loc main_arg1) i := by
  blk_simp [iblk]
  rw [V_main_arg1]
  refine congrArg (m ((c.tc : Thread nD τ).loc main_arg1)) (funext fun a => Fin.ext ?_)
  have e0 : (x 0).val = 0 := Nat.lt_one_iff.1 (x 0).isLt
  match a with
  | ⟨0, _⟩ => refine Eq.trans ?_ h0.symm; blk_simp [i1]
  | ⟨1, _⟩ => refine Eq.trans ?_ h1.symm; blk_simp [i1]; rfl
  | ⟨2, _⟩ => refine Eq.trans ?_ h2.symm; blk_simp [i1]; rfl

/-- and of the third. -/
theorem blk2 (c : Dev nD) (t : Fin cfg0.N) (x : S1x512x2816.Idx) (i : S4x8192x2816.Idx)
    (h0 : (i 0).val = t.val / 16) (h1 : (i 1).val = 512 * (t.val % 16) + (x 1).val) (h2 : (i 2).val = 0 + (x 2).val) :
    (iblk m c 2 t : Vec Ideal S1x512x2816 .bf16) x = m ((c.tc : Thread nD τ).loc main_arg2) i := by
  blk_simp [iblk]
  rw [V_main_arg2]
  refine congrArg (m ((c.tc : Thread nD τ).loc main_arg2)) (funext fun a => Fin.ext ?_)
  have e0 : (x 0).val = 0 := Nat.lt_one_iff.1 (x 0).isLt
  match a with
  | ⟨0, _⟩ => refine Eq.trans ?_ h0.symm; blk_simp [i2]
  | ⟨1, _⟩ => refine Eq.trans ?_ h1.symm; blk_simp [i2]; rw [Nat.mul_comm]; rfl
  | ⟨2, _⟩ => refine Eq.trans ?_ h2.symm; blk_simp [i2]; rfl

/-- The product of two blocks at an entry, -/
theorem part (x : FVec Ideal S512x2048 .bf16) (w : FVec Ideal S1x1408x2048 .bf16) (a : Fin 512) (b : Fin 1408) :
    k0_pay2 (F := Ideal) x w (ix2 a b) = ∑ k : Fin 2048, x (ix2 a k) * w (ix3 0 b k) := by
  simp only [k0_pay2, matmul]
  rw [Ideal.matmul_constant_zero_apply,
    ← Equiv.sum_comp (contrEquiv1 dot_S512x2048_S1408x2048_S512x1408_1_1_0_0_n_n 2048 rfl rfl).symm]
  refine Finset.sum_congr rfl fun k _ => ?_
  refine congrArg₂ (fun a b : EReal => a * b) (congrArg x (by funext u; fin_cases u <;> rfl)) ?_
  refine shapeCast_apply _ _ _ _ ?_
  rw [Shape.rowMajor_val_two, Shape.rowMajor_val_three]
  show (0 * 1408 + b.val) * 2048 + k.val = b.val * 2048 + k.val
  omega

/-- a block read as a matrix, -/
theorem mat (y : Vec Ideal S1x512x1408 .bf16) (a : Fin 512) (b : Fin 1408) :
    (shapeCast S512x1408 y shapeCasts_S1x512x1408_S512x1408 : S512x1408.Idx → EReal) (ix2 a b) = y (ix3 0 a b) := by
  refine shapeCast_apply _ _ _ _ ?_
  rw [Shape.rowMajor_val_two, Shape.rowMajor_val_three]
  show (0 * 512 + a.val) * 1408 + b.val = a.val * 1408 + b.val
  omega

/-- and a matrix stored as a block. -/
theorem store (y : FVec Ideal S512x1408 .bf16) (a : Fin 512) (b : Fin 1408) :
    (shapeCast S1x512x1408 y shapeCasts_S512x1408_S1x512x1408 : S1x512x1408.Idx → EReal) (ix3 0 a b) = y (ix2 a b) := by
  refine shapeCast_apply _ _ _ _ ?_
  rw [Shape.rowMajor_val_two, Shape.rowMajor_val_three]
  show a.val * 1408 + b.val = (0 * 512 + a.val) * 1408 + b.val
  omega

/-- The logistic function of the first product. -/
theorem logi (y : Vec Ideal S1x512x1408 .bf16) (a : Fin 512) (b : Fin 1408) :
    k0_pay4 (F := Ideal) y (ix2 a b) = sg (y (ix3 0 a b)) := by
  rw [← gate, ← mat y a b]
  rfl

/-- The two halves of a stored block. -/
theorem at_lo (a : Fin 512) (b : Fin 1408) : (r0_2.emb (ix3 0 a b : S1x512x1408.Idx) : S1x512x2816.Idx) = ix3 0 a (lo b) := by
  funext u
  match u with
  | ⟨0, _⟩ => rfl
  | ⟨1, _⟩ => exact Fin.ext (show 0 + 1 * a.val = a.val by omega)
  | ⟨2, _⟩ => exact Fin.ext (show 0 + 1 * b.val = b.val by omega)

theorem at_hi (a : Fin 512) (b : Fin 1408) : (r0_3.emb (ix3 0 a b : S1x512x1408.Idx) : S1x512x2816.Idx) = ix3 0 a (hi b) := by
  funext u
  match u with
  | ⟨0, _⟩ => rfl
  | ⟨1, _⟩ => exact Fin.ext (show 0 + 1 * a.val = a.val by omega)
  | ⟨2, _⟩ => exact Fin.ext (show 1408 + 1 * b.val = 1408 + b.val by omega)

/-- What a point leaves of the first half, -/
theorem out_lo (x : Vec Ideal S512x2048 .bf16) (w : Vec Ideal S1x1408x2048 .bf16) (y : Vec Ideal S1x512x2816 .bf16) (a : Fin 512) (b : Fin 1408)
    (g u d : EReal) (hg : y (ix3 0 a (lo b)) = g) (hu : y (ix3 0 a (hi b)) = u) (hd : (∑ k : Fin 2048, x (ix2 a k) * w (ix3 0 b k)) = d) :
    (out0_3 (F := Ideal) x w y : S1x512x2816.Idx → EReal) (ix3 0 a (lo b)) = d * u * (sg g * (1 + g * (1 - sg g))) := by
  unfold out0_3
  rw [View.canon_cons_of_not_mem]
  · rw [← at_lo, View.canon_cons_emb, View.ld_unit_zero (S := S512x2048) z2, View.ld_unit_zero (S := S1x1408x2048) z3]
    unfold k0_pay5
    refine (store _ a b).trans ?_
    have hg' : View.ld y r0_2 (ix3 0 a b : S1x512x1408.Idx) = g := (congrArg y (at_lo a b)).trans hg
    have hu' : View.ld y r0_3 (ix3 0 a b : S1x512x1408.Idx) = u := (congrArg y (at_hi a b)).trans hu
    rw [← hd, ← part, ← hg', ← hu', ← logi, ← Ideal.ofBits_one_f32, ← mat (View.ld y r0_2) a b, ← mat (View.ld y r0_3) a b]
    rfl
  · intro h
    rw [Rect.mem_set_unit] at h
    have h2 : 1408 ≤ b.val := (h 2).1
    omega

/-- and of the second. -/
theorem out_hi (x : Vec Ideal S512x2048 .bf16) (w : Vec Ideal S1x1408x2048 .bf16) (y : Vec Ideal S1x512x2816 .bf16) (a : Fin 512) (b : Fin 1408)
    (g d : EReal) (hg : y (ix3 0 a (lo b)) = g) (hd : (∑ k : Fin 2048, x (ix2 a k) * w (ix3 0 b k)) = d) :
    (out0_3 (F := Ideal) x w y : S1x512x2816.Idx → EReal) (ix3 0 a (hi b)) = d * (g * sg g) := by
  unfold out0_3
  rw [← at_hi, View.canon_cons_emb, View.ld_unit_zero (S := S512x2048) z2, View.ld_unit_zero (S := S1x1408x2048) z3]
  unfold k0_pay1
  refine (store _ a b).trans ?_
  have hg' : View.ld y r0_2 (ix3 0 a b : S1x512x1408.Idx) = g := (congrArg y (at_lo a b)).trans hg
  rw [← hd, ← part, ← hg', ← logi, ← mat (View.ld y r0_2) a b]
  rfl

/-- The gradient of the combination at an entry. -/
def dh (X : S8192x2048.Idx → EReal) (W : S4x1408x2048.Idx → EReal) (j : Fin 4) (s : Fin 8192) (f : Fin 1408) : EReal :=
  ∑ k : Fin 2048, X (ix2 s k) * W (ix3 j f k)

variable (c : Dev nD) (X : S8192x2048.Idx → EReal) (W : S4x1408x2048.Idx → EReal) (Y R : S4x8192x2816.Idx → EReal)
  (hX : m ((c.tc : Thread nD τ).loc main_arg0) = X) (hW : m ((c.tc : Thread nD τ).loc main_arg1) = W) (hY : m ((c.tc : Thread nD τ).loc main_arg2) = Y)
  (hlo : ∀ j s f, R (ix3 j s (lo f)) = dh X W j s f * Y (ix3 j s (hi f)) * (sg (Y (ix3 j s (lo f))) * (1 + Y (ix3 j s (lo f)) * (1 - sg (Y (ix3 j s (lo f)))))))
  (hhi : ∀ j s f, R (ix3 j s (hi f)) = dh X W j s f * (Y (ix3 j s (lo f)) * sg (Y (ix3 j s (lo f)))))

include hX hW hY hlo hhi in
/-- What a point leaves is its block of the gradient, -/
theorem block (t : Fin cfg0.N) (a : Fin 512) (p : Fin 2816) (j : Fin 4) (s : Fin 8192) (hj : j.val = t.val / 16) (hs : s.val = 512 * (t.val % 16) + a.val) :
    (out0_3 (F := Ideal) (iblk m c 0 t) (iblk m c 1 t) (iblk m c 2 t) : S1x512x2816.Idx → EReal) (ix3 0 a p) = R (ix3 j s p) := by
  have hy : ∀ p : Fin 2816, (iblk m c 2 t : Vec Ideal S1x512x2816 .bf16) (ix3 0 a p) = Y (ix3 j s p) := fun p =>
    (blk2 m c t (ix3 0 a p) (ix3 j s p) hj hs (Nat.zero_add _).symm).trans (congrFun hY _)
  have hd : ∀ (x : S512x2048.Idx → EReal) (w : S1x1408x2048.Idx → EReal) (f : Fin 1408), (iblk m c 0 t : Vec Ideal S512x2048 .bf16) = x →
      (iblk m c 1 t : Vec Ideal S1x1408x2048 .bf16) = w → (∑ k : Fin 2048, x (ix2 a k) * w (ix3 0 f k)) = dh X W j s f := by
    rintro _ _ f rfl rfl
    refine Finset.sum_congr rfl fun k _ => ?_
    rw [blk0 m c t (ix2 a k) (ix2 s k) hs (Nat.zero_add _).symm, blk1 m c t (ix3 0 f k) (ix3 j f k) hj (Nat.zero_add _).symm (Nat.zero_add _).symm, hX, hW]
  obtain ⟨f, rfl⟩ | ⟨f, rfl⟩ := half p
  · rw [hlo]
    exact out_lo _ _ _ a f _ _ _ (hy _) (hy _) (hd _ _ f rfl rfl)
  · rw [hhi]
    exact out_hi _ _ _ a f _ _ (hy _) (hd _ _ f rfl rfl)

include hX hW hY hlo hhi in
/-- and so the array ends holding the gradient. -/
theorem value : (dats m 0 c).arrAt 3 cfg0.N = R := by
  refine (dats m 0 c).arrAt_eq_of_covers 3 _ (by decide +kernel) fun t hf y => ?_
  blk_simp
  rw [after0_3]
  have e0 : (y 0).val = 0 := Nat.lt_one_iff.1 (y 0).isLt
  have ey : y = (ix3 0 (y 1) (y 2) : S1x512x2816.Idx) := by
    funext u; match u with
    | ⟨0, _⟩ => exact Fin.ext e0
    | ⟨1, _⟩ => rfl
    | ⟨2, _⟩ => rfl
  refine (congrArg _ ey).trans ?_
  refine (block m c X W Y R hX hW hY hlo hhi t (y 1) (y 2) (((cfg0.win 3).blk t).view.emb y 0) (((cfg0.win 3).blk t).view.emb y 1)
    (by blk_simp [i3]) (by blk_simp [i3]; rw [Nat.mul_comm])).trans (congrArg R (funext fun u => ?_))
  match u with
  | ⟨0, _⟩ => rfl
  | ⟨1, _⟩ => rfl
  | ⟨2, _⟩ =>
    refine Fin.ext (Eq.symm ?_)
    show (((cfg0.win 3).blk t).view.emb y 2).val = _
    blk_simp [i3]

end Cert.Kernel2Ideal.Prod

end
-- ==== Proof.Ref2.lean ====
module

public import proofs.«01_k».proof.Proof.Act
public import proofs.«01_k».proof.Proof.Gen.Reference2Ideal.Run

@[expose] public section

set_option maxRecDepth 16384

noncomputable section

/-! The gradient of the feed-forward layer's first products: what the reference computes. -/

namespace Cert.Reference2Ideal.Prod

open Idealize.ShloMosaic Idealize.ShloMosaic.ValueIdx
open Cert.Reference2Ideal Cert.Reference2Ideal.Gen Cert.Ffn

variable {F : FTy → Type} [FloatOps F]

/-- The logistic function of a matrix, -/
def sig (g : Vec F S8192x5632 .f32) : Vec F S8192x5632 .f32 :=
  Host.divf (broadcastInDim S8192x5632 ![] bcast_S_S8192x5632 (constant S_ .f32 0x3F800000#32)) (addf (broadcastInDim S8192x5632 ![] bcast_S_S8192x5632 (constant S_ .f32 0x3F800000#32)) (Host.exp (Host.negf g)))

/-- entry by entry. -/
theorem sig_at (g : S8192x5632.Idx → EReal) (i : S8192x5632.Idx) : (sig (F := Ideal) g : S8192x5632.Idx → EReal) i = sg (g i) := by
  show Ideal.div (Ideal.ofBits .f32 0x3F800000#32) (Ideal.ofBits .f32 0x3F800000#32 + Ideal.exp (-(g i))) = _
  rw [Ideal.ofBits_one_f32]
  rfl

/-- All chips' first halves, side by side, -/
def G (Y : Vec F S4x8192x2816 .bf16) : Vec F S8192x5632 .f32 :=
  shapeCast _ (transpose S8192x4x1408 [1, 0, 2] (extractStridedSlice S4x8192x1408 ![0, 0, 0] (extf .f32 Y bitsLt_bf16_f32) slices_S4x8192x2816_S4x8192x1408_0_0_0) transposes_S4x8192x1408_S8192x4x1408_1_0_2) shapeCasts_S8192x4x1408_S8192x5632

/-- at an entry. -/
theorem G_at (Y : S4x8192x2816.Idx → EReal) (j : Fin 4) (s : Fin 8192) (f : Fin 1408) :
    (G (F := Ideal) Y : S8192x5632.Idx → EReal) (ix2 s (col j f)) = Y (ix3 j s (lo f)) :=
  (side _ _ _ s j f).trans (low _ _ j s f)

/-- All chips' second halves, side by side, -/
def U (Y : Vec F S4x8192x2816 .bf16) : Vec F S8192x5632 .f32 :=
  shapeCast _ (transpose S8192x4x1408 [1, 0, 2] (extractStridedSlice S4x8192x1408 ![0, 0, 1408] (extf .f32 Y bitsLt_bf16_f32) slices_S4x8192x2816_S4x8192x1408_0_0_1408) transposes_S4x8192x1408_S8192x4x1408_1_0_2) shapeCasts_S8192x4x1408_S8192x5632

/-- at an entry. -/
theorem U_at (Y : S4x8192x2816.Idx → EReal) (j : Fin 4) (s : Fin 8192) (f : Fin 1408) :
    (U (F := Ideal) Y : S8192x5632.Idx → EReal) (ix2 s (col j f)) = Y (ix3 j s (hi f)) :=
  (side _ _ _ s j f).trans (high _ _ j s f)

/-- The gradient of the combination, -/
def D (X : Vec F S8192x2048 .bf16) (W : Vec F S4x1408x2048 .bf16) : Vec F S8192x5632 .f32 :=
  Host.dotGeneral dot_S8192x2048_S5632x2048_S8192x5632_1_1_0_0_n_n none (extf .f32 X bitsLt_bf16_f32) (shapeCast _ (extf .f32 W bitsLt_bf16_f32) shapeCasts_S4x1408x2048_S5632x2048)

/-- at an entry. -/
theorem D_at (X : S8192x2048.Idx → EReal) (W : S4x1408x2048.Idx → EReal) (j : Fin 4) (s : Fin 8192) (f : Fin 1408) :
    (D (F := Ideal) X W : S8192x5632.Idx → EReal) (ix2 s (col j f)) = ∑ k : Fin 2048, X (ix2 s k) * W (ix3 j f k) := by
  unfold D
  refine (dot_nt dot_S8192x2048_S5632x2048_S8192x5632_1_1_0_0_n_n rfl rfl (fun _ _ _ => by funext x; fin_cases x <;> rfl) (fun _ _ _ => by funext x; fin_cases x <;> rfl) _ _ _ _).trans
    (Finset.sum_congr rfl fun k _ => ?_)
  rw [stack]
  rfl

/-- The gradient of the first product, from the two products and the combination's gradient, -/
def dG (g u d : Vec F S8192x5632 .f32) : Vec F S8192x5632 .f32 :=
  addf (mulf (mulf d u) (sig g)) (mulf (mulf g (mulf d u)) (mulf (sig g) (subf (broadcastInDim S8192x5632 ![] bcast_S_S8192x5632 (constant S_ .f32 0x3F800000#32)) (sig g))))

/-- and the result. -/
def res (X : Vec F S8192x2048 .bf16) (W : Vec F S4x1408x2048 .bf16) (Y : Vec F S4x8192x2816 .bf16) : Vec F S4x8192x2816 .bf16 :=
  truncf .bf16 (concatenate S4x8192x2816 2 [⟨S4x8192x1408, (transpose S4x8192x1408 [1, 0, 2] (shapeCast _ (dG (G Y) (U Y) (D X W)) shapeCasts_S8192x5632_S8192x4x1408) transposes_S8192x4x1408_S4x8192x1408_1_0_2)⟩, ⟨S4x8192x1408, (transpose S4x8192x1408 [1, 0, 2] (shapeCast _ (mulf (mulf (G Y) (sig (G Y))) (D X W)) shapeCasts_S8192x5632_S8192x4x1408) transposes_S8192x4x1408_S4x8192x1408_1_0_2)⟩] concatenates_S4x8192x1408_S4x8192x1408_S4x8192x2816_d2) bitsLt_bf16_f32

/-- Its entries: of the first half, -/
theorem res_lo (X : S8192x2048.Idx → EReal) (W : S4x1408x2048.Idx → EReal) (Y : S4x8192x2816.Idx → EReal) (j : Fin 4) (s : Fin 8192) (f : Fin 1408)
    (g u d : EReal) (hg : Y (ix3 j s (lo f)) = g) (hu : Y (ix3 j s (hi f)) = u) (hd : (∑ k : Fin 2048, X (ix2 s k) * W (ix3 j f k)) = d) :
    (res (F := Ideal) X W Y : S4x8192x2816.Idx → EReal) (ix3 j s (lo f)) = d * u * sg g + g * (d * u) * (sg g * (1 - sg g)) := by
  unfold res
  refine (both_lo _ _ concatenates_S4x8192x1408_S4x8192x1408_S4x8192x2816_d2 j s f).trans ((cut _ _ _ j s f).trans ?_)
  rw [← hg, ← hu, ← hd, ← G_at Y j s f, ← U_at Y j s f, ← D_at X W j s f, ← sig_at, ← Ideal.ofBits_one_f32]
  rfl

/-- and of the second. -/
theorem res_hi (X : S8192x2048.Idx → EReal) (W : S4x1408x2048.Idx → EReal) (Y : S4x8192x2816.Idx → EReal) (j : Fin 4) (s : Fin 8192) (f : Fin 1408)
    (g d : EReal) (hg : Y (ix3 j s (lo f)) = g) (hd : (∑ k : Fin 2048, X (ix2 s k) * W (ix3 j f k)) = d) :
    (res (F := Ideal) X W Y : S4x8192x2816.Idx → EReal) (ix3 j s (hi f)) = g * sg g * d := by
  unfold res
  refine (both_hi _ _ concatenates_S4x8192x1408_S4x8192x1408_S4x8192x2816_d2 j s f).trans ((cut _ _ _ j s f).trans ?_)
  rw [← hg, ← hd, ← G_at Y j s f, ← D_at X W j s f, ← sig_at]
  rfl

end Cert.Reference2Ideal.Prod

end
-- ==== Proof.End2.lean ====
module

public import proofs.«01_k».proof.Defs
public import proofs.«01_k».proof.Proof.Gen.Kernel2
public import proofs.«01_k».proof.Proof.Hidden2
public import proofs.«01_k».proof.Proof.Ref2
public import proofs.«01_k».proof.Proof.Spec
public import Idealize.ShloMosaic.Adequacy
public import Idealize.ShloMosaic.Init

@[expose] public section

noncomputable section

/-! The feed-forward layer's first products' gradient: the frames, and the kernel's result set beside the reference's. -/

namespace Cert.Kernel2Ideal.Prod

open Idealize.ShloMosaic Idealize.SL.Sem

/-- The two programs have one text, so one body under each label. -/
theorem bodies_eq : Cert.Kernel2Ideal.defs₀ (F := Bits) = Cert.Kernel2.defs₀ (F := Bits) := by
  unfold Cert.Kernel2Ideal.defs₀ Cert.Kernel2.defs₀
  refine congrArg Defs.onTc ?_
  funext l a
  match l, a with
  | 0, (t, s) => exact rfl
  | ⟨_ + 1, h⟩, _ => exact absurd h (Nat.not_lt.2 (Nat.le_add_left _ _))

theorem defs_eq : Cert.Kernel2Ideal.defs (F := Bits) = Cert.Kernel2.defs (F := Bits) :=
  congrArg (Pipeline.defs (Cert.Kernel2Ideal.pcfgs (F := Bits))) bodies_eq

theorem frame_kernel : Cert.quiescent_Kernel2 (hKernel2 := Cert.Kernel2.Gen.facts) := by
  intro m ρ _
  have h := Cert.Kernel2Ideal.Gen.frame (F := Bits) m ρ
  rw [defs_eq] at h
  exact h

theorem frame_ideal : Cert.quiescent_Kernel2Ideal (hKernel2Ideal := Cert.Kernel2Ideal.Gen.facts) := fun m ρ _ =>
  Cert.Kernel2Ideal.Gen.frame (F := Ideal) m ρ

theorem frame_ref : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

instance pre_facts : Cert.Pre_finite2.Facts where
  bitsLt_bf16_f32 := by decide
  bcast_S_S8192x2048 := by decide
  bcast_S_S4x1408x2048 := by decide
  bcast_S_S4x8192x2816 := by decide

/-- On real numbers the kernel's form of the first product's gradient is the reference's. -/
theorem forms (d u g : EReal) (rd ru rg : ℝ) (hd : d = (rd : EReal)) (hu : u = (ru : EReal)) (hg : g = (rg : EReal)) :
    d * u * Cert.Ffn.sg g + g * (d * u) * (Cert.Ffn.sg g * (1 - Cert.Ffn.sg g)) = d * u * (Cert.Ffn.sg g * (1 + g * (1 - Cert.Ffn.sg g))) := by
  subst hd hu hg
  rw [Cert.Ffn.sg_real, ← EReal.coe_one]
  simp only [← EReal.coe_mul, ← EReal.coe_add, ← EReal.coe_sub]
  congr 1
  ring

theorem values : Cert.algebraic_Kernel2Ideal_Reference2Ideal_pre_finite2 (hKernel2Ideal := Cert.Kernel2Ideal.Gen.facts)
    (hReference2Ideal := Cert.Reference2Ideal.Gen.facts) (hPre_finite2 := pre_facts) := by
  intro m g m' g' hpre hagree
  refine ⟨fun c => Cert.Reference2Ideal.Prod.res (F := Ideal)
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · refine (θ_run Cert.Kernel2Ideal.defs _ _).mono (fun _ h c => ?_) (Cert.Kernel2Ideal.Value.run_blocks (F := Ideal) m g)
    refine ⟨(h c).1.trans (value m c _ _ _ _ rfl rfl rfl (fun j s f => ?_) (fun j s f => ?_)), (h c).2⟩
    · obtain ⟨h0, h1, h2⟩ := hpre c
      refine (Cert.Reference2Ideal.Prod.res_lo _ _ _ j s f _ _ _ rfl rfl rfl).trans (forms _ _ _ _ _ _ (Cert.Attn.sum_coe_of _ _ fun k =>
        (congrArg₂ (fun a b : EReal => a * b) (Cert.Ffn.real_of _ (congrFun h0 _)) (Cert.Ffn.real_of _ (congrFun h1 _))).trans (EReal.coe_mul _ _).symm)
        (Cert.Ffn.real_of _ (congrFun h2 _)) (Cert.Ffn.real_of _ (congrFun h2 _)))
    · exact (Cert.Reference2Ideal.Prod.res_hi _ _ _ j s f _ _ rfl rfl).trans (mul_comm _ _)
  · refine (θ_run Cert.Reference2Ideal.defs _ _).mono (fun _ h c => ?_) (Cert.Reference2Ideal.Value.run (F := Ideal) m' g')
    refine ⟨(h c).1.trans ?_, (h c).2⟩
    rw [show Cert.Reference2Ideal.Value.res_main_v22 m' c = Cert.Reference2Ideal.Prod.res (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) from rfl, (hagree c).1, (hagree c).2.1, (hagree c).2.2]

end Cert.Kernel2Ideal.Prod

end
-- ==== Proof.Mm3.lean ====
module

public import proofs.«01_k».proof.Proof.Sums
public import proofs.«01_k».proof.Proof.Gen.Kernel3Ideal.Value
public import Idealize.ShloMosaic.Lib.Pipeline.ValueKit

@[expose] public section

set_option maxRecDepth 16384

noncomputable section

/-! The gradient of the two weights the feed-forward layer begins with: what the kernel's result array ends holding. -/

namespace Cert.Kernel3Ideal.Prod

open Idealize.ShloMosaic hiding ix1 ix2 ix3
open Idealize.ShloMosaic.TcCoe Idealize.ShloMosaic.ValueIdx
open Cert.Kernel3Ideal.Gen Cert.Kernel3Ideal.Value

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val % 4, t.val / 8 % 2] := (by decide +kernel : ∀ t : Fin grid0.N, _)
theorem i1 : ∀ t : Fin cfg0.N, win0_1.index t = ![t.val / 16, t.val % 4, t.val / 4 % 2] := (by decide +kernel : ∀ t : Fin grid0.N, _)

/-- The block of the first operand at a point, -/
theorem blk0 (c : Dev nD) (t : Fin cfg0.N) (x : S2048x1024.Idx) (i : S8192x2048.Idx)
    (h0 : (i 0).val = 2048 * (t.val % 4) + (x 0).val) (h1 : (i 1).val = 1024 * (t.val / 8 % 2) + (x 1).val) :
    (iblk m c 0 t : Vec Ideal S2048x1024 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rw [Nat.mul_comm]; rfl

/-- and of the second. -/
theorem blk1 (c : Dev nD) (t : Fin cfg0.N) (x : S1x2048x1408.Idx) (i : S4x8192x2816.Idx)
    (h0 : (i 0).val = t.val / 16) (h1 : (i 1).val = 2048 * (t.val % 4) + (x 1).val) (h2 : (i 2).val = 1408 * (t.val / 4 % 2) + (x 2).val) :
    (iblk m c 1 t : Vec Ideal S1x2048x1408 .bf16) x = m ((c.tc : Thread nD τ).loc main_arg1) i := by
  blk_simp [iblk]
  rw [V_main_arg1]
  refine congrArg (m ((c.tc : Thread nD τ).loc main_arg1)) (funext fun a => Fin.ext ?_)
  have e0 : (x 0).val = 0 := Nat.lt_one_iff.1 (x 0).isLt
  match a with
  | ⟨0, _⟩ => refine Eq.trans ?_ h0.symm; blk_simp [i1]
  | ⟨1, _⟩ => refine Eq.trans ?_ h1.symm; blk_simp [i1]; rw [Nat.mul_comm]; rfl
  | ⟨2, _⟩ => refine Eq.trans ?_ h2.symm; blk_simp [i1]; rw [Nat.mul_comm]; rfl

/-- The product of two blocks at an entry. -/
theorem part (x : FVec Ideal S2048x1024 .bf16) (w : FVec Ideal S1x2048x1408 .bf16) (a : Fin 1024) (b : Fin 1408) :
    k0_pay1 (F := Ideal) x w (ix2 a b) = ∑ k : Fin 2048, x (ix2 k a) * w (ix3 0 k b) := by
  simp only [k0_pay1, matmul]
  rw [Ideal.matmul_constant_zero_apply,
    ← Equiv.sum_comp (contrEquiv1 dot_S2048x1024_S2048x1408_S1024x1408_0_0_1_1_n_n 2048 rfl rfl).symm]
  refine Finset.sum_congr rfl fun k _ => ?_
  congr 1
  · congr 1; funext a; fin_cases a <;> rfl
  · refine shapeCast_apply _ _ _ _ ?_
    rw [Shape.rowMajor_val_two, Shape.rowMajor_val_three]
    show (0 * 2048 + k.val) * 1408 + b.val = k.val * 1408 + b.val
    omega

variable (c : Dev nD)

/-- What a run's first point leaves in the scratch, -/
theorem soutA (i : grid0.Coords) (a4 : Memref sig .tc .vmem S2048x1024 .bf16) (h4 : a4.IsWhole)
    (a5 : Memref sig .tc .vmem S1x2048x1408 .bf16) (h5 : a5.IsWhole) (a6 : Memref sig .tc .vmem S1x1024x1408 .f32) (h6 : a6.IsWhole)
    (a7 : Memref sig .tc .vmem S1024x1408 .f32) (h7 : a7.IsWhole) (hc0 : cond0_0 i) (hc1 : ¬cond0_1 i) (hc2 : ¬cond0_2 i)
    (x : Vec Ideal S2048x1024 .bf16) (w : Vec Ideal S1x2048x1408 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x1408) z2]
  unfold k0_pay2
  simp only [View.readAt_eq_ld, h4.read_unread, h5.read_unread, View.ld_unit_zero (S := S2048x1024) z2, View.ld_unit_zero (S := S1x2048x1408) z3, shapeCast_self]

/-- a middle one, -/
theorem soutB (i : grid0.Coords) (a4 : Memref sig .tc .vmem S2048x1024 .bf16) (h4 : a4.IsWhole)
    (a5 : Memref sig .tc .vmem S1x2048x1408 .bf16) (h5 : a5.IsWhole) (a6 : Memref sig .tc .vmem S1x1024x1408 .f32) (h6 : a6.IsWhole)
    (a7 : Memref sig .tc .vmem S1024x1408 .f32) (h7 : a7.IsWhole) (hc0 : ¬cond0_0 i) (hc1 : cond0_1 i) (hc2 : ¬cond0_2 i)
    (x : Vec Ideal S2048x1024 .bf16) (w : Vec Ideal S1x2048x1408 .bf16) (s : Vec Ideal S1024x1408 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x1408) z2]
  unfold k0_pay3
  simp only [View.readAt_eq_ld, h4.read_unread, h5.read_unread, h7.read_unread, View.ld_unit_zero (S := S2048x1024) z2, View.ld_unit_zero (S := S1x2048x1408) z3, View.ld_unit_zero (S := S1024x1408) z2, shapeCast_self]

/-- and what the last one stores. -/
theorem outC (i : grid0.Coords) (a4 : Memref sig .tc .vmem S2048x1024 .bf16) (h4 : a4.IsWhole)
    (a5 : Memref sig .tc .vmem S1x2048x1408 .bf16) (h5 : a5.IsWhole) (a6 : Memref sig .tc .vmem S1x1024x1408 .f32) (h6 : a6.IsWhole)
    (a7 : Memref sig .tc .vmem S1024x1408 .f32) (h7 : a7.IsWhole) (hc0 : ¬cond0_0 i) (hc1 : cond0_1 i) (hc2 : cond0_2 i)
    (x : Vec Ideal S2048x1024 .bf16) (w : Vec Ideal S1x2048x1408 .bf16) (s : Vec Ideal S1024x1408 .f32) :
    out0_C_2 c i a4 h4 a5 h5 a6 h6 a7 h7 hc0 hc1 hc2 x w s = k0_pay4 (addf s (k0_pay1 x w)) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1x1024x1408) z3, View.readCov_unit_zero (S := S1024x1408) _ z2]
  unfold k0_pay3
  simp only [View.readAt_eq_ld, h4.read_unread, h5.read_unread, h7.read_unread, View.ld_unit_zero (S := S2048x1024) z2, View.ld_unit_zero (S := S1x2048x1408) z3, View.ld_unit_zero (S := S1024x1408) z2, shapeCast_self]

/-- The product at a point. -/
def P (t : Fin cfg0.N) : FVec Ideal S1024x1408 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = k0_pay4 (addf (outsAt0 m c (t.val - 1) (Nat.lt_of_le_of_lt (Nat.sub_le _ _) t.isLt)).2 (P m c t)) := by
  rw [outsAt0_C m c t (r3 _ h2).1 (r3 _ h2).2 h2]
  dsimp only
  rw [outC]
  unfold P
  rfl

/-- What a run's last point stores: the four products' sum. -/
theorem stored (q : ℕ) (hq : q < 16) (j : S1024x1408.Idx) (y : S1x1024x1408.Idx) (h1 : (y 1).val = (j 0).val) (h2 : (y 2).val = (j 1).val)
    (h : 4 * q + 3 < cfg0.N) :
    (outsAt0 m c (4 * q + 3) h).1 y = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  unfold k0_pay4
  refine (shapeCast_apply _ _ _ j ?_).trans ?_
  · rw [Shape.rowMajor_val_two, Shape.rowMajor_val_three]
    have e0 : (y 0).val = 0 := Nat.lt_one_iff.1 (y 0).isLt
    show (j 0).val * 1408 + (j 1).val = ((y 0).val * 1024 + (y 1).val) * 1408 + (y 2).val
    rw [e0, h1, h2]; omega
  · exact Cert.Ffn.four fun r : Fin 4 => (P m c ⟨4 * q + r.val, lt_of_lt_of_eq (by omega) N_0.symm⟩ j : EReal)

/-- The result array at an entry. -/
theorem value (i : S4x2048x2816.Idx) (X : S8192x2048.Idx → EReal) (W : S4x8192x2816.Idx → EReal)
    (hX : m ((c.tc : Thread nD τ).loc main_arg0) = X) (hW : m ((c.tc : Thread nD τ).loc main_arg1) = W) :
    G2 m c i = ∑ s : Fin 8192, X (ix2 s (i 1)) * W (ix3 (i 0) s (i 2)) := by
  have b0 : (i 0).val < 4 := (i 0).isLt
  have b1 : (i 1).val < 2048 := (i 1).isLt
  have b2 : (i 2).val < 2816 := (i 2).isLt
  have hq : run2Of i = 4 * (i 0).val + 2 * ((i 1).val / 1024) + (i 2).val / 1408 := by unfold run2Of; omega
  have hN : cfg0.N = 64 := N_0
  have h : 4 * run2Of i + 3 < cfg0.N := by omega
  unfold G2
  rw [dif_pos h, ← outsAt0_sweep m c _ h, stored m c _ (by omega) (ix2 ⟨(i 1).val % 1024, Nat.mod_lt _ (by decide)⟩ ⟨(i 2).val % 1408, Nat.mod_lt _ (by decide)⟩) _ rfl rfl,
    Cert.Ffn.sum_parts 2048 8192 rfl]
  refine Finset.sum_congr (M := EReal) rfl fun r _ => (part _ _ _ _).trans (Finset.sum_congr rfl fun k _ => ?_)
  have hr := r.isLt
  have hk := k.isLt
  rw [blk0 m c _ _ (ix2 ⟨2048 * r.val + k.val, by omega⟩ (i 1)) ?_ ?_ , blk1 m c _ _ (ix3 (i 0) ⟨2048 * r.val + k.val, by omega⟩ (i 2)) ?_ ?_ ?_ , hX, hW]
  · show (i 0).val = (4 * run2Of i + r.val) / 16; omega
  · show 2048 * r.val + k.val = 2048 * ((4 * run2Of i + r.val) % 4) + k.val; omega
  · show (i 2).val = 1408 * ((4 * run2Of i + r.val) / 4 % 2) + (i 2).val % 1408; omega
  · show 2048 * r.val + k.val = 2048 * ((4 * run2Of i + r.val) % 4) + k.val; omega
  · show (i 1).val = 1024 * ((4 * run2Of i + r.val) / 8 % 2) + (i 1).val % 1024; omega

end Cert.Kernel3Ideal.Prod

end
-- ==== Proof.Ref3.lean ====
module

public import proofs.«01_k».proof.Proof.Lay
public import proofs.«01_k».proof.Proof.Gen.Reference3Ideal.Run

@[expose] public section

set_option maxRecDepth 16384

noncomputable section

/-! The gradient of the two weights the feed-forward layer begins with: what the reference computes. -/

namespace Cert.Reference3Ideal.Prod

open Idealize.ShloMosaic Idealize.ShloMosaic.ValueIdx
open Cert.Reference3Ideal Cert.Reference3Ideal.Gen Cert.Ffn

/-- The reference's result, from its two arguments. -/
def res {F : FTy → Type} [FloatOps F] (X : Vec F S8192x2048 .bf16) (W : Vec F S4x8192x2816 .bf16) : Vec F S4x2048x2816 .f32 :=
  concatenate S4x2048x2816 2 [⟨S4x2048x1408, (transpose S4x2048x1408 [1, 0, 2] (shapeCast _ (transpose S2048x5632 [1, 0] (Host.dotGeneral dot_S8192x5632_S8192x2048_S5632x2048_0_0_1_1_n_n none (shapeCast _ (transpose S8192x4x1408 [1, 0, 2] (extractStridedSlice S4x8192x1408 ![0, 0, 0] (extf .f32 W bitsLt_bf16_f32) slices_S4x8192x2816_S4x8192x1408_0_0_0) transposes_S4x8192x1408_S8192x4x1408_1_0_2) shapeCasts_S8192x4x1408_S8192x5632) (extf .f32 X bitsLt_bf16_f32)) transposes_S5632x2048_S2048x5632_1_0) shapeCasts_S2048x5632_S2048x4x1408) transposes_S2048x4x1408_S4x2048x1408_1_0_2)⟩, ⟨S4x2048x1408, (transpose S4x2048x1408 [1, 0, 2] (shapeCast _ (transpose S2048x5632 [1, 0] (Host.dotGeneral dot_S8192x5632_S8192x2048_S5632x2048_0_0_1_1_n_n none (shapeCast _ (transpose S8192x4x1408 [1, 0, 2] (extractStridedSlice S4x8192x1408 ![0, 0, 1408] (extf .f32 W bitsLt_bf16_f32) slices_S4x8192x2816_S4x8192x1408_0_0_1408) transposes_S4x8192x1408_S8192x4x1408_1_0_2) shapeCasts_S8192x4x1408_S8192x5632) (extf .f32 X bitsLt_bf16_f32)) transposes_S5632x2048_S2048x5632_1_0) shapeCasts_S2048x5632_S2048x4x1408) transposes_S2048x4x1408_S4x2048x1408_1_0_2)⟩] concatenates_S4x2048x1408_S4x2048x1408_S4x2048x2816_d2

/-- Its entries. -/
theorem res_at (X : S8192x2048.Idx → EReal) (W : S4x8192x2816.Idx → EReal) (a : Fin 4) (b : Fin 2048) (c : Fin 2816) :
    res (F := Ideal) X W (ix3 a b c) = ∑ s : Fin 8192, X (ix2 s b) * W (ix3 a s c) := by
  unfold res
  obtain ⟨f, hf⟩ | ⟨f, hf⟩ := half c
  · rw [hf]
    refine (both_lo _ _ _ a b f).trans ((cut _ _ _ a b f).trans ((turn _ _ b (col a f)).trans
      ((dot_tn dot_S8192x5632_S8192x2048_S5632x2048_0_0_1_1_n_n rfl rfl (fun _ _ _ => by funext x; fin_cases x <;> rfl) (fun _ _ _ => by funext x; fin_cases x <;> rfl) _ _ _ _).trans
      (Finset.sum_congr rfl fun s _ => ?_))))
    rw [side, low, mul_comm]
    rfl
  · rw [hf]
    refine (both_hi _ _ _ a b f).trans ((cut _ _ _ a b f).trans ((turn _ _ b (col a f)).trans
      ((dot_tn dot_S8192x5632_S8192x2048_S5632x2048_0_0_1_1_n_n rfl rfl (fun _ _ _ => by funext x; fin_cases x <;> rfl) (fun _ _ _ => by funext x; fin_cases x <;> rfl) _ _ _ _).trans
      (Finset.sum_congr rfl fun s _ => ?_))))
    rw [side, high, mul_comm]
    rfl

end Cert.Reference3Ideal.Prod

end
-- ==== Proof.End3.lean ====
module

public import proofs.«01_k».proof.Defs
public import proofs.«01_k».proof.Proof.Gen.Kernel3
public import proofs.«01_k».proof.Proof.Mm3
public import proofs.«01_k».proof.Proof.Ref3
public import Idealize.ShloMosaic.Adequacy
public import Idealize.ShloMosaic.Init

@[expose] public section

noncomputable section

/-! The gradient of the feed-forward layer's first weights: the frames, and the kernel's result set beside the reference's. -/

namespace Cert.Kernel3Ideal.Prod

open Idealize.ShloMosaic Idealize.SL.Sem

/-- The two programs have one text, so one body under each label. -/
theorem bodies_eq : Cert.Kernel3Ideal.defs₀ (F := Bits) = Cert.Kernel3.defs₀ (F := Bits) := by
  unfold Cert.Kernel3Ideal.defs₀ Cert.Kernel3.defs₀
  refine congrArg Defs.onTc ?_
  funext l a
  match l, a with
  | 0, (t, s) => exact rfl
  | ⟨_ + 1, h⟩, _ => exact absurd h (Nat.not_lt.2 (Nat.le_add_left _ _))

theorem defs_eq : Cert.Kernel3Ideal.defs (F := Bits) = Cert.Kernel3.defs (F := Bits) :=
  congrArg (Pipeline.defs (Cert.Kernel3Ideal.pcfgs (F := Bits))) bodies_eq

theorem frame_kernel : Cert.quiescent_Kernel3 (hKernel3 := Cert.Kernel3.Gen.facts) := by
  intro m ρ _
  have h := Cert.Kernel3Ideal.Gen.frame (F := Bits) m ρ
  rw [defs_eq] at h
  exact h

theorem frame_ideal : Cert.quiescent_Kernel3Ideal (hKernel3Ideal := Cert.Kernel3Ideal.Gen.facts) := fun m ρ _ =>
  Cert.Kernel3Ideal.Gen.frame (F := Ideal) m ρ

theorem frame_ref : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem values : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Prod.res (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · refine (θ_run Cert.Kernel3Ideal.defs _ _).mono (fun _ h c => ?_) (Cert.Kernel3Ideal.Value.run (F := Ideal) m g)
    refine ⟨(h c).1.trans (funext fun i => ?_), (h c).2⟩
    refine (value m c i _ _ rfl rfl).trans (((congrArg _ (ValueIdx.eq_ix3 i)).trans (Cert.Reference3Ideal.Prod.res_at _ _ (i 0) (i 1) (i 2))).symm)
  · refine (θ_run Cert.Reference3Ideal.defs _ _).mono (fun _ h c => ?_) (Cert.Reference3Ideal.Value.run (F := Ideal) m' g')
    refine ⟨(h c).1.trans ?_, (h c).2⟩
    rw [(hagree c).1, (hagree c).2]
    rfl

end Cert.Kernel3Ideal.Prod

end
-- ==== Proof.Mm4.lean ====
module

public import proofs.«01_k».proof.Proof.Sums
public import proofs.«01_k».proof.Proof.Gen.Kernel4Ideal.Value
public import Idealize.ShloMosaic.Lib.Pipeline.ValueKit

@[expose] public section

set_option maxRecDepth 16384

noncomputable section

/-! The gradient of the feed-forward layer's input: what the kernel's result array ends holding. -/

namespace Cert.Kernel4Ideal.Prod

open Idealize.ShloMosaic hiding ix1 ix2 ix3
open Idealize.ShloMosaic.TcCoe Idealize.ShloMosaic.ValueIdx
open Cert.Kernel4Ideal.Gen Cert.Kernel4Ideal.Value

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val % 4, t.val / 8, 0] := (by decide +kernel : ∀ t : Fin grid0.N, _)
theorem i1 : ∀ t : Fin cfg0.N, win0_1.index t = ![t.val % 4, t.val / 4 % 2, 0] := (by decide +kernel : ∀ t : Fin grid0.N, _)

/-- The block of the first operand at a point, -/
theorem blk0 (c : Dev nD) (t : Fin cfg0.N) (x : S1x1024x2816.Idx) (i : S4x8192x2816.Idx)
    (h0 : (i 0).val = t.val % 4) (h1 : (i 1).val = 1024 * (t.val / 8) + (x 1).val) (h2 : (i 2).val = 0 + (x 2).val) :
    (iblk m c 0 t : Vec Ideal S1x1024x2816 .bf16) x = m ((c.tc : Thread nD τ).loc main_arg0) i := by
  blk_simp [iblk]
  rw [V_main_arg0]
  refine congrArg (m ((c.tc : Thread nD τ).loc main_arg0)) (funext fun a => Fin.ext ?_)
  have e0 : (x 0).val = 0 := Nat.lt_one_iff.1 (x 0).isLt
  match a with
  | ⟨0, _⟩ => refine Eq.trans ?_ h0.symm; blk_simp [i0]
  | ⟨1, _⟩ => refine Eq.trans ?_ h1.symm; blk_simp [i0]; rw [Nat.mul_comm]; rfl
  | ⟨2, _⟩ => refine Eq.trans ?_ h2.symm; blk_simp [i0]; rfl

/-- and of the second. -/
theorem blk1 (c : Dev nD) (t : Fin cfg0.N) (x : S1x1024x2816.Idx) (i : S4x2048x2816.Idx)
    (h0 : (i 0).val = t.val % 4) (h1 : (i 1).val = 1024 * (t.val / 4 % 2) + (x 1).val) (h2 : (i 2).val = 0 + (x 2).val) :
    (iblk m c 1 t : Vec Ideal S1x1024x2816 .bf16) x = m ((c.tc : Thread nD τ).loc main_arg1) i := by
  blk_simp [iblk]
  rw [V_main_arg1]
  refine congrArg (m ((c.tc : Thread nD τ).loc main_arg1)) (funext fun a => Fin.ext ?_)
  have e0 : (x 0).val = 0 := Nat.lt_one_iff.1 (x 0).isLt
  match a with
  | ⟨0, _⟩ => refine Eq.trans ?_ h0.symm; blk_simp [i1]
  | ⟨1, _⟩ => refine Eq.trans ?_ h1.symm; blk_simp [i1]; rw [Nat.mul_comm]; rfl
  | ⟨2, _⟩ => refine Eq.trans ?_ h2.symm; blk_simp [i1]; rfl

/-- The product of two blocks at an entry. -/
theorem part (x : FVec Ideal S1x1024x2816 .bf16) (w : FVec Ideal S1x1024x2816 .bf16) (a : Fin 1024) (b : Fin 1024) :
    k0_pay1 (F := Ideal) x w (ix2 a b) = ∑ k : Fin 2816, x (ix3 0 a k) * w (ix3 0 b k) := by
  simp only [k0_pay1, matmul]
  rw [Ideal.matmul_constant_zero_apply,
    ← Equiv.sum_comp (contrEquiv1 dot_S1024x2816_S1024x2816_S1024x1024_1_1_0_0_n_n 2816 rfl rfl).symm]
  refine Finset.sum_congr rfl fun k _ => ?_
  congr 1
  · refine shapeCast_apply _ _ _ _ ?_
    rw [Shape.rowMajor_val_two, Shape.rowMajor_val_three]
    show (0 * 1024 + a.val) * 2816 + k.val = a.val * 2816 + k.val
    omega
  · refine shapeCast_apply _ _ _ _ ?_
    rw [Shape.rowMajor_val_two, Shape.rowMajor_val_three]
    show (0 * 1024 + b.val) * 2816 + k.val = b.val * 2816 + k.val
    omega

variable (c : Dev nD)

/-- What a run's first point leaves in the scratch, -/
theorem soutA (i : grid0.Coords) (a4 : Memref sig .tc .vmem S1x1024x2816 .bf16) (h4 : a4.IsWhole)
    (a5 : Memref sig .tc .vmem S1x1024x2816 .bf16) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i) (hc2 : ¬cond0_2 i)
    (x : Vec Ideal S1x1024x2816 .bf16) (w : Vec Ideal S1x1024x2816 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x1024) z2]
  unfold k0_pay2
  simp only [View.readAt_eq_ld, h4.read_unread, h5.read_unread, View.ld_unit_zero (S := S1x1024x2816) z3, View.ld_unit_zero (S := S1x1024x2816) z3, shapeCast_self]

/-- a middle one, -/
theorem soutB (i : grid0.Coords) (a4 : Memref sig .tc .vmem S1x1024x2816 .bf16) (h4 : a4.IsWhole)
    (a5 : Memref sig .tc .vmem S1x1024x2816 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : ¬cond0_2 i)
    (x : Vec Ideal S1x1024x2816 .bf16) (w : Vec Ideal S1x1024x2816 .bf16) (s : Vec Ideal S1024x1024 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x1024) z2]
  unfold k0_pay3
  simp only [View.readAt_eq_ld, h4.read_unread, h5.read_unread, h7.read_unread, View.ld_unit_zero (S := S1x1024x2816) z3, View.ld_unit_zero (S := S1x1024x2816) z3, View.ld_unit_zero (S := S1024x1024) z2, shapeCast_self]

/-- and what the last one stores. -/
theorem outC (i : grid0.Coords) (a4 : Memref sig .tc .vmem S1x1024x2816 .bf16) (h4 : a4.IsWhole)
    (a5 : Memref sig .tc .vmem S1x1024x2816 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : cond0_2 i)
    (x : Vec Ideal S1x1024x2816 .bf16) (w : Vec Ideal S1x1024x2816 .bf16) (s : Vec Ideal S1024x1024 .f32) :
    out0_C_2 c i a4 h4 a5 h5 a6 h6 a7 h7 hc0 hc1 hc2 x w s = addf s (k0_pay1 x w) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1024x1024) z2, View.readCov_unit_zero (S := S1024x1024) _ z2]
  unfold k0_pay3
  simp only [View.readAt_eq_ld, h4.read_unread, h5.read_unread, h7.read_unread, View.ld_unit_zero (S := S1x1024x2816) z3, View.ld_unit_zero (S := S1x1024x2816) z3, View.ld_unit_zero (S := S1024x1024) z2, shapeCast_self]

/-- The product at a point. -/
def P (t : Fin cfg0.N) : FVec Ideal S1024x1024 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = addf (outsAt0 m c (t.val - 1) (Nat.lt_of_le_of_lt (Nat.sub_le _ _) t.isLt)).2 (P m c t) := by
  rw [outsAt0_C m c t (r3 _ h2).1 (r3 _ h2).2 h2]
  dsimp only
  rw [outC]
  unfold P
  rfl

/-- What a run's last point stores: the four products' sum. -/
theorem stored (q : ℕ) (hq : q < 16) (j : S1024x1024.Idx) (h : 4 * q + 3 < cfg0.N) :
    (outsAt0 m c (4 * q + 3) h).1 j = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  exact Cert.Ffn.four fun r : Fin 4 => (P m c ⟨4 * q + r.val, lt_of_lt_of_eq (by omega) N_0.symm⟩ j : EReal)

/-- The result array at an entry. -/
theorem value (i : S8192x2048.Idx) (X : S4x8192x2816.Idx → EReal) (W : S4x2048x2816.Idx → EReal)
    (hX : m ((c.tc : Thread nD τ).loc main_arg0) = X) (hW : m ((c.tc : Thread nD τ).loc main_arg1) = W) :
    G2 m c i = ∑ r : Fin 4, ∑ k : Fin 2816, X (ix3 r (i 0) k) * W (ix3 r (i 1) k) := by
  have b0 : (i 0).val < 8192 := (i 0).isLt
  have b1 : (i 1).val < 2048 := (i 1).isLt
  have hq : run2Of i = 2 * ((i 0).val / 1024) + (i 1).val / 1024 := by unfold run2Of; omega
  have hN : cfg0.N = 64 := N_0
  have h : 4 * run2Of i + 3 < cfg0.N := by omega
  unfold G2
  rw [dif_pos h, ← outsAt0_sweep m c _ h, (show loc2Of i = (ix2 ⟨(i 0).val % 1024, Nat.mod_lt _ (by decide)⟩ ⟨(i 1).val % 1024, Nat.mod_lt _ (by decide)⟩) from by funext a; fin_cases a <;> rfl), stored m c _ (by omega) (ix2 ⟨(i 0).val % 1024, Nat.mod_lt _ (by decide)⟩ ⟨(i 1).val % 1024, Nat.mod_lt _ (by decide)⟩)]
  refine Finset.sum_congr (M := EReal) rfl fun r _ => (part _ _ _ _).trans (Finset.sum_congr rfl fun k _ => ?_)
  have hr := r.isLt
  have hk := k.isLt
  rw [blk0 m c _ _ (ix3 r (i 0) k) ?_ ?_ ?_ , blk1 m c _ _ (ix3 r (i 1) k) ?_ ?_ ?_ , hX, hW]
  · show r.val = (4 * run2Of i + r.val) % 4; omega
  · show (i 1).val = 1024 * ((4 * run2Of i + r.val) / 4 % 2) + (i 1).val % 1024; omega
  · show k.val = 0 + k.val; omega
  · show r.val = (4 * run2Of i + r.val) % 4; omega
  · show (i 0).val = 1024 * ((4 * run2Of i + r.val) / 8) + (i 0).val % 1024; omega
  · show k.val = 0 + k.val; omega

end Cert.Kernel4Ideal.Prod

end
-- ==== Proof.Ref4.lean ====
module

public import proofs.«01_k».proof.Proof.Lay
public import proofs.«01_k».proof.Proof.Gen.Reference4Ideal.Run

@[expose] public section

set_option maxRecDepth 16384

noncomputable section

/-! The gradient of the feed-forward layer's input: what the reference computes. -/

namespace Cert.Reference4Ideal.Prod

open Idealize.ShloMosaic Idealize.ShloMosaic.ValueIdx
open Cert.Reference4Ideal Cert.Reference4Ideal.Gen Cert.Ffn

/-- The reference's result, from its two arguments. -/
def res {F : FTy → Type} [FloatOps F] (X : Vec F S4x8192x2816 .bf16) (W : Vec F S4x2048x2816 .bf16) : Vec F S8192x2048 .f32 :=
  addf (Host.dotGeneral dot_S8192x5632_S2048x5632_S8192x2048_1_1_0_0_n_n none (shapeCast _ (transpose S8192x4x1408 [1, 0, 2] (extractStridedSlice S4x8192x1408 ![0, 0, 1408] (extf .f32 X bitsLt_bf16_f32) slices_S4x8192x2816_S4x8192x1408_0_0_1408) transposes_S4x8192x1408_S8192x4x1408_1_0_2) shapeCasts_S8192x4x1408_S8192x5632) (shapeCast _ (transpose S2048x4x1408 [1, 0, 2] (extractStridedSlice S4x2048x1408 ![0, 0, 1408] (extf .f32 W bitsLt_bf16_f32) slices_S4x2048x2816_S4x2048x1408_0_0_1408) transposes_S4x2048x1408_S2048x4x1408_1_0_2) shapeCasts_S2048x4x1408_S2048x5632)) (Host.dotGeneral dot_S8192x5632_S2048x5632_S8192x2048_1_1_0_0_n_n none (shapeCast _ (transpose S8192x4x1408 [1, 0, 2] (extractStridedSlice S4x8192x1408 ![0, 0, 0] (extf .f32 X bitsLt_bf16_f32) slices_S4x8192x2816_S4x8192x1408_0_0_0) transposes_S4x8192x1408_S8192x4x1408_1_0_2) shapeCasts_S8192x4x1408_S8192x5632) (shapeCast _ (transpose S2048x4x1408 [1, 0, 2] (extractStridedSlice S4x2048x1408 ![0, 0, 0] (extf .f32 W bitsLt_bf16_f32) slices_S4x2048x2816_S4x2048x1408_0_0_0) transposes_S4x2048x1408_S2048x4x1408_1_0_2) shapeCasts_S2048x4x1408_S2048x5632))

/-- Its entries. -/
theorem res_at (X : S4x8192x2816.Idx → EReal) (W : S4x2048x2816.Idx → EReal) (a : Fin 8192) (b : Fin 2048) :
    res (F := Ideal) X W (ix2 a b) = ∑ r : Fin 4, ∑ k : Fin 2816, X (ix3 r a k) * W (ix3 r b k) := by
  unfold res
  have hu := (dot_nt dot_S8192x5632_S2048x5632_S8192x2048_1_1_0_0_n_n rfl rfl (fun _ _ _ => by funext x; fin_cases x <;> rfl) (fun _ _ _ => by funext x; fin_cases x <;> rfl)
    (shapeCast _ (transpose S8192x4x1408 [1, 0, 2] (extractStridedSlice S4x8192x1408 ![0, 0, 1408] X slices_S4x8192x2816_S4x8192x1408_0_0_1408) transposes_S4x8192x1408_S8192x4x1408_1_0_2) shapeCasts_S8192x4x1408_S8192x5632)
    (shapeCast _ (transpose S2048x4x1408 [1, 0, 2] (extractStridedSlice S4x2048x1408 ![0, 0, 1408] W slices_S4x2048x2816_S4x2048x1408_0_0_1408) transposes_S4x2048x1408_S2048x4x1408_1_0_2) shapeCasts_S2048x4x1408_S2048x5632)
    a b).trans ((sum_cols _).trans (Finset.sum_congr rfl fun r _ => Finset.sum_congr rfl fun k _ =>
      congrArg₂ (· * ·) ((side _ _ _ a r k).trans (high _ _ r a k)) ((side _ _ _ b r k).trans (high _ _ r b k))))
  have hg := (dot_nt dot_S8192x5632_S2048x5632_S8192x2048_1_1_0_0_n_n rfl rfl (fun _ _ _ => by funext x; fin_cases x <;> rfl) (fun _ _ _ => by funext x; fin_cases x <;> rfl)
    (shapeCast _ (transpose S8192x4x1408 [1, 0, 2] (extractStridedSlice S4x8192x1408 ![0, 0, 0] X slices_S4x8192x2816_S4x8192x1408_0_0_0) transposes_S4x8192x1408_S8192x4x1408_1_0_2) shapeCasts_S8192x4x1408_S8192x5632)
    (shapeCast _ (transpose S2048x4x1408 [1, 0, 2] (extractStridedSlice S4x2048x1408 ![0, 0, 0] W slices_S4x2048x2816_S4x2048x1408_0_0_0) transposes_S4x2048x1408_S2048x4x1408_1_0_2) shapeCasts_S2048x4x1408_S2048x5632)
    a b).trans ((sum_cols _).trans (Finset.sum_congr rfl fun r _ => Finset.sum_congr rfl fun k _ =>
      congrArg₂ (· * ·) ((side _ _ _ a r k).trans (low _ _ r a k)) ((side _ _ _ b r k).trans (low _ _ r b k))))
  refine (congrArg₂ (fun a b : EReal => a + b) hu hg).trans ?_
  rw [add_comm, ← Finset.sum_add_distrib]
  refine Finset.sum_congr rfl fun r _ => ?_
  exact (sum_lohi (fun p => X (ix3 r a p) * W (ix3 r b p))).symm

end Cert.Reference4Ideal.Prod

end
-- ==== Proof.End4.lean ====
module

public import proofs.«01_k».proof.Defs
public import proofs.«01_k».proof.Proof.Gen.Kernel4
public import proofs.«01_k».proof.Proof.Mm4
public import proofs.«01_k».proof.Proof.Ref4
public import Idealize.ShloMosaic.Adequacy
public import Idealize.ShloMosaic.Init

@[expose] public section

noncomputable section

/-! The gradient of the feed-forward layer's input: the frames, and the kernel's result set beside the reference's. -/

namespace Cert.Kernel4Ideal.Prod

open Idealize.ShloMosaic Idealize.SL.Sem

/-- The two programs have one text, so one body under each label. -/
theorem bodies_eq : Cert.Kernel4Ideal.defs₀ (F := Bits) = Cert.Kernel4.defs₀ (F := Bits) := by
  unfold Cert.Kernel4Ideal.defs₀ Cert.Kernel4.defs₀
  refine congrArg Defs.onTc ?_
  funext l a
  match l, a with
  | 0, (t, s) => exact rfl
  | ⟨_ + 1, h⟩, _ => exact absurd h (Nat.not_lt.2 (Nat.le_add_left _ _))

theorem defs_eq : Cert.Kernel4Ideal.defs (F := Bits) = Cert.Kernel4.defs (F := Bits) :=
  congrArg (Pipeline.defs (Cert.Kernel4Ideal.pcfgs (F := Bits))) bodies_eq

theorem frame_kernel : Cert.quiescent_Kernel4 (hKernel4 := Cert.Kernel4.Gen.facts) := by
  intro m ρ _
  have h := Cert.Kernel4Ideal.Gen.frame (F := Bits) m ρ
  rw [defs_eq] at h
  exact h

theorem frame_ideal : Cert.quiescent_Kernel4Ideal (hKernel4Ideal := Cert.Kernel4Ideal.Gen.facts) := fun m ρ _ =>
  Cert.Kernel4Ideal.Gen.frame (F := Ideal) m ρ

theorem frame_ref : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem values : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Prod.res (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · refine (θ_run Cert.Kernel4Ideal.defs _ _).mono (fun _ h c => ?_) (Cert.Kernel4Ideal.Value.run (F := Ideal) m g)
    refine ⟨(h c).1.trans (funext fun i => ?_), (h c).2⟩
    refine (value m c i _ _ rfl rfl).trans (((congrArg _ (ValueIdx.eq_ix2 i)).trans (Cert.Reference4Ideal.Prod.res_at _ _ (i 0) (i 1))).symm)
  · refine (θ_run Cert.Reference4Ideal.defs _ _).mono (fun _ h c => ?_) (Cert.Reference4Ideal.Value.run (F := Ideal) m' g')
    refine ⟨(h c).1.trans ?_, (h c).2⟩
    rw [(hagree c).1, (hagree c).2]
    rfl

end Cert.Kernel4Ideal.Prod

end
-- ==== Proof.Mm5.lean ====
module

public import proofs.«01_k».proof.Proof.Sums
public import proofs.«01_k».proof.Proof.Gen.Kernel5Ideal.Value
public import Idealize.ShloMosaic.Lib.Pipeline.ValueKit

@[expose] public section

set_option maxRecDepth 16384

noncomputable section

/-! The gradient of the weight the feed-forward layer ends with: what the kernel's result array ends holding. -/

namespace Cert.Kernel5Ideal.Prod

open Idealize.ShloMosaic hiding ix1 ix2 ix3
open Idealize.ShloMosaic.TcCoe Idealize.ShloMosaic.ValueIdx
open Cert.Kernel5Ideal.Gen Cert.Kernel5Ideal.Value

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val / 8, t.val % 4, 0] := (by decide +kernel : ∀ t : Fin grid0.N, _)
theorem i1 : ∀ t : Fin cfg0.N, win0_1.index t = ![t.val % 4, t.val / 4 % 2] := (by decide +kernel : ∀ t : Fin grid0.N, _)

/-- The block of the first operand at a point, -/
theorem blk0 (c : Dev nD) (t : Fin cfg0.N) (x : S1x2048x1408.Idx) (i : S4x8192x1408.Idx)
    (h0 : (i 0).val = t.val / 8) (h1 : (i 1).val = 2048 * (t.val % 4) + (x 1).val) (h2 : (i 2).val = 0 + (x 2).val) :
    (iblk m c 0 t : Vec Ideal S1x2048x1408 .bf16) x = m ((c.tc : Thread nD τ).loc main_arg0) i := by
  blk_simp [iblk]
  rw [V_main_arg0]
  refine congrArg (m ((c.tc : Thread nD τ).loc main_arg0)) (funext fun a => Fin.ext ?_)
  have e0 : (x 0).val = 0 := Nat.lt_one_iff.1 (x 0).isLt
  match a with
  | ⟨0, _⟩ => refine Eq.trans ?_ h0.symm; blk_simp [i0]
  | ⟨1, _⟩ => refine Eq.trans ?_ h1.symm; blk_simp [i0]; rw [Nat.mul_comm]; rfl
  | ⟨2, _⟩ => refine Eq.trans ?_ h2.symm; blk_simp [i0]; rfl

/-- and of the second. -/
theorem blk1 (c : Dev nD) (t : Fin cfg0.N) (x : S2048x1024.Idx) (i : S8192x2048.Idx)
    (h0 : (i 0).val = 2048 * (t.val % 4) + (x 0).val) (h1 : (i 1).val = 1024 * (t.val / 4 % 2) + (x 1).val) :
    (iblk m c 1 t : Vec Ideal S2048x1024 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rw [Nat.mul_comm]; rfl
  | ⟨1, _⟩ => refine Eq.trans ?_ h1.symm; blk_simp [i1]; rw [Nat.mul_comm]; rfl

/-- The product of two blocks at an entry. -/
theorem part (x : FVec Ideal S1x2048x1408 .bf16) (w : FVec Ideal S2048x1024 .bf16) (a : Fin 1408) (b : Fin 1024) :
    k0_pay1 (F := Ideal) x w (ix2 a b) = ∑ k : Fin 2048, x (ix3 0 k a) * w (ix2 k b) := by
  simp only [k0_pay1, matmul]
  rw [Ideal.matmul_constant_zero_apply,
    ← Equiv.sum_comp (contrEquiv1 dot_S2048x1408_S2048x1024_S1408x1024_0_0_1_1_n_n 2048 rfl rfl).symm]
  refine Finset.sum_congr rfl fun k _ => ?_
  congr 1
  · refine shapeCast_apply _ _ _ _ ?_
    rw [Shape.rowMajor_val_two, Shape.rowMajor_val_three]
    show (0 * 2048 + k.val) * 1408 + a.val = k.val * 1408 + a.val
    omega
  · congr 1; funext a; fin_cases a <;> rfl

variable (c : Dev nD)

/-- What a run's first point leaves in the scratch, -/
theorem soutA (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .f32) (h6 : a6.IsWhole)
    (a7 : Memref sig .tc .vmem S1408x1024 .f32) (h7 : a7.IsWhole) (hc0 : cond0_0 i) (hc1 : ¬cond0_1 i) (hc2 : ¬cond0_2 i)
    (x : Vec Ideal S1x2048x1408 .bf16) (w : Vec Ideal S2048x1024 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1408x1024) z2]
  unfold k0_pay2
  simp only [View.readAt_eq_ld, h4.read_unread, h5.read_unread, View.ld_unit_zero (S := S1x2048x1408) z3, View.ld_unit_zero (S := S2048x1024) z2, shapeCast_self]

/-- a middle one, -/
theorem soutB (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .f32) (h6 : a6.IsWhole)
    (a7 : Memref sig .tc .vmem S1408x1024 .f32) (h7 : a7.IsWhole) (hc0 : ¬cond0_0 i) (hc1 : cond0_1 i) (hc2 : ¬cond0_2 i)
    (x : Vec Ideal S1x2048x1408 .bf16) (w : Vec Ideal S2048x1024 .bf16) (s : Vec Ideal S1408x1024 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1408x1024) z2]
  unfold k0_pay3
  simp only [View.readAt_eq_ld, h4.read_unread, h5.read_unread, h7.read_unread, View.ld_unit_zero (S := S1x2048x1408) z3, View.ld_unit_zero (S := S2048x1024) z2, View.ld_unit_zero (S := S1408x1024) z2, shapeCast_self]

/-- and what the last one stores. -/
theorem outC (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .f32) (h6 : a6.IsWhole)
    (a7 : Memref sig .tc .vmem S1408x1024 .f32) (h7 : a7.IsWhole) (hc0 : ¬cond0_0 i) (hc1 : cond0_1 i) (hc2 : cond0_2 i)
    (x : Vec Ideal S1x2048x1408 .bf16) (w : Vec Ideal S2048x1024 .bf16) (s : Vec Ideal S1408x1024 .f32) :
    out0_C_2 c i a4 h4 a5 h5 a6 h6 a7 h7 hc0 hc1 hc2 x w s = k0_pay4 (addf s (k0_pay1 x w)) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1x1408x1024) z3, View.readCov_unit_zero (S := S1408x1024) _ z2]
  unfold k0_pay3
  simp only [View.readAt_eq_ld, h4.read_unread, h5.read_unread, h7.read_unread, View.ld_unit_zero (S := S1x2048x1408) z3, View.ld_unit_zero (S := S2048x1024) z2, View.ld_unit_zero (S := S1408x1024) z2, shapeCast_self]

/-- The product at a point. -/
def P (t : Fin cfg0.N) : FVec Ideal S1408x1024 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = k0_pay4 (addf (outsAt0 m c (t.val - 1) (Nat.lt_of_le_of_lt (Nat.sub_le _ _) t.isLt)).2 (P m c t)) := by
  rw [outsAt0_C m c t (r3 _ h2).1 (r3 _ h2).2 h2]
  dsimp only
  rw [outC]
  unfold P
  rfl

/-- What a run's last point stores: the four products' sum. -/
theorem stored (q : ℕ) (hq : q < 8) (j : S1408x1024.Idx) (y : S1x1408x1024.Idx) (h1 : (y 1).val = (j 0).val) (h2 : (y 2).val = (j 1).val)
    (h : 4 * q + 3 < cfg0.N) :
    (outsAt0 m c (4 * q + 3) h).1 y = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  unfold k0_pay4
  refine (shapeCast_apply _ _ _ j ?_).trans ?_
  · rw [Shape.rowMajor_val_two, Shape.rowMajor_val_three]
    have e0 : (y 0).val = 0 := Nat.lt_one_iff.1 (y 0).isLt
    show (j 0).val * 1024 + (j 1).val = ((y 0).val * 1408 + (y 1).val) * 1024 + (y 2).val
    rw [e0, h1, h2]; omega
  · exact Cert.Ffn.four fun r : Fin 4 => (P m c ⟨4 * q + r.val, lt_of_lt_of_eq (by omega) N_0.symm⟩ j : EReal)

/-- The result array at an entry. -/
theorem value (i : S4x1408x2048.Idx) (X : S4x8192x1408.Idx → EReal) (W : S8192x2048.Idx → EReal)
    (hX : m ((c.tc : Thread nD τ).loc main_arg0) = X) (hW : m ((c.tc : Thread nD τ).loc main_arg1) = W) :
    G2 m c i = ∑ s : Fin 8192, X (ix3 (i 0) s (i 1)) * W (ix2 s (i 2)) := by
  have b0 : (i 0).val < 4 := (i 0).isLt
  have b1 : (i 1).val < 1408 := (i 1).isLt
  have b2 : (i 2).val < 2048 := (i 2).isLt
  have hq : run2Of i = 2 * (i 0).val + (i 2).val / 1024 := by unfold run2Of; omega
  have hN : cfg0.N = 32 := N_0
  have h : 4 * run2Of i + 3 < cfg0.N := by omega
  unfold G2
  rw [dif_pos h, ← outsAt0_sweep m c _ h, stored m c _ (by omega) (ix2 ⟨(i 1).val % 1408, Nat.mod_lt _ (by decide)⟩ ⟨(i 2).val % 1024, Nat.mod_lt _ (by decide)⟩) _ rfl rfl,
    Cert.Ffn.sum_parts 2048 8192 rfl]
  refine Finset.sum_congr (M := EReal) rfl fun r _ => (part _ _ _ _).trans (Finset.sum_congr rfl fun k _ => ?_)
  have hr := r.isLt
  have hk := k.isLt
  rw [blk0 m c _ _ (ix3 (i 0) ⟨2048 * r.val + k.val, by omega⟩ (i 1)) ?_ ?_ ?_ , blk1 m c _ _ (ix2 ⟨2048 * r.val + k.val, by omega⟩ (i 2)) ?_ ?_ , hX, hW]
  · show 2048 * r.val + k.val = 2048 * ((4 * run2Of i + r.val) % 4) + k.val; omega
  · show (i 2).val = 1024 * ((4 * run2Of i + r.val) / 4 % 2) + (i 2).val % 1024; omega
  · show (i 0).val = (4 * run2Of i + r.val) / 8; omega
  · show 2048 * r.val + k.val = 2048 * ((4 * run2Of i + r.val) % 4) + k.val; omega
  · show (i 1).val = 0 + (i 1).val % 1408; omega

end Cert.Kernel5Ideal.Prod

end
-- ==== Proof.Ref5.lean ====
module

public import proofs.«01_k».proof.Proof.Lay
public import proofs.«01_k».proof.Proof.Gen.Reference5Ideal.Run

@[expose] public section

set_option maxRecDepth 16384

noncomputable section

/-! The gradient of the weight the feed-forward layer ends with: what the reference computes. -/

namespace Cert.Reference5Ideal.Prod

open Idealize.ShloMosaic Idealize.ShloMosaic.ValueIdx
open Cert.Reference5Ideal Cert.Reference5Ideal.Gen Cert.Ffn

/-- The reference's result, from its two arguments. -/
def res {F : FTy → Type} [FloatOps F] (X : Vec F S4x8192x1408 .bf16) (W : Vec F S8192x2048 .bf16) : Vec F S4x1408x2048 .f32 :=
  shapeCast _ (transpose S5632x2048 [1, 0] (Host.dotGeneral dot_S8192x2048_S8192x5632_S2048x5632_0_0_1_1_n_n none (extf .f32 W bitsLt_bf16_f32) (shapeCast _ (transpose S8192x4x1408 [1, 0, 2] (extf .f32 X bitsLt_bf16_f32) transposes_S4x8192x1408_S8192x4x1408_1_0_2) shapeCasts_S8192x4x1408_S8192x5632)) transposes_S2048x5632_S5632x2048_1_0) shapeCasts_S5632x2048_S4x1408x2048

/-- Its entries. -/
theorem res_at (X : S4x8192x1408.Idx → EReal) (W : S8192x2048.Idx → EReal) (a : Fin 4) (b : Fin 1408) (c : Fin 2048) :
    res (F := Ideal) X W (ix3 a b c) = ∑ s : Fin 8192, X (ix3 a s b) * W (ix2 s c) := by
  unfold res
  refine (rows _ _ a b c).trans ((turn _ _ (col a b) c).trans
    ((dot_tn dot_S8192x2048_S8192x5632_S2048x5632_0_0_1_1_n_n rfl rfl (fun _ _ _ => by funext x; fin_cases x <;> rfl) (fun _ _ _ => by funext x; fin_cases x <;> rfl) _ _ _ _).trans
    (Finset.sum_congr rfl fun s _ => ?_)))
  rw [side, mul_comm]
  rfl

end Cert.Reference5Ideal.Prod

end
-- ==== Proof.End5.lean ====
module

public import proofs.«01_k».proof.Defs
public import proofs.«01_k».proof.Proof.Gen.Kernel5
public import proofs.«01_k».proof.Proof.Mm5
public import proofs.«01_k».proof.Proof.Ref5
public import Idealize.ShloMosaic.Adequacy
public import Idealize.ShloMosaic.Init

@[expose] public section

noncomputable section

/-! The gradient of the feed-forward layer's second weights: the frames, and the kernel's result set beside the reference's. -/

namespace Cert.Kernel5Ideal.Prod

open Idealize.ShloMosaic Idealize.SL.Sem

/-- The two programs have one text, so one body under each label. -/
theorem bodies_eq : Cert.Kernel5Ideal.defs₀ (F := Bits) = Cert.Kernel5.defs₀ (F := Bits) := by
  unfold Cert.Kernel5Ideal.defs₀ Cert.Kernel5.defs₀
  refine congrArg Defs.onTc ?_
  funext l a
  match l, a with
  | 0, (t, s) => exact rfl
  | ⟨_ + 1, h⟩, _ => exact absurd h (Nat.not_lt.2 (Nat.le_add_left _ _))

theorem defs_eq : Cert.Kernel5Ideal.defs (F := Bits) = Cert.Kernel5.defs (F := Bits) :=
  congrArg (Pipeline.defs (Cert.Kernel5Ideal.pcfgs (F := Bits))) bodies_eq

theorem frame_kernel : Cert.quiescent_Kernel5 (hKernel5 := Cert.Kernel5.Gen.facts) := by
  intro m ρ _
  have h := Cert.Kernel5Ideal.Gen.frame (F := Bits) m ρ
  rw [defs_eq] at h
  exact h

theorem frame_ideal : Cert.quiescent_Kernel5Ideal (hKernel5Ideal := Cert.Kernel5Ideal.Gen.facts) := fun m ρ _ =>
  Cert.Kernel5Ideal.Gen.frame (F := Ideal) m ρ

theorem frame_ref : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem values : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Reference5Ideal.Prod.res (F := Ideal)
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun _ h c => ?_) (Cert.Kernel5Ideal.Value.run (F := Ideal) m g)
    refine ⟨(h c).1.trans (funext fun i => ?_), (h c).2⟩
    refine (value m c i _ _ rfl rfl).trans (((congrArg _ (ValueIdx.eq_ix3 i)).trans (Cert.Reference5Ideal.Prod.res_at _ _ (i 0) (i 1) (i 2))).symm)
  · refine (θ_run Cert.Reference5Ideal.defs _ _).mono (fun _ h c => ?_) (Cert.Reference5Ideal.Value.run (F := Ideal) m' g')
    refine ⟨(h c).1.trans ?_, (h c).2⟩
    rw [(hagree c).1, (hagree c).2]
    rfl

end Cert.Kernel5Ideal.Prod

end
-- ==== Proof.Mm6.lean ====
module

public import proofs.«01_k».proof.Proof.Sums
public import proofs.«01_k».proof.Proof.Gen.Kernel6Ideal.Value
public import Idealize.ShloMosaic.Lib.Pipeline.ValueKit

@[expose] public section

set_option maxRecDepth 16384

noncomputable section

/-! The feed-forward layer's second product: what the kernel's result array ends holding. -/

namespace Cert.Kernel6Ideal.Prod

open Idealize.ShloMosaic hiding ix1 ix2 ix3
open Idealize.ShloMosaic.TcCoe Idealize.ShloMosaic.ValueIdx
open Cert.Kernel6Ideal.Gen Cert.Kernel6Ideal.Value

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val % 4, t.val / 4, 0] := (by decide +kernel : ∀ t : Fin grid0.N, _)
theorem i1 : ∀ t : Fin cfg0.N, win0_1.index t = ![t.val % 4, 0, 0] := (by decide +kernel : ∀ t : Fin grid0.N, _)

/-- The block of the first operand at a point, -/
theorem blk0 (c : Dev nD) (t : Fin cfg0.N) (x : S1x1024x1408.Idx) (i : S4x8192x1408.Idx)
    (h0 : (i 0).val = t.val % 4) (h1 : (i 1).val = 1024 * (t.val / 4) + (x 1).val) (h2 : (i 2).val = 0 + (x 2).val) :
    (iblk m c 0 t : Vec Ideal S1x1024x1408 .bf16) x = m ((c.tc : Thread nD τ).loc main_arg0) i := by
  blk_simp [iblk]
  rw [V_main_arg0]
  refine congrArg (m ((c.tc : Thread nD τ).loc main_arg0)) (funext fun a => Fin.ext ?_)
  have e0 : (x 0).val = 0 := Nat.lt_one_iff.1 (x 0).isLt
  match a with
  | ⟨0, _⟩ => refine Eq.trans ?_ h0.symm; blk_simp [i0]
  | ⟨1, _⟩ => refine Eq.trans ?_ h1.symm; blk_simp [i0]; rw [Nat.mul_comm]; rfl
  | ⟨2, _⟩ => refine Eq.trans ?_ h2.symm; blk_simp [i0]; rfl

/-- and of the second. -/
theorem blk1 (c : Dev nD) (t : Fin cfg0.N) (x : S1x1408x2048.Idx) (i : S4x1408x2048.Idx)
    (h0 : (i 0).val = t.val % 4) (h1 : (i 1).val = 0 + (x 1).val) (h2 : (i 2).val = 0 + (x 2).val) :
    (iblk m c 1 t : Vec Ideal S1x1408x2048 .bf16) x = m ((c.tc : Thread nD τ).loc main_arg1) i := by
  blk_simp [iblk]
  rw [V_main_arg1]
  refine congrArg (m ((c.tc : Thread nD τ).loc main_arg1)) (funext fun a => Fin.ext ?_)
  have e0 : (x 0).val = 0 := Nat.lt_one_iff.1 (x 0).isLt
  match a with
  | ⟨0, _⟩ => refine Eq.trans ?_ h0.symm; blk_simp [i1]
  | ⟨1, _⟩ => refine Eq.trans ?_ h1.symm; blk_simp [i1]; rfl
  | ⟨2, _⟩ => refine Eq.trans ?_ h2.symm; blk_simp [i1]; rfl

/-- The product of two blocks at an entry. -/
theorem part (x : FVec Ideal S1x1024x1408 .bf16) (w : FVec Ideal S1x1408x2048 .bf16) (a : Fin 1024) (b : Fin 2048) :
    k0_pay1 (F := Ideal) x w (ix2 a b) = ∑ k : Fin 1408, x (ix3 0 a k) * w (ix3 0 k b) := by
  simp only [k0_pay1, matmul]
  rw [Ideal.matmul_constant_zero_apply,
    ← Equiv.sum_comp (contrEquiv1 dot_S1024x1408_S1408x2048_S1024x2048_1_0_0_1_n_n 1408 rfl rfl).symm]
  refine Finset.sum_congr rfl fun k _ => ?_
  congr 1
  · refine shapeCast_apply _ _ _ _ ?_
    rw [Shape.rowMajor_val_two, Shape.rowMajor_val_three]
    show (0 * 1024 + a.val) * 1408 + k.val = a.val * 1408 + k.val
    omega
  · refine shapeCast_apply _ _ _ _ ?_
    rw [Shape.rowMajor_val_two, Shape.rowMajor_val_three]
    show (0 * 1408 + k.val) * 2048 + b.val = k.val * 2048 + b.val
    omega

variable (c : Dev nD)

/-- What a run's first point leaves in the scratch, -/
theorem soutA (i : grid0.Coords) (a4 : Memref sig .tc .vmem S1x1024x1408 .bf16) (h4 : a4.IsWhole)
    (a5 : Memref sig .tc .vmem S1x1408x2048 .bf16) (h5 : a5.IsWhole) (a6 : Memref sig .tc .vmem S1024x2048 .f32) (h6 : a6.IsWhole)
    (a7 : Memref sig .tc .vmem S1024x2048 .f32) (h7 : a7.IsWhole) (hc0 : cond0_0 i) (hc1 : ¬cond0_1 i) (hc2 : ¬cond0_2 i)
    (x : Vec Ideal S1x1024x1408 .bf16) (w : Vec Ideal S1x1408x2048 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x2048) z2]
  unfold k0_pay2
  simp only [View.readAt_eq_ld, h4.read_unread, h5.read_unread, View.ld_unit_zero (S := S1x1024x1408) z3, View.ld_unit_zero (S := S1x1408x2048) z3, shapeCast_self]

/-- a middle one, -/
theorem soutB (i : grid0.Coords) (a4 : Memref sig .tc .vmem S1x1024x1408 .bf16) (h4 : a4.IsWhole)
    (a5 : Memref sig .tc .vmem S1x1408x2048 .bf16) (h5 : a5.IsWhole) (a6 : Memref sig .tc .vmem S1024x2048 .f32) (h6 : a6.IsWhole)
    (a7 : Memref sig .tc .vmem S1024x2048 .f32) (h7 : a7.IsWhole) (hc0 : ¬cond0_0 i) (hc1 : cond0_1 i) (hc2 : ¬cond0_2 i)
    (x : Vec Ideal S1x1024x1408 .bf16) (w : Vec Ideal S1x1408x2048 .bf16) (s : Vec Ideal S1024x2048 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x2048) z2]
  unfold k0_pay3
  simp only [View.readAt_eq_ld, h4.read_unread, h5.read_unread, h7.read_unread, View.ld_unit_zero (S := S1x1024x1408) z3, View.ld_unit_zero (S := S1x1408x2048) z3, View.ld_unit_zero (S := S1024x2048) z2, shapeCast_self]

/-- and what the last one stores. -/
theorem outC (i : grid0.Coords) (a4 : Memref sig .tc .vmem S1x1024x1408 .bf16) (h4 : a4.IsWhole)
    (a5 : Memref sig .tc .vmem S1x1408x2048 .bf16) (h5 : a5.IsWhole) (a6 : Memref sig .tc .vmem S1024x2048 .f32) (h6 : a6.IsWhole)
    (a7 : Memref sig .tc .vmem S1024x2048 .f32) (h7 : a7.IsWhole) (hc0 : ¬cond0_0 i) (hc1 : cond0_1 i) (hc2 : cond0_2 i)
    (x : Vec Ideal S1x1024x1408 .bf16) (w : Vec Ideal S1x1408x2048 .bf16) (s : Vec Ideal S1024x2048 .f32) :
    out0_C_2 c i a4 h4 a5 h5 a6 h6 a7 h7 hc0 hc1 hc2 x w s = addf s (k0_pay1 x w) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1024x2048) z2, View.readCov_unit_zero (S := S1024x2048) _ z2]
  unfold k0_pay3
  simp only [View.readAt_eq_ld, h4.read_unread, h5.read_unread, h7.read_unread, View.ld_unit_zero (S := S1x1024x1408) z3, View.ld_unit_zero (S := S1x1408x2048) z3, View.ld_unit_zero (S := S1024x2048) z2, shapeCast_self]

/-- The product at a point. -/
def P (t : Fin cfg0.N) : FVec Ideal S1024x2048 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = addf (outsAt0 m c (t.val - 1) (Nat.lt_of_le_of_lt (Nat.sub_le _ _) t.isLt)).2 (P m c t) := by
  rw [outsAt0_C m c t (r3 _ h2).1 (r3 _ h2).2 h2]
  dsimp only
  rw [outC]
  unfold P
  rfl

/-- What a run's last point stores: the four products' sum. -/
theorem stored (q : ℕ) (hq : q < 8) (j : S1024x2048.Idx) (h : 4 * q + 3 < cfg0.N) :
    (outsAt0 m c (4 * q + 3) h).1 j = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  exact Cert.Ffn.four fun r : Fin 4 => (P m c ⟨4 * q + r.val, lt_of_lt_of_eq (by omega) N_0.symm⟩ j : EReal)

/-- The result array at an entry. -/
theorem value (i : S8192x2048.Idx) (X : S4x8192x1408.Idx → EReal) (W : S4x1408x2048.Idx → EReal)
    (hX : m ((c.tc : Thread nD τ).loc main_arg0) = X) (hW : m ((c.tc : Thread nD τ).loc main_arg1) = W) :
    G2 m c i = ∑ r : Fin 4, ∑ k : Fin 1408, X (ix3 r (i 0) k) * W (ix3 r k (i 1)) := by
  have b0 : (i 0).val < 8192 := (i 0).isLt
  have b1 : (i 1).val < 2048 := (i 1).isLt
  have hq : run2Of i = (i 0).val / 1024 := by unfold run2Of; omega
  have hN : cfg0.N = 32 := N_0
  have h : 4 * run2Of i + 3 < cfg0.N := by omega
  unfold G2
  rw [dif_pos h, ← outsAt0_sweep m c _ h, (show loc2Of i = (ix2 ⟨(i 0).val % 1024, Nat.mod_lt _ (by decide)⟩ ⟨(i 1).val % 2048, Nat.mod_lt _ (by decide)⟩) from by funext a; fin_cases a <;> rfl), stored m c _ (by omega) (ix2 ⟨(i 0).val % 1024, Nat.mod_lt _ (by decide)⟩ ⟨(i 1).val % 2048, Nat.mod_lt _ (by decide)⟩)]
  refine Finset.sum_congr (M := EReal) rfl fun r _ => (part _ _ _ _).trans (Finset.sum_congr rfl fun k _ => ?_)
  have hr := r.isLt
  have hk := k.isLt
  rw [blk0 m c _ _ (ix3 r (i 0) k) ?_ ?_ ?_ , blk1 m c _ _ (ix3 r k (i 1)) ?_ ?_ ?_ , hX, hW]
  · show r.val = (4 * run2Of i + r.val) % 4; omega
  · show k.val = 0 + k.val; omega
  · show (i 1).val = 0 + (i 1).val % 2048; omega
  · show r.val = (4 * run2Of i + r.val) % 4; omega
  · show (i 0).val = 1024 * ((4 * run2Of i + r.val) / 4) + (i 0).val % 1024; omega
  · show k.val = 0 + k.val; omega

end Cert.Kernel6Ideal.Prod

end
-- ==== Proof.Ref6.lean ====
module

public import proofs.«01_k».proof.Proof.Lay
public import proofs.«01_k».proof.Proof.Gen.Reference6Ideal.Run

@[expose] public section

set_option maxRecDepth 16384

noncomputable section

/-! The feed-forward layer's second product: what the reference computes. -/

namespace Cert.Reference6Ideal.Prod

open Idealize.ShloMosaic Idealize.ShloMosaic.ValueIdx
open Cert.Reference6Ideal Cert.Reference6Ideal.Gen Cert.Ffn

/-- The reference's result, from its two arguments. -/
def res {F : FTy → Type} [FloatOps F] (X : Vec F S4x8192x1408 .bf16) (W : Vec F S4x1408x2048 .bf16) : Vec F S8192x2048 .f32 :=
  Host.dotGeneral dot_S8192x5632_S5632x2048_S8192x2048_1_0_0_1_n_n none (shapeCast _ (transpose S8192x4x1408 [1, 0, 2] (extf .f32 X bitsLt_bf16_f32) transposes_S4x8192x1408_S8192x4x1408_1_0_2) shapeCasts_S8192x4x1408_S8192x5632) (shapeCast _ (extf .f32 W bitsLt_bf16_f32) shapeCasts_S4x1408x2048_S5632x2048)

/-- Its entries. -/
theorem res_at (X : S4x8192x1408.Idx → EReal) (W : S4x1408x2048.Idx → EReal) (a : Fin 8192) (b : Fin 2048) :
    res (F := Ideal) X W (ix2 a b) = ∑ r : Fin 4, ∑ k : Fin 1408, X (ix3 r a k) * W (ix3 r k b) := by
  unfold res
  refine (dot_nn dot_S8192x5632_S5632x2048_S8192x2048_1_0_0_1_n_n rfl rfl (fun _ _ _ => by funext x; fin_cases x <;> rfl) (fun _ _ _ => by funext x; fin_cases x <;> rfl) _ _ a b).trans
    ((sum_cols _).trans (Finset.sum_congr rfl fun r _ => Finset.sum_congr rfl fun k _ => ?_))
  rw [side, stack]
  rfl

end Cert.Reference6Ideal.Prod

end
-- ==== Proof.End6.lean ====
module

public import proofs.«01_k».proof.Defs
public import proofs.«01_k».proof.Proof.Gen.Kernel6
public import proofs.«01_k».proof.Proof.Mm6
public import proofs.«01_k».proof.Proof.Ref6
public import Idealize.ShloMosaic.Adequacy
public import Idealize.ShloMosaic.Init

@[expose] public section

noncomputable section

/-! The feed-forward layer's second product: the frames, and the kernel's result set beside the reference's. -/

namespace Cert.Kernel6Ideal.Prod

open Idealize.ShloMosaic Idealize.SL.Sem

/-- The two programs have one text, so one body under each label. -/
theorem bodies_eq : Cert.Kernel6Ideal.defs₀ (F := Bits) = Cert.Kernel6.defs₀ (F := Bits) := by
  unfold Cert.Kernel6Ideal.defs₀ Cert.Kernel6.defs₀
  refine congrArg Defs.onTc ?_
  funext l a
  match l, a with
  | 0, (t, s) => exact rfl
  | ⟨_ + 1, h⟩, _ => exact absurd h (Nat.not_lt.2 (Nat.le_add_left _ _))

theorem defs_eq : Cert.Kernel6Ideal.defs (F := Bits) = Cert.Kernel6.defs (F := Bits) :=
  congrArg (Pipeline.defs (Cert.Kernel6Ideal.pcfgs (F := Bits))) bodies_eq

theorem frame_kernel : Cert.quiescent_Kernel6 (hKernel6 := Cert.Kernel6.Gen.facts) := by
  intro m ρ _
  have h := Cert.Kernel6Ideal.Gen.frame (F := Bits) m ρ
  rw [defs_eq] at h
  exact h

theorem frame_ideal : Cert.quiescent_Kernel6Ideal (hKernel6Ideal := Cert.Kernel6Ideal.Gen.facts) := fun m ρ _ =>
  Cert.Kernel6Ideal.Gen.frame (F := Ideal) m ρ

theorem frame_ref : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem values : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Reference6Ideal.Prod.res (F := Ideal)
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun _ h c => ?_) (Cert.Kernel6Ideal.Value.run (F := Ideal) m g)
    refine ⟨(h c).1.trans (funext fun i => ?_), (h c).2⟩
    refine (value m c i _ _ rfl rfl).trans (((congrArg _ (ValueIdx.eq_ix2 i)).trans (Cert.Reference6Ideal.Prod.res_at _ _ (i 0) (i 1))).symm)
  · refine (θ_run Cert.Reference6Ideal.defs _ _).mono (fun _ h c => ?_) (Cert.Reference6Ideal.Value.run (F := Ideal) m' g')
    refine ⟨(h c).1.trans ?_, (h c).2⟩
    rw [(hagree c).1, (hagree c).2]
    rfl

end Cert.Kernel6Ideal.Prod

end
-- ==== Proof.Up7.lean ====
module

public import proofs.«01_k».proof.Proof.Act
public import proofs.«01_k».proof.Proof.Gen.Kernel7Ideal.Value
public import Idealize.ShloMosaic.Lib.Pipeline.ValueKit

@[expose] public section

set_option maxRecDepth 16384

noncomputable section

/-! The feed-forward layer's first products and their gated combination: what the kernel's two result arrays end holding. -/

namespace Cert.Kernel7Ideal.Prod

open Idealize.ShloMosaic hiding ix1 ix2 ix3
open Idealize.ShloMosaic.TcCoe Idealize.ShloMosaic.ValueIdx
open Cert.Kernel7Ideal.Gen Cert.Kernel7Ideal.Value Cert.Ffn

variable (m : (ℓ : Loc nD τ sig) → Buf (Elt Ideal) ℓ)

theorem z2 : (![0, 0] : Fin 2 → Nat) = fun _ => 0 := by funext a; fin_cases a <;> rfl
theorem z3 : (![0, 0, 0] : Fin 3 → Nat) = fun _ => 0 := by funext a; fin_cases a <;> rfl

theorem i0 : ∀ t : Fin cfg0.N, win0_0.index t = ![t.val % 16, 0] := (by decide +kernel : ∀ t : Fin grid0.N, _)
theorem i1 : ∀ t : Fin cfg0.N, win0_1.index t = ![t.val / 16, 0, 0] := (by decide +kernel : ∀ t : Fin grid0.N, _)
theorem i2 : ∀ t : Fin cfg0.N, win0_2.index t = ![t.val / 16, t.val % 16, 0] := (by decide +kernel : ∀ t : Fin grid0.N, _)
theorem i3 : ∀ t : Fin cfg0.N, win0_3.index t = ![t.val / 16, t.val % 16, 0] := (by decide +kernel : ∀ t : Fin grid0.N, _)

/-- The block of the first operand at a point, -/
theorem blk0 (c : Dev nD) (t : Fin cfg0.N) (x : S512x2048.Idx) (i : S8192x2048.Idx)
    (h0 : (i 0).val = 512 * (t.val % 16) + (x 0).val) (h1 : (i 1).val = 0 + (x 1).val) :
    (iblk m c 0 t : Vec Ideal S512x2048 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rfl

/-- and of the second. -/
theorem blk1 (c : Dev nD) (t : Fin cfg0.N) (x : S1x2048x2816.Idx) (i : S4x2048x2816.Idx)
    (h0 : (i 0).val = t.val / 16) (h1 : (i 1).val = 0 + (x 1).val) (h2 : (i 2).val = 0 + (x 2).val) :
    (iblk m c 1 t : Vec Ideal S1x2048x2816 .bf16) x = m ((c.tc : Thread nD τ).loc main_arg1) i := by
  blk_simp [iblk]
  rw [V_main_arg1]
  refine congrArg (m ((c.tc : Thread nD τ).loc main_arg1)) (funext fun a => Fin.ext ?_)
  have e0 : (x 0).val = 0 := Nat.lt_one_iff.1 (x 0).isLt
  match a with
  | ⟨0, _⟩ => refine Eq.trans ?_ h0.symm; blk_simp [i1]
  | ⟨1, _⟩ => refine Eq.trans ?_ h1.symm; blk_simp [i1]; rfl
  | ⟨2, _⟩ => refine Eq.trans ?_ h2.symm; blk_simp [i1]; rfl

/-- The product of two blocks at an entry. -/
theorem part (x : FVec Ideal S512x2048 .bf16) (w : FVec Ideal S1x2048x2816 .bf16) (a : Fin 512) (b : Fin 2816) :
    k0_pay1 (F := Ideal) x w (ix2 a b) = ∑ k : Fin 2048, x (ix2 a k) * w (ix3 0 k b) := by
  simp only [k0_pay1, matmul]
  rw [Ideal.matmul_constant_zero_apply,
    ← Equiv.sum_comp (contrEquiv1 dot_S512x2048_S2048x2816_S512x2816_1_0_0_1_n_n 2048 rfl rfl).symm]
  refine Finset.sum_congr rfl fun k _ => ?_
  refine congrArg₂ (fun a b : EReal => a * b) (congrArg x (by funext u; fin_cases u <;> rfl)) ?_
  refine shapeCast_apply _ _ _ _ ?_
  rw [Shape.rowMajor_val_two, Shape.rowMajor_val_three]
  show (0 * 2048 + k.val) * 2816 + b.val = k.val * 2816 + b.val
  omega

/-- The product of the activations with a chip's columns. -/
def prod (X : S8192x2048.Idx → EReal) (W : S4x2048x2816.Idx → EReal) (j : Fin 4) (s : Fin 8192) (p : Fin 2816) : EReal :=
  ∑ k : Fin 2048, X (ix2 s k) * W (ix3 j k p)

variable (c : Dev nD) (X : S8192x2048.Idx → EReal) (W : S4x2048x2816.Idx → EReal)
  (hX : m ((c.tc : Thread nD τ).loc main_arg0) = X) (hW : m ((c.tc : Thread nD τ).loc main_arg1) = W)

include hX hW in
theorem block (t : Fin cfg0.N) (a : Fin 512) (b : Fin 2816) (j : Fin 4) (s : Fin 8192) (hj : j.val = t.val / 16) (hs : s.val = 512 * (t.val % 16) + a.val) :
    k0_pay1 (F := Ideal) (iblk m c 0 t) (iblk m c 1 t) (ix2 a b) = prod X W j s b := by
  refine (part _ _ a b).trans (Finset.sum_congr rfl fun k _ => ?_)
  rw [blk0 m c t (ix2 a k) (ix2 s k) hs (Nat.zero_add _).symm, blk1 m c t (ix3 0 k b) (ix3 j k b) hj (Nat.zero_add _).symm (Nat.zero_add _).symm, hX, hW]

/-- What a point leaves of the first result: its product, -/
theorem out2 (x : Vec Ideal S512x2048 .bf16) (w : Vec Ideal S1x2048x2816 .bf16) (a : Fin 512) (b : Fin 2816) :
    (out0_2 (F := Ideal) x w : S1x512x2816.Idx → EReal) (ix3 0 a b) = k0_pay1 (F := Ideal) x w (ix2 a b) := by
  unfold out0_2
  rw [View.canon_unit_zero (S := S1x512x2816) z3, View.ld_unit_zero (S := S512x2048) z2, View.ld_unit_zero (S := S1x2048x2816) z3]
  unfold k0_pay2
  refine shapeCast_apply _ _ _ (ix2 a b) ?_
  rw [Shape.rowMajor_val_two, Shape.rowMajor_val_three]
  show a.val * 2816 + b.val = (0 * 512 + a.val) * 2816 + b.val
  omega

/-- and of the second: the gated combination of the product's two halves. -/
theorem out3 (x : Vec Ideal S512x2048 .bf16) (w : Vec Ideal S1x2048x2816 .bf16) (a : Fin 512) (b : Fin 1408) :
    (out0_3 (F := Ideal) x w : S1x512x1408.Idx → EReal) (ix3 0 a b)
      = k0_pay1 (F := Ideal) x w (ix2 a (lo b)) * sg (k0_pay1 (F := Ideal) x w (ix2 a (lo b))) * k0_pay1 (F := Ideal) x w (ix2 a (hi b)) := by
  unfold out0_3
  rw [View.canon_unit_zero (S := S1x512x1408) z3, View.ld_unit_zero (S := S512x2048) z2, View.ld_unit_zero (S := S1x2048x2816) z3]
  unfold k0_pay3
  generalize k0_pay1 (F := Ideal) x w = g
  refine (shapeCast_apply _ _ _ (ix2 a b) ?_).trans ?_
  · rw [Shape.rowMajor_val_two, Shape.rowMajor_val_three]
    show a.val * 1408 + b.val = (0 * 512 + a.val) * 1408 + b.val
    omega
  have hl : extractStridedSlice S512x1408 ![0, 0] g slices_S512x2816_o0_0_S512x1408 (ix2 a b) = g (ix2 a (lo b)) :=
    extractStridedSlice_apply _ g _ _ _ fun u => match u with
      | ⟨0, _⟩ => (Nat.zero_add _).symm
      | ⟨1, _⟩ => (Nat.zero_add _).symm
  have hh : extractStridedSlice S512x1408 ![0, 1408] g slices_S512x2816_o0_1408_S512x1408 (ix2 a b) = g (ix2 a (hi b)) :=
    extractStridedSlice_apply _ g _ _ _ fun u => match u with
      | ⟨0, _⟩ => (Nat.zero_add _).symm
      | ⟨1, _⟩ => rfl
  rw [← hl, ← hh, ← gate]
  rfl

/-- The gated combination at an entry. -/
def act (X : S8192x2048.Idx → EReal) (W : S4x2048x2816.Idx → EReal) (j : Fin 4) (s : Fin 8192) (f : Fin 1408) : EReal :=
  prod X W j s (lo f) * sg (prod X W j s (lo f)) * prod X W j s (hi f)

include hX hW in
/-- The first result array: the products. -/
theorem value0 : (dats m 0 c).arrAt 2 cfg0.N = fun i => prod X W (i 0) (i 1) (i 2) := by
  refine (dats m 0 c).arrAt_eq_of_covers 2 _ (by decide +kernel) fun t hf y => ?_
  blk_simp
  rw [after0_2]
  have e0 : (y 0).val = 0 := Nat.lt_one_iff.1 (y 0).isLt
  have ey : y = (ix3 0 (y 1) (y 2) : S1x512x2816.Idx) := by
    funext u; match u with
    | ⟨0, _⟩ => exact Fin.ext e0
    | ⟨1, _⟩ => rfl
    | ⟨2, _⟩ => rfl
  refine ((congrArg _ ey).trans (out2 _ _ (y 1) (y 2))).trans ?_
  refine (block m c X W hX hW t (y 1) (y 2) _ _ ?_ ?_).trans (congrArg (prod X W _ _) (Fin.ext (Eq.symm ?_)))
  · show (((cfg0.win 2).blk t).view.emb y 0).val = _
    blk_simp [i2]
  · show (((cfg0.win 2).blk t).view.emb y 1).val = _
    blk_simp [i2]
    rw [Nat.mul_comm]
  · show (((cfg0.win 2).blk t).view.emb y 2).val = _
    blk_simp [i2]

include hX hW in
/-- The second: the gated combinations. -/
theorem value1 : (dats m 0 c).arrAt 3 cfg0.N = fun i => act X W (i 0) (i 1) (i 2) := by
  refine (dats m 0 c).arrAt_eq_of_covers 3 _ (by decide +kernel) fun t hf y => ?_
  blk_simp
  rw [after0_3]
  have e0 : (y 0).val = 0 := Nat.lt_one_iff.1 (y 0).isLt
  have ey : y = (ix3 0 (y 1) (y 2) : S1x512x1408.Idx) := by
    funext u; match u with
    | ⟨0, _⟩ => exact Fin.ext e0
    | ⟨1, _⟩ => rfl
    | ⟨2, _⟩ => rfl
  refine ((congrArg _ ey).trans (out3 _ _ (y 1) (y 2))).trans ?_
  have hb := fun b => block m c X W hX hW t (y 1) b (((cfg0.win 3).blk t).view.emb y 0) (((cfg0.win 3).blk t).view.emb y 1)
    (by blk_simp [i3]) (by blk_simp [i3]; rw [Nat.mul_comm])
  rw [hb, hb]
  refine congrArg (act X W _ _) (Fin.ext (Eq.symm ?_))
  show (((cfg0.win 3).blk t).view.emb y 2).val = _
  blk_simp [i3]

end Cert.Kernel7Ideal.Prod

end
-- ==== Proof.Ref7.lean ====
module

public import proofs.«01_k».proof.Proof.Act
public import proofs.«01_k».proof.Proof.Gen.Reference7Ideal.Run

@[expose] public section

set_option maxRecDepth 16384

noncomputable section

/-! The feed-forward layer's first products and their gated combination: what the reference computes. -/

namespace Cert.Reference7Ideal.Prod

open Idealize.ShloMosaic Idealize.ShloMosaic.ValueIdx
open Cert.Reference7Ideal Cert.Reference7Ideal.Gen Cert.Ffn

variable {F : FTy → Type} [FloatOps F]

/-- The logistic function of a matrix, -/
def sig (g : Vec F S8192x5632 .f32) : Vec F S8192x5632 .f32 :=
  Host.divf (broadcastInDim S8192x5632 ![] bcast_S_S8192x5632 (constant S_ .f32 0x3F800000#32)) (addf (broadcastInDim S8192x5632 ![] bcast_S_S8192x5632 (constant S_ .f32 0x3F800000#32)) (Host.exp (Host.negf g)))

/-- entry by entry. -/
theorem sig_at (g : S8192x5632.Idx → EReal) (i : S8192x5632.Idx) : (sig (F := Ideal) g : S8192x5632.Idx → EReal) i = sg (g i) := by
  show Ideal.div (Ideal.ofBits .f32 0x3F800000#32) (Ideal.ofBits .f32 0x3F800000#32 + Ideal.exp (-(g i))) = _
  rw [Ideal.ofBits_one_f32]
  rfl

/-- The gate product: the activations times all chips' columns of the first halves, -/
def G (X : Vec F S8192x2048 .bf16) (W : Vec F S4x2048x2816 .bf16) : Vec F S8192x5632 .f32 :=
  Host.dotGeneral dot_S8192x2048_S2048x5632_S8192x5632_1_0_0_1_n_n none (extf .f32 X bitsLt_bf16_f32) (shapeCast _ (transpose S2048x4x1408 [1, 0, 2] (extractStridedSlice S4x2048x1408 ![0, 0, 0] (extf .f32 W bitsLt_bf16_f32) slices_S4x2048x2816_S4x2048x1408_0_0_0) transposes_S4x2048x1408_S2048x4x1408_1_0_2) shapeCasts_S2048x4x1408_S2048x5632)

/-- at an entry. -/
theorem G_at (X : S8192x2048.Idx → EReal) (W : S4x2048x2816.Idx → EReal) (j : Fin 4) (s : Fin 8192) (f : Fin 1408) :
    (G (F := Ideal) X W : S8192x5632.Idx → EReal) (ix2 s (col j f)) = ∑ k : Fin 2048, X (ix2 s k) * W (ix3 j k (lo f)) := by
  unfold G
  refine (dot_nn dot_S8192x2048_S2048x5632_S8192x5632_1_0_0_1_n_n rfl rfl (fun _ _ _ => by funext x; fin_cases x <;> rfl) (fun _ _ _ => by funext x; fin_cases x <;> rfl) _ _ _ _).trans
    (Finset.sum_congr rfl fun k _ => ?_)
  rw [side, low]
  rfl

/-- The other product: the activations times all chips' columns of the second halves, -/
def U (X : Vec F S8192x2048 .bf16) (W : Vec F S4x2048x2816 .bf16) : Vec F S8192x5632 .f32 :=
  Host.dotGeneral dot_S8192x2048_S2048x5632_S8192x5632_1_0_0_1_n_n none (extf .f32 X bitsLt_bf16_f32) (shapeCast _ (transpose S2048x4x1408 [1, 0, 2] (extractStridedSlice S4x2048x1408 ![0, 0, 1408] (extf .f32 W bitsLt_bf16_f32) slices_S4x2048x2816_S4x2048x1408_0_0_1408) transposes_S4x2048x1408_S2048x4x1408_1_0_2) shapeCasts_S2048x4x1408_S2048x5632)

/-- at an entry. -/
theorem U_at (X : S8192x2048.Idx → EReal) (W : S4x2048x2816.Idx → EReal) (j : Fin 4) (s : Fin 8192) (f : Fin 1408) :
    (U (F := Ideal) X W : S8192x5632.Idx → EReal) (ix2 s (col j f)) = ∑ k : Fin 2048, X (ix2 s k) * W (ix3 j k (hi f)) := by
  unfold U
  refine (dot_nn dot_S8192x2048_S2048x5632_S8192x5632_1_0_0_1_n_n rfl rfl (fun _ _ _ => by funext x; fin_cases x <;> rfl) (fun _ _ _ => by funext x; fin_cases x <;> rfl) _ _ _ _).trans
    (Finset.sum_congr rfl fun k _ => ?_)
  rw [side, high]
  rfl

/-- The first result: the two products side by side. -/
def res0 (X : Vec F S8192x2048 .bf16) (W : Vec F S4x2048x2816 .bf16) : Vec F S4x8192x2816 .bf16 :=
  truncf .bf16 (concatenate S4x8192x2816 2 [⟨S4x8192x1408, (transpose S4x8192x1408 [1, 0, 2] (shapeCast _ (G X W) shapeCasts_S8192x5632_S8192x4x1408) transposes_S8192x4x1408_S4x8192x1408_1_0_2)⟩, ⟨S4x8192x1408, (transpose S4x8192x1408 [1, 0, 2] (shapeCast _ (U X W) shapeCasts_S8192x5632_S8192x4x1408) transposes_S8192x4x1408_S4x8192x1408_1_0_2)⟩] concatenates_S4x8192x1408_S4x8192x1408_S4x8192x2816_d2) bitsLt_bf16_f32

/-- The second: the gated combination. -/
def res1 (X : Vec F S8192x2048 .bf16) (W : Vec F S4x2048x2816 .bf16) : Vec F S4x8192x1408 .bf16 :=
  truncf .bf16 (transpose S4x8192x1408 [1, 0, 2] (shapeCast _ (mulf (mulf (G X W) (sig (G X W))) (U X W)) shapeCasts_S8192x5632_S8192x4x1408) transposes_S8192x4x1408_S4x8192x1408_1_0_2) bitsLt_bf16_f32

/-- Their entries. -/
theorem res0_at (X : S8192x2048.Idx → EReal) (W : S4x2048x2816.Idx → EReal) (j : Fin 4) (s : Fin 8192) (p : Fin 2816) :
    (res0 (F := Ideal) X W : S4x8192x2816.Idx → EReal) (ix3 j s p) = ∑ k : Fin 2048, X (ix2 s k) * W (ix3 j k p) := by
  unfold res0
  obtain ⟨f, rfl⟩ | ⟨f, rfl⟩ := half p
  · exact (both_lo _ _ concatenates_S4x8192x1408_S4x8192x1408_S4x8192x2816_d2 j s f).trans ((cut _ _ _ j s f).trans (G_at X W j s f))
  · exact (both_hi _ _ concatenates_S4x8192x1408_S4x8192x1408_S4x8192x2816_d2 j s f).trans ((cut _ _ _ j s f).trans (U_at X W j s f))

theorem res1_at (X : S8192x2048.Idx → EReal) (W : S4x2048x2816.Idx → EReal) (j : Fin 4) (s : Fin 8192) (f : Fin 1408) :
    (res1 (F := Ideal) X W : S4x8192x1408.Idx → EReal) (ix3 j s f)
      = (∑ k : Fin 2048, X (ix2 s k) * W (ix3 j k (lo f))) * sg (∑ k : Fin 2048, X (ix2 s k) * W (ix3 j k (lo f)))
        * ∑ k : Fin 2048, X (ix2 s k) * W (ix3 j k (hi f)) := by
  unfold res1
  refine (cut (mulf (mulf (G (F := Ideal) X W) (sig (G (F := Ideal) X W))) (U (F := Ideal) X W)) transposes_S8192x4x1408_S4x8192x1408_1_0_2 shapeCasts_S8192x5632_S8192x4x1408 j s f).trans ?_
  rw [← G_at X W j s f, ← U_at X W j s f, ← sig_at]
  rfl

end Cert.Reference7Ideal.Prod

end
-- ==== Proof.End7.lean ====
module

public import proofs.«01_k».proof.Defs
public import proofs.«01_k».proof.Proof.Gen.Kernel7
public import proofs.«01_k».proof.Proof.Up7
public import proofs.«01_k».proof.Proof.Ref7
public import Idealize.ShloMosaic.Adequacy
public import Idealize.ShloMosaic.Init

@[expose] public section

noncomputable section

/-! The feed-forward layer's first products and their gated combination: the frames, and the kernel's results set beside the reference's. -/

namespace Cert.Kernel7Ideal.Prod

open Idealize.ShloMosaic Idealize.SL.Sem

/-- The two programs have one text, so one body under each label. -/
theorem bodies_eq : Cert.Kernel7Ideal.defs₀ (F := Bits) = Cert.Kernel7.defs₀ (F := Bits) := by
  unfold Cert.Kernel7Ideal.defs₀ Cert.Kernel7.defs₀
  refine congrArg Defs.onTc ?_
  funext l a
  match l, a with
  | 0, (t, s) => exact rfl
  | ⟨_ + 1, h⟩, _ => exact absurd h (Nat.not_lt.2 (Nat.le_add_left _ _))

theorem defs_eq : Cert.Kernel7Ideal.defs (F := Bits) = Cert.Kernel7.defs (F := Bits) :=
  congrArg (Pipeline.defs (Cert.Kernel7Ideal.pcfgs (F := Bits))) bodies_eq

theorem frame_kernel : Cert.quiescent_Kernel7 (hKernel7 := Cert.Kernel7.Gen.facts) := by
  intro m ρ _
  have h := Cert.Kernel7Ideal.Gen.frame (F := Bits) m ρ
  rw [defs_eq] at h
  exact h

theorem frame_ideal : Cert.quiescent_Kernel7Ideal (hKernel7Ideal := Cert.Kernel7Ideal.Gen.facts) := fun m ρ _ =>
  Cert.Kernel7Ideal.Gen.frame (F := Ideal) m ρ

theorem frame_ref : Cert.quiescent_Reference7Ideal (hReference7Ideal := Cert.Reference7Ideal.Gen.facts) := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

theorem values : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Reference7Ideal.Prod.res0 (F := Ideal)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    fun c => Cert.Reference7Ideal.Prod.res1 (F := Ideal)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)), ?_, ?_⟩
  · refine (θ_run Cert.Kernel7Ideal.defs _ _).mono (fun _ h c => ?_) (Cert.Kernel7Ideal.Value.run_blocks (F := Ideal) m g)
    refine ⟨(h c).1.trans ((value0 m c _ _ rfl rfl).trans (funext fun i => ?_)), (h c).2.1.trans ((value1 m c _ _ rfl rfl).trans (funext fun i => ?_)), (h c).2.2⟩
    · exact ((congrArg _ (ValueIdx.eq_ix3 i)).trans (Cert.Reference7Ideal.Prod.res0_at _ _ (i 0) (i 1) (i 2))).symm
    · exact ((congrArg _ (ValueIdx.eq_ix3 i)).trans (Cert.Reference7Ideal.Prod.res1_at _ _ (i 0) (i 1) (i 2))).symm
  · refine (θ_run Cert.Reference7Ideal.defs _ _).mono (fun _ h c => ?_) (Cert.Reference7Ideal.Value.run (F := Ideal) m' g')
    refine ⟨(h c).1.trans ?_, (h c).2.1.trans ?_, (h c).2.2⟩
    · rw [(hagree c).1, (hagree c).2]
      rfl
    · rw [(hagree c).1, (hagree c).2]
      rfl

end Cert.Kernel7Ideal.Prod

end
-- ==== Proof.Mm8.lean ====
module

public import proofs.«01_k».proof.Proof.Sums
public import proofs.«01_k».proof.Proof.Gen.Kernel8Ideal.Value
public import Idealize.ShloMosaic.Lib.Pipeline.ValueKit

@[expose] public section

set_option maxRecDepth 16384

noncomputable section

/-! The gradient of the mixer's output projection: what the kernel's result array ends holding. -/

namespace Cert.Kernel8Ideal.Prod

open Idealize.ShloMosaic hiding ix1 ix2 ix3
open Idealize.ShloMosaic.TcCoe Idealize.ShloMosaic.ValueIdx
open Cert.Kernel8Ideal.Gen Cert.Kernel8Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val % 4, t.val / 8] := (by decide +kernel : ∀ t : Fin grid0.N, _)
theorem i1 : ∀ t : Fin cfg0.N, win0_1.index t = ![t.val % 4, t.val / 4 % 2] := (by decide +kernel : ∀ t : Fin grid0.N, _)

/-- The block of the first operand at a point, -/
theorem blk0 (c : Dev nD) (t : Fin cfg0.N) (x : S2048x1024.Idx) (i : S8192x2048.Idx)
    (h0 : (i 0).val = 2048 * (t.val % 4) + (x 0).val) (h1 : (i 1).val = 1024 * (t.val / 8) + (x 1).val) :
    (iblk m c 0 t : Vec Ideal S2048x1024 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rw [Nat.mul_comm]; rfl

/-- and of the second. -/
theorem blk1 (c : Dev nD) (t : Fin cfg0.N) (x : S2048x1024.Idx) (i : S8192x2048.Idx)
    (h0 : (i 0).val = 2048 * (t.val % 4) + (x 0).val) (h1 : (i 1).val = 1024 * (t.val / 4 % 2) + (x 1).val) :
    (iblk m c 1 t : Vec Ideal S2048x1024 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rw [Nat.mul_comm]; rfl
  | ⟨1, _⟩ => refine Eq.trans ?_ h1.symm; blk_simp [i1]; rw [Nat.mul_comm]; rfl

/-- The product of two blocks at an entry. -/
theorem part (x : FVec Ideal S2048x1024 .bf16) (w : FVec Ideal S2048x1024 .bf16) (a : Fin 1024) (b : Fin 1024) :
    k0_pay1 (F := Ideal) x w (ix2 a b) = ∑ k : Fin 2048, x (ix2 k a) * w (ix2 k b) := by
  simp only [k0_pay1, matmul]
  rw [Ideal.matmul_constant_zero_apply,
    ← Equiv.sum_comp (contrEquiv1 dot_S2048x1024_S2048x1024_S1024x1024_0_0_1_1_n_n 2048 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a run's first point leaves in the scratch, -/
theorem soutA (i : grid0.Coords) (a4 : Memref sig .tc .vmem S2048x1024 .bf16) (h4 : a4.IsWhole)
    (a5 : Memref sig .tc .vmem S2048x1024 .bf16) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i) (hc2 : ¬cond0_2 i)
    (x : Vec Ideal S2048x1024 .bf16) (w : Vec Ideal S2048x1024 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x1024) z2]
  unfold k0_pay2
  simp only [View.readAt_eq_ld, h4.read_unread, h5.read_unread, View.ld_unit_zero (S := S2048x1024) z2, shapeCast_self]

/-- a middle one, -/
theorem soutB (i : grid0.Coords) (a4 : Memref sig .tc .vmem S2048x1024 .bf16) (h4 : a4.IsWhole)
    (a5 : Memref sig .tc .vmem S2048x1024 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : ¬cond0_2 i)
    (x : Vec Ideal S2048x1024 .bf16) (w : Vec Ideal S2048x1024 .bf16) (s : Vec Ideal S1024x1024 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x1024) z2]
  unfold k0_pay3
  simp only [View.readAt_eq_ld, h4.read_unread, h5.read_unread, h7.read_unread, View.ld_unit_zero (S := S2048x1024) z2, View.ld_unit_zero (S := S1024x1024) z2, shapeCast_self]

/-- and what the last one stores. -/
theorem outC (i : grid0.Coords) (a4 : Memref sig .tc .vmem S2048x1024 .bf16) (h4 : a4.IsWhole)
    (a5 : Memref sig .tc .vmem S2048x1024 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : cond0_2 i)
    (x : Vec Ideal S2048x1024 .bf16) (w : Vec Ideal S2048x1024 .bf16) (s : Vec Ideal S1024x1024 .f32) :
    out0_C_2 c i a4 h4 a5 h5 a6 h6 a7 h7 hc0 hc1 hc2 x w s = addf s (k0_pay1 x w) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1024x1024) z2, View.readCov_unit_zero (S := S1024x1024) _ z2]
  unfold k0_pay3
  simp only [View.readAt_eq_ld, h4.read_unread, h5.read_unread, h7.read_unread, View.ld_unit_zero (S := S2048x1024) z2, View.ld_unit_zero (S := S1024x1024) z2, shapeCast_self]

/-- The product at a point. -/
def P (t : Fin cfg0.N) : FVec Ideal S1024x1024 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = addf (outsAt0 m c (t.val - 1) (Nat.lt_of_le_of_lt (Nat.sub_le _ _) t.isLt)).2 (P m c t) := by
  rw [outsAt0_C m c t (r3 _ h2).1 (r3 _ h2).2 h2]
  dsimp only
  rw [outC]
  unfold P
  rfl

/-- What a run's last point stores: the four products' sum. -/
theorem stored (q : ℕ) (hq : q < 4) (j : S1024x1024.Idx) (h : 4 * q + 3 < cfg0.N) :
    (outsAt0 m c (4 * q + 3) h).1 j = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  exact Cert.Ffn.four fun r : Fin 4 => (P m c ⟨4 * q + r.val, lt_of_lt_of_eq (by omega) N_0.symm⟩ j : EReal)

/-- The result array at an entry. -/
theorem value (i : S2048x2048.Idx) (X : S8192x2048.Idx → EReal) (W : S8192x2048.Idx → EReal)
    (hX : m ((c.tc : Thread nD τ).loc main_arg0) = X) (hW : m ((c.tc : Thread nD τ).loc main_arg1) = W) :
    G2 m c i = ∑ k : Fin 8192, X (ix2 k (i 0)) * W (ix2 k (i 1)) := by
  have b0 : (i 0).val < 2048 := (i 0).isLt
  have b1 : (i 1).val < 2048 := (i 1).isLt
  have hq : run2Of i = 2 * ((i 0).val / 1024) + (i 1).val / 1024 := by unfold run2Of; omega
  have hN : cfg0.N = 16 := N_0
  have h : 4 * run2Of i + 3 < cfg0.N := by omega
  unfold G2
  rw [dif_pos h, ← outsAt0_sweep m c _ h, (show loc2Of i = (ix2 ⟨(i 0).val % 1024, Nat.mod_lt _ (by decide)⟩ ⟨(i 1).val % 1024, Nat.mod_lt _ (by decide)⟩) from by funext a; fin_cases a <;> rfl), stored m c _ (by omega) (ix2 ⟨(i 0).val % 1024, Nat.mod_lt _ (by decide)⟩ ⟨(i 1).val % 1024, Nat.mod_lt _ (by decide)⟩),
    Cert.Ffn.sum_parts 2048 8192 rfl]
  refine Finset.sum_congr (M := EReal) rfl fun r _ => (part _ _ _ _).trans (Finset.sum_congr rfl fun k _ => ?_)
  have hr := r.isLt
  have hk := k.isLt
  rw [blk0 m c _ _ (ix2 ⟨2048 * r.val + k.val, by omega⟩ (i 0)) ?_ ?_, blk1 m c _ _ (ix2 ⟨2048 * r.val + k.val, by omega⟩ (i 1)) ?_ ?_, hX, hW]
  · show 2048 * r.val + k.val = 2048 * ((4 * run2Of i + r.val) % 4) + k.val; omega
  · show (i 1).val = 1024 * ((4 * run2Of i + r.val) / 4 % 2) + (i 1).val % 1024; omega
  · show 2048 * r.val + k.val = 2048 * ((4 * run2Of i + r.val) % 4) + k.val; omega
  · show (i 0).val = 1024 * ((4 * run2Of i + r.val) / 8) + (i 0).val % 1024; omega

end Cert.Kernel8Ideal.Prod

end
-- ==== Proof.Ref8.lean ====
module

public import proofs.«01_k».proof.Proof.Lay
public import proofs.«01_k».proof.Proof.Gen.Reference8Ideal.Run

@[expose] public section

set_option maxRecDepth 16384

noncomputable section

/-! The gradient of the mixer's output projection: what the reference computes. -/

namespace Cert.Reference8Ideal.Prod

open Idealize.ShloMosaic Idealize.ShloMosaic.ValueIdx
open Cert.Reference8Ideal Cert.Reference8Ideal.Gen Cert.Ffn

/-- The reference's result, from its two arguments. -/
def res {F : FTy → Type} [FloatOps F] (X : Vec F S8192x2048 .bf16) (W : Vec F S8192x2048 .bf16) : Vec F S2048x2048 .f32 :=
  transpose S2048x2048 [1, 0] (Host.dotGeneral dot_S8192x2048_S8192x2048_S2048x2048_0_0_1_1_n_n none (extf .f32 W bitsLt_bf16_f32) (extf .f32 X bitsLt_bf16_f32)) transposes_S2048x2048_S2048x2048_1_0

/-- Its entries. -/
theorem res_at (X : S8192x2048.Idx → EReal) (W : S8192x2048.Idx → EReal) (a : Fin 2048) (b : Fin 2048) :
    res (F := Ideal) X W (ix2 a b) = ∑ k : Fin 8192, X (ix2 k a) * W (ix2 k b) := by
  unfold res
  refine (turn _ _ a b).trans ((dot_tn dot_S8192x2048_S8192x2048_S2048x2048_0_0_1_1_n_n rfl rfl (fun _ _ _ => by funext x; fin_cases x <;> rfl) (fun _ _ _ => by funext x; fin_cases x <;> rfl) _ _ _ _).trans
    (Finset.sum_congr rfl fun s _ => ?_))
  rw [mul_comm]
  rfl

end Cert.Reference8Ideal.Prod

end
-- ==== Proof.End8.lean ====
module

public import proofs.«01_k».proof.Defs
public import proofs.«01_k».proof.Proof.Gen.Kernel8
public import proofs.«01_k».proof.Proof.Mm8
public import proofs.«01_k».proof.Proof.Ref8
public import Idealize.ShloMosaic.Adequacy
public import Idealize.ShloMosaic.Init

@[expose] public section

noncomputable section

/-! The gradient of the mixer's output projection: the frames, and the kernel's result set beside the reference's. -/

namespace Cert.Kernel8Ideal.Prod

open Idealize.ShloMosaic Idealize.SL.Sem

/-- The two programs have one text, so one body under each label. -/
theorem bodies_eq : Cert.Kernel8Ideal.defs₀ (F := Bits) = Cert.Kernel8.defs₀ (F := Bits) := by
  unfold Cert.Kernel8Ideal.defs₀ Cert.Kernel8.defs₀
  refine congrArg Defs.onTc ?_
  funext l a
  match l, a with
  | 0, (t, s) => exact rfl
  | ⟨_ + 1, h⟩, _ => exact absurd h (Nat.not_lt.2 (Nat.le_add_left _ _))

theorem defs_eq : Cert.Kernel8Ideal.defs (F := Bits) = Cert.Kernel8.defs (F := Bits) :=
  congrArg (Pipeline.defs (Cert.Kernel8Ideal.pcfgs (F := Bits))) bodies_eq

theorem frame_kernel : Cert.quiescent_Kernel8 (hKernel8 := Cert.Kernel8.Gen.facts) := by
  intro m ρ _
  have h := Cert.Kernel8Ideal.Gen.frame (F := Bits) m ρ
  rw [defs_eq] at h
  exact h

theorem frame_ideal : Cert.quiescent_Kernel8Ideal (hKernel8Ideal := Cert.Kernel8Ideal.Gen.facts) := fun m ρ _ =>
  Cert.Kernel8Ideal.Gen.frame (F := Ideal) m ρ

theorem frame_ref : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem values : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Reference8Ideal.Prod.res (F := Ideal)
    (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun _ h c => ?_) (Cert.Kernel8Ideal.Value.run (F := Ideal) m g)
    refine ⟨(h c).1.trans (funext fun i => ?_), (h c).2⟩
    refine (value m c i _ _ rfl rfl).trans (((congrArg _ (ValueIdx.eq_ix2 i)).trans (Cert.Reference8Ideal.Prod.res_at _ _ (i 0) (i 1))).symm)
  · refine (θ_run Cert.Reference8Ideal.defs _ _).mono (fun _ h c => ?_) (Cert.Reference8Ideal.Value.run (F := Ideal) m' g')
    refine ⟨(h c).1.trans ?_, (h c).2⟩
    rw [(hagree c).1, (hagree c).2]
    rfl

end Cert.Kernel8Ideal.Prod

end
-- ==== Proof.Mm9.lean ====
module

public import proofs.«01_k».proof.Proof.Sums
public import proofs.«01_k».proof.Proof.Gen.Kernel9Ideal.Value
public import Idealize.ShloMosaic.Lib.Pipeline.ValueKit

@[expose] public section

set_option maxRecDepth 16384

noncomputable section

/-! The gradient of the mixer's projected rows: what the kernel's result array ends holding. -/

namespace Cert.Kernel9Ideal.Prod

open Idealize.ShloMosaic hiding ix1 ix2 ix3
open Idealize.ShloMosaic.TcCoe Idealize.ShloMosaic.ValueIdx
open Cert.Kernel9Ideal.Gen Cert.Kernel9Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val / 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, t.val % 2] := (by decide +kernel : ∀ t : Fin grid0.N, _)

/-- The block of the first operand at a point, -/
theorem blk0 (c : Dev nD) (t : Fin cfg0.N) (x : S1024x2048.Idx) (i : S8192x2048.Idx)
    (h0 : (i 0).val = 1024 * (t.val / 2) + (x 0).val) (h1 : (i 1).val = 0 + (x 1).val) :
    (iblk m c 0 t : Vec Ideal S1024x2048 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rfl

/-- and of the second. -/
theorem blk1 (c : Dev nD) (t : Fin cfg0.N) (x : S1024x2048.Idx) (i : S2048x2048.Idx)
    (h0 : (i 0).val = 1024 * (t.val % 2) + (x 0).val) (h1 : (i 1).val = 0 + (x 1).val) :
    (iblk m c 1 t : Vec Ideal S1024x2048 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rw [Nat.mul_comm]; rfl
  | ⟨1, _⟩ => refine Eq.trans ?_ h1.symm; blk_simp [i1]; rfl

/-- The product of two blocks at an entry. -/
theorem part (x : FVec Ideal S1024x2048 .bf16) (w : FVec Ideal S1024x2048 .bf16) (a : Fin 1024) (b : Fin 1024) :
    k0_pay1 (F := Ideal) x w (ix2 a b) = ∑ k : Fin 2048, x (ix2 a k) * w (ix2 b k) := by
  simp only [k0_pay1, matmul]
  rw [Ideal.matmul_constant_zero_apply,
    ← Equiv.sum_comp (contrEquiv1 dot_S1024x2048_S1024x2048_S1024x1024_1_1_0_0_n_n 2048 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a point leaves of the result: its product. -/
theorem out2 (x : Vec Ideal S1024x2048 .bf16) (w : Vec Ideal S1024x2048 .bf16) : out0_2 (F := Ideal) x w = k0_pay1 (F := Ideal) x w := by
  unfold out0_2
  rw [View.canon_unit_zero (S := S1024x1024) z2]
  simp only [View.ld_unit_zero (S := S1024x2048) z2, View.ld_unit_zero (S := S1024x2048) z2]

/-- The product at an entry. -/
def prod (X : S8192x2048.Idx → EReal) (W : S2048x2048.Idx → EReal) (a : Fin 8192) (b : Fin 2048) : EReal :=
  ∑ k : Fin 2048, X (ix2 a k) * W (ix2 b k)

/-- The result array: the products. -/
theorem value0 (X : S8192x2048.Idx → EReal) (W : S2048x2048.Idx → EReal)
    (hX : m ((c.tc : Thread nD τ).loc main_arg0) = X) (hW : m ((c.tc : Thread nD τ).loc main_arg1) = W) :
    (dats m 0 c).arrAt 2 cfg0.N = fun i => prod X W (i 0) (i 1) := by
  refine (dats m 0 c).arrAt_eq_of_covers 2 _ (by decide +kernel) fun t hf y => ?_
  blk_simp
  rw [after0_2, out2]
  refine ((congrArg _ (ValueIdx.eq_ix2 (y : S1024x1024.Idx))).trans (part _ _ (y 0) (y 1))).trans (Finset.sum_congr rfl fun k _ => ?_)
  have e0 : (((cfg0.win 2).blk t).view.emb y 0).val = 1024 * (t.val / 2) + (y 0).val := by
    blk_simp [i2]
    rw [Nat.mul_comm]
  have e1 : (((cfg0.win 2).blk t).view.emb y 1).val = 1024 * (t.val % 2) + (y 1).val := by
    blk_simp [i2]
    rw [Nat.mul_comm]
  exact congrArg₂ (fun a b : EReal => a * b)
    ((blk0 m c t _ (ix2 (((cfg0.win 2).blk t).view.emb y 0) k) e0 (Nat.zero_add _).symm).trans (congrFun hX _))
    ((blk1 m c t _ (ix2 (((cfg0.win 2).blk t).view.emb y 1) k) e1 (Nat.zero_add _).symm).trans (congrFun hW _))

end Cert.Kernel9Ideal.Prod

end
-- ==== Proof.Ref9.lean ====
module

public import proofs.«01_k».proof.Proof.Lay
public import proofs.«01_k».proof.Proof.Gen.Reference9Ideal.Run

@[expose] public section

set_option maxRecDepth 16384

noncomputable section

/-! The gradient of the mixer's projected rows: what the reference computes. -/

namespace Cert.Reference9Ideal.Prod

open Idealize.ShloMosaic Idealize.ShloMosaic.ValueIdx
open Cert.Reference9Ideal Cert.Reference9Ideal.Gen Cert.Ffn

/-- The reference's result, from its two arguments. -/
def res {F : FTy → Type} [FloatOps F] (X : Vec F S8192x2048 .bf16) (W : Vec F S2048x2048 .bf16) : Vec F S8192x2048 .f32 :=
  Host.dotGeneral dot_S8192x2048_S2048x2048_S8192x2048_1_1_0_0_n_n none (extf .f32 X bitsLt_bf16_f32) (extf .f32 W bitsLt_bf16_f32)

/-- Its entries. -/
theorem res_at (X : S8192x2048.Idx → EReal) (W : S2048x2048.Idx → EReal) (a : Fin 8192) (b : Fin 2048) :
    res (F := Ideal) X W (ix2 a b) = ∑ k : Fin 2048, X (ix2 a k) * W (ix2 b k) := by
  unfold res
  exact dot_nt dot_S8192x2048_S2048x2048_S8192x2048_1_1_0_0_n_n rfl rfl (fun _ _ _ => by funext x; fin_cases x <;> rfl) (fun _ _ _ => by funext x; fin_cases x <;> rfl) _ _ a b

end Cert.Reference9Ideal.Prod

end
-- ==== Proof.End9.lean ====
module

public import proofs.«01_k».proof.Defs
public import proofs.«01_k».proof.Proof.Gen.Kernel9
public import proofs.«01_k».proof.Proof.Mm9
public import proofs.«01_k».proof.Proof.Ref9
public import Idealize.ShloMosaic.Adequacy
public import Idealize.ShloMosaic.Init

@[expose] public section

noncomputable section

/-! The gradient of the mixer's projected rows: the frames, and the kernel's result set beside the reference's. -/

namespace Cert.Kernel9Ideal.Prod

open Idealize.ShloMosaic Idealize.SL.Sem

/-- The two programs have one text, so one body under each label. -/
theorem bodies_eq : Cert.Kernel9Ideal.defs₀ (F := Bits) = Cert.Kernel9.defs₀ (F := Bits) := by
  unfold Cert.Kernel9Ideal.defs₀ Cert.Kernel9.defs₀
  refine congrArg Defs.onTc ?_
  funext l a
  match l, a with
  | 0, (t, s) => exact rfl
  | ⟨_ + 1, h⟩, _ => exact absurd h (Nat.not_lt.2 (Nat.le_add_left _ _))

theorem defs_eq : Cert.Kernel9Ideal.defs (F := Bits) = Cert.Kernel9.defs (F := Bits) :=
  congrArg (Pipeline.defs (Cert.Kernel9Ideal.pcfgs (F := Bits))) bodies_eq

theorem frame_kernel : Cert.quiescent_Kernel9 (hKernel9 := Cert.Kernel9.Gen.facts) := by
  intro m ρ _
  have h := Cert.Kernel9Ideal.Gen.frame (F := Bits) m ρ
  rw [defs_eq] at h
  exact h

theorem frame_ideal : Cert.quiescent_Kernel9Ideal (hKernel9Ideal := Cert.Kernel9Ideal.Gen.facts) := fun m ρ _ =>
  Cert.Kernel9Ideal.Gen.frame (F := Ideal) m ρ

theorem frame_ref : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem values : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Reference9Ideal.Prod.res (F := Ideal)
    (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), ?_, ?_⟩
  · refine (θ_run Cert.Kernel9Ideal.defs _ _).mono (fun _ h c => ?_) (Cert.Kernel9Ideal.Value.run_blocks (F := Ideal) m g)
    refine ⟨(h c).1.trans ((value0 m c _ _ rfl rfl).trans (funext fun i => ?_)), (h c).2⟩
    refine ((congrArg _ (ValueIdx.eq_ix2 i)).trans (Cert.Reference9Ideal.Prod.res_at _ _ (i 0) (i 1))).symm
  · refine (θ_run Cert.Reference9Ideal.defs _ _).mono (fun _ h c => ?_) (Cert.Reference9Ideal.Value.run (F := Ideal) m' g')
    refine ⟨(h c).1.trans ?_, (h c).2⟩
    rw [(hagree c).1, (hagree c).2]
    rfl

end Cert.Kernel9Ideal.Prod

end
-- ==== Proof.Mm10.lean ====
module

public import proofs.«01_k».proof.Proof.Sums
public import proofs.«01_k».proof.Proof.Gen.Kernel10Ideal.Value
public import Idealize.ShloMosaic.Lib.Pipeline.ValueKit

@[expose] public section

set_option maxRecDepth 16384

noncomputable section

/-! The gradient of the mixer's input projection: what the kernel's result array ends holding. -/

namespace Cert.Kernel10Ideal.Prod

open Idealize.ShloMosaic hiding ix1 ix2 ix3
open Idealize.ShloMosaic.TcCoe Idealize.ShloMosaic.ValueIdx
open Cert.Kernel10Ideal.Gen Cert.Kernel10Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val % 4, t.val / 20] := (by decide +kernel : ∀ t : Fin grid0.N, _)
theorem i1 : ∀ t : Fin cfg0.N, win0_1.index t = ![t.val % 4, t.val / 4 % 5] := (by decide +kernel : ∀ t : Fin grid0.N, _)

/-- The block of the first operand at a point, -/
theorem blk0 (c : Dev nD) (t : Fin cfg0.N) (x : S2048x1024.Idx) (i : S8192x2048.Idx)
    (h0 : (i 0).val = 2048 * (t.val % 4) + (x 0).val) (h1 : (i 1).val = 1024 * (t.val / 20) + (x 1).val) :
    (iblk m c 0 t : Vec Ideal S2048x1024 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rw [Nat.mul_comm]; rfl

/-- and of the second. -/
theorem blk1 (c : Dev nD) (t : Fin cfg0.N) (x : S2048x1152.Idx) (i : S8192x5760.Idx)
    (h0 : (i 0).val = 2048 * (t.val % 4) + (x 0).val) (h1 : (i 1).val = 1152 * (t.val / 4 % 5) + (x 1).val) :
    (iblk m c 1 t : Vec Ideal S2048x1152 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rw [Nat.mul_comm]; rfl
  | ⟨1, _⟩ => refine Eq.trans ?_ h1.symm; blk_simp [i1]; rw [Nat.mul_comm]; rfl

/-- The product of two blocks at an entry. -/
theorem part (x : FVec Ideal S2048x1024 .bf16) (w : FVec Ideal S2048x1152 .bf16) (a : Fin 1024) (b : Fin 1152) :
    k0_pay1 (F := Ideal) x w (ix2 a b) = ∑ k : Fin 2048, x (ix2 k a) * w (ix2 k b) := by
  simp only [k0_pay1, matmul]
  rw [Ideal.matmul_constant_zero_apply,
    ← Equiv.sum_comp (contrEquiv1 dot_S2048x1024_S2048x1152_S1024x1152_0_0_1_1_n_n 2048 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a run's first point leaves in the scratch, -/
theorem soutA (i : grid0.Coords) (a4 : Memref sig .tc .vmem S2048x1024 .bf16) (h4 : a4.IsWhole)
    (a5 : Memref sig .tc .vmem S2048x1152 .bf16) (h5 : a5.IsWhole) (a6 : Memref sig .tc .vmem S1024x1152 .f32) (h6 : a6.IsWhole)
    (a7 : Memref sig .tc .vmem S1024x1152 .f32) (h7 : a7.IsWhole) (hc0 : cond0_0 i) (hc1 : ¬cond0_1 i) (hc2 : ¬cond0_2 i)
    (x : Vec Ideal S2048x1024 .bf16) (w : Vec Ideal S2048x1152 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x1152) z2]
  unfold k0_pay2
  simp only [View.readAt_eq_ld, h4.read_unread, h5.read_unread, View.ld_unit_zero (S := S2048x1024) z2, View.ld_unit_zero (S := S2048x1152) z2, shapeCast_self]

/-- a middle one, -/
theorem soutB (i : grid0.Coords) (a4 : Memref sig .tc .vmem S2048x1024 .bf16) (h4 : a4.IsWhole)
    (a5 : Memref sig .tc .vmem S2048x1152 .bf16) (h5 : a5.IsWhole) (a6 : Memref sig .tc .vmem S1024x1152 .f32) (h6 : a6.IsWhole)
    (a7 : Memref sig .tc .vmem S1024x1152 .f32) (h7 : a7.IsWhole) (hc0 : ¬cond0_0 i) (hc1 : cond0_1 i) (hc2 : ¬cond0_2 i)
    (x : Vec Ideal S2048x1024 .bf16) (w : Vec Ideal S2048x1152 .bf16) (s : Vec Ideal S1024x1152 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x1152) z2]
  unfold k0_pay3
  simp only [View.readAt_eq_ld, h4.read_unread, h5.read_unread, h7.read_unread, View.ld_unit_zero (S := S2048x1024) z2, View.ld_unit_zero (S := S2048x1152) z2, View.ld_unit_zero (S := S1024x1152) z2, shapeCast_self]

/-- and what the last one stores. -/
theorem outC (i : grid0.Coords) (a4 : Memref sig .tc .vmem S2048x1024 .bf16) (h4 : a4.IsWhole)
    (a5 : Memref sig .tc .vmem S2048x1152 .bf16) (h5 : a5.IsWhole) (a6 : Memref sig .tc .vmem S1024x1152 .f32) (h6 : a6.IsWhole)
    (a7 : Memref sig .tc .vmem S1024x1152 .f32) (h7 : a7.IsWhole) (hc0 : ¬cond0_0 i) (hc1 : cond0_1 i) (hc2 : cond0_2 i)
    (x : Vec Ideal S2048x1024 .bf16) (w : Vec Ideal S2048x1152 .bf16) (s : Vec Ideal S1024x1152 .f32) :
    out0_C_2 c i a4 h4 a5 h5 a6 h6 a7 h7 hc0 hc1 hc2 x w s = addf s (k0_pay1 x w) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1024x1152) z2, View.readCov_unit_zero (S := S1024x1152) _ z2]
  unfold k0_pay3
  simp only [View.readAt_eq_ld, h4.read_unread, h5.read_unread, h7.read_unread, View.ld_unit_zero (S := S2048x1024) z2, View.ld_unit_zero (S := S2048x1152) z2, View.ld_unit_zero (S := S1024x1152) z2, shapeCast_self]

/-- The product at a point. -/
def P (t : Fin cfg0.N) : FVec Ideal S1024x1152 .f32 := k0_pay1 (iblk m c 0 t) (iblk m c 1 t)

theorem r0 (n : ℕ) (h : n % 4 = 0) : ¬1 ≤ n % 4 ∧ ¬n % 4 = 3 := by omega
theorem r1 (n : ℕ) (h : n % 4 ≠ 0) : 1 ≤ n % 4 := by omega
theorem r3 (n : ℕ) (h : n % 4 = 3) : ¬n % 4 = 0 ∧ 1 ≤ n % 4 := by omega

theorem sA (t : Fin cfg0.N) (h0 : t.val % 4 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 4 = 0) (h2 : ¬t.val % 4 = 3) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 4 = 3) : (outsAt0 m c t.val t.isLt).1
    = addf (outsAt0 m c (t.val - 1) (Nat.lt_of_le_of_lt (Nat.sub_le _ _) t.isLt)).2 (P m c t) := by
  rw [outsAt0_C m c t (r3 _ h2).1 (r3 _ h2).2 h2]
  dsimp only
  rw [outC]
  unfold P
  rfl

/-- What a run's last point stores: the four products' sum. -/
theorem stored (q : ℕ) (hq : q < 10) (j : S1024x1152.Idx) (h : 4 * q + 3 < cfg0.N) :
    (outsAt0 m c (4 * q + 3) h).1 j = ∑ r : Fin 4, (P m c ⟨4 * q + r.val, lt_of_lt_of_eq (by omega) N_0.symm⟩ j : EReal) := by
  have e3 := oC m c ⟨4 * q + 3, h⟩ (by dsimp only; omega)
  have e2 := sB m c ⟨4 * q + 2, by omega⟩ (by dsimp only; omega) (by dsimp only; omega)
  have e1 := sB m c ⟨4 * q + 1, by omega⟩ (by dsimp only; omega) (by dsimp only; omega)
  have e0 := sA m c ⟨4 * q, by omega⟩ (by dsimp only; omega)
  simp only [Nat.add_sub_cancel, show 4 * q + 3 - 1 = 4 * q + 2 by omega, show 4 * q + 2 - 1 = 4 * q + 1 by omega] at e3 e2 e1
  rw [e3, e2, e1, e0]
  exact Cert.Ffn.four fun r : Fin 4 => (P m c ⟨4 * q + r.val, lt_of_lt_of_eq (by omega) N_0.symm⟩ j : EReal)

/-- The result array at an entry. -/
theorem value (i : S2048x5760.Idx) (X : S8192x2048.Idx → EReal) (W : S8192x5760.Idx → EReal)
    (hX : m ((c.tc : Thread nD τ).loc main_arg0) = X) (hW : m ((c.tc : Thread nD τ).loc main_arg1) = W) :
    G2 m c i = ∑ k : Fin 8192, X (ix2 k (i 0)) * W (ix2 k (i 1)) := by
  have b0 : (i 0).val < 2048 := (i 0).isLt
  have b1 : (i 1).val < 5760 := (i 1).isLt
  have hq : run2Of i = 5 * ((i 0).val / 1024) + (i 1).val / 1152 := by unfold run2Of; omega
  have hN : cfg0.N = 40 := N_0
  have h : 4 * run2Of i + 3 < cfg0.N := by omega
  unfold G2
  rw [dif_pos h, ← outsAt0_sweep m c _ h, (show loc2Of i = (ix2 ⟨(i 0).val % 1024, Nat.mod_lt _ (by decide)⟩ ⟨(i 1).val % 1152, Nat.mod_lt _ (by decide)⟩) from by funext a; fin_cases a <;> rfl), stored m c _ (by omega) (ix2 ⟨(i 0).val % 1024, Nat.mod_lt _ (by decide)⟩ ⟨(i 1).val % 1152, Nat.mod_lt _ (by decide)⟩),
    Cert.Ffn.sum_parts 2048 8192 rfl]
  refine Finset.sum_congr (M := EReal) rfl fun r _ => (part _ _ _ _).trans (Finset.sum_congr rfl fun k _ => ?_)
  have hr := r.isLt
  have hk := k.isLt
  rw [blk0 m c _ _ (ix2 ⟨2048 * r.val + k.val, by omega⟩ (i 0)) ?_ ?_, blk1 m c _ _ (ix2 ⟨2048 * r.val + k.val, by omega⟩ (i 1)) ?_ ?_, hX, hW]
  · show 2048 * r.val + k.val = 2048 * ((4 * run2Of i + r.val) % 4) + k.val; omega
  · show (i 1).val = 1152 * ((4 * run2Of i + r.val) / 4 % 5) + (i 1).val % 1152; omega
  · show 2048 * r.val + k.val = 2048 * ((4 * run2Of i + r.val) % 4) + k.val; omega
  · show (i 0).val = 1024 * ((4 * run2Of i + r.val) / 20) + (i 0).val % 1024; omega

end Cert.Kernel10Ideal.Prod

end
-- ==== Proof.Ref10.lean ====
module

public import proofs.«01_k».proof.Proof.Lay
public import proofs.«01_k».proof.Proof.Gen.Reference10Ideal.Run

@[expose] public section

set_option maxRecDepth 16384

noncomputable section

/-! The gradient of the mixer's input projection: what the reference computes. -/

namespace Cert.Reference10Ideal.Prod

open Idealize.ShloMosaic Idealize.ShloMosaic.ValueIdx
open Cert.Reference10Ideal Cert.Reference10Ideal.Gen Cert.Ffn

/-- The reference's result, from its two arguments. -/
def res {F : FTy → Type} [FloatOps F] (X : Vec F S8192x2048 .bf16) (W : Vec F S8192x5760 .bf16) : Vec F S2048x5760 .f32 :=
  transpose S2048x5760 [1, 0] (Host.dotGeneral dot_S8192x5760_S8192x2048_S5760x2048_0_0_1_1_n_n none (extf .f32 W bitsLt_bf16_f32) (extf .f32 X bitsLt_bf16_f32)) transposes_S5760x2048_S2048x5760_1_0

/-- Its entries. -/
theorem res_at (X : S8192x2048.Idx → EReal) (W : S8192x5760.Idx → EReal) (a : Fin 2048) (b : Fin 5760) :
    res (F := Ideal) X W (ix2 a b) = ∑ k : Fin 8192, X (ix2 k a) * W (ix2 k b) := by
  unfold res
  refine (turn _ _ a b).trans ((dot_tn dot_S8192x5760_S8192x2048_S5760x2048_0_0_1_1_n_n rfl rfl (fun _ _ _ => by funext x; fin_cases x <;> rfl) (fun _ _ _ => by funext x; fin_cases x <;> rfl) _ _ _ _).trans
    (Finset.sum_congr rfl fun s _ => ?_))
  rw [mul_comm]
  rfl

end Cert.Reference10Ideal.Prod

end
-- ==== Proof.End10.lean ====
module

public import proofs.«01_k».proof.Defs
public import proofs.«01_k».proof.Proof.Gen.Kernel10
public import proofs.«01_k».proof.Proof.Mm10
public import proofs.«01_k».proof.Proof.Ref10
public import Idealize.ShloMosaic.Adequacy
public import Idealize.ShloMosaic.Init

@[expose] public section

noncomputable section

/-! The gradient of the mixer's input projection: the frames, and the kernel's result set beside the reference's. -/

namespace Cert.Kernel10Ideal.Prod

open Idealize.ShloMosaic Idealize.SL.Sem

/-- The two programs have one text, so one body under each label. -/
theorem bodies_eq : Cert.Kernel10Ideal.defs₀ (F := Bits) = Cert.Kernel10.defs₀ (F := Bits) := by
  unfold Cert.Kernel10Ideal.defs₀ Cert.Kernel10.defs₀
  refine congrArg Defs.onTc ?_
  funext l a
  match l, a with
  | 0, (t, s) => exact rfl
  | ⟨_ + 1, h⟩, _ => exact absurd h (Nat.not_lt.2 (Nat.le_add_left _ _))

theorem defs_eq : Cert.Kernel10Ideal.defs (F := Bits) = Cert.Kernel10.defs (F := Bits) :=
  congrArg (Pipeline.defs (Cert.Kernel10Ideal.pcfgs (F := Bits))) bodies_eq

theorem frame_kernel : Cert.quiescent_Kernel10 (hKernel10 := Cert.Kernel10.Gen.facts) := by
  intro m ρ _
  have h := Cert.Kernel10Ideal.Gen.frame (F := Bits) m ρ
  rw [defs_eq] at h
  exact h

theorem frame_ideal : Cert.quiescent_Kernel10Ideal (hKernel10Ideal := Cert.Kernel10Ideal.Gen.facts) := fun m ρ _ =>
  Cert.Kernel10Ideal.Gen.frame (F := Ideal) m ρ

theorem frame_ref : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem values : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Prod.res (F := Ideal)
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)), ?_, ?_⟩
  · refine (θ_run Cert.Kernel10Ideal.defs _ _).mono (fun _ h c => ?_) (Cert.Kernel10Ideal.Value.run (F := Ideal) m g)
    refine ⟨(h c).1.trans (funext fun i => ?_), (h c).2⟩
    refine (value m c i _ _ rfl rfl).trans (((congrArg _ (ValueIdx.eq_ix2 i)).trans (Cert.Reference10Ideal.Prod.res_at _ _ (i 0) (i 1))).symm)
  · refine (θ_run Cert.Reference10Ideal.defs _ _).mono (fun _ h c => ?_) (Cert.Reference10Ideal.Value.run (F := Ideal) m' g')
    refine ⟨(h c).1.trans ?_, (h c).2⟩
    rw [(hagree c).1, (hagree c).2]
    rfl

end Cert.Kernel10Ideal.Prod

end
-- ==== Proof.Thirds.lean ====
module

public import proofs.«01_k».proof.Proof.Sums

@[expose] public section

noncomputable section

/-! Sums cut into three equal parts. -/

namespace Cert.Ffn

/-- A sum over `3 * n` places, part by part. -/
theorem sum_thirds {M : Type*} [AddCommMonoid M] (n N : ℕ) (hN : N = 3 * n) (f : Fin N → M) :
    ∑ i, f i = ∑ j : Fin 3, ∑ k : Fin n, f ⟨n * j.val + k.val, by have := j.isLt; have := k.isLt; subst hN; nlinarith⟩ := by
  subst hN
  refine (Equiv.sum_comp (finProdFinEquiv (m := 3) (n := n)) f).symm.trans ((Fintype.sum_prod_type _).trans ?_)
  exact Finset.sum_congr rfl fun j _ => Finset.sum_congr rfl fun k _ => congrArg f (Fin.ext (Nat.add_comm _ _))

/-- Three parts, added one after another. -/
theorem three {M : Type*} [AddCommMonoid M] (f : Fin 3 → M) : (f 0 + f 1) + f 2 = ∑ j, f j := (Fin.sum_univ_three f).symm

end Cert.Ffn

end
-- ==== Proof.Mm11.lean ====
module

public import proofs.«01_k».proof.Proof.Thirds
public import proofs.«01_k».proof.Proof.Gen.Kernel11Ideal.Value
public import Idealize.ShloMosaic.Lib.Pipeline.ValueKit

@[expose] public section

set_option maxRecDepth 16384

noncomputable section

/-! The gradient of the mixer's normalised input: what the kernel's result array ends holding. -/

namespace Cert.Kernel11Ideal.Prod

open Idealize.ShloMosaic hiding ix1 ix2 ix3
open Idealize.ShloMosaic.TcCoe Idealize.ShloMosaic.ValueIdx
open Cert.Kernel11Ideal.Gen Cert.Kernel11Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val / 6, t.val % 3] := (by decide +kernel : ∀ t : Fin grid0.N, _)
theorem i1 : ∀ t : Fin cfg0.N, win0_1.index t = ![t.val / 3 % 2, t.val % 3] := (by decide +kernel : ∀ t : Fin grid0.N, _)

/-- The block of the first operand at a point, -/
theorem blk0 (c : Dev nD) (t : Fin cfg0.N) (x : S1024x1920.Idx) (i : S8192x5760.Idx)
    (h0 : (i 0).val = 1024 * (t.val / 6) + (x 0).val) (h1 : (i 1).val = 1920 * (t.val % 3) + (x 1).val) :
    (iblk m c 0 t : Vec Ideal S1024x1920 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rw [Nat.mul_comm]; rfl

/-- and of the second. -/
theorem blk1 (c : Dev nD) (t : Fin cfg0.N) (x : S1024x1920.Idx) (i : S2048x5760.Idx)
    (h0 : (i 0).val = 1024 * (t.val / 3 % 2) + (x 0).val) (h1 : (i 1).val = 1920 * (t.val % 3) + (x 1).val) :
    (iblk m c 1 t : Vec Ideal S1024x1920 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rw [Nat.mul_comm]; rfl
  | ⟨1, _⟩ => refine Eq.trans ?_ h1.symm; blk_simp [i1]; rw [Nat.mul_comm]; rfl

/-- The product of two blocks at an entry. -/
theorem part (x : FVec Ideal S1024x1920 .bf16) (w : FVec Ideal S1024x1920 .bf16) (a : Fin 1024) (b : Fin 1024) :
    k0_pay1 (F := Ideal) x w (ix2 a b) = ∑ k : Fin 1920, x (ix2 a k) * w (ix2 b k) := by
  simp only [k0_pay1, matmul]
  rw [Ideal.matmul_constant_zero_apply,
    ← Equiv.sum_comp (contrEquiv1 dot_S1024x1920_S1024x1920_S1024x1024_1_1_0_0_n_n 1920 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a run's first point leaves in the scratch, -/
theorem soutA (i : grid0.Coords) (a4 : Memref sig .tc .vmem S1024x1920 .bf16) (h4 : a4.IsWhole)
    (a5 : Memref sig .tc .vmem S1024x1920 .bf16) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i) (hc2 : ¬cond0_2 i)
    (x : Vec Ideal S1024x1920 .bf16) (w : Vec Ideal S1024x1920 .bf16) :
    sout0_A_0 c i a4 h4 a5 h5 a6 h6 a7 h7 hc0 hc1 hc2 x w = k0_pay1 x w := by
  unfold sout0_A_0
  rw [View.read_writes_eq_canon _ _ _ (scover0_A_0 c i a4 h4 a5 h5 a6 h6 a7 h7 hc0 hc1 hc2 x w)]
  unfold kernelRun0_A
  dsimp only
  sl_unfold_words
  rw [View.canon_unit_zero (S := S1024x1024) z2]
  unfold k0_pay2
  simp only [View.readAt_eq_ld, h4.read_unread, h5.read_unread, View.ld_unit_zero (S := S1024x1920) z2, shapeCast_self]

/-- a middle one, -/
theorem soutB (i : grid0.Coords) (a4 : Memref sig .tc .vmem S1024x1920 .bf16) (h4 : a4.IsWhole)
    (a5 : Memref sig .tc .vmem S1024x1920 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : ¬cond0_2 i)
    (x : Vec Ideal S1024x1920 .bf16) (w : Vec Ideal S1024x1920 .bf16) (s : Vec Ideal S1024x1024 .f32) :
    sout0_B_0 c i a4 h4 a5 h5 a6 h6 a7 h7 hc0 hc1 hc2 x w s = addf s (k0_pay1 x w) := by
  unfold sout0_B_0
  rw [View.read_writes_eq_canon _ _ _ (scover0_B_0 c i a4 h4 a5 h5 a6 h6 a7 h7 hc0 hc1 hc2 x w s)]
  unfold kernelRun0_B
  dsimp only
  sl_unfold_words
  rw [View.canon_unit_zero (S := S1024x1024) z2]
  unfold k0_pay3
  simp only [View.readAt_eq_ld, h4.read_unread, h5.read_unread, h7.read_unread, View.ld_unit_zero (S := S1024x1920) z2, View.ld_unit_zero (S := S1024x1024) z2, shapeCast_self]

/-- and what the last one stores. -/
theorem outC (i : grid0.Coords) (a4 : Memref sig .tc .vmem S1024x1920 .bf16) (h4 : a4.IsWhole)
    (a5 : Memref sig .tc .vmem S1024x1920 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : cond0_2 i)
    (x : Vec Ideal S1024x1920 .bf16) (w : Vec Ideal S1024x1920 .bf16) (s : Vec Ideal S1024x1024 .f32) :
    out0_C_2 c i a4 h4 a5 h5 a6 h6 a7 h7 hc0 hc1 hc2 x w s = addf s (k0_pay1 x w) := by
  unfold out0_C_2
  rw [View.read_writes_eq_canon _ _ _ (cover0_C_2 c i a4 h4 a5 h5 a6 h6 a7 h7 hc0 hc1 hc2 x w s)]
  unfold kernelRun0_C
  dsimp only
  sl_unfold_words
  rw [View.canon_unit_zero (S := S1024x1024) z2, View.readCov_unit_zero (S := S1024x1024) _ z2]
  unfold k0_pay3
  simp only [View.readAt_eq_ld, h4.read_unread, h5.read_unread, h7.read_unread, View.ld_unit_zero (S := S1024x1920) z2, View.ld_unit_zero (S := S1024x1024) z2, shapeCast_self]

/-- The product at a point. -/
def P (t : Fin cfg0.N) : FVec Ideal S1024x1024 .f32 := k0_pay1 (iblk m c 0 t) (iblk m c 1 t)

theorem r0 (n : ℕ) (h : n % 3 = 0) : ¬1 ≤ n % 3 ∧ ¬n % 3 = 2 := by omega
theorem r1 (n : ℕ) (h : n % 3 ≠ 0) : 1 ≤ n % 3 := by omega
theorem r3 (n : ℕ) (h : n % 3 = 2) : ¬n % 3 = 0 ∧ 1 ≤ n % 3 := by omega

theorem sA (t : Fin cfg0.N) (h0 : t.val % 3 = 0) : (outsAt0 m c t.val t.isLt).2 = P m c t := by
  rw [outsAt0_A m c t h0 (r0 _ h0).1 (r0 _ h0).2]
  dsimp only
  rw [soutA]
  unfold P
  rfl

theorem sB (t : Fin cfg0.N) (h0 : ¬t.val % 3 = 0) (h2 : ¬t.val % 3 = 2) :
    (outsAt0 m c t.val t.isLt).2 = addf (outsAt0 m c (t.val - 1) (Nat.lt_of_le_of_lt (Nat.sub_le _ _) t.isLt)).2 (P m c t) := by
  rw [outsAt0_B m c t h0 (r1 _ h0) h2]
  dsimp only
  rw [soutB]
  unfold P
  rfl

theorem oC (t : Fin cfg0.N) (h2 : t.val % 3 = 2) : (outsAt0 m c t.val t.isLt).1
    = addf (outsAt0 m c (t.val - 1) (Nat.lt_of_le_of_lt (Nat.sub_le _ _) t.isLt)).2 (P m c t) := by
  rw [outsAt0_C m c t (r3 _ h2).1 (r3 _ h2).2 h2]
  dsimp only
  rw [outC]
  unfold P
  rfl

/-- What a run's last point stores: the three products' sum. -/
theorem stored (q : ℕ) (hq : q < 16) (j : S1024x1024.Idx) (h : 3 * q + 2 < cfg0.N) :
    (outsAt0 m c (3 * q + 2) h).1 j = ∑ r : Fin 3, (P m c ⟨3 * q + r.val, lt_of_lt_of_eq (by omega) N_0.symm⟩ j : EReal) := by
  have e2 := oC m c ⟨3 * q + 2, h⟩ (by dsimp only; omega)
  have e1 := sB m c ⟨3 * q + 1, by omega⟩ (by dsimp only; omega) (by dsimp only; omega)
  have e0 := sA m c ⟨3 * q, by omega⟩ (by dsimp only; omega)
  simp only [Nat.add_sub_cancel, show 3 * q + 2 - 1 = 3 * q + 1 by omega] at e2 e1
  rw [e2, e1, e0]
  exact Cert.Ffn.three fun r : Fin 3 => (P m c ⟨3 * q + r.val, lt_of_lt_of_eq (by omega) N_0.symm⟩ j : EReal)

/-- The result array at an entry. -/
theorem value (i : S8192x2048.Idx) (X : S8192x5760.Idx → EReal) (W : S2048x5760.Idx → EReal)
    (hX : m ((c.tc : Thread nD τ).loc main_arg0) = X) (hW : m ((c.tc : Thread nD τ).loc main_arg1) = W) :
    G2 m c i = ∑ k : Fin 5760, X (ix2 (i 0) k) * W (ix2 (i 1) k) := by
  have b0 : (i 0).val < 8192 := (i 0).isLt
  have b1 : (i 1).val < 2048 := (i 1).isLt
  have hq : run2Of i = 2 * ((i 0).val / 1024) + (i 1).val / 1024 := by unfold run2Of; omega
  have hN : cfg0.N = 48 := N_0
  have h : 3 * run2Of i + 2 < cfg0.N := by omega
  unfold G2
  rw [dif_pos h, ← outsAt0_sweep m c _ h, (show loc2Of i = (ix2 ⟨(i 0).val % 1024, Nat.mod_lt _ (by decide)⟩ ⟨(i 1).val % 1024, Nat.mod_lt _ (by decide)⟩) from by funext a; fin_cases a <;> rfl), stored m c _ (by omega) (ix2 ⟨(i 0).val % 1024, Nat.mod_lt _ (by decide)⟩ ⟨(i 1).val % 1024, Nat.mod_lt _ (by decide)⟩),
    Cert.Ffn.sum_thirds 1920 5760 rfl]
  refine Finset.sum_congr (M := EReal) rfl fun r _ => (part _ _ _ _).trans (Finset.sum_congr rfl fun k _ => ?_)
  have hr := r.isLt
  have hk := k.isLt
  rw [blk0 m c _ _ (ix2 (i 0) ⟨1920 * r.val + k.val, by omega⟩) ?_ ?_, blk1 m c _ _ (ix2 (i 1) ⟨1920 * r.val + k.val, by omega⟩) ?_ ?_, hX, hW]
  · show (i 1).val = 1024 * ((3 * run2Of i + r.val) / 3 % 2) + (i 1).val % 1024; omega
  · show 1920 * r.val + k.val = 1920 * ((3 * run2Of i + r.val) % 3) + k.val; omega
  · show (i 0).val = 1024 * ((3 * run2Of i + r.val) / 6) + (i 0).val % 1024; omega
  · show 1920 * r.val + k.val = 1920 * ((3 * run2Of i + r.val) % 3) + k.val; omega

end Cert.Kernel11Ideal.Prod

end
-- ==== Proof.Ref11.lean ====
module

public import proofs.«01_k».proof.Proof.Lay
public import proofs.«01_k».proof.Proof.Gen.Reference11Ideal.Run

@[expose] public section

set_option maxRecDepth 16384

noncomputable section

/-! The gradient of the mixer's normalised input: what the reference computes. -/

namespace Cert.Reference11Ideal.Prod

open Idealize.ShloMosaic Idealize.ShloMosaic.ValueIdx
open Cert.Reference11Ideal Cert.Reference11Ideal.Gen Cert.Ffn

/-- The reference's result, from its two arguments. -/
def res {F : FTy → Type} [FloatOps F] (X : Vec F S8192x5760 .bf16) (W : Vec F S2048x5760 .bf16) : Vec F S8192x2048 .f32 :=
  Host.dotGeneral dot_S8192x5760_S2048x5760_S8192x2048_1_1_0_0_n_n none (extf .f32 X bitsLt_bf16_f32) (extf .f32 W bitsLt_bf16_f32)

/-- Its entries. -/
theorem res_at (X : S8192x5760.Idx → EReal) (W : S2048x5760.Idx → EReal) (a : Fin 8192) (b : Fin 2048) :
    res (F := Ideal) X W (ix2 a b) = ∑ k : Fin 5760, X (ix2 a k) * W (ix2 b k) := by
  unfold res
  exact dot_nt dot_S8192x5760_S2048x5760_S8192x2048_1_1_0_0_n_n rfl rfl (fun _ _ _ => by funext x; fin_cases x <;> rfl) (fun _ _ _ => by funext x; fin_cases x <;> rfl) _ _ a b

end Cert.Reference11Ideal.Prod

end
-- ==== Proof.End11.lean ====
module

public import proofs.«01_k».proof.Defs
public import proofs.«01_k».proof.Proof.Gen.Kernel11
public import proofs.«01_k».proof.Proof.Mm11
public import proofs.«01_k».proof.Proof.Ref11
public import Idealize.ShloMosaic.Adequacy
public import Idealize.ShloMosaic.Init

@[expose] public section

noncomputable section

/-! The gradient of the mixer's normalised input: the frames, and the kernel's result set beside the reference's. -/

namespace Cert.Kernel11Ideal.Prod

open Idealize.ShloMosaic Idealize.SL.Sem

/-- The two programs have one text, so one body under each label. -/
theorem bodies_eq : Cert.Kernel11Ideal.defs₀ (F := Bits) = Cert.Kernel11.defs₀ (F := Bits) := by
  unfold Cert.Kernel11Ideal.defs₀ Cert.Kernel11.defs₀
  refine congrArg Defs.onTc ?_
  funext l a
  match l, a with
  | 0, (t, s) => exact rfl
  | ⟨_ + 1, h⟩, _ => exact absurd h (Nat.not_lt.2 (Nat.le_add_left _ _))

theorem defs_eq : Cert.Kernel11Ideal.defs (F := Bits) = Cert.Kernel11.defs (F := Bits) :=
  congrArg (Pipeline.defs (Cert.Kernel11Ideal.pcfgs (F := Bits))) bodies_eq

theorem frame_kernel : Cert.quiescent_Kernel11 (hKernel11 := Cert.Kernel11.Gen.facts) := by
  intro m ρ _
  have h := Cert.Kernel11Ideal.Gen.frame (F := Bits) m ρ
  rw [defs_eq] at h
  exact h

theorem frame_ideal : Cert.quiescent_Kernel11Ideal (hKernel11Ideal := Cert.Kernel11Ideal.Gen.facts) := fun m ρ _ =>
  Cert.Kernel11Ideal.Gen.frame (F := Ideal) m ρ

theorem frame_ref : Cert.quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem values : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Reference11Ideal.Prod.res (F := Ideal)
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), ?_, ?_⟩
  · refine (θ_run Cert.Kernel11Ideal.defs _ _).mono (fun _ h c => ?_) (Cert.Kernel11Ideal.Value.run (F := Ideal) m g)
    refine ⟨(h c).1.trans (funext fun i => ?_), (h c).2⟩
    refine (value m c i _ _ rfl rfl).trans (((congrArg _ (ValueIdx.eq_ix2 i)).trans (Cert.Reference11Ideal.Prod.res_at _ _ (i 0) (i 1))).symm)
  · refine (θ_run Cert.Reference11Ideal.defs _ _).mono (fun _ h c => ?_) (Cert.Reference11Ideal.Value.run (F := Ideal) m' g')
    refine ⟨(h c).1.trans ?_, (h c).2⟩
    rw [(hagree c).1, (hagree c).2]
    rfl

end Cert.Kernel11Ideal.Prod

end
-- ==== Proof.Mm12.lean ====
module

public import proofs.«01_k».proof.Proof.Sums
public import proofs.«01_k».proof.Proof.Gen.Kernel12Ideal.Value
public import Idealize.ShloMosaic.Lib.Pipeline.ValueKit

@[expose] public section

set_option maxRecDepth 16384

noncomputable section

/-! The mixer's input projection: what the kernel's result array ends holding. -/

namespace Cert.Kernel12Ideal.Prod

open Idealize.ShloMosaic hiding ix1 ix2 ix3
open Idealize.ShloMosaic.TcCoe Idealize.ShloMosaic.ValueIdx
open Cert.Kernel12Ideal.Gen Cert.Kernel12Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val / 5, 0] := (by decide +kernel : ∀ t : Fin grid0.N, _)
theorem i1 : ∀ t : Fin cfg0.N, win0_1.index t = ![0, t.val % 5] := (by decide +kernel : ∀ t : Fin grid0.N, _)
theorem i2 : ∀ t : Fin cfg0.N, win0_2.index t = ![t.val / 5, t.val % 5] := (by decide +kernel : ∀ t : Fin grid0.N, _)

/-- The block of the first operand at a point, -/
theorem blk0 (c : Dev nD) (t : Fin cfg0.N) (x : S1024x2048.Idx) (i : S8192x2048.Idx)
    (h0 : (i 0).val = 1024 * (t.val / 5) + (x 0).val) (h1 : (i 1).val = 0 + (x 1).val) :
    (iblk m c 0 t : Vec Ideal S1024x2048 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rfl

/-- and of the second. -/
theorem blk1 (c : Dev nD) (t : Fin cfg0.N) (x : S2048x1152.Idx) (i : S2048x5760.Idx)
    (h0 : (i 0).val = 0 + (x 0).val) (h1 : (i 1).val = 1152 * (t.val % 5) + (x 1).val) :
    (iblk m c 1 t : Vec Ideal S2048x1152 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rfl
  | ⟨1, _⟩ => refine Eq.trans ?_ h1.symm; blk_simp [i1]; rw [Nat.mul_comm]; rfl

/-- The product of two blocks at an entry. -/
theorem part (x : FVec Ideal S1024x2048 .bf16) (w : FVec Ideal S2048x1152 .bf16) (a : Fin 1024) (b : Fin 1152) :
    k0_pay1 (F := Ideal) x w (ix2 a b) = ∑ k : Fin 2048, x (ix2 a k) * w (ix2 k b) := by
  simp only [k0_pay1, matmul]
  rw [Ideal.matmul_constant_zero_apply,
    ← Equiv.sum_comp (contrEquiv1 dot_S1024x2048_S2048x1152_S1024x1152_1_0_0_1_n_n 2048 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a point leaves of the result: its product. -/
theorem out2 (x : Vec Ideal S1024x2048 .bf16) (w : Vec Ideal S2048x1152 .bf16) : out0_2 (F := Ideal) x w = k0_pay1 (F := Ideal) x w := by
  unfold out0_2
  rw [View.canon_unit_zero (S := S1024x1152) z2]
  simp only [View.ld_unit_zero (S := S1024x2048) z2, View.ld_unit_zero (S := S2048x1152) z2]

/-- The product at an entry. -/
def prod (X : S8192x2048.Idx → EReal) (W : S2048x5760.Idx → EReal) (a : Fin 8192) (b : Fin 5760) : EReal :=
  ∑ k : Fin 2048, X (ix2 a k) * W (ix2 k b)

/-- The result array: the products. -/
theorem value0 (X : S8192x2048.Idx → EReal) (W : S2048x5760.Idx → EReal)
    (hX : m ((c.tc : Thread nD τ).loc main_arg0) = X) (hW : m ((c.tc : Thread nD τ).loc main_arg1) = W) :
    (dats m 0 c).arrAt 2 cfg0.N = fun i => prod X W (i 0) (i 1) := by
  refine (dats m 0 c).arrAt_eq_of_covers 2 _ (by decide +kernel) fun t hf y => ?_
  blk_simp
  rw [after0_2, out2]
  refine ((congrArg _ (ValueIdx.eq_ix2 (y : S1024x1152.Idx))).trans (part _ _ (y 0) (y 1))).trans (Finset.sum_congr rfl fun k _ => ?_)
  have e0 : (((cfg0.win 2).blk t).view.emb y 0).val = 1024 * (t.val / 5) + (y 0).val := by
    blk_simp [i2]
    rw [Nat.mul_comm]
  have e1 : (((cfg0.win 2).blk t).view.emb y 1).val = 1152 * (t.val % 5) + (y 1).val := by
    blk_simp [i2]
    rw [Nat.mul_comm]
  exact congrArg₂ (fun a b : EReal => a * b)
    ((blk0 m c t _ (ix2 (((cfg0.win 2).blk t).view.emb y 0) k) e0 (Nat.zero_add _).symm).trans (congrFun hX _))
    ((blk1 m c t _ (ix2 k (((cfg0.win 2).blk t).view.emb y 1)) (Nat.zero_add _).symm e1).trans (congrFun hW _))

end Cert.Kernel12Ideal.Prod

end
-- ==== Proof.Ref12.lean ====
module

public import proofs.«01_k».proof.Proof.Lay
public import proofs.«01_k».proof.Proof.Gen.Reference12Ideal.Run

@[expose] public section

set_option maxRecDepth 16384

noncomputable section

/-! The mixer's input projection: what the reference computes. -/

namespace Cert.Reference12Ideal.Prod

open Idealize.ShloMosaic Idealize.ShloMosaic.ValueIdx
open Cert.Reference12Ideal Cert.Reference12Ideal.Gen Cert.Ffn

/-- The reference's result, from its two arguments. -/
def res {F : FTy → Type} [FloatOps F] (X : Vec F S8192x2048 .bf16) (W : Vec F S2048x5760 .bf16) : Vec F S8192x5760 .f32 :=
  Host.dotGeneral dot_S8192x2048_S2048x5760_S8192x5760_1_0_0_1_n_n none (extf .f32 X bitsLt_bf16_f32) (extf .f32 W bitsLt_bf16_f32)

/-- Its entries. -/
theorem res_at (X : S8192x2048.Idx → EReal) (W : S2048x5760.Idx → EReal) (a : Fin 8192) (b : Fin 5760) :
    res (F := Ideal) X W (ix2 a b) = ∑ k : Fin 2048, X (ix2 a k) * W (ix2 k b) := by
  unfold res
  exact dot_nn dot_S8192x2048_S2048x5760_S8192x5760_1_0_0_1_n_n rfl rfl (fun _ _ _ => by funext x; fin_cases x <;> rfl) (fun _ _ _ => by funext x; fin_cases x <;> rfl) _ _ a b

end Cert.Reference12Ideal.Prod

end
-- ==== Proof.End12.lean ====
module

public import proofs.«01_k».proof.Defs
public import proofs.«01_k».proof.Proof.Gen.Kernel12
public import proofs.«01_k».proof.Proof.Mm12
public import proofs.«01_k».proof.Proof.Ref12
public import Idealize.ShloMosaic.Adequacy
public import Idealize.ShloMosaic.Init

@[expose] public section

noncomputable section

/-! The mixer's input projection: the frames, and the kernel's result set beside the reference's. -/

namespace Cert.Kernel12Ideal.Prod

open Idealize.ShloMosaic Idealize.SL.Sem

/-- The two programs have one text, so one body under each label. -/
theorem bodies_eq : Cert.Kernel12Ideal.defs₀ (F := Bits) = Cert.Kernel12.defs₀ (F := Bits) := by
  unfold Cert.Kernel12Ideal.defs₀ Cert.Kernel12.defs₀
  refine congrArg Defs.onTc ?_
  funext l a
  match l, a with
  | 0, (t, s) => exact rfl
  | ⟨_ + 1, h⟩, _ => exact absurd h (Nat.not_lt.2 (Nat.le_add_left _ _))

theorem defs_eq : Cert.Kernel12Ideal.defs (F := Bits) = Cert.Kernel12.defs (F := Bits) :=
  congrArg (Pipeline.defs (Cert.Kernel12Ideal.pcfgs (F := Bits))) bodies_eq

theorem frame_kernel : Cert.quiescent_Kernel12 (hKernel12 := Cert.Kernel12.Gen.facts) := by
  intro m ρ _
  have h := Cert.Kernel12Ideal.Gen.frame (F := Bits) m ρ
  rw [defs_eq] at h
  exact h

theorem frame_ideal : Cert.quiescent_Kernel12Ideal (hKernel12Ideal := Cert.Kernel12Ideal.Gen.facts) := fun m ρ _ =>
  Cert.Kernel12Ideal.Gen.frame (F := Ideal) m ρ

theorem frame_ref : Cert.quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem values : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Reference12Ideal.Prod.res (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1)), ?_, ?_⟩
  · refine (θ_run Cert.Kernel12Ideal.defs _ _).mono (fun _ h c => ?_) (Cert.Kernel12Ideal.Value.run_blocks (F := Ideal) m g)
    refine ⟨(h c).1.trans ((value0 m c _ _ rfl rfl).trans (funext fun i => ?_)), (h c).2⟩
    refine ((congrArg _ (ValueIdx.eq_ix2 i)).trans (Cert.Reference12Ideal.Prod.res_at _ _ (i 0) (i 1))).symm
  · refine (θ_run Cert.Reference12Ideal.defs _ _).mono (fun _ h c => ?_) (Cert.Reference12Ideal.Value.run (F := Ideal) m' g')
    refine ⟨(h c).1.trans ?_, (h c).2⟩
    rw [(hagree c).1, (hagree c).2]
    rfl

end Cert.Kernel12Ideal.Prod

end
-- ==== Proof.Mm13.lean ====
module

public import proofs.«01_k».proof.Proof.Sums
public import proofs.«01_k».proof.Proof.Gen.Kernel13Ideal.Value
public import Idealize.ShloMosaic.Lib.Pipeline.ValueKit

@[expose] public section

set_option maxRecDepth 16384

noncomputable section

/-! The mixer's output projection: what the kernel's result array ends holding. -/

namespace Cert.Kernel13Ideal.Prod

open Idealize.ShloMosaic hiding ix1 ix2 ix3
open Idealize.ShloMosaic.TcCoe Idealize.ShloMosaic.ValueIdx
open Cert.Kernel13Ideal.Gen Cert.Kernel13Ideal.Value

variable (m : (ℓ : Loc nD τ sig) → Buf (Elt Ideal) ℓ)

theorem z2 : (![0, 0] : Fin 2 → Nat) = fun _ => 0 := by funext a; fin_cases a <;> rfl

theorem i0 : ∀ t : Fin cfg0.N, win0_0.index t = ![t.val / 2, 0] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

/-- The block of the first operand at a point, -/
theorem blk0 (c : Dev nD) (t : Fin cfg0.N) (x : S1024x2048.Idx) (i : S8192x2048.Idx)
    (h0 : (i 0).val = 1024 * (t.val / 2) + (x 0).val) (h1 : (i 1).val = 0 + (x 1).val) :
    (iblk m c 0 t : Vec Ideal S1024x2048 .bf16) x = m ((c.tc : Thread nD τ).loc main_arg0) i := by
  blk_simp [iblk]
  rw [V_main_arg0]
  refine congrArg (m ((c.tc : Thread nD τ).loc main_arg0)) (funext fun a => Fin.ext ?_)
  match a with
  | ⟨0, _⟩ => refine Eq.trans ?_ h0.symm; blk_simp [i0]; rw [Nat.mul_comm]; rfl
  | ⟨1, _⟩ => refine Eq.trans ?_ h1.symm; blk_simp [i0]; rfl

/-- and of the second. -/
theorem blk1 (c : Dev nD) (t : Fin cfg0.N) (x : S2048x1024.Idx) (i : S2048x2048.Idx)
    (h0 : (i 0).val = 0 + (x 0).val) (h1 : (i 1).val = 1024 * (t.val % 2) + (x 1).val) :
    (iblk m c 1 t : Vec Ideal S2048x1024 .bf16) x = m ((c.tc : Thread nD τ).loc main_arg1) i := by
  blk_simp [iblk]
  rw [V_main_arg1]
  refine congrArg (m ((c.tc : Thread nD τ).loc main_arg1)) (funext fun a => Fin.ext ?_)
  match a with
  | ⟨0, _⟩ => refine Eq.trans ?_ h0.symm; blk_simp [i1]; rfl
  | ⟨1, _⟩ => refine Eq.trans ?_ h1.symm; blk_simp [i1]; rw [Nat.mul_comm]; rfl

/-- The product of two blocks at an entry. -/
theorem part (x : FVec Ideal S1024x2048 .bf16) (w : FVec Ideal S2048x1024 .bf16) (a : Fin 1024) (b : Fin 1024) :
    k0_pay1 (F := Ideal) x w (ix2 a b) = ∑ k : Fin 2048, x (ix2 a k) * w (ix2 k b) := by
  simp only [k0_pay1, matmul]
  rw [Ideal.matmul_constant_zero_apply,
    ← Equiv.sum_comp (contrEquiv1 dot_S1024x2048_S2048x1024_S1024x1024_1_0_0_1_n_n 2048 rfl rfl).symm]
  refine Finset.sum_congr rfl fun k _ => ?_
  exact congrArg₂ (fun a b : EReal => a * b) (congrArg x (by funext u; fin_cases u <;> rfl)) (congrArg w (by funext u; fin_cases u <;> rfl))

variable (c : Dev nD)

/-- What a point leaves of the result: its product. -/
theorem out2 (x : Vec Ideal S1024x2048 .bf16) (w : Vec Ideal S2048x1024 .bf16) : out0_2 (F := Ideal) x w = k0_pay1 (F := Ideal) x w := by
  unfold out0_2
  rw [View.canon_unit_zero (S := S1024x1024) z2]
  simp only [View.ld_unit_zero (S := S1024x2048) z2, View.ld_unit_zero (S := S2048x1024) z2]

/-- The product at an entry. -/
def prod (X : S8192x2048.Idx → EReal) (W : S2048x2048.Idx → EReal) (a : Fin 8192) (b : Fin 2048) : EReal :=
  ∑ k : Fin 2048, X (ix2 a k) * W (ix2 k b)

/-- The result array: the products. -/
theorem value0 (X : S8192x2048.Idx → EReal) (W : S2048x2048.Idx → EReal)
    (hX : m ((c.tc : Thread nD τ).loc main_arg0) = X) (hW : m ((c.tc : Thread nD τ).loc main_arg1) = W) :
    (dats m 0 c).arrAt 2 cfg0.N = fun i => prod X W (i 0) (i 1) := by
  refine (dats m 0 c).arrAt_eq_of_covers 2 _ (by decide +kernel) fun t hf y => ?_
  blk_simp
  rw [after0_2, out2]
  refine ((congrArg _ (ValueIdx.eq_ix2 (y : S1024x1024.Idx))).trans (part _ _ (y 0) (y 1))).trans (Finset.sum_congr rfl fun k _ => ?_)
  have e0 : (((cfg0.win 2).blk t).view.emb y 0).val = 1024 * (t.val / 2) + (y 0).val := by
    blk_simp [i2]
    rw [Nat.mul_comm]
  have e1 : (((cfg0.win 2).blk t).view.emb y 1).val = 1024 * (t.val % 2) + (y 1).val := by
    blk_simp [i2]
    rw [Nat.mul_comm]
  exact congrArg₂ (fun a b : EReal => a * b)
    ((blk0 m c t _ (ix2 (((cfg0.win 2).blk t).view.emb y 0) k) e0 (Nat.zero_add _).symm).trans (congrFun hX _))
    ((blk1 m c t _ (ix2 k (((cfg0.win 2).blk t).view.emb y 1)) (Nat.zero_add _).symm e1).trans (congrFun hW _))

end Cert.Kernel13Ideal.Prod

end
-- ==== Proof.Ref13.lean ====
module

public import proofs.«01_k».proof.Proof.Lay
public import proofs.«01_k».proof.Proof.Gen.Reference13Ideal.Run

@[expose] public section

set_option maxRecDepth 16384

noncomputable section

/-! The mixer's output projection: what the reference computes. -/

namespace Cert.Reference13Ideal.Prod

open Idealize.ShloMosaic Idealize.ShloMosaic.ValueIdx
open Cert.Reference13Ideal Cert.Reference13Ideal.Gen Cert.Ffn

/-- The reference's result, from its two arguments. -/
def res {F : FTy → Type} [FloatOps F] (X : Vec F S8192x2048 .bf16) (W : Vec F S2048x2048 .bf16) : Vec F S8192x2048 .f32 :=
  Host.dotGeneral dot_S8192x2048_S2048x2048_S8192x2048_1_0_0_1_n_n none (extf .f32 X bitsLt_bf16_f32) (extf .f32 W bitsLt_bf16_f32)

/-- Its entries. -/
theorem res_at (X : S8192x2048.Idx → EReal) (W : S2048x2048.Idx → EReal) (a : Fin 8192) (b : Fin 2048) :
    res (F := Ideal) X W (ix2 a b) = ∑ k : Fin 2048, X (ix2 a k) * W (ix2 k b) := by
  unfold res
  exact dot_nn dot_S8192x2048_S2048x2048_S8192x2048_1_0_0_1_n_n rfl rfl (fun _ _ _ => by funext x; fin_cases x <;> rfl) (fun _ _ _ => by funext x; fin_cases x <;> rfl) _ _ a b

end Cert.Reference13Ideal.Prod

end
-- ==== Proof.End13.lean ====
module

public import proofs.«01_k».proof.Defs
public import proofs.«01_k».proof.Proof.Gen.Kernel13
public import proofs.«01_k».proof.Proof.Mm13
public import proofs.«01_k».proof.Proof.Ref13
public import Idealize.ShloMosaic.Adequacy
public import Idealize.ShloMosaic.Init

@[expose] public section

noncomputable section

/-! The mixer's output projection: the frames, and the kernel's result set beside the reference's. -/

namespace Cert.Kernel13Ideal.Prod

open Idealize.ShloMosaic Idealize.SL.Sem

/-- The two programs have one text, so one body under each label. -/
theorem bodies_eq : Cert.Kernel13Ideal.defs₀ (F := Bits) = Cert.Kernel13.defs₀ (F := Bits) := by
  unfold Cert.Kernel13Ideal.defs₀ Cert.Kernel13.defs₀
  refine congrArg Defs.onTc ?_
  funext l a
  match l, a with
  | 0, (t, s) => exact rfl
  | ⟨_ + 1, h⟩, _ => exact absurd h (Nat.not_lt.2 (Nat.le_add_left _ _))

theorem defs_eq : Cert.Kernel13Ideal.defs (F := Bits) = Cert.Kernel13.defs (F := Bits) :=
  congrArg (Pipeline.defs (Cert.Kernel13Ideal.pcfgs (F := Bits))) bodies_eq

theorem frame_kernel : Cert.quiescent_Kernel13 (hKernel13 := Cert.Kernel13.Gen.facts) := by
  intro m ρ _
  have h := Cert.Kernel13Ideal.Gen.frame (F := Bits) m ρ
  rw [defs_eq] at h
  exact h

theorem frame_ideal : Cert.quiescent_Kernel13Ideal (hKernel13Ideal := Cert.Kernel13Ideal.Gen.facts) := fun m ρ _ =>
  Cert.Kernel13Ideal.Gen.frame (F := Ideal) m ρ

theorem frame_ref : Cert.quiescent_Reference13Ideal (hReference13Ideal := Cert.Reference13Ideal.Gen.facts) := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem values : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Reference13Ideal.Prod.res (F := Ideal)
    (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1)), ?_, ?_⟩
  · refine (θ_run Cert.Kernel13Ideal.defs _ _).mono (fun _ h c => ?_) (Cert.Kernel13Ideal.Value.run_blocks (F := Ideal) m g)
    refine ⟨(h c).1.trans ((value0 m c _ _ rfl rfl).trans (funext fun i => ?_)), (h c).2⟩
    refine ((congrArg _ (ValueIdx.eq_ix2 i)).trans (Cert.Reference13Ideal.Prod.res_at _ _ (i 0) (i 1))).symm
  · refine (θ_run Cert.Reference13Ideal.defs _ _).mono (fun _ h c => ?_) (Cert.Reference13Ideal.Value.run (F := Ideal) m' g')
    refine ⟨(h c).1.trans ?_, (h c).2⟩
    rw [(hagree c).1, (hagree c).2]
    rfl

end Cert.Kernel13Ideal.Prod

end
-- ==== Proof.Attn14.lean ====
module

public import proofs.«01_k».proof.Proof.RRow

@[expose] public section

noncomputable section

/-! The attention's output: its weights are real numbers, its values any numbers. -/

namespace Cert.Attn

/-- Row `p` of the padded array, of key/value head `h`, at column `d`. -/
def pad (B : ℕ → ℕ → EReal) (p h d : ℕ) : EReal := if 128 ≤ p ∧ p < 8320 then B (p - 128) (128 * h + d) else 0

/-- Row `r` of block `n` of query head `g` for key/value head `h`, at column `d`. -/
def Args.out (A : Args) (V : ℕ → ℕ → EReal) (h n g r d : ℕ) : EReal :=
  ∑ j : Fin 384, (((rowN A h n g r).P j : ℝ) : EReal) * pad V (128 * n + j.val) h d

/-- The neighbours that do not exist may be replaced by any block: their weights are zero. -/
theorem out_clamped (A : Args) (V : ℕ → ℕ → EReal) (h n : ℕ) (hn : n < 64) (g : Fin 4) (r : Fin 128) (d : ℕ) :
    ∑ j : Fin 384, ((((A.headC h n).row (Head.at' g r)).P j : ℝ) : EReal) * V (128 * Args.nb n (j.val / 128) + j.val % 128) (128 * h + d)
      = A.out V h n g.val r.val d := by
  have e : ((A.headC h n).row (Head.at' g r)).P = (rowN A h n g.val r.val).P := by
    rw [← rowN_eq]
    refine (Row.ext_score (R := (A.headC h n).row (Head.at' g r)) (R' := (A.head h n).row (Head.at' g r)) rfl rfl fun j hj => ?_).1
    have hj' : win n ((Head.at' g r).val % 128) j.val := of_decide_eq_true hj
    refine congrArg (· * cS) (Finset.sum_congr rfl fun d _ => congrArg (_ * ·) ?_)
    show A.k (128 * Args.nb n (j.val / 128) + j.val % 128) _ = if _ then _ else _
    rw [Args.nb_row n j.val hn j.isLt hj'.2.2.1 hj'.2.2.2, if_pos ⟨hj'.2.2.1, hj'.2.2.2⟩]
  rw [e]
  refine Finset.sum_congr rfl fun j _ => ?_
  unfold pad
  by_cases hw : 128 ≤ 128 * n + j.val ∧ 128 * n + j.val < 8320
  · rw [if_pos hw, Args.nb_row n j.val hn j.isLt hw.1 hw.2]
  · rw [if_neg hw, Row.P_zero _ (fun h' => hw (of_decide_eq_true h').2.2), EReal.coe_zero, zero_mul, zero_mul]

end Cert.Attn

end
-- ==== Proof.KHead14.lean ====
module

public import proofs.«01_k».proof.Proof.Gen.Kernel14Ideal.Value
public import proofs.«01_k».proof.Proof.Attn14
public import Idealize.ShloMosaic.Lib.WordCmp
public import Idealize.ShloMosaic.Lib.ValueIdx
public import Idealize.ShloMosaic.Lib.Pipeline.ValueKit

@[expose] public section

set_option maxRecDepth 16384

noncomputable section

/-! The attention's forward in the kernel: one key/value head of its body, and what its result array ends holding. -/

namespace Cert.Kernel14Ideal.Attn

open Idealize.ShloMosaic hiding ix1 ix2 ix3
open Idealize.ShloMosaic.TcCoe Idealize.ShloMosaic.ValueIdx
open Cert.Kernel14Ideal.Gen Cert.Kernel14Ideal.Value
open Cert.Attn (Row Head Args)

theorem mm_nt (x : FVec Ideal S512x128 .bf16) (y : FVec Ideal S384x128 .bf16) (R : Fin 512) (j : Fin 384) :
    matmul dot_S512x128_S384x128_S512x384_1_1_0_0_n_n none x y (constant S512x384 .f32 0x00000000#32) (ix2 R j)
      = ∑ d : Fin 128, x (ix2 R d) * y (ix2 j d) := by
  simp only [matmul]
  rw [Ideal.matmul_constant_zero_apply,
    ← Equiv.sum_comp (contrEquiv1 dot_S512x128_S384x128_S512x384_1_1_0_0_n_n 128 rfl rfl).symm]
  refine Finset.sum_congr rfl fun d _ => ?_
  congr 2 <;> · funext a; fin_cases a <;> rfl

theorem mm_nn (x : FVec Ideal S512x384 .bf16) (y : FVec Ideal S384x128 .bf16) (R : Fin 512) (d : Fin 128) :
    matmul dot_S512x384_S384x128_S512x128_1_0_0_1_n_n none x y (constant S512x128 .f32 0x00000000#32) (ix2 R d)
      = ∑ j : Fin 384, x (ix2 R j) * y (ix2 j d) := by
  simp only [matmul]
  rw [Ideal.matmul_constant_zero_apply,
    ← Equiv.sum_comp (contrEquiv1 dot_S512x384_S384x128_S512x128_1_0_0_1_n_n 384 rfl rfl).symm]
  refine Finset.sum_congr rfl fun d _ => ?_
  congr 2 <;> · funext a; fin_cases a <;> rfl

theorem cat4 {α : Type} (a : Fin 4 → S128x128.Idx → α)
    (h) (g : Fin 4) (r d : Fin 128) :
    concatenate S512x128 0 [⟨S128x128, a 0⟩, ⟨S128x128, a 1⟩, ⟨S128x128, a 2⟩, ⟨S128x128, a 3⟩] h
      (ix2 (Cert.Attn.Head.at' g r) d) = a g (ix2 r d) := by
  have key := concatenate_apply_piece (0 : Fin S512x128.rank)
    [⟨S128x128, a 0⟩, ⟨S128x128, a 1⟩, ⟨S128x128, a 2⟩, ⟨S128x128, a 3⟩] h (ix2 (Cert.Attn.Head.at' g r) d)
    g.val g.isLt S128x128 (a g) (by fin_cases g <;> rfl) rfl (128 * g.val) (by fin_cases g <;> rfl) (ix2 r d)
    (by intro b hb; fin_cases b
        · exact absurd rfl hb
        · rfl) rfl
  exact key

theorem cat4c {α : Type} (a : Fin 4 → S128x1.Idx → α)
    (h) (g : Fin 4) (r : Fin 128) (z : Fin 1) :
    concatenate S512x1 0 [⟨S128x1, a 0⟩, ⟨S128x1, a 1⟩, ⟨S128x1, a 2⟩, ⟨S128x1, a 3⟩] h
      (ix2 (Cert.Attn.Head.at' g r) z) = a g (ix2 r z) := by
  have key := concatenate_apply_piece (0 : Fin S512x1.rank)
    [⟨S128x1, a 0⟩, ⟨S128x1, a 1⟩, ⟨S128x1, a 2⟩, ⟨S128x1, a 3⟩] h (ix2 (Cert.Attn.Head.at' g r) z)
    g.val g.isLt S128x1 (a g) (by fin_cases g <;> rfl) rfl (128 * g.val) (by fin_cases g <;> rfl) (ix2 r z)
    (by intro b hb; fin_cases b
        · exact absurd rfl hb
        · rfl) rfl
  exact key

theorem cat3 {α : Type} (a : Fin 3 → S128x128.Idx → α)
    (h) (t : Fin 3) (r d : Fin 128) :
    concatenate S384x128 0 [⟨S128x128, a 0⟩, ⟨S128x128, a 1⟩, ⟨S128x128, a 2⟩] h
      (ix2 ⟨128 * t.val + r.val, by omega⟩ d) = a t (ix2 r d) := by
  have key := concatenate_apply_piece (0 : Fin S384x128.rank)
    [⟨S128x128, a 0⟩, ⟨S128x128, a 1⟩, ⟨S128x128, a 2⟩] h (ix2 ⟨128 * t.val + r.val, by omega⟩ d)
    t.val t.isLt S128x128 (a t) (by fin_cases t <;> rfl) rfl (128 * t.val) (by fin_cases t <;> rfl) (ix2 r d)
    (by intro b hb; fin_cases b
        · exact absurd rfl hb
        · rfl) rfl
  exact key

theorem col1 (x : FVec Ideal S512 .f32) (R : Fin 512) (z : Fin 1) :
    shapeCast S512x1 x shapeCasts_S512_S512x1 (ix2 R z) = x (ix1 R) :=
  shapeCast_apply x shapeCasts_S512_S512x1 (ix2 R z) (ix1 R)
    (by rw [Shape.rowMajor_val_one, Shape.rowMajor_val_two]; have := z.isLt; show R.val = R.val * 1 + z.val; omega)

theorem bcol (x : FVec Ideal S512x1 .f32) (R : Fin 512) (j : Fin 384) :
    broadcastTo S512x384 x broadcasts_S512x1_S512x384 (ix2 R j) = x (ix2 R 0) :=
  broadcastTo_apply x _ _ _ (by intro a; fin_cases a <;> rfl)

theorem rsum384 (x : FVec Ideal S512x384 .f32) (R : Fin 512) :
    multiReduction .add [1] S512 x 0x00000000#32 reduces_S512x384_S512 (.inl rfl) rfl (ix1 R)
      = ∑ j : Fin 384, x (ix2 R j) := by
  refine (Ideal.multiReduction_add_single _ _ _ _ _ _).trans ?_
  refine Finset.sum_congr rfl fun k _ => congrArg x ?_
  funext a; fin_cases a <;> rfl

theorem rmax (x : FVec Ideal S512x384 .f32) (R : Fin 512) :
    multiReduction .maximumf [1] S512 x 0xFF800000#32 reduces_S512x384_S512 (.inl rfl) rfl (ix1 R)
      = Finset.univ.fold max ⊥ (fun j : Fin 384 => x (ix2 R j)) := by
  refine (Ideal.multiReduction_maximumf_single _ _ _ _ _ _).trans ?_
  rw [Ideal.ofBits_def, Cert.Attn.ofBits_ninf]
  refine congrArg (Finset.fold max ⊥ · Finset.univ) ?_
  funext k; refine congrArg x ?_
  funext a; fin_cases a <;> rfl

/-! ## One head, over the values it loads -/

section
variable (n : BitVec 32) (a : Fin 4 → Vec Ideal S128x128 .bf16) (b v : Fin 3 → Vec Ideal S128x128 .bf16) (w : Fin 4 → Vec Ideal S1x1x1 .f32)
  (S : FVec Ideal S512x384 .f32) (K : FVec Ideal S512x1 .f32)

/-- The column numbers, -/
def cols : IVec S512x384 32 := iota .tc S512x384 32 [1] iota_S512x384_d1_w32
/-- the keys' positions, -/
def pos : IVec S512x384 32 := addi (broadcast S512x384 (Scalar.muli (Scalar.subi n 1#32) 128#32)) cols
/-- the masked scores, -/
def hS : FVec Ideal S512x384 .f32 :=
  k0_pay8 (k0_pay5 (a 0) (a 1) (a 2) (a 3) (b 0) (b 1) (b 2)) k0_pay6 cols (pos n) 128#32
/-- the sink logit of each query row, -/
def hK : FVec Ideal S512x1 .f32 := k0_pay9 (w 0) (w 1) (w 2) (w 3)
/-- the largest of a row, -/
def hM : FVec Ideal S512x1 .f32 :=
  shapeCast S512x1 (multiReduction .maximumf [1] S512 S 0xFF800000#32 reduces_S512x384_S512 (.inl rfl) rfl) shapeCasts_S512_S512x1
def hT : FVec Ideal S512x1 .f32 := maximumf (hM S) K
/-- the exponentials, -/
def hE : FVec Ideal S512x384 .f32 := exp (subf S (broadcastTo S512x384 (hT S K) broadcasts_S512x1_S512x384))
/-- the inverse of their sum, -/
def hZ : FVec Ideal S512x1 .f32 := addf
  (shapeCast S512x1 (multiReduction .add [1] S512 (hE S K) 0x00000000#32 reduces_S512x384_S512 (.inl rfl) rfl) shapeCasts_S512_S512x1)
  (exp (subf K (hT S K)))
def hR : FVec Ideal S512x1 .f32 := divf (broadcast S512x1 (Scalar.ofBits (F := Ideal) .f32 0x3F800000#32)) (hZ S K)
/-- the weights, -/
def hP : FVec Ideal S512x384 .f32 := mulf (hE S K) (broadcastTo S512x384 (hR S K) broadcasts_S512x1_S512x384)
def hV : FVec Ideal S384x128 .bf16 :=
  concatenate S384x128 0 [⟨S128x128, v 0⟩, ⟨S128x128, v 1⟩, ⟨S128x128, v 2⟩] concatenates_S128x128_S128x128_S128x128_S384x128_d0
/-- and the output. -/
def hO : FVec Ideal S512x128 .f32 :=
  matmul dot_S512x384_S384x128_S512x128_1_0_0_1_n_n none (truncf .bf16 (hP S K) bitsLt_bf16_f32) (hV v) (constant S512x128 .f32 0x00000000#32)

theorem pay13_eq : k0_pay13 (hE S K) (hZ S K) (v 0) (v 1) (v 2) = hO v S K := rfl
theorem pay20_eq : k0_pay20 S (w 0) (w 1) (w 2) (w 3) (v 0) (v 1) (v 2) = hO v S (hK w) := rfl
theorem pay19_eq : k0_pay19 n (k0_pay18 (a 0) (a 1) (a 2) (a 3)) (b 0) (b 1) (b 2) = hS n a b := rfl

/-- The row number within its query head, as the program computes it. -/
theorem row_word (R : Fin 512) (j : Fin 384) : k0_pay6 (ix2 R j) = BitVec.ofNat 32 (R.val % 128) := by
  have h : ∀ R : Fin 512,
      Scalar.select (IntOp.andi (IntOp.xori (IntOp.cmpi .slt (IntOp.remsi .vector (BitVec.ofNat 32 R.val) 128#32) 0#32)
          (IntOp.cmpi .slt 128#32 0#32)) (IntOp.cmpi .ne (IntOp.remsi .vector (BitVec.ofNat 32 R.val) 128#32) 0#32))
        (IntOp.addi (IntOp.remsi .vector (BitVec.ofNat 32 R.val) 128#32) 128#32)
        (IntOp.remsi .vector (BitVec.ofNat 32 R.val) 128#32)
      = BitVec.ofNat 32 (R.val % 128) := by decide +kernel
  have e : iota .tc S512x384 32 [0] iota_S512x384_d0_w32 (ix2 R j) = BitVec.ofNat 32 R.val := by rw [iota_single_apply]
  rw [← h R, ← e]
  rfl

theorem mask_at (n : ℕ) (hn : n < 64) (x : FVec Ideal S512x384 .f32) (R : Fin 512) (j : Fin 384) :
    k0_pay8 x k0_pay6 cols (pos (BitVec.ofNat 32 n)) 128#32 (ix2 R j) = if Cert.Attn.win n (R.val % 128) j.val then x (ix2 R j) else ⊥ := by
  have hi : iota .tc S512x384 32 [1] iota_S512x384_d1_w32 (ix2 R j) = BitVec.ofNat 32 j.val := by
    rw [iota_single_apply]
  refine Eq.trans (b := Scalar.select (IntOp.andi (IntOp.andi
      (IntOp.cmpi .sle (IntOp.absi (IntOp.subi (IntOp.subi (iota .tc S512x384 32 [1] iota_S512x384_d1_w32 (ix2 R j)) 128#32)
        (k0_pay6 (ix2 R j)))) 128#32)
      (IntOp.cmpi .sge (IntOp.addi (IntOp.muli (IntOp.subi (BitVec.ofNat 32 n) 1#32) 128#32)
        (iota .tc S512x384 32 [1] iota_S512x384_d1_w32 (ix2 R j))) 0#32))
      (IntOp.cmpi .slt (IntOp.addi (IntOp.muli (IntOp.subi (BitVec.ofNat 32 n) 1#32) 128#32)
        (iota .tc S512x384 32 [1] iota_S512x384_d1_w32 (ix2 R j))) 8192#32)) (x (ix2 R j)) (Ideal.ofBits .f32 0xFF800000#32))
    rfl ?_
  rw [hi, row_word, Cert.Attn.win_word n _ _ hn (by omega) j.isLt, Cert.Attn.select_win, Cert.Attn.ofBits_ninf]

end

section Rows
variable {ρ : Fin 512 → Row} {S : FVec Ideal S512x384 .f32} {K : FVec Ideal S512x1 .f32}
  (hSc : ∀ R j, S (ix2 R j) = (ρ R).score j) (hKc : ∀ R z, K (ix2 R z) = (((ρ R).σ : ℝ) : EReal))
include hSc hKc

theorem top_at (R : Fin 512) (z : Fin 1) : hT S K (ix2 R z) = (ρ R).top := by
  have e : hM S (ix2 R z) = (ρ R).mx := by
    refine (col1 (multiReduction .maximumf [1] S512 S 0xFF800000#32 reduces_S512x384_S512 (.inl rfl) rfl) R z).trans ?_
    rw [rmax]
    exact congrArg (Finset.fold max ⊥ · Finset.univ) (funext fun j => hSc R j)
  show max (hM S (ix2 R z)) (K (ix2 R z)) = _
  rw [e, hKc]; rfl

theorem E_at (R : Fin 512) (j : Fin 384) : hE S K (ix2 R j) = (((ρ R).E j : ℝ) : EReal) := by
  show Ideal.exp (S (ix2 R j) - broadcastTo S512x384 (hT S K) broadcasts_S512x1_S512x384 (ix2 R j)) = _
  rw [bcol, top_at hSc hKc, hSc, Row.exp_score]

theorem R_at (R : Fin 512) (z : Fin 1) : hR S K (ix2 R z) = ((1 / (ρ R).Z : ℝ) : EReal) := by
  have es : Ideal.exp (K (ix2 R z) - hT S K (ix2 R z)) = (((ρ R).Es : ℝ) : EReal) := by
    rw [top_at hSc hKc, hKc, Row.exp_sink]
  show Ideal.div (Ideal.ofBits .f32 0x3F800000#32)
    (shapeCast S512x1 (multiReduction .add [1] S512 (hE S K) 0x00000000#32 reduces_S512x384_S512 (.inl rfl) rfl)
      shapeCasts_S512_S512x1 (ix2 R z) + Ideal.exp (K (ix2 R z) - hT S K (ix2 R z))) = _
  rw [col1, rsum384, es, Cert.Attn.sum_coe_of _ _ (fun j => E_at hSc hKc R j), ← EReal.coe_add, Ideal.ofBits_one_f32]
  show Ideal.div 1 (((ρ R).Z : ℝ) : EReal) = _
  rw [Ideal.div_coe (ρ R).Z_ne, one_mul]

theorem P_at (R : Fin 512) (j : Fin 384) : hP S K (ix2 R j) = (((ρ R).P j : ℝ) : EReal) := by
  show hE S K (ix2 R j) * broadcastTo S512x384 (hR S K) broadcasts_S512x1_S512x384 (ix2 R j) = _
  rw [bcol, R_at hSc hKc, E_at hSc hKc, ← EReal.coe_mul, mul_one_div]; rfl

end Rows

/-- The loaded blocks are the head's; the values are any numbers. -/
structure Loads (H : Head) (W : ℕ → ℕ → EReal) (a : Fin 4 → Vec Ideal S128x128 .bf16) (b v : Fin 3 → Vec Ideal S128x128 .bf16)
    (w : Fin 4 → Vec Ideal S1x1x1 .f32) : Prop where
  n : H.n < 64
  a g r d : a g (ix2 r d) = ((H.q (Head.at' g r) d : ℝ) : EReal)
  b t r d : b t (ix2 r d) = ((H.k ⟨128 * t.val + r.val, by have := t.isLt; have := r.isLt; omega⟩ d : ℝ) : EReal)
  v t r d : v t (ix2 r d) = W (128 * t.val + r.val) d.val
  w g : w g (ix3 0 0 0) = ((H.s g : ℝ) : EReal)

theorem row_split (R : Fin 512) : ∃ g r, R = Head.at' g r :=
  ⟨⟨R.val / 128, by omega⟩, ⟨R.val % 128, by omega⟩, Fin.ext (by show R.val = 128 * (R.val / 128) + R.val % 128; omega)⟩

theorem key_split (j : Fin 384) : ∃ (t : Fin 3) (r : Fin 128), j = ⟨128 * t.val + r.val, by omega⟩ :=
  ⟨⟨j.val / 128, by omega⟩, ⟨j.val % 128, by omega⟩, Fin.ext (by show j.val = 128 * (j.val / 128) + j.val % 128; omega)⟩

section Vals
variable {H : Head} {W : ℕ → ℕ → EReal} {a : Fin 4 → Vec Ideal S128x128 .bf16} {b v : Fin 3 → Vec Ideal S128x128 .bf16}
  {w : Fin 4 → Vec Ideal S1x1x1 .f32} (L : Loads H W a b v w)
include L

theorem s_at (R : Fin 512) (j : Fin 384) :
    k0_pay5 (a 0) (a 1) (a 2) (a 3) (b 0) (b 1) (b 2) (ix2 R j) = (((H.row R).s j : ℝ) : EReal) := by
  have q_at : ∀ (d : Fin 128), concatenate S512x128 0 [⟨S128x128, a 0⟩, ⟨S128x128, a 1⟩, ⟨S128x128, a 2⟩, ⟨S128x128, a 3⟩]
      concatenates_S128x128_S128x128_S128x128_S128x128_S512x128_d0 (ix2 R d) = ((H.q R d : ℝ) : EReal) := fun d => by
    obtain ⟨g, r, rfl⟩ := row_split R
    exact (cat4 a concatenates_S128x128_S128x128_S128x128_S128x128_S512x128_d0 g r d).trans (L.a g r d)
  have k_at : ∀ (d : Fin 128), concatenate S384x128 0 [⟨S128x128, b 0⟩, ⟨S128x128, b 1⟩, ⟨S128x128, b 2⟩]
      concatenates_S128x128_S128x128_S128x128_S384x128_d0 (ix2 j d) = ((H.k j d : ℝ) : EReal) := fun d => by
    obtain ⟨t, r, rfl⟩ := key_split j
    exact (cat3 b concatenates_S128x128_S128x128_S128x128_S384x128_d0 t r d).trans (L.b t r d)
  show matmul dot_S512x128_S384x128_S512x384_1_1_0_0_n_n none
    (concatenate S512x128 0 [⟨S128x128, a 0⟩, ⟨S128x128, a 1⟩, ⟨S128x128, a 2⟩, ⟨S128x128, a 3⟩]
      concatenates_S128x128_S128x128_S128x128_S128x128_S512x128_d0)
    (concatenate S384x128 0 [⟨S128x128, b 0⟩, ⟨S128x128, b 1⟩, ⟨S128x128, b 2⟩] concatenates_S128x128_S128x128_S128x128_S384x128_d0)
    (constant S512x384 .f32 0x00000000#32) (ix2 R j) * Ideal.ofBits .f32 0x3DB504F3#32 = _
  rw [mm_nt, Cert.Attn.ofBits_cS, Cert.Attn.sum_coe_of _ (fun d => H.q R d * H.k j d) (fun d => by
    rw [q_at, k_at, EReal.coe_mul]), ← EReal.coe_mul]
  rfl

theorem hS_at (R : Fin 512) (j : Fin 384) : hS (BitVec.ofNat 32 H.n) a b (ix2 R j) = (H.row R).score j := by
  unfold hS
  rw [mask_at _ L.n, s_at L]
  unfold Row.score
  simp only [Head.row, decide_eq_true_eq]

theorem hK_at (R : Fin 512) (z : Fin 1) : hK w (ix2 R z) = (((H.row R).σ : ℝ) : EReal) := by
  obtain ⟨g, r, rfl⟩ := row_split R
  refine (cat4c (fun g => broadcastTo S128x1 (shapeCast S1x1 (shapeCast S1x1 (w g) shapeCasts_S1x1x1_S1x1) shapeCasts_S1x1_S1x1)
    broadcasts_S1x1_S128x1) concatenates_S128x1_S128x1_S128x1_S128x1_S512x1_d0 g r z).trans ?_
  have e : (H.row (Head.at' g r)).σ = H.s g := by
    show H.s _ = _
    congr 1; refine Fin.ext ?_; show (128 * g.val + r.val) / 128 = g.val; omega
  rw [broadcastTo_apply _ _ _ (ix2 0 0) (by intro a; fin_cases a <;> rfl), shapeCast_self,
    shapeCast_apply (w g) shapeCasts_S1x1x1_S1x1 (ix2 0 0) (ix3 0 0 0) (by decide), L.w, e]

theorem hV_at (j : Fin 384) (d : Fin 128) : hV v (ix2 j d) = W j.val d.val := by
  obtain ⟨t, r, rfl⟩ := key_split j
  exact (cat3 v concatenates_S128x128_S128x128_S128x128_S384x128_d0 t r d).trans (L.v t r d)

/-- The head's output. -/
theorem hO_at (R : Fin 512) (d : Fin 128) :
    hO v (hS (BitVec.ofNat 32 H.n) a b) (hK w) (ix2 R d) = ∑ j : Fin 384, (((H.row R).P j : ℝ) : EReal) * W j.val d.val := by
  refine (mm_nn (truncf .bf16 (hP (hS (BitVec.ofNat 32 H.n) a b) (hK w)) bitsLt_bf16_f32) (hV v) R d).trans ?_
  refine Finset.sum_congr rfl fun j _ => ?_
  rw [hV_at L]
  exact congrArg (· * _) (P_at (hS_at L) (hK_at L) R j)

end Vals

end Cert.Kernel14Ideal.Attn

end
-- ==== Proof.KOut14.lean ====
module

public import proofs.«01_k».proof.Proof.KHead14

@[expose] public section

set_option maxRecDepth 16384

noncomputable section

/-! The attention's forward in the kernel: the blocks it loads, and what its result array ends holding. -/

namespace Cert.Kernel14Ideal.Attn

open Idealize.ShloMosaic hiding ix1 ix2 ix3
open Idealize.ShloMosaic.TcCoe Idealize.ShloMosaic.ValueIdx
open Cert.Kernel14Ideal.Gen Cert.Kernel14Ideal.Value
open Cert.Attn (Row Head Args)

/-- Column block `k` of a 1024-column block, -/
def qcol {e : EltTy} (x : Vec Ideal S128x1024 e) (k : Fin 8) : Vec Ideal S128x128 e :=
  View.ld (Val := Elt Ideal) x (Rect.unit (s := S128x1024) ![0, 128 * k.val] S128x128.size
    (by intro a; fin_cases a <;> simp [Shape.size] <;> omega))
/-- column block `k` of a 256-column block, -/
def kcol {e : EltTy} (x : Vec Ideal S128x256 e) (k : Fin 2) : Vec Ideal S128x128 e :=
  View.ld (Val := Elt Ideal) x (Rect.unit (s := S128x256) ![0, 128 * k.val] S128x128.size
    (by intro a; fin_cases a <;> simp [Shape.size] <;> omega))
/-- and one sink logit. -/
def word (x : Vec Ideal S2x1x4 .f32) (h : Fin 2) (g : Fin 4) : Vec Ideal S1x1x1 .f32 :=
  View.ld (Val := Elt Ideal) x (Rect.unit (s := S2x1x4) ![h.val, 0, g.val] S1x1x1.size
    (by intro a; fin_cases a <;> simp [Shape.size] <;> omega))

theorem qcol_at {e : EltTy} (x : Vec Ideal S128x1024 e) (k : Fin 8) (r d : Fin 128) :
    qcol x k (ix2 r d) = x (ix2 r (⟨128 * k.val + d.val, by omega⟩ : Fin 1024)) := by
  refine congrArg x ?_
  funext a; fin_cases a
  · exact Fin.ext (by show 0 + 1 * r.val = r.val; omega)
  · exact Fin.ext (by show 128 * k.val + 1 * d.val = 128 * k.val + d.val; omega)
theorem kcol_at {e : EltTy} (x : Vec Ideal S128x256 e) (k : Fin 2) (r d : Fin 128) :
    kcol x k (ix2 r d) = x (ix2 r (⟨128 * k.val + d.val, by omega⟩ : Fin 256)) := by
  refine congrArg x ?_
  funext a; fin_cases a
  · exact Fin.ext (by show 0 + 1 * r.val = r.val; omega)
  · exact Fin.ext (by show 128 * k.val + 1 * d.val = 128 * k.val + d.val; omega)
theorem word_at (x : Vec Ideal S2x1x4 .f32) (h : Fin 2) (g : Fin 4) : word x h g (ix3 0 0 0) = x (ix3 h (0 : Fin 1) g) := by
  refine congrArg x ?_
  funext a; fin_cases a
  · exact Fin.ext (by show h.val + 1 * 0 = h.val; omega)
  · rfl
  · exact Fin.ext (by show g.val + 1 * 0 = g.val; omega)

/-- The columns of the output block are laid down piece by piece. -/
theorem skip (o : ℕ) (hin) (p : FVec Ideal S128x128 .bf16) (L : List (View.Piece (Elt Ideal) S128x1024 .bf16)) (r : Fin 128) (c : Fin 1024) (hc : c.val < o) :
    View.canon (⟨Rect.unit (s := S128x1024) ![0, o] S128x128.size hin, p⟩ :: L) (ix2 r c) = View.canon L (ix2 r c) := by
  refine View.canon_cons_of_not_mem _ _ fun h => ?_
  rw [Rect.mem_set_unit] at h
  have h1 : o ≤ c.val := (h 1).1
  omega

theorem take (o : ℕ) (hin) (p : FVec Ideal S128x128 .bf16) (L : List (View.Piece (Elt Ideal) S128x1024 .bf16)) (r d : Fin 128) (c : Fin 1024) (hc : c.val = o + d.val) :
    View.canon (⟨Rect.unit (s := S128x1024) ![0, o] S128x128.size hin, p⟩ :: L) (ix2 r c) = p (ix2 r d) := by
  have e : (ix2 r c : S128x1024.Idx) = (Rect.unit (s := S128x1024) ![0, o] S128x128.size hin).emb (ix2 r d : S128x128.Idx) := by
    funext u
    match u with
    | ⟨0, _⟩ => exact Fin.ext (show r.val = 0 + 1 * r.val by omega)
    | ⟨1, _⟩ => exact Fin.ext (show c.val = o + 1 * d.val by omega)
  rw [e, View.canon_cons_emb]

/-- A row block of the output. -/
theorem slice_at (o : ℕ) (g : Fin 4) (ho : o = 128 * g.val) (x : FVec Ideal S512x128 .f32) (hs : S512x128.Slices ![o, 0] S128x128) (r d : Fin 128) :
    (truncf .bf16 (extractStridedSlice S128x128 ![o, 0] x hs) bitsLt_bf16_f32 : FVec Ideal S128x128 .bf16) (ix2 r d) = x (ix2 (Head.at' g r) d) := by
  subst ho
  refine (extractStridedSlice_apply (t := S128x128) _ x hs _ (ix2 (Head.at' g r) d) ?_)
  intro u
  match u with
  | ⟨0, _⟩ => rfl
  | ⟨1, _⟩ => exact (Nat.zero_add _).symm

/-- Three blocks' columns of one head. -/
def three (x y z : Vec Ideal S128x256 .bf16) (h : Fin 2) (s : Fin 3) : Vec Ideal S128x128 .bf16 :=
  kcol (match s with | ⟨0, _⟩ => x | ⟨1, _⟩ => y | ⟨2, _⟩ => z) h

section
variable (i : grid0.Coords) (x0 : Vec Ideal S128x1024 .bf16) (x1 x2 x3 x4 x5 x6 : Vec Ideal S128x256 .bf16) (x7 : Vec Ideal S2x1x4 .f32)

/-- What the body computes for a head. -/
def bO (h : Fin 2) : FVec Ideal S512x128 .f32 :=
  hO (three x4 x5 x6 h) (hS (BitVec.ofNat 32 (i 0).val) (fun g => qcol x0 ⟨4 * h.val + g.val, by omega⟩) (three x1 x2 x3 h)) (hK fun g => word x7 h g)

theorem first : k0_pay13 (k0_pay26 i x0 x1 x2 x3 x4 x5 x6 x7) (k0_pay27 i x0 x1 x2 x3 x4 x5 x6 x7)
    (View.ld x4 r0_4) (View.ld x5 r0_4) (View.ld x6 r0_4) = bO i x0 x1 x2 x3 x4 x5 x6 x7 0 := rfl
theorem second : k0_pay29 i x0 x1 x2 x3 x4 x5 x6 x7 = bO i x0 x1 x2 x3 x4 x5 x6 x7 1 := rfl

/-- What the body leaves, column by column. -/
theorem out_at (h : Fin 2) (g : Fin 4) (r d : Fin 128) (k : Fin 1024) (hk : k.val = 128 * (4 * h.val + g.val) + d.val) :
    (out0_8 i x0 x1 x2 x3 x4 x5 x6 x7 : S128x1024.Idx → EReal) (ix2 r k) = bO i x0 x1 x2 x3 x4 x5 x6 x7 h (ix2 (Head.at' g r) d) := by
  have hd := d.isLt
  unfold out0_8
  have hlt : ∀ o : ℕ, 128 * (4 * h.val + g.val) + 128 ≤ o → k.val < o := fun o ho => by omega
  match h, g with
  | ⟨0, _⟩, ⟨0, _⟩ =>
    refine (skip 896 _ _ _ r k (hlt _ (Nat.le_of_ble_eq_true rfl))).trans ?_
    refine (skip 768 _ _ _ r k (hlt _ (Nat.le_of_ble_eq_true rfl))).trans ?_
    refine (skip 640 _ _ _ r k (hlt _ (Nat.le_of_ble_eq_true rfl))).trans ?_
    refine (skip 512 _ _ _ r k (hlt _ (Nat.le_of_ble_eq_true rfl))).trans ?_
    refine (skip 384 _ _ _ r k (hlt _ (Nat.le_of_ble_eq_true rfl))).trans ?_
    refine (skip 256 _ _ _ r k (hlt _ (Nat.le_of_ble_eq_true rfl))).trans ?_
    refine (skip 128 _ _ _ r k (hlt _ (Nat.le_of_ble_eq_true rfl))).trans ?_
    refine (take 0 _ _ _ r d k hk).trans ?_
    exact slice_at 0 0 rfl (bO i x0 x1 x2 x3 x4 x5 x6 x7 0) slices_S512x128_o0_0_S128x128 r d
  | ⟨0, _⟩, ⟨1, _⟩ =>
    refine (skip 896 _ _ _ r k (hlt _ (Nat.le_of_ble_eq_true rfl))).trans ?_
    refine (skip 768 _ _ _ r k (hlt _ (Nat.le_of_ble_eq_true rfl))).trans ?_
    refine (skip 640 _ _ _ r k (hlt _ (Nat.le_of_ble_eq_true rfl))).trans ?_
    refine (skip 512 _ _ _ r k (hlt _ (Nat.le_of_ble_eq_true rfl))).trans ?_
    refine (skip 384 _ _ _ r k (hlt _ (Nat.le_of_ble_eq_true rfl))).trans ?_
    refine (skip 256 _ _ _ r k (hlt _ (Nat.le_of_ble_eq_true rfl))).trans ?_
    refine (take 128 _ _ _ r d k hk).trans ?_
    exact slice_at 128 1 rfl (bO i x0 x1 x2 x3 x4 x5 x6 x7 0) slices_S512x128_o128_0_S128x128 r d
  | ⟨0, _⟩, ⟨2, _⟩ =>
    refine (skip 896 _ _ _ r k (hlt _ (Nat.le_of_ble_eq_true rfl))).trans ?_
    refine (skip 768 _ _ _ r k (hlt _ (Nat.le_of_ble_eq_true rfl))).trans ?_
    refine (skip 640 _ _ _ r k (hlt _ (Nat.le_of_ble_eq_true rfl))).trans ?_
    refine (skip 512 _ _ _ r k (hlt _ (Nat.le_of_ble_eq_true rfl))).trans ?_
    refine (skip 384 _ _ _ r k (hlt _ (Nat.le_of_ble_eq_true rfl))).trans ?_
    refine (take 256 _ _ _ r d k hk).trans ?_
    exact slice_at 256 2 rfl (bO i x0 x1 x2 x3 x4 x5 x6 x7 0) slices_S512x128_o256_0_S128x128 r d
  | ⟨0, _⟩, ⟨3, _⟩ =>
    refine (skip 896 _ _ _ r k (hlt _ (Nat.le_of_ble_eq_true rfl))).trans ?_
    refine (skip 768 _ _ _ r k (hlt _ (Nat.le_of_ble_eq_true rfl))).trans ?_
    refine (skip 640 _ _ _ r k (hlt _ (Nat.le_of_ble_eq_true rfl))).trans ?_
    refine (skip 512 _ _ _ r k (hlt _ (Nat.le_of_ble_eq_true rfl))).trans ?_
    refine (take 384 _ _ _ r d k hk).trans ?_
    exact slice_at 384 3 rfl (bO i x0 x1 x2 x3 x4 x5 x6 x7 0) slices_S512x128_o384_0_S128x128 r d
  | ⟨1, _⟩, ⟨0, _⟩ =>
    refine (skip 896 _ _ _ r k (hlt _ (Nat.le_of_ble_eq_true rfl))).trans ?_
    refine (skip 768 _ _ _ r k (hlt _ (Nat.le_of_ble_eq_true rfl))).trans ?_
    refine (skip 640 _ _ _ r k (hlt _ (Nat.le_of_ble_eq_true rfl))).trans ?_
    refine (take 512 _ _ _ r d k hk).trans ?_
    exact slice_at 0 0 rfl (bO i x0 x1 x2 x3 x4 x5 x6 x7 1) slices_S512x128_o0_0_S128x128 r d
  | ⟨1, _⟩, ⟨1, _⟩ =>
    refine (skip 896 _ _ _ r k (hlt _ (Nat.le_of_ble_eq_true rfl))).trans ?_
    refine (skip 768 _ _ _ r k (hlt _ (Nat.le_of_ble_eq_true rfl))).trans ?_
    refine (take 640 _ _ _ r d k hk).trans ?_
    exact slice_at 128 1 rfl (bO i x0 x1 x2 x3 x4 x5 x6 x7 1) slices_S512x128_o128_0_S128x128 r d
  | ⟨1, _⟩, ⟨2, _⟩ =>
    refine (skip 896 _ _ _ r k (hlt _ (Nat.le_of_ble_eq_true rfl))).trans ?_
    refine (take 768 _ _ _ r d k hk).trans ?_
    exact slice_at 256 2 rfl (bO i x0 x1 x2 x3 x4 x5 x6 x7 1) slices_S512x128_o256_0_S128x128 r d
  | ⟨1, _⟩, ⟨3, _⟩ =>
    refine (take 896 _ _ _ r d k hk).trans ?_
    exact slice_at 384 3 rfl (bO i x0 x1 x2 x3 x4 x5 x6 x7 1) slices_S512x128_o384_0_S128x128 r d

end

variable (m : (ℓ : Loc nD τ sig) → Buf (Elt Ideal) ℓ)

/-- The entries of the queries, keys and sinks are the real numbers `A`; those of the values are `V`. -/
structure Holds (c : Dev nD) (A : Args) (V : ℕ → ℕ → EReal) : Prop where
  q (j : S8192x1024.Idx) : (m ((c.tc : Thread nD τ).loc main_arg0) : Vec Ideal S8192x1024 .bf16) j = ((A.q (j 0).val (j 1).val : ℝ) : EReal)
  k (j : S8192x256.Idx) : (m ((c.tc : Thread nD τ).loc main_arg1) : Vec Ideal S8192x256 .bf16) j = ((A.k (j 0).val (j 1).val : ℝ) : EReal)
  v (j : S8192x256.Idx) : (m ((c.tc : Thread nD τ).loc main_arg2) : Vec Ideal S8192x256 .bf16) j = V (j 0).val (j 1).val
  s (j : S8.Idx) : (m ((c.tc : Thread nD τ).loc main_arg3) : Vec Ideal S8 .f32) j = ((A.s (j 0).val : ℝ) : EReal)

theorem i0 : ∀ t : Fin cfg0.N, win0_0.index t = ![t.val, 0] := (by decide +kernel : ∀ t : Fin grid0.N, _)
theorem i1 : ∀ t : Fin cfg0.N, win0_1.index t = ![t.val - 1, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![min (t.val + 1) 63, 0] := (by decide +kernel : ∀ t : Fin grid0.N, _)
theorem i4 : ∀ t : Fin cfg0.N, win0_4.index t = ![t.val - 1, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![min (t.val + 1) 63, 0] := (by decide +kernel : ∀ t : Fin grid0.N, _)
theorem i7 : ∀ t : Fin cfg0.N, win0_7.index t = ![0, 0, 0] := (by decide +kernel : ∀ t : Fin grid0.N, _)
theorem i8 : ∀ t : Fin cfg0.N, win0_8.index t = ![t.val, 0] := (by decide +kernel : ∀ t : Fin grid0.N, _)
theorem coord : ∀ t : Fin cfg0.N, (grid0.coords t 0).val = t.val := (by decide +kernel : ∀ t : Fin grid0.N, _)

variable {m} {c : Dev nD} {A : Args} {V : ℕ → ℕ → EReal} (H : Holds m c A V)
include H

theorem blk0 (t : Fin cfg0.N) (x : S128x1024.Idx) :
    (iblk m c 0 t : Vec Ideal S128x1024 .bf16) x = ((A.q (128 * t.val + (x 0).val) (x 1).val : ℝ) : EReal) := by
  blk_simp [iblk]
  rw [V_main_arg0]
  refine (H.q _).trans ?_
  blk_simp [i0]
  rw [Nat.mul_comm]

theorem blk1 (t : Fin cfg0.N) (x : S128x256.Idx) :
    (iblk m c 1 t : Vec Ideal S128x256 .bf16) x = ((A.k (128 * (t.val - 1) + (x 0).val) (x 1).val : ℝ) : EReal) := by
  blk_simp [iblk]
  rw [V_main_arg1]
  refine (H.k _).trans ?_
  blk_simp [i1]
  rw [Nat.mul_comm]

theorem blk2 (t : Fin cfg0.N) (x : S128x256.Idx) :
    (iblk m c 2 t : Vec Ideal S128x256 .bf16) x = ((A.k (128 * t.val + (x 0).val) (x 1).val : ℝ) : EReal) := by
  blk_simp [iblk]
  rw [V_main_arg1]
  refine (H.k _).trans ?_
  blk_simp [i2]
  rw [Nat.mul_comm]

theorem blk3 (t : Fin cfg0.N) (x : S128x256.Idx) :
    (iblk m c 3 t : Vec Ideal S128x256 .bf16) x = ((A.k (128 * min (t.val + 1) 63 + (x 0).val) (x 1).val : ℝ) : EReal) := by
  blk_simp [iblk]
  rw [V_main_arg1]
  refine (H.k _).trans ?_
  blk_simp [i3]
  rw [Nat.mul_comm]

theorem blk4 (t : Fin cfg0.N) (x : S128x256.Idx) :
    (iblk m c 4 t : Vec Ideal S128x256 .bf16) x = V (128 * (t.val - 1) + (x 0).val) (x 1).val := by
  blk_simp [iblk]
  rw [V_main_arg2]
  refine (H.v _).trans ?_
  blk_simp [i4]
  rw [Nat.mul_comm]

theorem blk5 (t : Fin cfg0.N) (x : S128x256.Idx) :
    (iblk m c 5 t : Vec Ideal S128x256 .bf16) x = V (128 * t.val + (x 0).val) (x 1).val := by
  blk_simp [iblk]
  rw [V_main_arg2]
  refine (H.v _).trans ?_
  blk_simp [i5]
  rw [Nat.mul_comm]

theorem blk6 (t : Fin cfg0.N) (x : S128x256.Idx) :
    (iblk m c 6 t : Vec Ideal S128x256 .bf16) x = V (128 * min (t.val + 1) 63 + (x 0).val) (x 1).val := by
  blk_simp [iblk]
  rw [V_main_arg2]
  refine (H.v _).trans ?_
  blk_simp [i6]
  rw [Nat.mul_comm]

theorem blk7 (t : Fin cfg0.N) (x : S2x1x4.Idx) :
    (iblk m c 7 t : Vec Ideal S2x1x4 .f32) x = ((A.s (4 * (x 0).val + (x 2).val) : ℝ) : EReal) := by
  blk_simp [iblk]
  have e : Gen.V m c main_v0 = shapeCast S2x1x4 (m ((c.tc : Thread nD τ).loc main_arg3) : Vec Ideal S8 .f32) shapeCasts_S8_S2x1x4 := by
    show StableHlo.after hostOps0 (fun b => m (c, b)) (Proc.devRef .tc main_v0) = _
    after_results_simp
    rfl
  rw [e]
  have h1 : (x 1).val < 1 := (x 1).isLt
  have h0 : (x 0).val < 2 := (x 0).isLt
  have h2 : (x 2).val < 4 := (x 2).isLt
  refine (shapeCast_apply _ shapeCasts_S8_S2x1x4 _ (ix1 (⟨4 * (x 0).val + (x 2).val, by omega⟩ : Fin 8)) ?_).trans (H.s _)
  rw [Shape.rowMajor_val_one, Shape.rowMajor_val_three]
  blk_simp [i7]
  show 4 * (x 0).val + (x 2).val = (x 0).val * 4 + (x 2).val
  omega

/-- What the body works on at a point. -/
theorem loads (t : Fin cfg0.N) (h : Fin 2) :
    Loads (A.headC h.val t.val) (fun j d => V (128 * Args.nb t.val (j / 128) + j % 128) (128 * h.val + d))
      (fun g => qcol (iblk m c 0 t : Vec Ideal S128x1024 .bf16) ⟨4 * h.val + g.val, by omega⟩)
      (three (iblk m c 1 t) (iblk m c 2 t) (iblk m c 3 t) h) (three (iblk m c 4 t) (iblk m c 5 t) (iblk m c 6 t) h)
      (fun g => word (iblk m c 7 t : Vec Ideal S2x1x4 .f32) h g) where
  n := lt_of_lt_of_eq t.isLt (show cfg0.N = 64 from N_0)
  a g r d := by
    refine (qcol_at _ _ r d).trans ((blk0 H t _).trans ?_)
    show ((A.q (128 * t.val + r.val) (128 * (4 * h.val + g.val) + d.val) : ℝ) : EReal)
      = ((A.q (128 * t.val + (128 * g.val + r.val) % 128) (128 * (4 * h.val + (128 * g.val + r.val) / 128) + d.val) : ℝ) : EReal)
    rw [show (128 * g.val + r.val) % 128 = r.val by omega, show (128 * g.val + r.val) / 128 = g.val by omega]
  w g := (word_at _ h g).trans (blk7 H t _)
  b s r d := by
    have e : ∀ u : ℕ, u = 128 * Args.nb t.val s.val + r.val →
        ((A.k u (128 * h.val + d.val) : ℝ) : EReal) = (((A.headC h.val t.val).k ⟨128 * s.val + r.val, by omega⟩ d : ℝ) : EReal) := by
      rintro _ rfl
      show _ = ((A.k (128 * Args.nb t.val ((128 * s.val + r.val) / 128) + (128 * s.val + r.val) % 128) (128 * h.val + d.val) : ℝ) : EReal)
      rw [show (128 * s.val + r.val) % 128 = r.val by omega, show (128 * s.val + r.val) / 128 = s.val by omega]
    fin_cases s
    · exact (kcol_at _ h r d).trans ((blk1 H t _).trans (e _ rfl))
    · exact (kcol_at _ h r d).trans ((blk2 H t _).trans (e _ rfl))
    · exact (kcol_at _ h r d).trans ((blk3 H t _).trans (e _ rfl))
  v s r d := by
    have e : ∀ u : ℕ, u = 128 * Args.nb t.val s.val + r.val →
        V u (128 * h.val + d.val) = V (128 * Args.nb t.val ((128 * s.val + r.val) / 128) + (128 * s.val + r.val) % 128) (128 * h.val + d.val) := by
      rintro _ rfl
      rw [show (128 * s.val + r.val) % 128 = r.val by omega, show (128 * s.val + r.val) / 128 = s.val by omega]
    fin_cases s
    · exact (kcol_at _ h r d).trans ((blk4 H t _).trans (e _ rfl))
    · exact (kcol_at _ h r d).trans ((blk5 H t _).trans (e _ rfl))
    · exact (kcol_at _ h r d).trans ((blk6 H t _).trans (e _ rfl))

/-- What a point leaves is its block of the output, -/
theorem block (t : Fin cfg0.N) (r : Fin 128) (k : Fin 1024) :
    (out0_8 (F := Ideal) (grid0.coords t) (iblk m c 0 t) (iblk m c 1 t) (iblk m c 2 t) (iblk m c 3 t) (iblk m c 4 t) (iblk m c 5 t) (iblk m c 6 t)
      (iblk m c 7 t) : S128x1024.Idx → EReal) (ix2 r k) = A.out V (k.val / 512) t.val (k.val / 128 % 4) r.val (k.val % 128) := by
  have hN : t.val < 64 := lt_of_lt_of_eq t.isLt (show cfg0.N = 64 from N_0)
  have hk := k.isLt
  rw [out_at _ _ _ _ _ _ _ _ _ ⟨k.val / 512, by omega⟩ ⟨k.val / 128 % 4, by omega⟩ r ⟨k.val % 128, by omega⟩ k
    (show k.val = 128 * (4 * (k.val / 512) + k.val / 128 % 4) + k.val % 128 by omega)]
  unfold bO
  rw [coord t]
  refine (hO_at (loads H t ⟨k.val / 512, by omega⟩) _ _).trans ?_
  exact Cert.Attn.out_clamped A V (k.val / 512) t.val hN ⟨k.val / 128 % 4, by omega⟩ r (k.val % 128)

/-- and so the array ends holding it. -/
theorem value : (dats m 0 c).arrAt 8 cfg0.N = (fun j => A.out V ((j 1).val / 512) ((j 0).val / 128) ((j 1).val / 128 % 4) ((j 0).val % 128) ((j 1).val % 128)
    : S8192x1024.Idx → EReal) := by
  refine (dats m 0 c).arrAt_eq_of_covers 8 _ (by decide +kernel) fun t hf y => ?_
  blk_simp
  rw [after0_8]
  have h0 : (y 0).val < 128 := (y 0).isLt
  have h1 : (y 1).val < 1024 := (y 1).isLt
  refine (congrArg _ (ValueIdx.eq_ix2 (n0 := 128) (n1 := 1024) y)).trans ((block H t (y 0) (y 1)).trans ?_)
  blk_simp [i8]
  rw [show (t.val * 128 + (y 0).val) / 128 = t.val by omega, show (t.val * 128 + (y 0).val) % 128 = (y 0).val by omega]

end Cert.Kernel14Ideal.Attn

end
-- ==== Proof.RRow14.lean ====
module

public import proofs.«01_k».proof.Proof.Gen.Reference14Ideal.Run
public import proofs.«01_k».proof.Proof.Gen.Reference14Ideal.Read
public import proofs.«01_k».proof.Proof.Attn14
public import Idealize.ShloMosaic.Lib.ValueIdxRank6

@[expose] public section

set_option maxRecDepth 16384

noncomputable section

/-! The attention's forward in the reference, one row of scores at a time. -/

namespace Cert.Reference14Ideal.Attn

open Idealize.ShloMosaic Idealize.ShloMosaic.ValueIdx
open Cert.Reference14Ideal Cert.Reference14Ideal.Gen Cert.Reference14Ideal.Read
open Cert.Attn

/-- The entries of the queries, the keys and the sinks are the real numbers `A`. -/
structure Has (x0 : Vec Ideal S8192x1024 .bf16) (x1 : Vec Ideal S8192x256 .bf16) (x3 : Vec Ideal S8 .f32) (A : Args) : Prop where
  q (j : S8192x1024.Idx) : x0 j = ((A.q (j 0).val (j 1).val : ℝ) : EReal)
  k (j : S8192x256.Idx) : x1 j = ((A.k (j 0).val (j 1).val : ℝ) : EReal)
  s (j : S8.Idx) : x3 j = ((A.s (j 0).val : ℝ) : EReal)

/-- The sequence with a block of zero rows before it and one after it. -/
theorem padded (z : S1x128x2x128.Idx → EReal) (w : S1x8192x2x128.Idx → EReal) (h) (hz : ∀ i, z i = 0) (f : ℕ → ℕ → ℕ → EReal)
    (hw : ∀ i, w i = f (i 1).val (i 2).val (i 3).val) (j : S1x8448x2x128.Idx) :
    concatenate S1x8448x2x128 1 [⟨S1x128x2x128, z⟩, ⟨S1x8192x2x128, w⟩, ⟨S1x128x2x128, z⟩] h j
      = (if 128 ≤ (j 1).val ∧ (j 1).val < 8320 then f ((j 1).val - 128) (j 2).val (j 3).val else 0) := by
  have hj : (j 1).val < 8448 := (j 1).isLt
  by_cases h1 : (j 1).val < 128
  · rw [if_neg (by omega)]
    refine (concatenate_apply_piece (1 : Fin S1x8448x2x128.rank) _ h j 0 (show 0 < 3 by decide) S1x128x2x128 z rfl rfl 0 rfl
      (ix4 (j 0) ⟨(j 1).val, h1⟩ (j 2) (j 3)) ?_ ?_).trans (hz _)
    · intro b hb; fin_cases b
      · rfl
      · exact absurd rfl hb
      · rfl
      · rfl
    · exact Nat.zero_add _
  · by_cases h2 : (j 1).val < 8320
    · rw [if_pos ⟨by omega, h2⟩]
      refine (concatenate_apply_piece (1 : Fin S1x8448x2x128.rank) _ h j 1 (show 1 < 3 by decide) S1x8192x2x128 w rfl rfl 128 rfl
        (ix4 (j 0) ⟨(j 1).val - 128, by omega⟩ (j 2) (j 3)) ?_ ?_).trans (hw _)
      · intro b hb; fin_cases b
        · rfl
        · exact absurd rfl hb
        · rfl
        · rfl
      · show 128 + ((j 1).val - 128) = (j 1).val
        omega
    · rw [if_neg (by omega)]
      refine (concatenate_apply_piece (1 : Fin S1x8448x2x128.rank) _ h j 2 (show 2 < 3 by decide) S1x128x2x128 z rfl rfl 8320 rfl
        (ix4 (j 0) ⟨(j 1).val - 8320, by omega⟩ (j 2) (j 3)) ?_ ?_).trans (hz _)
      · intro b hb; fin_cases b
        · rfl
        · exact absurd rfl hb
        · rfl
        · rfl
      · show 8320 + ((j 1).val - 8320) = (j 1).val
        omega

/-- Three blocks of 128 rows, one after the other. -/
theorem threeBlocks (a : Fin 3 → S1x64x128x2x128.Idx → EReal) (h) (f : ℕ → ℕ → ℕ → ℕ → EReal)
    (ha : ∀ t i, a t i = f (128 * ((i 1).val + t.val) + (i 2).val) (i 1).val (i 3).val (i 4).val)
    (j : S1x64x384x2x128.Idx) :
    concatenate S1x64x384x2x128 2 [⟨S1x64x128x2x128, a 0⟩, ⟨S1x64x128x2x128, a 1⟩, ⟨S1x64x128x2x128, a 2⟩] h j
      = f (128 * (j 1).val + (j 2).val) (j 1).val (j 3).val (j 4).val := by
  have hj : (j 2).val < 384 := (j 2).isLt
  obtain ⟨t, ht⟩ : ∃ t : Fin 3, t.val = (j 2).val / 128 := ⟨⟨(j 2).val / 128, by omega⟩, rfl⟩
  refine (concatenate_apply_piece (2 : Fin S1x64x384x2x128.rank)
    [⟨S1x64x128x2x128, a 0⟩, ⟨S1x64x128x2x128, a 1⟩, ⟨S1x64x128x2x128, a 2⟩] h j t.val t.isLt S1x64x128x2x128 (a t)
    (by fin_cases t <;> rfl) rfl (128 * t.val) (by fin_cases t <;> rfl)
    (ix5 (j 0) (j 1) ⟨(j 2).val % 128, Nat.mod_lt _ (by decide)⟩ (j 3) (j 4)) ?_ ?_).trans ((ha t _).trans ?_)
  · intro b hb; fin_cases b
    · rfl
    · rfl
    · exact absurd rfl hb
    · rfl
    · rfl
  · show 128 * t.val + (j 2).val % 128 = (j 2).val
    omega
  · refine congrArg (fun p => f p (j 1).val (j 3).val (j 4).val) ?_
    show 128 * ((j 1).val + t.val) + (j 2).val % 128 = 128 * (j 1).val + (j 2).val
    omega

/-- Likewise, the blocks named one by one. -/
theorem threeBlocks' (a b c : S1x64x128x2x128.Idx → EReal) (h) (f : ℕ → ℕ → ℕ → EReal)
    (ha : ∀ i, a i = f (128 * (i 1).val + (i 2).val) (i 3).val (i 4).val)
    (hb : ∀ i, b i = f (128 * (1 + (i 1).val) + (i 2).val) (i 3).val (i 4).val)
    (hc : ∀ i, c i = f (128 * (2 + (i 1).val) + (i 2).val) (i 3).val (i 4).val)
    (j : S1x64x384x2x128.Idx) :
    concatenate S1x64x384x2x128 2 [⟨S1x64x128x2x128, a⟩, ⟨S1x64x128x2x128, b⟩, ⟨S1x64x128x2x128, c⟩] h j
      = f (128 * (j 1).val + (j 2).val) (j 3).val (j 4).val := by
  refine threeBlocks ![a, b, c] h (fun p _ h d => f p h d) (fun t i => ?_) j
  fin_cases t
  · exact ha i
  · refine (hb i).trans ?_
    rw [Nat.add_comm 1]
  · refine (hc i).trans ?_
    rw [Nat.add_comm 2]

theorem v7_at (i : S1x128x2x128.Idx) : (val_main_v7 (F := Ideal) : Vec Ideal S1x128x2x128 .f32) i = 0 :=
  (val_main_v7_apply i).trans Ideal.ofBits_zero_f32

theorem v14_at (i : S1x128x2x128.Idx) : (val_main_v14 (F := Ideal) : Vec Ideal S1x128x2x128 .f32) i = 0 :=
  (val_main_v14_apply i).trans Ideal.ofBits_zero_f32

/-! The keys and the values around each block, in whatever numbers they are. -/

variable {x1 x2 : Vec Ideal S8192x256 .bf16} {B : ℕ → ℕ → EReal}

theorem v4_at (hB : ∀ j, x1 j = B (j 0).val (j 1).val) (i : S1x8192x2x128.Idx) : (val_main_v4 (F := Ideal) x1 : Vec Ideal S1x8192x2x128 .f32) i
    = B (i 1).val (128 * (i 2).val + (i 3).val) := by
  rw [val_main_v4_apply]
  refine (hB (idx_main_v4 i)).trans ?_
  have h0 : (i 0).val < 1 := (i 0).isLt
  have h2 : (i 2).val < 2 := (i 2).isLt
  have h3 : (i 3).val < 128 := (i 3).isLt
  show B (((((i 0).val * 8192 + (i 1).val) * 2 + (i 2).val) * 128 + (i 3).val) / 256)
    (((((i 0).val * 8192 + (i 1).val) * 2 + (i 2).val) * 128 + (i 3).val) % 256) = _
  congr 2 <;> omega

theorem v9_at (hB : ∀ j, x1 j = B (j 0).val (j 1).val) (i : S1x66x128x2x128.Idx) : (val_main_v9 (F := Ideal) x1 : Vec Ideal S1x66x128x2x128 .f32) i
    = pad B (128 * (i 1).val + (i 2).val) (i 3).val (i 4).val := by
  rw [val_main_v9_apply]
  refine (padded _ _ _ v7_at (fun p h d => B p (128 * h + d)) (v4_at hB) (idx_main_v9 i)).trans ?_
  have h0 : (i 0).val < 1 := (i 0).isLt
  have h1 : (i 1).val < 66 := (i 1).isLt
  have h2 : (i 2).val < 128 := (i 2).isLt
  have h3 : (i 3).val < 2 := (i 3).isLt
  have h4 : (i 4).val < 128 := (i 4).isLt
  show (pad B ((((((i 0).val * 66 + (i 1).val) * 128 + (i 2).val) * 2 + (i 3).val) * 128 + (i 4).val) / 256 % 8448)
    ((((((i 0).val * 66 + (i 1).val) * 128 + (i 2).val) * 2 + (i 3).val) * 128 + (i 4).val) / 128 % 2)
    ((((((i 0).val * 66 + (i 1).val) * 128 + (i 2).val) * 2 + (i 3).val) * 128 + (i 4).val) % 128)) = _
  congr 2 <;> omega

theorem v13_at (hB : ∀ j, x1 j = B (j 0).val (j 1).val) (j : S1x64x384x2x128.Idx) : (val_main_v13 (F := Ideal) x1 : Vec Ideal S1x64x384x2x128 .f32) j
    = pad B (128 * (j 1).val + (j 2).val) (j 3).val (j 4).val := by
  have h1 := fun i => (val_main_v10_apply (F := Ideal) x1 i).trans (v9_at hB _)
  have h2 := fun i => (val_main_v11_apply (F := Ideal) x1 i).trans (v9_at hB _)
  have h3 := fun i => (val_main_v12_apply (F := Ideal) x1 i).trans (v9_at hB _)
  unfold val_main_v13
  generalize val_main_v10 (F := Ideal) x1 = a at h1 ⊢
  generalize val_main_v11 (F := Ideal) x1 = b at h2 ⊢
  generalize val_main_v12 (F := Ideal) x1 = c at h3 ⊢
  exact threeBlocks' a b c _ (pad B) h1 h2 h3 j

theorem v5_at (hB : ∀ j, x2 j = B (j 0).val (j 1).val) (i : S1x8192x2x128.Idx) : (val_main_v5 (F := Ideal) x2 : Vec Ideal S1x8192x2x128 .f32) i
    = B (i 1).val (128 * (i 2).val + (i 3).val) := by
  rw [val_main_v5_apply]
  refine (hB (idx_main_v5 i)).trans ?_
  have h0 : (i 0).val < 1 := (i 0).isLt
  have h2 : (i 2).val < 2 := (i 2).isLt
  have h3 : (i 3).val < 128 := (i 3).isLt
  show B (((((i 0).val * 8192 + (i 1).val) * 2 + (i 2).val) * 128 + (i 3).val) / 256)
    (((((i 0).val * 8192 + (i 1).val) * 2 + (i 2).val) * 128 + (i 3).val) % 256) = _
  congr 2 <;> omega

theorem v16_at (hB : ∀ j, x2 j = B (j 0).val (j 1).val) (i : S1x66x128x2x128.Idx) : (val_main_v16 (F := Ideal) x2 : Vec Ideal S1x66x128x2x128 .f32) i
    = pad B (128 * (i 1).val + (i 2).val) (i 3).val (i 4).val := by
  rw [val_main_v16_apply]
  refine (padded _ _ _ v14_at (fun p h d => B p (128 * h + d)) (v5_at hB) (idx_main_v16 i)).trans ?_
  have h0 : (i 0).val < 1 := (i 0).isLt
  have h1 : (i 1).val < 66 := (i 1).isLt
  have h2 : (i 2).val < 128 := (i 2).isLt
  have h3 : (i 3).val < 2 := (i 3).isLt
  have h4 : (i 4).val < 128 := (i 4).isLt
  show (pad B ((((((i 0).val * 66 + (i 1).val) * 128 + (i 2).val) * 2 + (i 3).val) * 128 + (i 4).val) / 256 % 8448)
    ((((((i 0).val * 66 + (i 1).val) * 128 + (i 2).val) * 2 + (i 3).val) * 128 + (i 4).val) / 128 % 2)
    ((((((i 0).val * 66 + (i 1).val) * 128 + (i 2).val) * 2 + (i 3).val) * 128 + (i 4).val) % 128)) = _
  congr 2 <;> omega

theorem v20_at (hB : ∀ j, x2 j = B (j 0).val (j 1).val) (j : S1x64x384x2x128.Idx) : (val_main_v20 (F := Ideal) x2 : Vec Ideal S1x64x384x2x128 .f32) j
    = pad B (128 * (j 1).val + (j 2).val) (j 3).val (j 4).val := by
  have h1 := fun i => (val_main_v17_apply (F := Ideal) x2 i).trans (v16_at hB _)
  have h2 := fun i => (val_main_v18_apply (F := Ideal) x2 i).trans (v16_at hB _)
  have h3 := fun i => (val_main_v19_apply (F := Ideal) x2 i).trans (v16_at hB _)
  unfold val_main_v20
  generalize val_main_v17 (F := Ideal) x2 = a at h1 ⊢
  generalize val_main_v18 (F := Ideal) x2 = b at h2 ⊢
  generalize val_main_v19 (F := Ideal) x2 = c at h3 ⊢
  exact threeBlocks' a b c _ (pad B) h1 h2 h3 j

variable {x0 : Vec Ideal S8192x1024 .bf16} {x3 : Vec Ideal S8 .f32} {A : Args} (H : Has x0 x1 x3 A)

abbrev R6 (A : Args) (i : S1x64x2x4x128x384.Idx) : Row := rowN A (i 2).val (i 1).val (i 3).val (i 4).val
abbrev R1 (A : Args) (i : S1x64x2x4x128x1.Idx) : Row := rowN A (i 2).val (i 1).val (i 3).val (i 4).val
abbrev R5 (A : Args) (i : S1x64x2x4x128.Idx) : Row := rowN A (i 2).val (i 1).val (i 3).val (i 4).val
theorem cases6 (i : S1x64x2x4x128x384.Idx) : ∃ z n h g r j, i = ix6 z n h g r j := ⟨_, _, _, _, _, _, eq_ix6 i⟩
theorem cases1 (i : S1x64x2x4x128x1.Idx) : ∃ z n h g r u, i = ix6 z n h g r u := ⟨_, _, _, _, _, _, eq_ix6 i⟩
theorem cases5 (i : S1x64x2x4x128.Idx) : ∃ z n h g r, i = ix5 z n h g r := ⟨_, _, _, _, _, eq_ix5 i⟩

/-- The mask. -/
theorem mask_at (i : S1x64x2x4x128x384.Idx) :
    val_main_call0_v1 (F := Ideal) i = BitVec.ofBool (decide (win (i 1).val (i 4).val (i 5).val)) := by
  simp only [val_main_call0_v1_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_c_apply, val_main_c_2_apply, val_main_c_3_apply, val_main_c_4_apply, val_main_c_5_apply, val_main_c_6_apply]
  exact win_word (i 1).val (i 4).val (i 5).val (i 1).isLt (i 4).isLt (i 5).isLt

include H

theorem k_at (j : S1x64x384x2x128.Idx) : (val_main_v13 (F := Ideal) x1 : Vec Ideal S1x64x384x2x128 .f32) j
    = (((A.head (j 3).val (j 1).val).k (j 2) (j 4) : ℝ) : EReal) := by
  refine (v13_at (B := fun i c => ((A.k i c : ℝ) : EReal)) H.k j).trans ?_
  show (if _ then _ else _) = (((if _ then _ else _ : ℝ)) : EReal)
  split_ifs
  · rfl
  · exact EReal.coe_zero.symm

/-- the queries, -/
theorem v6_at (j : S1x64x128x2x4x128.Idx) : (val_main_v6 (F := Ideal) x0 : Vec Ideal S1x64x128x2x4x128 .f32) j
    = ((A.q (128 * (j 1).val + (j 2).val) (128 * (4 * (j 3).val + (j 4).val) + (j 5).val) : ℝ) : EReal) := by
  have h0 : (j 0).val < 1 := (j 0).isLt
  have h1 : (j 1).val < 64 := (j 1).isLt
  have h2 : (j 2).val < 128 := (j 2).isLt
  have h3 : (j 3).val < 2 := (j 3).isLt
  have h4 : (j 4).val < 4 := (j 4).isLt
  have h5 : (j 5).val < 128 := (j 5).isLt
  unfold val_main_v6
  generalize hy : val_main_v3 (F := Ideal) x0 = y
  refine (shapeCast_apply y shapeCasts_S1x8192x8x128_S1x64x128x2x4x128 j
    (ix4 (0 : Fin 1) (⟨128 * (j 1).val + (j 2).val, by omega⟩ : Fin 8192) (⟨4 * (j 3).val + (j 4).val, by omega⟩ : Fin 8) (j 5)) ?_).trans ?_
  · rw [Shape.rowMajor_val_four, Shape.rowMajor_val_six]
    show ((0 * 8192 + (128 * (j 1).val + (j 2).val)) * 8 + (4 * (j 3).val + (j 4).val)) * 128 + (j 5).val
      = (((((j 0).val * 64 + (j 1).val) * 128 + (j 2).val) * 2 + (j 3).val) * 4 + (j 4).val) * 128 + (j 5).val
    omega
  · rw [← hy, val_main_v3_apply]
    refine (H.q _).trans ?_
    show ((A.q ((((0 * 8192 + (128 * (j 1).val + (j 2).val)) * 8 + (4 * (j 3).val + (j 4).val)) * 128 + (j 5).val) / 1024)
      ((((0 * 8192 + (128 * (j 1).val + (j 2).val)) * 8 + (4 * (j 3).val + (j 4).val)) * 128 + (j 5).val) % 1024) : ℝ) : EReal) = _
    congr 2 <;> omega

/-- The scaled scores, -/
theorem v24_at (i : S1x64x2x4x128x384.Idx) : (val_main_v24 (F := Ideal) x0 x1 : Vec Ideal S1x64x2x4x128x384 .f32) i
    = (((R6 A i).s (i 5) : ℝ) : EReal) := by
  obtain ⟨z, n, h, g, r, j, rfl⟩ := cases6 i
  rw [val_main_v24_apply, val_main_v22_apply, val_main_v21_apply,
    sum_coe_of _ (fun d : Fin 128 => A.q (128 * n.val + r.val) (128 * (4 * h.val + g.val) + d.val) * (A.head h.val n.val).k j d)
      (fun d => by rw [k_at H, v6_at H, ← EReal.coe_mul, mul_comm]; rfl),
    val_main_v23_apply, val_main_cst_1_apply]
  show _ * Ideal.ofBits .f32 0x3DB504F3#32 = _
  rw [ofBits_cS, ← EReal.coe_mul]
  rfl

/-- masked, -/
theorem v58_at (i : S1x64x2x4x128x384.Idx) : (val_main_v58 (F := Ideal) x0 x1 : Vec Ideal S1x64x2x4x128x384 .f32) i
    = (R6 A i).score (i 5) := by
  obtain ⟨z, n, h, g, r, j, rfl⟩ := cases6 i
  rw [val_main_v58_apply, mask_at, select_win, v24_at H, val_main_call0_v2_apply, val_main_call0_v0_apply, val_main_cst_7_apply]
  show (if _ then _ else Ideal.ofBits .f32 0xFF800000#32) = _
  rw [ofBits_ninf]
  unfold Row.score
  exact if_congr (decide_eq_true_iff (p := win n.val r.val j.val)).symm rfl rfl

/-- the largest of a row, -/
theorem v61_at (i : S1x64x2x4x128.Idx) : (val_main_v61 (F := Ideal) x0 x1 : Vec Ideal S1x64x2x4x128 .f32) i = (R5 A i).mx := by
  obtain ⟨z, n, k, g, r, rfl⟩ := cases5 i
  have h := v58_at H
  unfold val_main_v61
  generalize val_main_v58 (F := Ideal) x0 x1 = y at h ⊢
  refine (Host.reduce_eq_fold_single _ y _ reducesTo_S1x64x2x4x128x384_S1x64x2x4x128_d5 (by decide) _ (ix5 z n k g r)).trans ?_
  rw [val_main_cst_8_apply]
  show Finset.fold max (Ideal.ofBits .f32 0xFF800000#32) _ _ = _
  rw [ofBits_ninf]
  exact congrArg (Finset.fold max ⊥ · Finset.univ) (funext fun k => (h _).trans rfl)

theorem v62_at (i : S1x64x2x4x128x1.Idx) : (val_main_v62 (F := Ideal) x0 x1 : Vec Ideal S1x64x2x4x128x1 .f32) i = (R1 A i).mx :=
  (val_main_v62_apply (F := Ideal) x0 x1 i).trans ((v61_at H _).trans rfl)

theorem v60_at (i : S1x1x2x4x1x1.Idx) : (val_main_v60 (F := Ideal) x3 : Vec Ideal S1x1x2x4x1x1 .f32) i
    = ((A.s (4 * (i 2).val + (i 3).val) : ℝ) : EReal) := by
  rw [val_main_v60_apply, val_main_v59_apply]
  refine (H.s _).trans ?_
  show ((A.s ((i 2).val * 4 + (i 3).val) : ℝ) : EReal) = _
  rw [Nat.mul_comm]

theorem v63_at (i : S1x64x2x4x128x1.Idx) : (val_main_v63 (F := Ideal) x3 : Vec Ideal S1x64x2x4x128x1 .f32) i = (((R1 A i).σ : ℝ) : EReal) :=
  (val_main_v63_apply (F := Ideal) x3 i).trans ((v60_at H _).trans rfl)

theorem v70_at (i : S1x64x2x4x128x1.Idx) : (val_main_v70 (F := Ideal) x3 : Vec Ideal S1x64x2x4x128x1 .f32) i = (((R1 A i).σ : ℝ) : EReal) :=
  (val_main_v70_apply (F := Ideal) x3 i).trans ((v60_at H _).trans rfl)

theorem v64_at (i : S1x64x2x4x128x1.Idx) : (val_main_v64 (F := Ideal) x0 x1 x3 : Vec Ideal S1x64x2x4x128x1 .f32) i = (R1 A i).top := by
  rw [val_main_v64_apply, v62_at H, v63_at H]; rfl

/-- its exponentials, -/
theorem v67_at (i : S1x64x2x4x128x384.Idx) : (val_main_v67 (F := Ideal) x0 x1 x3 : Vec Ideal S1x64x2x4x128x384 .f32) i
    = (((R6 A i).E (i 5) : ℝ) : EReal) := by
  obtain ⟨z, n, h, g, r, j, rfl⟩ := cases6 i
  rw [val_main_v67_apply, val_main_v66_apply, v58_at H, val_main_v65_apply, v64_at H]
  exact Row.exp_score (R6 A (ix6 z n h g r j)) j

/-- the sink's, -/
theorem v72_at (i : S1x64x2x4x128x1.Idx) : (val_main_v72 (F := Ideal) x0 x1 x3 : Vec Ideal S1x64x2x4x128x1 .f32) i
    = (((R1 A i).Es : ℝ) : EReal) := by
  rw [val_main_v72_apply, val_main_v71_apply, v70_at H, v64_at H]
  exact Row.exp_sink (R1 A i)

/-- their sum, -/
theorem v68_at (i : S1x64x2x4x128.Idx) : (val_main_v68 (F := Ideal) x0 x1 x3 : Vec Ideal S1x64x2x4x128 .f32) i
    = ((∑ j, (R5 A i).E j : ℝ) : EReal) := by
  obtain ⟨z, n, h, g, r, rfl⟩ := cases5 i
  rw [val_main_v68_apply, val_main_cst_9_apply,
    sum_coe_of _ (fun j : Fin 384 => (R5 A (ix5 z n h g r)).E j) (fun j => (v67_at H _).trans rfl)]
  show Ideal.ofBits .f32 0x00000000#32 + _ = _
  rw [Ideal.ofBits_zero_f32, zero_add]

theorem v73_at (i : S1x64x2x4x128x1.Idx) : (val_main_v73 (F := Ideal) x0 x1 x3 : Vec Ideal S1x64x2x4x128x1 .f32) i
    = (((R1 A i).Z : ℝ) : EReal) := by
  rw [val_main_v73_apply, val_main_v69_apply, v68_at H, v72_at H]
  exact (EReal.coe_add _ _).symm

theorem v74_at (i : S1x64x2x4x128x384.Idx) : (val_main_v74 (F := Ideal) x0 x1 x3 : Vec Ideal S1x64x2x4x128x384 .f32) i
    = (((R6 A i).Z : ℝ) : EReal) := by
  obtain ⟨z, n, h, g, r, j, rfl⟩ := cases6 i
  exact (val_main_v74_apply (F := Ideal) x0 x1 x3 _).trans ((v73_at H _).trans rfl)

/-- and the weights. -/
theorem v75_at (i : S1x64x2x4x128x384.Idx) : (val_main_v75 (F := Ideal) x0 x1 x3 : Vec Ideal S1x64x2x4x128x384 .f32) i
    = (((R6 A i).P (i 5) : ℝ) : EReal) := by
  obtain ⟨z, n, h, g, r, j, rfl⟩ := cases6 i
  rw [val_main_v75_apply, v67_at H, v74_at H]
  show Ideal.div _ _ = _
  rw [Ideal.div_coe (Row.Z_ne _), ← EReal.coe_mul, mul_one_div]
  rfl

/-- The output. -/
theorem v76_at (hV : ∀ j, x2 j = B (j 0).val (j 1).val) (i : S1x64x2x128x4x128.Idx) :
    (val_main_v76 (F := Ideal) x0 x1 x2 x3 : Vec Ideal S1x64x2x128x4x128 .f32) i
      = A.out B (i 2).val (i 1).val (i 4).val (i 5).val (i 3).val := by
  rw [val_main_v76_apply]
  refine Finset.sum_congr rfl fun j _ => ?_
  rw [v20_at hV, v75_at H, mul_comm]
  rfl

theorem v80_at (hV : ∀ j, x2 j = B (j 0).val (j 1).val) (i : S8192x1024.Idx) :
    (val_main_v80 (F := Ideal) x0 x1 x2 x3 : Vec Ideal S8192x1024 .bf16) i
      = A.out B ((i 1).val / 512) ((i 0).val / 128) ((i 1).val / 128 % 4) ((i 0).val % 128) ((i 1).val % 128) := by
  have h0 : (i 0).val < 8192 := (i 0).isLt
  have h1 : (i 1).val < 1024 := (i 1).isLt
  rw [val_main_v80_apply]
  refine (val_main_v79_apply (F := Ideal) x0 x1 x2 x3 i).trans ?_
  have h := fun j => (val_main_v77_apply (F := Ideal) x0 x1 x2 x3 j).trans (v76_at H hV _)
  unfold val_main_v78
  generalize val_main_v77 (F := Ideal) x0 x1 x2 x3 = y at h ⊢
  refine (shapeCast_apply y shapeCasts_S1x64x128x2x4x128_S1x8192x1024 (idx_main_v79 i)
    (ix6 (0 : Fin 1) (⟨(i 0).val / 128, by omega⟩ : Fin 64) (⟨(i 0).val % 128, by omega⟩ : Fin 128) (⟨(i 1).val / 512, by omega⟩ : Fin 2)
      (⟨(i 1).val / 128 % 4, by omega⟩ : Fin 4) (⟨(i 1).val % 128, by omega⟩ : Fin 128)) ?_).trans (h _)
  rw [Shape.rowMajor_val_three, Shape.rowMajor_val_six]
  show ((((0 * 64 + (i 0).val / 128) * 128 + (i 0).val % 128) * 2 + (i 1).val / 512) * 4 + (i 1).val / 128 % 4) * 128 + (i 1).val % 128
    = (0 * 8192 + ((i 0).val * 1024 + (i 1).val) / 1024 % 8192) * 1024 + ((i 0).val * 1024 + (i 1).val) % 1024
  omega

end Cert.Reference14Ideal.Attn

end
-- ==== Proof.End14.lean ====
module

public import proofs.«01_k».proof.Defs
public import proofs.«01_k».proof.Proof.Gen.Kernel14
public import proofs.«01_k».proof.Proof.KOut14
public import proofs.«01_k».proof.Proof.RRow14
public import proofs.«01_k».proof.Proof.Act
public import Idealize.ShloMosaic.Adequacy
public import Idealize.ShloMosaic.Init

@[expose] public section

noncomputable section

/-! The attention's forward: the frames, and the kernel's result set beside the reference's. -/

namespace Cert.Kernel14Ideal.Attn

open Idealize.ShloMosaic Idealize.SL.Sem

/-- The two programs have one text, so one body under each label. -/
theorem bodies_eq : Cert.Kernel14Ideal.defs₀ (F := Bits) = Cert.Kernel14.defs₀ (F := Bits) := by
  unfold Cert.Kernel14Ideal.defs₀ Cert.Kernel14.defs₀
  refine congrArg Defs.onTc ?_
  funext l a
  match l, a with
  | 0, (t, s) => exact rfl
  | ⟨_ + 1, h⟩, _ => exact absurd h (Nat.not_lt.2 (Nat.le_add_left _ _))

theorem defs_eq : Cert.Kernel14Ideal.defs (F := Bits) = Cert.Kernel14.defs (F := Bits) :=
  congrArg (Pipeline.defs (Cert.Kernel14Ideal.pcfgs (F := Bits))) bodies_eq

theorem frame_kernel : Cert.quiescent_Kernel14 (hKernel14 := Cert.Kernel14.Gen.facts) := by
  intro m ρ _
  have h := Cert.Kernel14Ideal.Gen.frame (F := Bits) m ρ
  rw [defs_eq] at h
  exact h

theorem frame_ideal : Cert.quiescent_Kernel14Ideal (hKernel14Ideal := Cert.Kernel14Ideal.Gen.facts) := fun m ρ _ =>
  Cert.Kernel14Ideal.Gen.frame (F := Ideal) m ρ

theorem frame_ref : Cert.quiescent_Reference14Ideal (hReference14Ideal := Cert.Reference14Ideal.Gen.facts) := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

instance pre_facts : Cert.Pre_finite14.Facts where
  bitsLt_bf16_f32 := by decide
  bcast_S_S8192x1024 := by decide
  bcast_S_S8192x256 := by decide
  bcast_S_S8 := by decide

section Agree
variable (x0 : Cert.Pre_finite14.S8192x1024.Idx → EReal) (x1 x2 : Cert.Pre_finite14.S8192x256.Idx → EReal) (x3 : Cert.Pre_finite14.S8.Idx → EReal)

/-- The entry in row `r`, column `c` of a matrix; zero outside the matrix. -/
def entry (M N : ℕ) (x : (⟨2, ![M, N]⟩ : Shape).Idx → EReal) (r c : ℕ) : EReal :=
  if h : r < M ∧ c < N then x (ValueIdx.ix2 ⟨r, h.1⟩ ⟨c, h.2⟩) else 0

theorem entry_at (M N : ℕ) (x : (⟨2, ![M, N]⟩ : Shape).Idx → EReal) (j : (⟨2, ![M, N]⟩ : Shape).Idx) :
    entry M N x (j 0).val (j 1).val = x j := by
  have h0 : (j 0).val < M := (j 0).isLt
  have h1 : (j 1).val < N := (j 1).isLt
  rw [entry, dif_pos ⟨h0, h1⟩]
  exact congrArg x (ValueIdx.eq_ix2 j).symm

/-- The real numbers the queries, keys and sinks hold. -/
def args : Cert.Attn.Args where
  q r c := (entry 8192 1024 x0 r c).toReal
  k r c := (entry 8192 256 x1 r c).toReal
  v _ _ := 0
  y _ _ := 0
  s c := if h : c < 8 then (x3 (ValueIdx.ix1 ⟨c, h⟩)).toReal else 0

theorem has (h : (Cert.Pre_finite14.fn (F := Ideal) x0 x1 x2 x3).1 = (fun _ => 1#1)
    ∧ (Cert.Pre_finite14.fn (F := Ideal) x0 x1 x2 x3).2.1 = (fun _ => 1#1)
    ∧ (Cert.Pre_finite14.fn (F := Ideal) x0 x1 x2 x3).2.2 = (fun _ => 1#1)) :
    Cert.Reference14Ideal.Attn.Has x0 x1 x3 (args x0 x1 x3) where
  q j := (Cert.Ffn.real_of (x0 j) (congrFun h.1 j)).trans (congrArg (fun x : EReal => ((x.toReal : ℝ) : EReal)) (entry_at 8192 1024 x0 j).symm)
  k j := (Cert.Ffn.real_of (x1 j) (congrFun h.2.1 j)).trans (congrArg (fun x : EReal => ((x.toReal : ℝ) : EReal)) (entry_at 8192 256 x1 j).symm)
  s j := by
    refine (Cert.Ffn.real_of (x3 j) (congrFun h.2.2 j)).trans (congrArg (fun x : ℝ => (x : EReal)) ?_)
    have h0 : (j 0).val < 8 := (j 0).isLt
    show _ = if h : (j 0).val < 8 then (x3 (ValueIdx.ix1 ⟨(j 0).val, h⟩)).toReal else 0
    rw [dif_pos h0]
    exact congrArg (fun i => (x3 i).toReal) (ValueIdx.eq_ix1 j)

end Agree

theorem values : Cert.algebraic_Kernel14Ideal_Reference14Ideal_pre_finite14 (hKernel14Ideal := Cert.Kernel14Ideal.Gen.facts)
    (hReference14Ideal := Cert.Reference14Ideal.Gen.facts) (hPre_finite14 := pre_facts) := by
  intro m g m' g' hpre hagree
  let A := fun c : Dev Cert.Kernel14Ideal.nD => args (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1))
    (m ((c.tc : Thread Cert.Kernel14Ideal.nD Cert.Kernel14Ideal.τ).loc Cert.Kernel14Ideal.main_arg3))
  let V := fun c : Dev Cert.Kernel14Ideal.nD => entry 8192 256 (m ((c.tc : Thread Cert.Kernel14Ideal.nD Cert.Kernel14Ideal.τ).loc Cert.Kernel14Ideal.main_arg2))
  have hH := fun c => has _ _ _ _ (hpre c)
  have hK : ∀ c, Holds m c (A c) (V c) := fun c => ⟨(hH c).q, (hH c).k, fun j => (entry_at 8192 256 _ j).symm, (hH c).s⟩
  refine ⟨fun c => fun j => (A c).out (V c) ((j 1).val / 512) ((j 0).val / 128) ((j 1).val / 128 % 4) ((j 0).val % 128) ((j 1).val % 128), ?_, ?_⟩
  · refine (θ_run Cert.Kernel14Ideal.defs _ _).mono (fun _ h c => ?_) (Cert.Kernel14Ideal.Value.run_blocks (F := Ideal) m g)
    exact ⟨(h c).1.trans (value (hK c)), (h c).2⟩
  · refine (θ_run Cert.Reference14Ideal.defs _ _).mono (fun _ h c => ?_) (Cert.Reference14Ideal.Value.run (F := Ideal) m' g')
    refine ⟨(h c).1.trans ((Cert.Reference14Ideal.Read.val_main_v80_eq (F := Ideal) m' c).trans ?_), (h c).2⟩
    obtain ⟨e0, e1, e2, e3⟩ := hagree c
    rw [e0, e1, e2, e3]
    exact funext fun i => Cert.Reference14Ideal.Attn.v80_at (hH c) (fun j => (entry_at 8192 256 _ j).symm) i

end Cert.Kernel14Ideal.Attn

end
-- ==== Proof.lean ====
/- The claim: each program runs, ends with its arguments unchanged and every counter at zero; and each kernel's results
   are its reference's, on finite arguments for the attention gradients and for the feed-forward layer's first products'
   gradient, on finite queries, keys and sinks for the attention, on all arguments for the feed-forward layer's other five
   calls and for the six products of the mixer's two projections. -/
module

public import proofs.«01_k».proof.Defs
public import proofs.«01_k».proof.Proof.Gen.Kernel
public import proofs.«01_k».proof.Proof.KFinal
public import proofs.«01_k».proof.Proof.RVals
public import proofs.«01_k».proof.Proof.End2
public import proofs.«01_k».proof.Proof.End3
public import proofs.«01_k».proof.Proof.End4
public import proofs.«01_k».proof.Proof.End5
public import proofs.«01_k».proof.Proof.End6
public import proofs.«01_k».proof.Proof.End7
public import proofs.«01_k».proof.Proof.End8
public import proofs.«01_k».proof.Proof.End9
public import proofs.«01_k».proof.Proof.End10
public import proofs.«01_k».proof.Proof.End11
public import proofs.«01_k».proof.Proof.End12
public import proofs.«01_k».proof.Proof.End13
public import proofs.«01_k».proof.Proof.End14
public import Idealize.ShloMosaic.Adequacy
public import Idealize.ShloMosaic.Init

@[expose] public section

noncomputable section

namespace Cert.Proof

open Idealize.ShloMosaic Idealize.SL.Sem
open Cert.Attn Cert.Ffn

/-! ## The precondition -/

instance pre_facts : Cert.Pre_finite.Facts where
  bitsLt_bf16_f32 := by decide
  bcast_S_S8192x1024 := by decide
  bcast_S_S8192x256 := by decide
  bcast_S_S8 := by decide
  slices_S8192x2048_S8192x1024_0_0 := by decide

section Agree

variable (x0 : Vec Ideal Cert.Pre_finite.S8192x1024 .bf16) (x1 x2 : Vec Ideal Cert.Pre_finite.S8192x256 .bf16)
  (x3 : Vec Ideal Cert.Pre_finite.S8 .f32) (x4 : Vec Ideal Cert.Pre_finite.S8192x2048 .f32)

/-- The entry in row `r`, column `c` of a matrix, as a real number; zero outside the matrix. -/
def entry (M N : ℕ) (x : (⟨2, ![M, N]⟩ : Shape).Idx → EReal) (r c : ℕ) : ℝ :=
  if h : r < M ∧ c < N then (x (ValueIdx.ix2 ⟨r, h.1⟩ ⟨c, h.2⟩)).toReal else 0

theorem entry_at (M N : ℕ) (x : (⟨2, ![M, N]⟩ : Shape).Idx → EReal) (j : (⟨2, ![M, N]⟩ : Shape).Idx) :
    entry M N x (j 0).val (j 1).val = (x j).toReal := by
  have h0 : (j 0).val < M := (j 0).isLt
  have h1 : (j 1).val < N := (j 1).isLt
  rw [entry, dif_pos ⟨h0, h1⟩]
  exact congrArg (fun i => (x i).toReal) (ValueIdx.eq_ix2 j).symm

/-- The real numbers the arguments hold. -/
def args : Args where
  q := entry 8192 1024 x0
  k := entry 8192 256 x1
  v := entry 8192 256 x2
  y := entry 8192 2048 x4
  s c := if h : c < 8 then (x3 (ValueIdx.ix1 ⟨c, h⟩)).toReal else 0

theorem holds (h : (Cert.Pre_finite.fn (F := Ideal) x0 x1 x2 x3 x4).1 = (fun _ => 1#1)
    ∧ (Cert.Pre_finite.fn (F := Ideal) x0 x1 x2 x3 x4).2.1 = (fun _ => 1#1)
    ∧ (Cert.Pre_finite.fn (F := Ideal) x0 x1 x2 x3 x4).2.2.1 = (fun _ => 1#1)
    ∧ (Cert.Pre_finite.fn (F := Ideal) x0 x1 x2 x3 x4).2.2.2.1 = (fun _ => 1#1)
    ∧ (Cert.Pre_finite.fn (F := Ideal) x0 x1 x2 x3 x4).2.2.2.2 = (fun _ => 1#1)) :
    Cert.ReferenceIdeal.Attn.Has x0 x1 x2 x3 x4 (args x0 x1 x2 x3 x4) where
  q j := (real_of (x0 j) (congrFun h.1 j)).trans (congrArg (fun x : ℝ => (x : EReal)) (entry_at 8192 1024 x0 j).symm)
  k j := (real_of (x1 j) (congrFun h.2.1 j)).trans (congrArg (fun x : ℝ => (x : EReal)) (entry_at 8192 256 x1 j).symm)
  v j := (real_of (x2 j) (congrFun h.2.2.1 j)).trans (congrArg (fun x : ℝ => (x : EReal)) (entry_at 8192 256 x2 j).symm)
  s j := by
    refine (real_of (x3 j) (congrFun h.2.2.2.1 j)).trans (congrArg (fun x : ℝ => (x : EReal)) ?_)
    have h0 : (j 0).val < 8 := (j 0).isLt
    show _ = if h : (j 0).val < 8 then (x3 (ValueIdx.ix1 ⟨(j 0).val, h⟩)).toReal else 0
    rw [dif_pos h0]
    exact congrArg (fun i => (x3 i).toReal) (ValueIdx.eq_ix1 j)
  y j hj := by
    have h0 : (j 0).val < 8192 := (j 0).isLt
    refine (real_of (x4 j) ?_).trans (congrArg (fun x : ℝ => (x : EReal)) (entry_at 8192 2048 x4 j).symm)
    have e : extractStridedSlice Cert.Pre_finite.S8192x1024 ![0, 0] x4 Cert.Pre_finite.Facts.slices_S8192x2048_S8192x1024_0_0
        (ValueIdx.ix2 (⟨(j 0).val, h0⟩ : Fin 8192) (⟨(j 1).val, hj⟩ : Fin 1024)) = x4 j :=
      extractStridedSlice_apply _ x4 _ _ j fun a => match a with
        | ⟨0, _⟩ => (Nat.zero_add (j 0).val).symm
        | ⟨1, _⟩ => (Nat.zero_add (j 1).val).symm
    rw [← e]
    exact congrFun h.2.2.2.2 (ValueIdx.ix2 (⟨(j 0).val, h0⟩ : Fin 8192) (⟨(j 1).val, hj⟩ : Fin 1024))

end Agree

/-! ## The frames -/

/-- The two programs have one text, so one body under each label. -/
theorem bodies_eq : Cert.KernelIdeal.defs₀ (F := Bits) = Cert.Kernel.defs₀ (F := Bits) := by
  unfold Cert.KernelIdeal.defs₀ Cert.Kernel.defs₀
  refine congrArg Defs.onTc ?_
  funext l a
  match l, a with
  | 0, (t, s) => exact rfl
  | ⟨_ + 1, h⟩, _ => exact absurd h (Nat.not_lt.2 (Nat.le_add_left _ _))

theorem defs_eq : Cert.KernelIdeal.defs (F := Bits) = Cert.Kernel.defs (F := Bits) :=
  congrArg (Pipeline.defs (Cert.KernelIdeal.pcfgs (F := Bits))) bodies_eq

theorem frame_kernel : Cert.quiescent_Kernel (hKernel := Cert.Kernel.Gen.facts) := by
  intro m ρ _
  have h := (θ_run (Cert.KernelIdeal.defs (F := Bits)) _ _).mono (fun _ h => (⟨fun c => (h.1 c).2, h.2⟩ : _ ∧ _)) (Cert.KernelIdeal.Attn.run_values (F := Bits) m ρ)
  rw [defs_eq] at h
  exact h

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Attn.run_values m ρ)

theorem frame_ref : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-! ## The values -/

theorem values : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  let A := fun c : Dev Cert.KernelIdeal.nD => args (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
  have hH := fun c => holds _ _ _ _ _ (hpre c)
  have hK : ∀ c, Cert.KernelIdeal.Attn.Holds m c (A c) := fun c => ⟨(hH c).q, (hH c).k, (hH c).v, (hH c).s, (hH c).y⟩
  have hR : ∀ c : Dev Cert.ReferenceIdeal.nD, Cert.ReferenceIdeal.Attn.Has
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (A c) := fun c => by
    obtain ⟨e0, e1, e2, e3, e4⟩ := hagree c
    rw [e0, e1, e2, e3, e4]
    exact hH c
  refine ⟨fun c => fun i => (((A c).DQ (i 0).val (i 1).val : ℝ) : EReal), fun c => fun i => (((A c).DK (i 0).val (i 1).val : ℝ) : EReal),
    fun c => fun i => (((A c).DV (i 0).val (i 1).val : ℝ) : EReal), fun c => fun i => (((A c).DS (i 0).val : ℝ) : EReal), ?_, ?_⟩
  · refine (θ_run Cert.KernelIdeal.defs _ _).mono (fun _ h c => ?_) (Cert.KernelIdeal.Attn.run_values m g)
    obtain ⟨⟨h0, h1, h2, h3⟩, ha⟩ := h.1 c
    exact ⟨h0.trans (Cert.KernelIdeal.Attn.final_dq (hK c) _ rfl), h1.trans (Cert.KernelIdeal.Attn.final_dk (hK c)),
      h2.trans (Cert.KernelIdeal.Attn.final_dv (hK c)), h3.trans (Cert.KernelIdeal.Attn.final_ds (hK c)), ha⟩
  · refine (θ_run Cert.ReferenceIdeal.defs _ _).mono (fun _ h c => ?_) (Cert.ReferenceIdeal.Value.run (F := Ideal) m' g')
    obtain ⟨h0, h1, h2, h3, ha⟩ := h c
    exact ⟨h0.trans ((Cert.ReferenceIdeal.Read.val_main_v186_eq (F := Ideal) (StableHlo.launchContents m' c)).trans (Cert.ReferenceIdeal.Attn.val_dq (hR c))),
      h1.trans ((Cert.ReferenceIdeal.Read.val_main_v185_eq (F := Ideal) (StableHlo.launchContents m' c)).trans (Cert.ReferenceIdeal.Attn.val_dk (hR c))),
      h2.trans ((Cert.ReferenceIdeal.Read.val_main_v184_eq (F := Ideal) (StableHlo.launchContents m' c)).trans (Cert.ReferenceIdeal.Attn.val_dv (hR c))),
      h3.trans ((Cert.ReferenceIdeal.Read.val_main_v150_eq (F := Ideal) (StableHlo.launchContents m' c)).trans (Cert.ReferenceIdeal.Attn.val_ds (hR c))), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  pre_facts, Kernel2Ideal.Prod.pre_facts, Kernel14Ideal.Attn.pre_facts,
  frame_kernel, frame_ideal, fun m ρ _ => frame_ideal m ρ trivial, frame_ref, fun m ρ _ => frame_ref m ρ trivial,
  Kernel2Ideal.Prod.frame_kernel, Kernel2Ideal.Prod.frame_ideal, fun m ρ _ => Kernel2Ideal.Prod.frame_ideal m ρ trivial,
  Kernel2Ideal.Prod.frame_ref, fun m ρ _ => Kernel2Ideal.Prod.frame_ref m ρ trivial,
  Kernel3Ideal.Prod.frame_kernel, Kernel3Ideal.Prod.frame_ideal, Kernel3Ideal.Prod.frame_ref,
  Kernel4Ideal.Prod.frame_kernel, Kernel4Ideal.Prod.frame_ideal, Kernel4Ideal.Prod.frame_ref,
  Kernel5Ideal.Prod.frame_kernel, Kernel5Ideal.Prod.frame_ideal, Kernel5Ideal.Prod.frame_ref,
  Kernel6Ideal.Prod.frame_kernel, Kernel6Ideal.Prod.frame_ideal, Kernel6Ideal.Prod.frame_ref,
  Kernel7Ideal.Prod.frame_kernel, Kernel7Ideal.Prod.frame_ideal, Kernel7Ideal.Prod.frame_ref,
  Kernel8Ideal.Prod.frame_kernel, Kernel8Ideal.Prod.frame_ideal, Kernel8Ideal.Prod.frame_ref,
  Kernel9Ideal.Prod.frame_kernel, Kernel9Ideal.Prod.frame_ideal, Kernel9Ideal.Prod.frame_ref,
  Kernel10Ideal.Prod.frame_kernel, Kernel10Ideal.Prod.frame_ideal, Kernel10Ideal.Prod.frame_ref,
  Kernel11Ideal.Prod.frame_kernel, Kernel11Ideal.Prod.frame_ideal, Kernel11Ideal.Prod.frame_ref,
  Kernel12Ideal.Prod.frame_kernel, Kernel12Ideal.Prod.frame_ideal, Kernel12Ideal.Prod.frame_ref,
  Kernel13Ideal.Prod.frame_kernel, Kernel13Ideal.Prod.frame_ideal, Kernel13Ideal.Prod.frame_ref,
  Kernel14Ideal.Attn.frame_kernel, Kernel14Ideal.Attn.frame_ideal, fun m ρ _ => Kernel14Ideal.Attn.frame_ideal m ρ trivial,
  Kernel14Ideal.Attn.frame_ref, fun m ρ _ => Kernel14Ideal.Attn.frame_ref m ρ trivial,
  trivial, values, trivial, Kernel2Ideal.Prod.values, trivial, Kernel3Ideal.Prod.values, trivial, Kernel4Ideal.Prod.values, trivial, Kernel5Ideal.Prod.values, trivial, Kernel6Ideal.Prod.values, trivial, Kernel7Ideal.Prod.values,
  trivial, Kernel8Ideal.Prod.values, trivial, Kernel9Ideal.Prod.values, trivial, Kernel10Ideal.Prod.values, trivial, Kernel11Ideal.Prod.values, trivial, Kernel12Ideal.Prod.values, trivial, Kernel13Ideal.Prod.values, trivial, Kernel14Ideal.Attn.values⟩

end Cert.Proof

end
